-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v3_7)) (v1 : (c : Dev Cert.KernelIdeal.nD) → Buf (Elt Ideal) ((c.tc : Thread Cert.KernelIdeal.nD Cert.KernelIdeal.τ).loc Cert.KernelIdeal.main_v3_8)) (v2 : (c : Dev Cert.KernelIdeal.nD) → Buf (Elt Ideal) ((c.tc : Thread Cert.KernelIdeal.nD Cert.KernelIdeal.τ).loc Cert.KernelIdeal.main_v3_9)) (v3 : (c : Dev Cert.KernelIdeal.nD) → Buf (Elt Ideal) ((c.tc : Thread Cert.KernelIdeal.nD Cert.KernelIdeal.τ).loc Cert.KernelIdeal.main_v3_10)) (v4 : (c : Dev Cert.KernelIdeal.nD) → Buf (Elt Ideal) ((c.tc : Thread Cert.KernelIdeal.nD Cert.KernelIdeal.τ).loc Cert.KernelIdeal.main_v3_11)) (v5 : (c : Dev Cert.KernelIdeal.nD) → Buf (Elt Ideal) ((c.tc : Thread Cert.KernelIdeal.nD Cert.KernelIdeal.τ).loc Cert.KernelIdeal.main_v3_12)) (v6 : (c : Dev Cert.KernelIdeal.nD) → Buf (Elt Ideal) ((c.tc : Thread Cert.KernelIdeal.nD Cert.KernelIdeal.τ).loc Cert.KernelIdeal.main_v3_13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_7) = v0 c
          ∧ r.2.mem ((c.tc : Thread Cert.KernelIdeal.nD Cert.KernelIdeal.τ).loc Cert.KernelIdeal.main_v3_8) = v1 c
          ∧ r.2.mem ((c.tc : Thread Cert.KernelIdeal.nD Cert.KernelIdeal.τ).loc Cert.KernelIdeal.main_v3_9) = v2 c
          ∧ r.2.mem ((c.tc : Thread Cert.KernelIdeal.nD Cert.KernelIdeal.τ).loc Cert.KernelIdeal.main_v3_10) = v3 c
          ∧ r.2.mem ((c.tc : Thread Cert.KernelIdeal.nD Cert.KernelIdeal.τ).loc Cert.KernelIdeal.main_v3_11) = v4 c
          ∧ r.2.mem ((c.tc : Thread Cert.KernelIdeal.nD Cert.KernelIdeal.τ).loc Cert.KernelIdeal.main_v3_12) = v5 c
          ∧ r.2.mem ((c.tc : Thread Cert.KernelIdeal.nD Cert.KernelIdeal.τ).loc Cert.KernelIdeal.main_v3_13) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_v133) = v1 c
          ∧ r.2.mem ((c.tc : Thread Cert.ReferenceIdeal.nD Cert.ReferenceIdeal.τ).loc Cert.ReferenceIdeal.main_v145) = v2 c
          ∧ r.2.mem ((c.tc : Thread Cert.ReferenceIdeal.nD Cert.ReferenceIdeal.τ).loc Cert.ReferenceIdeal.main_v140) = v3 c
          ∧ r.2.mem ((c.tc : Thread Cert.ReferenceIdeal.nD Cert.ReferenceIdeal.τ).loc Cert.ReferenceIdeal.main_v135) = v4 c
          ∧ r.2.mem ((c.tc : Thread Cert.ReferenceIdeal.nD Cert.ReferenceIdeal.τ).loc Cert.ReferenceIdeal.main_v117) = v5 c
          ∧ r.2.mem ((c.tc : Thread Cert.ReferenceIdeal.nD Cert.ReferenceIdeal.τ).loc Cert.ReferenceIdeal.main_v149) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v16_0)) (v1 : (c : Dev Cert.Kernel3Ideal.nD) → Buf (Elt Ideal) ((c.tc : Thread Cert.Kernel3Ideal.nD Cert.Kernel3Ideal.τ).loc Cert.Kernel3Ideal.main_v16_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v16_0) = v0 c
          ∧ r.2.mem ((c.tc : Thread Cert.Kernel3Ideal.nD Cert.Kernel3Ideal.τ).loc Cert.Kernel3Ideal.main_v16_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v38) = v0 c
          ∧ r.2.mem ((c.tc : Thread Cert.Reference3Ideal.nD Cert.Reference3Ideal.τ).loc Cert.Reference3Ideal.main_v21) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v14)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v16) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v14)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v14) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v16) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v14)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v14) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v16) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v14)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v14) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v16) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v14)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v14) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v16) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v15)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v15) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v12) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v15)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v15) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v12) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  IdealRules.named_const.Statement Cert.Kernel11Ideal.κ "c1" .f32 0x3FC48605#32 (((5463681 / 8388608)⁻¹ : ℝ) : EReal)
  ∧ IdealRules.named_const.Statement Cert.Kernel11Ideal.κ "c2" .f32 0x42C8E6D3#32 (((2672307 / 268435456)⁻¹ : ℝ) : EReal)

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_v25) = v1 c
          ∧ r.2.mem ((c.tc : Thread Cert.Reference11Ideal.nD Cert.Reference11Ideal.τ).loc Cert.Reference11Ideal.main_v6) = v2 c
          ∧ r.2.mem ((c.tc : Thread Cert.Reference11Ideal.nD Cert.Reference11Ideal.τ).loc Cert.Reference11Ideal.main_v12) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  IdealRules.named_const.Statement Cert.Kernel12Ideal.κ "c1" .f32 0x3FC48605#32 (((5463681 / 8388608)⁻¹ : ℝ) : EReal)
  ∧ IdealRules.named_const.Statement Cert.Kernel12Ideal.κ "c2" .f32 0x42C8E6D3#32 (((2672307 / 268435456)⁻¹ : ℝ) : EReal)

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_v25) = v1 c
          ∧ r.2.mem ((c.tc : Thread Cert.Reference12Ideal.nD Cert.Reference12Ideal.τ).loc Cert.Reference12Ideal.main_v6) = v2 c
          ∧ r.2.mem ((c.tc : Thread Cert.Reference12Ideal.nD Cert.Reference12Ideal.τ).loc Cert.Reference12Ideal.main_v12) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  IdealRules.named_const.Statement Cert.Kernel13Ideal.κ "c1" .f32 0x3FC48605#32 (((5463681 / 8388608)⁻¹ : ℝ) : EReal)
  ∧ IdealRules.named_const.Statement Cert.Kernel13Ideal.κ "c2" .f32 0x42C8E6D3#32 (((2672307 / 268435456)⁻¹ : ℝ) : EReal)

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v1) = v0 c
          ∧ r.2.mem ((c.tc : Thread Cert.Reference13Ideal.nD Cert.Reference13Ideal.τ).loc Cert.Reference13Ideal.main_v25) = v1 c
          ∧ r.2.mem ((c.tc : Thread Cert.Reference13Ideal.nD Cert.Reference13Ideal.τ).loc Cert.Reference13Ideal.main_v6) = v2 c
          ∧ r.2.mem ((c.tc : Thread Cert.Reference13Ideal.nD Cert.Reference13Ideal.τ).loc Cert.Reference13Ideal.main_v12) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  IdealRules.named_const.Statement Cert.Kernel14Ideal.κ "c1" .f32 0x3FC48605#32 (((5463681 / 8388608)⁻¹ : ℝ) : EReal)
  ∧ IdealRules.named_const.Statement Cert.Kernel14Ideal.κ "c2" .f32 0x42C8E6D3#32 (((2672307 / 268435456)⁻¹ : ℝ) : EReal)

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v0) = v0 c
          ∧ r.2.mem ((c.tc : Thread Cert.Reference14Ideal.nD Cert.Reference14Ideal.τ).loc Cert.Reference14Ideal.main_v24) = v1 c
          ∧ r.2.mem ((c.tc : Thread Cert.Reference14Ideal.nD Cert.Reference14Ideal.τ).loc Cert.Reference14Ideal.main_v5) = v2 c
          ∧ r.2.mem ((c.tc : Thread Cert.Reference14Ideal.nD Cert.Reference14Ideal.τ).loc Cert.Reference14Ideal.main_v11) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  IdealRules.named_const.Statement Cert.Kernel15Ideal.κ "c1" .f32 0x3FC48605#32 (((5463681 / 8388608)⁻¹ : ℝ) : EReal)
  ∧ IdealRules.named_const.Statement Cert.Kernel15Ideal.κ "c2" .f32 0x42C8E6D3#32 (((2672307 / 268435456)⁻¹ : ℝ) : EReal)

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v0) = v0 c
          ∧ r.2.mem ((c.tc : Thread Cert.Reference15Ideal.nD Cert.Reference15Ideal.τ).loc Cert.Reference15Ideal.main_v24) = v1 c
          ∧ r.2.mem ((c.tc : Thread Cert.Reference15Ideal.nD Cert.Reference15Ideal.τ).loc Cert.Reference15Ideal.main_v5) = v2 c
          ∧ r.2.mem ((c.tc : Thread Cert.Reference15Ideal.nD Cert.Reference15Ideal.τ).loc Cert.Reference15Ideal.main_v11) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v12) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def Claim : Prop :=
  ∃ (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts),
    quiescent_Kernel (hKernel := hKernel)
    ∧ quiescent_KernelIdeal (hKernelIdeal := hKernelIdeal)
    ∧ quiescent_ReferenceIdeal (hReferenceIdeal := hReferenceIdeal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal (hKernelIdeal := hKernelIdeal) (hReferenceIdeal := hReferenceIdeal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Kernel.lean ====
abbrev S4096x1024 : Shape := ⟨2, ![4096, 1024]⟩
abbrev S4096x2048 : Shape := ⟨2, ![4096, 2048]⟩
abbrev S4096x512 : Shape := ⟨2, ![4096, 512]⟩
abbrev S1x512 : Shape := ⟨2, ![1, 512]⟩
abbrev S1x128 : Shape := ⟨2, ![1, 128]⟩
abbrev S512x1024 : Shape := ⟨2, ![512, 1024]⟩
abbrev S1024x1024 : Shape := ⟨2, ![1024, 1024]⟩
abbrev S1x1024 : Shape := ⟨2, ![1, 1024]⟩
abbrev S8x128 : Shape := ⟨2, ![8, 128]⟩
abbrev S256x1024 : Shape := ⟨2, ![256, 1024]⟩
abbrev S256x2048 : Shape := ⟨2, ![256, 2048]⟩
abbrev S256x512 : Shape := ⟨2, ![256, 512]⟩
abbrev S256x128 : Shape := ⟨2, ![256, 128]⟩
abbrev S128x128 : Shape := ⟨2, ![128, 128]⟩
abbrev S256 : Shape := ⟨1, ![256]⟩
abbrev S256x1 : Shape := ⟨2, ![256, 1]⟩
abbrev S128 : Shape := ⟨1, ![128]⟩
abbrev S1024 : Shape := ⟨1, ![1024]⟩
abbrev S1x256x1024 : Shape := ⟨3, ![1, 256, 1024]⟩
abbrev S1 : Shape := ⟨1, ![1]⟩
abbrev S1x1x1 : Shape := ⟨3, ![1, 1, 1]⟩

abbrev nBuf : Space → Nat
  | .hbm => 39
  | .vmem => 55
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x2048, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S1x512, .f32⟩
  | .hbm, ⟨11, _⟩ => ⟨S1x512, .f32⟩
  | .hbm, ⟨12, _⟩ => ⟨S1x512, .f32⟩
  | .hbm, ⟨13, _⟩ => ⟨S1x128, .f32⟩
  | .hbm, ⟨14, _⟩ => ⟨S512x1024, .f32⟩
  | .hbm, ⟨15, _⟩ => ⟨S512x1024, .f32⟩
  | .hbm, ⟨16, _⟩ => ⟨S1024x1024, .f32⟩
  | .hbm, ⟨17, _⟩ => ⟨S1x1024, .f32⟩
  | .hbm, ⟨18, _⟩ => ⟨S512x1024, .bf16⟩
  | .hbm, ⟨19, _⟩ => ⟨S512x1024, .bf16⟩
  | .hbm, ⟨20, _⟩ => ⟨S1024x1024, .bf16⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S4096x512, .bf16⟩
  | .hbm, ⟨26, _⟩ => ⟨S4096x512, .f32⟩
  | .hbm, ⟨27, _⟩ => ⟨S4096x512, .bf16⟩
  | .hbm, ⟨28, _⟩ => ⟨S4096x2048, .bf16⟩
  | .hbm, ⟨29, _⟩ => ⟨S4096x1024, .f32⟩
  | .hbm, ⟨30, _⟩ => ⟨S512x1024, .f32⟩
  | .hbm, ⟨31, _⟩ => ⟨S512x1024, .f32⟩
  | .hbm, ⟨32, _⟩ => ⟨S1024x1024, .f32⟩
  | .hbm, ⟨33, _⟩ => ⟨S1x1024, .f32⟩
  | .hbm, ⟨34, _⟩ => ⟨S8x128, .f32⟩
  | .hbm, ⟨35, _⟩ => ⟨S1x512, .f32⟩
  | .hbm, ⟨36, _⟩ => ⟨S1x512, .f32⟩
  | .hbm, ⟨37, _⟩ => ⟨S1x512, .f32⟩
  | .hbm, ⟨38, _⟩ => ⟨S1x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2048, .f32⟩
  | .local _ .vmem, ⟨5, _⟩ => ⟨S256x2048, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S1x512, .f32⟩
  | .local _ .vmem, ⟨21, _⟩ => ⟨S1x512, .f32⟩
  | .local _ .vmem, ⟨22, _⟩ => ⟨S1x512, .f32⟩
  | .local _ .vmem, ⟨23, _⟩ => ⟨S1x128, .f32⟩
  | .local _ .vmem, ⟨24, _⟩ => ⟨S512x1024, .bf16⟩
  | .local _ .vmem, ⟨25, _⟩ => ⟨S512x1024, .bf16⟩
  | .local _ .vmem, ⟨26, _⟩ => ⟨S1024x1024, .bf16⟩
  | .local _ .vmem, ⟨27, _⟩ => ⟨S1x1024, .f32⟩
  | .local _ .vmem, ⟨28, _⟩ => ⟨S256x512, .f32⟩
  | .local _ .vmem, ⟨29, _⟩ => ⟨S256x512, .f32⟩
  | .local _ .vmem, ⟨30, _⟩ => ⟨S256x512, .f32⟩
  | .local _ .vmem, ⟨31, _⟩ => ⟨S256x512, .f32⟩
  | .local _ .vmem, ⟨32, _⟩ => ⟨S256x512, .f32⟩
  | .local _ .vmem, ⟨33, _⟩ => ⟨S256x512, .f32⟩
  | .local _ .vmem, ⟨34, _⟩ => ⟨S256x512, .f32⟩
  | .local _ .vmem, ⟨35, _⟩ => ⟨S256x512, .f32⟩
  | .local _ .vmem, ⟨36, _⟩ => ⟨S256x512, .bf16⟩
  | .local _ .vmem, ⟨37, _⟩ => ⟨S256x512, .bf16⟩
  | .local _ .vmem, ⟨38, _⟩ => ⟨S256x512, .f32⟩
  | .local _ .vmem, ⟨39, _⟩ => ⟨S256x512, .f32⟩
  | .local _ .vmem, ⟨40, _⟩ => ⟨S256x512, .bf16⟩
  | .local _ .vmem, ⟨41, _⟩ => ⟨S256x512, .bf16⟩
  | .local _ .vmem, ⟨42, _⟩ => ⟨S256x2048, .bf16⟩
  | .local _ .vmem, ⟨43, _⟩ => ⟨S256x2048, .bf16⟩
  | .local _ .vmem, ⟨44, _⟩ => ⟨S256x1024, .f32⟩
  | .local _ .vmem, ⟨45, _⟩ => ⟨S256x1024, .f32⟩
  | .local _ .vmem, ⟨46, _⟩ => ⟨S512x1024, .f32⟩
  | .local _ .vmem, ⟨47, _⟩ => ⟨S512x1024, .f32⟩
  | .local _ .vmem, ⟨48, _⟩ => ⟨S1024x1024, .f32⟩
  | .local _ .vmem, ⟨49, _⟩ => ⟨S1x1024, .f32⟩
  | .local _ .vmem, ⟨50, _⟩ => ⟨S8x128, .f32⟩
  | .local _ .vmem, ⟨51, _⟩ => ⟨S1x512, .f32⟩
  | .local _ .vmem, ⟨52, _⟩ => ⟨S1x512, .f32⟩
  | .local _ .vmem, ⟨53, _⟩ => ⟨S1x512, .f32⟩
  | .local _ .vmem, ⟨54, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3_0 : Ref sig .tc := ⟨.hbm, 21, rfl⟩
abbrev main_v3_1 : Ref sig .tc := ⟨.hbm, 22, rfl⟩
abbrev main_v3_2 : Ref sig .tc := ⟨.hbm, 23, rfl⟩
abbrev main_v3_3 : Ref sig .tc := ⟨.hbm, 24, rfl⟩
abbrev main_v3_4 : Ref sig .tc := ⟨.hbm, 25, rfl⟩
abbrev main_v3_5 : Ref sig .tc := ⟨.hbm, 26, rfl⟩
abbrev main_v3_6 : Ref sig .tc := ⟨.hbm, 27, rfl⟩
abbrev main_v3_7 : Ref sig .tc := ⟨.hbm, 28, rfl⟩
abbrev main_v3_8 : Ref sig .tc := ⟨.hbm, 29, rfl⟩
abbrev main_v3_9 : Ref sig .tc := ⟨.hbm, 30, rfl⟩
abbrev main_v3_10 : Ref sig .tc := ⟨.hbm, 31, rfl⟩
abbrev main_v3_11 : Ref sig .tc := ⟨.hbm, 32, rfl⟩
abbrev main_v3_12 : Ref sig .tc := ⟨.hbm, 33, rfl⟩
abbrev main_v3_13 : Ref sig .tc := ⟨.hbm, 34, rfl⟩
abbrev main_v3_14 : Ref sig .tc := ⟨.hbm, 35, rfl⟩
abbrev main_v3_15 : Ref sig .tc := ⟨.hbm, 36, rfl⟩
abbrev main_v3_16 : Ref sig .tc := ⟨.hbm, 37, rfl⟩
abbrev main_v3_17 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_stg21_1 : Ref sig .tc := ⟨.vmem, 35, rfl⟩
abbrev cc0_stg22_0 : Ref sig .tc := ⟨.vmem, 36, rfl⟩
abbrev cc0_stg22_1 : Ref sig .tc := ⟨.vmem, 37, rfl⟩
abbrev cc0_stg23_0 : Ref sig .tc := ⟨.vmem, 38, rfl⟩
abbrev cc0_stg23_1 : Ref sig .tc := ⟨.vmem, 39, rfl⟩
abbrev cc0_stg24_0 : Ref sig .tc := ⟨.vmem, 40, rfl⟩
abbrev cc0_stg24_1 : Ref sig .tc := ⟨.vmem, 41, rfl⟩
abbrev cc0_stg25_0 : Ref sig .tc := ⟨.vmem, 42, rfl⟩
abbrev cc0_stg25_1 : Ref sig .tc := ⟨.vmem, 43, rfl⟩
abbrev cc0_stg26_0 : Ref sig .tc := ⟨.vmem, 44, rfl⟩
abbrev cc0_stg26_1 : Ref sig .tc := ⟨.vmem, 45, rfl⟩
abbrev cc0_stg27_0 : Ref sig .tc := ⟨.vmem, 46, rfl⟩
abbrev cc0_stg28_0 : Ref sig .tc := ⟨.vmem, 47, rfl⟩
abbrev cc0_stg29_0 : Ref sig .tc := ⟨.vmem, 48, rfl⟩
abbrev cc0_stg30_0 : Ref sig .tc := ⟨.vmem, 49, rfl⟩
abbrev cc0_stg31_0 : Ref sig .tc := ⟨.vmem, 50, rfl⟩
abbrev cc0_stg32_0 : Ref sig .tc := ⟨.vmem, 51, rfl⟩
abbrev cc0_stg33_0 : Ref sig .tc := ⟨.vmem, 52, rfl⟩
abbrev cc0_stg34_0 : Ref sig .tc := ⟨.vmem, 53, rfl⟩
abbrev cc0_stg35_0 : Ref sig .tc := ⟨.vmem, 54, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem21_1 : DmaSem sig := 35
abbrev cc0_sem22_0 : DmaSem sig := 36
abbrev cc0_sem22_1 : DmaSem sig := 37
abbrev cc0_sem23_0 : DmaSem sig := 38
abbrev cc0_sem23_1 : DmaSem sig := 39
abbrev cc0_sem24_0 : DmaSem sig := 40
abbrev cc0_sem24_1 : DmaSem sig := 41
abbrev cc0_sem25_0 : DmaSem sig := 42
abbrev cc0_sem25_1 : DmaSem sig := 43
abbrev cc0_sem26_0 : DmaSem sig := 44
abbrev cc0_sem26_1 : DmaSem sig := 45
abbrev cc0_sem27_0 : DmaSem sig := 46
abbrev cc0_sem28_0 : DmaSem sig := 47
abbrev cc0_sem29_0 : DmaSem sig := 48
abbrev cc0_sem30_0 : DmaSem sig := 49
abbrev cc0_sem31_0 : DmaSem sig := 50
abbrev cc0_sem32_0 : DmaSem sig := 51
abbrev cc0_sem33_0 : DmaSem sig := 52
abbrev cc0_sem34_0 : DmaSem sig := 53
abbrev cc0_sem35_0 : DmaSem sig := 54

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_31 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_32 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_33 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_34 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_35 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S256x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x512 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x512 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x512 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S256x2048 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S256x1024 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 1 → Memref sig .tc .vmem S512x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S512x1024 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S1024x1024 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 1 → Memref sig .tc .vmem S1x1024 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false]

abbrev stage0_31 : Fin 1 → Memref sig .tc .vmem S8x128 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![false]

abbrev stage0_32 : Fin 1 → Memref sig .tc .vmem S1x512 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
abbrev reads0_32 : Fin grid0.rank → Bool := ![false]

abbrev stage0_33 : Fin 1 → Memref sig .tc .vmem S1x512 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))
abbrev reads0_33 : Fin grid0.rank → Bool := ![false]

abbrev stage0_34 : Fin 1 → Memref sig .tc .vmem S1x512 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))
abbrev reads0_34 : Fin grid0.rank → Bool := ![false]

abbrev stage0_35 : Fin 1 → Memref sig .tc .vmem S1x128 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))
abbrev reads0_35 : Fin grid0.rank → Bool := ![false]
-- ==== ReferenceIdeal.lean ====
abbrev S4096x1024 : Shape := ⟨2, ![4096, 1024]⟩
abbrev S4096x2048 : Shape := ⟨2, ![4096, 2048]⟩
abbrev S4096x512 : Shape := ⟨2, ![4096, 512]⟩
abbrev S1x512 : Shape := ⟨2, ![1, 512]⟩
abbrev S1x128 : Shape := ⟨2, ![1, 128]⟩
abbrev S512x1024 : Shape := ⟨2, ![512, 1024]⟩
abbrev S1024x1024 : Shape := ⟨2, ![1024, 1024]⟩
abbrev S1x1024 : Shape := ⟨2, ![1, 1024]⟩
abbrev S4096x8x64 : Shape := ⟨3, ![4096, 8, 64]⟩
abbrev S_ : Shape := ⟨0, ![]⟩
abbrev S4096x8 : Shape := ⟨2, ![4096, 8]⟩
abbrev S4096x8x1 : Shape := ⟨3, ![4096, 8, 1]⟩
abbrev S8x64 : Shape := ⟨2, ![8, 64]⟩
abbrev S1x8x64 : Shape := ⟨3, ![1, 8, 64]⟩
abbrev S4096x4x128 : Shape := ⟨3, ![4096, 4, 128]⟩
abbrev S4096x4 : Shape := ⟨2, ![4096, 4]⟩
abbrev S4096x4x1 : Shape := ⟨3, ![4096, 4, 1]⟩
abbrev S1x1x128 : Shape := ⟨3, ![1, 1, 128]⟩
abbrev S4096 : Shape := ⟨1, ![4096]⟩
abbrev S4096x1 : Shape := ⟨2, ![4096, 1]⟩
abbrev S1024 : Shape := ⟨1, ![1024]⟩
abbrev S1024x512 : Shape := ⟨2, ![1024, 512]⟩
abbrev S8x128 : Shape := ⟨2, ![8, 128]⟩

abbrev nBuf : Space → Nat
  | .hbm => 215
  | .vmem => 0
  | .smem => 0
  | _ => 0

abbrev hbmTy0_0 (i : Nat) : BufTy := match i % 128 with
  | 0 => ⟨S4096x1024, .f32⟩
  | 1 => ⟨S4096x1024, .f32⟩
  | 2 => ⟨S4096x2048, .f32⟩
  | 3 => ⟨S4096x512, .f32⟩
  | 4 => ⟨S4096x512, .f32⟩
  | 5 => ⟨S4096x512, .f32⟩
  | 6 => ⟨S4096x512, .f32⟩
  | 7 => ⟨S4096x512, .f32⟩
  | 8 => ⟨S4096x512, .f32⟩
  | 9 => ⟨S4096x512, .f32⟩
  | 10 => ⟨S1x512, .f32⟩
  | 11 => ⟨S1x512, .f32⟩
  | 12 => ⟨S1x512, .f32⟩
  | 13 => ⟨S1x128, .f32⟩
  | 14 => ⟨S512x1024, .f32⟩
  | 15 => ⟨S512x1024, .f32⟩
  | 16 => ⟨S1024x1024, .f32⟩
  | 17 => ⟨S1x1024, .f32⟩
  | 18 => ⟨S4096x8x64, .f32⟩
  | 19 => ⟨S_, .f32⟩
  | 20 => ⟨S4096x8, .f32⟩
  | 21 => ⟨S4096x8x1, .f32⟩
  | 22 => ⟨S_, .f32⟩
  | 23 => ⟨S4096x8x1, .f32⟩
  | 24 => ⟨S4096x8x1, .f32⟩
  | 25 => ⟨S4096x8x64, .f32⟩
  | 26 => ⟨S4096x8x64, .f32⟩
  | 27 => ⟨S4096x8x64, .f32⟩
  | 28 => ⟨S_, .f32⟩
  | 29 => ⟨S4096x8, .f32⟩
  | 30 => ⟨S4096x8x1, .f32⟩
  | 31 => ⟨S_, .f32⟩
  | 32 => ⟨S4096x8x1, .f32⟩
  | 33 => ⟨S4096x8x1, .f32⟩
  | 34 => ⟨S4096x8x64, .f32⟩
  | 35 => ⟨S4096x8x64, .f32⟩
  | 36 => ⟨S_, .f32⟩
  | 37 => ⟨S4096x8x1, .f32⟩
  | 38 => ⟨S4096x8x1, .f32⟩
  | 39 => ⟨S4096x8x1, .f32⟩
  | 40 => ⟨S4096x8x64, .f32⟩
  | 41 => ⟨S4096x8x64, .f32⟩
  | 42 => ⟨S4096x512, .f32⟩
  | 43 => ⟨S4096x512, .f32⟩
  | 44 => ⟨S4096x512, .f32⟩
  | 45 => ⟨S4096x512, .f32⟩
  | 46 => ⟨S4096x512, .f32⟩
  | 47 => ⟨S4096x8x64, .f32⟩
  | 48 => ⟨S4096x8x64, .f32⟩
  | 49 => ⟨S4096x8x64, .f32⟩
  | 50 => ⟨S8x64, .f32⟩
  | 51 => ⟨S1x8x64, .f32⟩
  | 52 => ⟨S4096x8x64, .f32⟩
  | 53 => ⟨S4096x8x64, .f32⟩
  | 54 => ⟨S_, .f32⟩
  | 55 => ⟨S4096x8, .f32⟩
  | 56 => ⟨S4096x8x1, .f32⟩
  | 57 => ⟨S4096x8x64, .f32⟩
  | 58 => ⟨S4096x8x64, .f32⟩
  | 59 => ⟨S4096x8x64, .f32⟩
  | 60 => ⟨S4096x512, .f32⟩
  | 61 => ⟨S4096x512, .f32⟩
  | 62 => ⟨S4096x512, .f32⟩
  | 63 => ⟨S4096x512, .f32⟩
  | 64 => ⟨S_, .f32⟩
  | 65 => ⟨S4096x512, .f32⟩
  | 66 => ⟨S4096x512, .f32⟩
  | 67 => ⟨S_, .f32⟩
  | 68 => ⟨S4096x512, .f32⟩
  | 69 => ⟨S4096x512, .f32⟩
  | 70 => ⟨S4096x512, .f32⟩
  | 71 => ⟨S4096x512, .f32⟩
  | 72 => ⟨S4096x4x128, .f32⟩
  | 73 => ⟨S4096x4x128, .f32⟩
  | 74 => ⟨S_, .f32⟩
  | 75 => ⟨S4096x4, .f32⟩
  | 76 => ⟨S4096x4x1, .f32⟩
  | 77 => ⟨S_, .f32⟩
  | 78 => ⟨S4096x4x1, .f32⟩
  | 79 => ⟨S4096x4x1, .f32⟩
  | 80 => ⟨S_, .f32⟩
  | 81 => ⟨S4096x4x1, .f32⟩
  | 82 => ⟨S4096x4x1, .f32⟩
  | 83 => ⟨S4096x4x1, .f32⟩
  | 84 => ⟨S4096x4x128, .f32⟩
  | 85 => ⟨S4096x4x128, .f32⟩
  | 86 => ⟨S1x1x128, .f32⟩
  | 87 => ⟨S4096x4x128, .f32⟩
  | 88 => ⟨S4096x4x128, .f32⟩
  | 89 => ⟨S4096x4x128, .f32⟩
  | 90 => ⟨S4096x4x128, .f32⟩
  | 91 => ⟨S4096x4x128, .f32⟩
  | 92 => ⟨S_, .f32⟩
  | 93 => ⟨S4096x4x128, .f32⟩
  | 94 => ⟨S4096x4x128, .f32⟩
  | 95 => ⟨S_, .f32⟩
  | 96 => ⟨S4096x4x128, .f32⟩
  | 97 => ⟨S4096x4x128, .f32⟩
  | 98 => ⟨S4096x4x128, .f32⟩
  | 99 => ⟨S4096x4x128, .f32⟩
  | 100 => ⟨S4096x512, .f32⟩
  | 101 => ⟨S4096x1024, .f32⟩
  | 102 => ⟨S4096x1024, .f32⟩
  | 103 => ⟨S4096x1024, .f32⟩
  | 104 => ⟨S4096x1024, .f32⟩
  | 105 => ⟨S_, .f32⟩
  | 106 => ⟨S4096x1024, .f32⟩
  | 107 => ⟨S4096x1024, .f32⟩
  | 108 => ⟨S_, .f32⟩
  | 109 => ⟨S4096x1024, .f32⟩
  | 110 => ⟨S4096x1024, .f32⟩
  | 111 => ⟨S_, .f32⟩
  | 112 => ⟨S4096x1024, .f32⟩
  | 113 => ⟨S4096x1024, .f32⟩
  | 114 => ⟨S4096x1024, .f32⟩
  | 115 => ⟨S4096x1024, .f32⟩
  | 116 => ⟨S4096x1024, .f32⟩
  | 117 => ⟨S4096x1024, .f32⟩
  | 118 => ⟨S4096x1024, .f32⟩
  | 119 => ⟨S_, .f32⟩
  | 120 => ⟨S4096x1024, .f32⟩
  | 121 => ⟨S4096x1024, .f32⟩
  | 122 => ⟨S_, .f32⟩
  | 123 => ⟨S4096x1024, .f32⟩
  | 124 => ⟨S4096x1024, .f32⟩
  | 125 => ⟨S_, .f32⟩
  | 126 => ⟨S4096x1024, .f32⟩
  | 127 => ⟨S4096x1024, .f32⟩
  | _ => ⟨S4096x1024, .f32⟩

abbrev hbmTy0_1 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S4096x1024, .f32⟩
  | 5 => ⟨S4096x1024, .f32⟩
  | 6 => ⟨S4096x1024, .f32⟩
  | 7 => ⟨S_, .f32⟩
  | 8 => ⟨S4096, .f32⟩
  | 9 => ⟨S4096x1, .f32⟩
  | 10 => ⟨S_, .f32⟩
  | 11 => ⟨S4096x1, .f32⟩
  | 12 => ⟨S4096x1, .f32⟩
  | 13 => ⟨S_, .f32⟩
  | 14 => ⟨S4096x1, .f32⟩
  | 15 => ⟨S4096x1, .f32⟩
  | 16 => ⟨S4096x1, .f32⟩
  | 17 => ⟨S4096x1, .f32⟩
  | 18 => ⟨S_, .f32⟩
  | 19 => ⟨S4096x1, .f32⟩
  | 20 => ⟨S4096x1, .f32⟩
  | 21 => ⟨S4096x1024, .f32⟩
  | 22 => ⟨S4096x1024, .f32⟩
  | 23 => ⟨S4096x1024, .f32⟩
  | 24 => ⟨S4096x1024, .f32⟩
  | 25 => ⟨S4096x1024, .f32⟩
  | 26 => ⟨S4096x1024, .f32⟩
  | 27 => ⟨S_, .f32⟩
  | 28 => ⟨S4096x1024, .f32⟩
  | 29 => ⟨S4096x1024, .f32⟩
  | 30 => ⟨S_, .f32⟩
  | 31 => ⟨S4096, .f32⟩
  | 32 => ⟨S_, .f32⟩
  | 33 => ⟨S4096, .f32⟩
  | 34 => ⟨S4096, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S4096, .f32⟩
  | 43 => ⟨S_, .f32⟩
  | 44 => ⟨S4096, .f32⟩
  | 45 => ⟨S4096, .f32⟩
  | 46 => ⟨S4096x1024, .f32⟩
  | 47 => ⟨S4096x1024, .f32⟩
  | 48 => ⟨S4096x1024, .f32⟩
  | 49 => ⟨S_, .f32⟩
  | 50 => ⟨S1024, .f32⟩
  | 51 => ⟨S1x1024, .f32⟩
  | 52 => ⟨S4096x1024, .f32⟩
  | 53 => ⟨S4096x1024, .f32⟩
  | 54 => ⟨S4096x1024, .f32⟩
  | 55 => ⟨S_, .f32⟩
  | 56 => ⟨S4096, .f32⟩
  | 57 => ⟨S4096x1, .f32⟩
  | 58 => ⟨S4096x1024, .f32⟩
  | 59 => ⟨S4096x1024, .f32⟩
  | 60 => ⟨S4096x1, .f32⟩
  | 61 => ⟨S_, .f32⟩
  | 62 => ⟨S4096x1, .f32⟩
  | 63 => ⟨S4096x1, .f32⟩
  | 64 => ⟨S_, .f32⟩
  | 65 => ⟨S4096, .f32⟩
  | 66 => ⟨S4096x1024, .f32⟩
  | 67 => ⟨S4096x1024, .f32⟩
  | 68 => ⟨S4096x1024, .f32⟩
  | 69 => ⟨S4096x1024, .f32⟩
  | 70 => ⟨S4096x1024, .f32⟩
  | 71 => ⟨S1024x1024, .f32⟩
  | 72 => ⟨S1024x1024, .f32⟩
  | 73 => ⟨S4096x1024, .f32⟩
  | 74 => ⟨S4096x1024, .f32⟩
  | 75 => ⟨S4096x1024, .f32⟩
  | 76 => ⟨S1024x512, .f32⟩
  | 77 => ⟨S512x1024, .f32⟩
  | 78 => ⟨S4096x1024, .f32⟩
  | 79 => ⟨S4096x1024, .f32⟩
  | 80 => ⟨S4096x1024, .f32⟩
  | 81 => ⟨S1024x512, .f32⟩
  | 82 => ⟨S512x1024, .f32⟩
  | 83 => ⟨S4096x1024, .f32⟩
  | 84 => ⟨S4096x2048, .f32⟩
  | 85 => ⟨S4096x2048, .bf16⟩
  | 86 => ⟨S8x128, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_cst : Ref sig .tc := ⟨.hbm, 19, rfl⟩
abbrev main_v1 : Ref sig .tc := ⟨.hbm, 20, rfl⟩
abbrev main_v2 : Ref sig .tc := ⟨.hbm, 21, rfl⟩
abbrev main_cst_0 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_cst_2 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_3 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_4 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_call0_v0 : Ref sig .tc := ⟨.hbm, 62, rfl⟩
abbrev main_call0_v1 : Ref sig .tc := ⟨.hbm, 63, rfl⟩
abbrev main_call0_cst : Ref sig .tc := ⟨.hbm, 64, rfl⟩
abbrev main_call0_v2 : Ref sig .tc := ⟨.hbm, 65, rfl⟩
abbrev main_call0_v3 : Ref sig .tc := ⟨.hbm, 66, rfl⟩
abbrev main_call0_cst_0 : Ref sig .tc := ⟨.hbm, 67, rfl⟩
abbrev main_call0_v4 : Ref sig .tc := ⟨.hbm, 68, rfl⟩
abbrev main_call0_v5 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_5 : Ref sig .tc := ⟨.hbm, 74, rfl⟩
abbrev main_v42 : Ref sig .tc := ⟨.hbm, 75, rfl⟩
abbrev main_v43 : Ref sig .tc := ⟨.hbm, 76, rfl⟩
abbrev main_cst_6 : Ref sig .tc := ⟨.hbm, 77, rfl⟩
abbrev main_v44 : Ref sig .tc := ⟨.hbm, 78, rfl⟩
abbrev main_v45 : Ref sig .tc := ⟨.hbm, 79, rfl⟩
abbrev main_cst_7 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_call1_v0 : Ref sig .tc := ⟨.hbm, 90, rfl⟩
abbrev main_call1_v1 : Ref sig .tc := ⟨.hbm, 91, rfl⟩
abbrev main_call1_cst : Ref sig .tc := ⟨.hbm, 92, rfl⟩
abbrev main_call1_v2 : Ref sig .tc := ⟨.hbm, 93, rfl⟩
abbrev main_call1_v3 : Ref sig .tc := ⟨.hbm, 94, rfl⟩
abbrev main_call1_cst_0 : Ref sig .tc := ⟨.hbm, 95, rfl⟩
abbrev main_call1_v4 : Ref sig .tc := ⟨.hbm, 96, rfl⟩
abbrev main_call1_v5 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_cst_8 : Ref sig .tc := ⟨.hbm, 105, rfl⟩
abbrev main_v62 : Ref sig .tc := ⟨.hbm, 106, rfl⟩
abbrev main_v63 : Ref sig .tc := ⟨.hbm, 107, rfl⟩
abbrev main_cst_9 : Ref sig .tc := ⟨.hbm, 108, rfl⟩
abbrev main_v64 : Ref sig .tc := ⟨.hbm, 109, rfl⟩
abbrev main_v65 : Ref sig .tc := ⟨.hbm, 110, rfl⟩
abbrev main_cst_10 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_cst_11 : Ref sig .tc := ⟨.hbm, 119, rfl⟩
abbrev main_v73 : Ref sig .tc := ⟨.hbm, 120, rfl⟩
abbrev main_v74 : Ref sig .tc := ⟨.hbm, 121, rfl⟩
abbrev main_cst_12 : Ref sig .tc := ⟨.hbm, 122, rfl⟩
abbrev main_v75 : Ref sig .tc := ⟨.hbm, 123, rfl⟩
abbrev main_v76 : Ref sig .tc := ⟨.hbm, 124, rfl⟩
abbrev main_cst_13 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_cst_14 : Ref sig .tc := ⟨.hbm, 135, rfl⟩
abbrev main_v86 : Ref sig .tc := ⟨.hbm, 136, rfl⟩
abbrev main_v87 : Ref sig .tc := ⟨.hbm, 137, rfl⟩
abbrev main_cst_15 : Ref sig .tc := ⟨.hbm, 138, rfl⟩
abbrev main_v88 : Ref sig .tc := ⟨.hbm, 139, rfl⟩
abbrev main_v89 : Ref sig .tc := ⟨.hbm, 140, rfl⟩
abbrev main_cst_16 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_cst_17 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_cst_18 : Ref sig .tc := ⟨.hbm, 155, rfl⟩
abbrev main_v102 : Ref sig .tc := ⟨.hbm, 156, rfl⟩
abbrev main_v103 : Ref sig .tc := ⟨.hbm, 157, rfl⟩
abbrev main_cst_19 : Ref sig .tc := ⟨.hbm, 158, rfl⟩
abbrev main_v104 : Ref sig .tc := ⟨.hbm, 159, rfl⟩
abbrev main_cst_20 : Ref sig .tc := ⟨.hbm, 160, rfl⟩
abbrev main_v105 : Ref sig .tc := ⟨.hbm, 161, rfl⟩
abbrev main_v106 : Ref sig .tc := ⟨.hbm, 162, rfl⟩
abbrev main_cst_21 : Ref sig .tc := ⟨.hbm, 163, rfl⟩
abbrev main_v107 : Ref sig .tc := ⟨.hbm, 164, rfl⟩
abbrev main_cst_22 : Ref sig .tc := ⟨.hbm, 165, rfl⟩
abbrev main_v108 : Ref sig .tc := ⟨.hbm, 166, rfl⟩
abbrev main_cst_23 : Ref sig .tc := ⟨.hbm, 167, rfl⟩
abbrev main_cst_24 : Ref sig .tc := ⟨.hbm, 168, rfl⟩
abbrev main_v109 : Ref sig .tc := ⟨.hbm, 169, rfl⟩
abbrev main_v110 : Ref sig .tc := ⟨.hbm, 170, rfl⟩
abbrev main_cst_25 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_cst_26 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_cst_27 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_cst_28 : Ref sig .tc := ⟨.hbm, 189, rfl⟩
abbrev main_v126 : Ref sig .tc := ⟨.hbm, 190, rfl⟩
abbrev main_v127 : Ref sig .tc := ⟨.hbm, 191, rfl⟩
abbrev main_cst_29 : Ref sig .tc := ⟨.hbm, 192, rfl⟩
abbrev main_v128 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_v134 : Ref sig .tc := ⟨.hbm, 199, rfl⟩
abbrev main_v135 : Ref sig .tc := ⟨.hbm, 200, rfl⟩
abbrev main_v136 : Ref sig .tc := ⟨.hbm, 201, rfl⟩
abbrev main_v137 : Ref sig .tc := ⟨.hbm, 202, rfl⟩
abbrev main_v138 : Ref sig .tc := ⟨.hbm, 203, rfl⟩
abbrev main_v139 : Ref sig .tc := ⟨.hbm, 204, rfl⟩
abbrev main_v140 : Ref sig .tc := ⟨.hbm, 205, rfl⟩
abbrev main_v141 : Ref sig .tc := ⟨.hbm, 206, rfl⟩
abbrev main_v142 : Ref sig .tc := ⟨.hbm, 207, rfl⟩
abbrev main_v143 : Ref sig .tc := ⟨.hbm, 208, rfl⟩
abbrev main_v144 : Ref sig .tc := ⟨.hbm, 209, rfl⟩
abbrev main_v145 : Ref sig .tc := ⟨.hbm, 210, rfl⟩
abbrev main_v146 : Ref sig .tc := ⟨.hbm, 211, rfl⟩
abbrev main_v147 : Ref sig .tc := ⟨.hbm, 212, rfl⟩
abbrev main_v148 : Ref sig .tc := ⟨.hbm, 213, rfl⟩
abbrev main_v149 : Ref sig .tc := ⟨.hbm, 214, rfl⟩

abbrev nD : Nat := 1
abbrev τ : Topo := Topo.v7x

variable {F : FTy → Type} [FloatOps F]
-- ==== Kernel3.lean ====
abbrev S4096x1024 : Shape := ⟨2, ![4096, 1024]⟩
abbrev S1x1024 : Shape := ⟨2, ![1, 1024]⟩
abbrev S1024x6280 : Shape := ⟨2, ![1024, 6280]⟩
abbrev S4096x1664 : Shape := ⟨2, ![4096, 1664]⟩
abbrev S4096x512 : Shape := ⟨2, ![4096, 512]⟩
abbrev S4096x1536 : Shape := ⟨2, ![4096, 1536]⟩
abbrev S4096x128 : Shape := ⟨2, ![4096, 128]⟩
abbrev S4096x2048 : Shape := ⟨2, ![4096, 2048]⟩
abbrev S6280x1024 : Shape := ⟨2, ![6280, 1024]⟩
abbrev S1664x1024 : Shape := ⟨2, ![1664, 1024]⟩
abbrev S512x1024 : Shape := ⟨2, ![512, 1024]⟩
abbrev S1536x1024 : Shape := ⟨2, ![1536, 1024]⟩
abbrev S2048x1024 : Shape := ⟨2, ![2048, 1024]⟩
abbrev S8x1024 : Shape := ⟨2, ![8, 1024]⟩
abbrev S_ : Shape := ⟨0, ![]⟩
abbrev S120x1024 : Shape := ⟨2, ![120, 1024]⟩
abbrev S128x1024 : Shape := ⟨2, ![128, 1024]⟩
abbrev S256x1024 : Shape := ⟨2, ![256, 1024]⟩
abbrev S256x1664 : Shape := ⟨2, ![256, 1664]⟩
abbrev S256x512 : Shape := ⟨2, ![256, 512]⟩
abbrev S256x1536 : Shape := ⟨2, ![256, 1536]⟩
abbrev S256x128 : Shape := ⟨2, ![256, 128]⟩
abbrev S256x2048 : Shape := ⟨2, ![256, 2048]⟩
abbrev S256 : Shape := ⟨1, ![256]⟩
abbrev S256x1 : Shape := ⟨2, ![256, 1]⟩
abbrev S1024 : Shape := ⟨1, ![1024]⟩

abbrev nBuf : Space → Nat
  | .hbm => 29
  | .vmem => 26
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x6280, .f32⟩
  | .hbm, ⟨3, _⟩ => ⟨S4096x1024, .f32⟩
  | .hbm, ⟨4, _⟩ => ⟨S4096x1664, .f32⟩
  | .hbm, ⟨5, _⟩ => ⟨S4096x512, .f32⟩
  | .hbm, ⟨6, _⟩ => ⟨S4096x1536, .f32⟩
  | .hbm, ⟨7, _⟩ => ⟨S4096x512, .f32⟩
  | .hbm, ⟨8, _⟩ => ⟨S4096x128, .f32⟩
  | .hbm, ⟨9, _⟩ => ⟨S4096x2048, .f32⟩
  | .hbm, ⟨10, _⟩ => ⟨S4096x1664, .bf16⟩
  | .hbm, ⟨11, _⟩ => ⟨S4096x512, .bf16⟩
  | .hbm, ⟨12, _⟩ => ⟨S4096x1536, .bf16⟩
  | .hbm, ⟨13, _⟩ => ⟨S4096x512, .bf16⟩
  | .hbm, ⟨14, _⟩ => ⟨S4096x128, .bf16⟩
  | .hbm, ⟨15, _⟩ => ⟨S4096x2048, .bf16⟩
  | .hbm, ⟨16, _⟩ => ⟨S6280x1024, .f32⟩
  | .hbm, ⟨17, _⟩ => ⟨S6280x1024, .bf16⟩
  | .hbm, ⟨18, _⟩ => ⟨S1664x1024, .bf16⟩
  | .hbm, ⟨19, _⟩ => ⟨S512x1024, .bf16⟩
  | .hbm, ⟨20, _⟩ => ⟨S1536x1024, .bf16⟩
  | .hbm, ⟨21, _⟩ => ⟨S512x1024, .bf16⟩
  | .hbm, ⟨22, _⟩ => ⟨S2048x1024, .bf16⟩
  | .hbm, ⟨23, _⟩ => ⟨S8x1024, .bf16⟩
  | .hbm, ⟨24, _⟩ => ⟨S_, .bf16⟩
  | .hbm, ⟨25, _⟩ => ⟨S120x1024, .bf16⟩
  | .hbm, ⟨26, _⟩ => ⟨S128x1024, .bf16⟩
  | .hbm, ⟨27, _⟩ => ⟨S4096x1024, .f32⟩
  | .hbm, ⟨28, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x1664, .bf16⟩
  | .local _ .vmem, ⟨6, _⟩ => ⟨S256x1664, .bf16⟩
  | .local _ .vmem, ⟨7, _⟩ => ⟨S256x512, .bf16⟩
  | .local _ .vmem, ⟨8, _⟩ => ⟨S256x512, .bf16⟩
  | .local _ .vmem, ⟨9, _⟩ => ⟨S256x1536, .bf16⟩
  | .local _ .vmem, ⟨10, _⟩ => ⟨S256x1536, .bf16⟩
  | .local _ .vmem, ⟨11, _⟩ => ⟨S256x512, .bf16⟩
  | .local _ .vmem, ⟨12, _⟩ => ⟨S256x512, .bf16⟩
  | .local _ .vmem, ⟨13, _⟩ => ⟨S256x128, .bf16⟩
  | .local _ .vmem, ⟨14, _⟩ => ⟨S256x128, .bf16⟩
  | .local _ .vmem, ⟨15, _⟩ => ⟨S256x2048, .bf16⟩
  | .local _ .vmem, ⟨16, _⟩ => ⟨S256x2048, .bf16⟩
  | .local _ .vmem, ⟨17, _⟩ => ⟨S1664x1024, .bf16⟩
  | .local _ .vmem, ⟨18, _⟩ => ⟨S512x1024, .bf16⟩
  | .local _ .vmem, ⟨19, _⟩ => ⟨S1536x1024, .bf16⟩
  | .local _ .vmem, ⟨20, _⟩ => ⟨S512x1024, .bf16⟩
  | .local _ .vmem, ⟨21, _⟩ => ⟨S128x1024, .bf16⟩
  | .local _ .vmem, ⟨22, _⟩ => ⟨S2048x1024, .bf16⟩
  | .local _ .vmem, ⟨23, _⟩ => ⟨S256x1024, .f32⟩
  | .local _ .vmem, ⟨24, _⟩ => ⟨S256x1024, .f32⟩
  | .local _ .vmem, ⟨25, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_v16_0 : Ref sig .tc := ⟨.hbm, 27, rfl⟩
abbrev main_v16_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem15_1 : DmaSem sig := 24
abbrev cc0_sem16_0 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1664 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1664x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1536x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2048x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Reference3Ideal.lean ====
abbrev S4096x1024 : Shape := ⟨2, ![4096, 1024]⟩
abbrev S1x1024 : Shape := ⟨2, ![1, 1024]⟩
abbrev S1024x6280 : Shape := ⟨2, ![1024, 6280]⟩
abbrev S4096x1664 : Shape := ⟨2, ![4096, 1664]⟩
abbrev S4096x512 : Shape := ⟨2, ![4096, 512]⟩
abbrev S4096x1536 : Shape := ⟨2, ![4096, 1536]⟩
abbrev S4096x128 : Shape := ⟨2, ![4096, 128]⟩
abbrev S4096x2048 : Shape := ⟨2, ![4096, 2048]⟩
abbrev S4096x8 : Shape := ⟨2, ![4096, 8]⟩
abbrev S4096x6280 : Shape := ⟨2, ![4096, 6280]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 57
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x6280, .f32⟩
  | .hbm, ⟨3, _⟩ => ⟨S4096x1024, .f32⟩
  | .hbm, ⟨4, _⟩ => ⟨S4096x1664, .f32⟩
  | .hbm, ⟨5, _⟩ => ⟨S4096x512, .f32⟩
  | .hbm, ⟨6, _⟩ => ⟨S4096x1536, .f32⟩
  | .hbm, ⟨7, _⟩ => ⟨S4096x512, .f32⟩
  | .hbm, ⟨8, _⟩ => ⟨S4096x128, .f32⟩
  | .hbm, ⟨9, _⟩ => ⟨S4096x2048, .f32⟩
  | .hbm, ⟨10, _⟩ => ⟨S4096x8, .f32⟩
  | .hbm, ⟨11, _⟩ => ⟨S4096x6280, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x6280, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩

abbrev nD : Nat := 1
abbrev τ : Topo := Topo.v7x

variable {F : FTy → Type} [FloatOps F]
-- ==== Kernel4.lean ====
abbrev S4096x1024 : Shape := ⟨2, ![4096, 1024]⟩
abbrev S1x1024 : Shape := ⟨2, ![1, 1024]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S2048x1024 : Shape := ⟨2, ![2048, 1024]⟩
abbrev S1024x1024 : Shape := ⟨2, ![1024, 1024]⟩
abbrev S1024x2048 : Shape := ⟨2, ![1024, 2048]⟩

abbrev nBuf : Space → Nat
  | .hbm => 21
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x2048, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S4096x2048, .bf16⟩
  | .hbm, ⟨20, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Kernel4Ideal.lean ====
abbrev S4096x1024 : Shape := ⟨2, ![4096, 1024]⟩
abbrev S1x1024 : Shape := ⟨2, ![1, 1024]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S2048x1024 : Shape := ⟨2, ![2048, 1024]⟩
abbrev S1024x1024 : Shape := ⟨2, ![1024, 1024]⟩
abbrev S1024x2048 : Shape := ⟨2, ![1024, 2048]⟩

abbrev nBuf : Space → Nat
  | .hbm => 21
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x2048, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S4096x2048, .bf16⟩
  | .hbm, ⟨20, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference4Ideal.lean ====
abbrev S4096x1024 : Shape := ⟨2, ![4096, 1024]⟩
abbrev S1x1024 : Shape := ⟨2, ![1, 1024]⟩
abbrev S4096x2048 : Shape := ⟨2, ![4096, 2048]⟩
abbrev S_ : Shape := ⟨0, ![]⟩
abbrev S1024x2048 : Shape := ⟨2, ![1024, 2048]⟩
abbrev S4096 : Shape := ⟨1, ![4096]⟩
abbrev S4096x1 : Shape := ⟨2, ![4096, 1]⟩
abbrev S2048x1024 : Shape := ⟨2, ![2048, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x2048, .f32⟩
  | .hbm, ⟨3, _⟩ => ⟨S_, .f32⟩
  | .hbm, ⟨4, _⟩ => ⟨S1024x2048, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x2048, .f32⟩
  | .hbm, ⟨21, _⟩ => ⟨S2048x1024, .f32⟩
  | .hbm, ⟨22, _⟩ => ⟨S1024x2048, .f32⟩
  | .hbm, ⟨23, _⟩ => ⟨S2048x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel5.lean ====
abbrev S4096x1024 : Shape := ⟨2, ![4096, 1024]⟩
abbrev S1x1024 : Shape := ⟨2, ![1, 1024]⟩
abbrev S4096x1664 : Shape := ⟨2, ![4096, 1664]⟩
abbrev S_ : Shape := ⟨0, ![]⟩
abbrev S4096 : Shape := ⟨1, ![4096]⟩
abbrev S4096x1 : Shape := ⟨2, ![4096, 1]⟩
abbrev S1664x1024 : Shape := ⟨2, ![1664, 1024]⟩
abbrev S1024x1024 : Shape := ⟨2, ![1024, 1024]⟩
abbrev S1024x1664 : Shape := ⟨2, ![1024, 1664]⟩

abbrev nBuf : Space → Nat
  | .hbm => 21
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1664, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S4096x1664, .bf16⟩
  | .hbm, ⟨20, _⟩ => ⟨S1664x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1664, .bf16⟩
  | .local _ .vmem, ⟨3, _⟩ => ⟨S1024x1664, .bf16⟩
  | .local _ .vmem, ⟨4, _⟩ => ⟨S1664x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1664x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Kernel5Ideal.lean ====
abbrev S4096x1024 : Shape := ⟨2, ![4096, 1024]⟩
abbrev S1x1024 : Shape := ⟨2, ![1, 1024]⟩
abbrev S4096x1664 : Shape := ⟨2, ![4096, 1664]⟩
abbrev S_ : Shape := ⟨0, ![]⟩
abbrev S4096 : Shape := ⟨1, ![4096]⟩
abbrev S4096x1 : Shape := ⟨2, ![4096, 1]⟩
abbrev S1664x1024 : Shape := ⟨2, ![1664, 1024]⟩
abbrev S1024x1024 : Shape := ⟨2, ![1024, 1024]⟩
abbrev S1024x1664 : Shape := ⟨2, ![1024, 1664]⟩

abbrev nBuf : Space → Nat
  | .hbm => 21
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1664, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S4096x1664, .bf16⟩
  | .hbm, ⟨20, _⟩ => ⟨S1664x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1664, .bf16⟩
  | .local _ .vmem, ⟨3, _⟩ => ⟨S1024x1664, .bf16⟩
  | .local _ .vmem, ⟨4, _⟩ => ⟨S1664x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1664x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference5Ideal.lean ====
abbrev S4096x1024 : Shape := ⟨2, ![4096, 1024]⟩
abbrev S1x1024 : Shape := ⟨2, ![1, 1024]⟩
abbrev S4096x1664 : Shape := ⟨2, ![4096, 1664]⟩
abbrev S_ : Shape := ⟨0, ![]⟩
abbrev S1024x1664 : Shape := ⟨2, ![1024, 1664]⟩
abbrev S4096 : Shape := ⟨1, ![4096]⟩
abbrev S4096x1 : Shape := ⟨2, ![4096, 1]⟩
abbrev S1664x1024 : Shape := ⟨2, ![1664, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1664, .f32⟩
  | .hbm, ⟨3, _⟩ => ⟨S_, .f32⟩
  | .hbm, ⟨4, _⟩ => ⟨S1024x1664, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1664, .f32⟩
  | .hbm, ⟨21, _⟩ => ⟨S1664x1024, .f32⟩
  | .hbm, ⟨22, _⟩ => ⟨S1024x1664, .f32⟩
  | .hbm, ⟨23, _⟩ => ⟨S1664x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel6.lean ====
abbrev S4096x1024 : Shape := ⟨2, ![4096, 1024]⟩
abbrev S1x1024 : Shape := ⟨2, ![1, 1024]⟩
abbrev S4096x1536 : Shape := ⟨2, ![4096, 1536]⟩
abbrev S_ : Shape := ⟨0, ![]⟩
abbrev S4096 : Shape := ⟨1, ![4096]⟩
abbrev S4096x1 : Shape := ⟨2, ![4096, 1]⟩
abbrev S1536x1024 : Shape := ⟨2, ![1536, 1024]⟩
abbrev S1024x1024 : Shape := ⟨2, ![1024, 1024]⟩
abbrev S1024x1536 : Shape := ⟨2, ![1024, 1536]⟩

abbrev nBuf : Space → Nat
  | .hbm => 21
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1536, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S4096x1536, .bf16⟩
  | .hbm, ⟨20, _⟩ => ⟨S1536x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1536x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1536x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Kernel6Ideal.lean ====
abbrev S4096x1024 : Shape := ⟨2, ![4096, 1024]⟩
abbrev S1x1024 : Shape := ⟨2, ![1, 1024]⟩
abbrev S4096x1536 : Shape := ⟨2, ![4096, 1536]⟩
abbrev S_ : Shape := ⟨0, ![]⟩
abbrev S4096 : Shape := ⟨1, ![4096]⟩
abbrev S4096x1 : Shape := ⟨2, ![4096, 1]⟩
abbrev S1536x1024 : Shape := ⟨2, ![1536, 1024]⟩
abbrev S1024x1024 : Shape := ⟨2, ![1024, 1024]⟩
abbrev S1024x1536 : Shape := ⟨2, ![1024, 1536]⟩

abbrev nBuf : Space → Nat
  | .hbm => 21
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1536, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S4096x1536, .bf16⟩
  | .hbm, ⟨20, _⟩ => ⟨S1536x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1536x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1536x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference6Ideal.lean ====
abbrev S4096x1024 : Shape := ⟨2, ![4096, 1024]⟩
abbrev S1x1024 : Shape := ⟨2, ![1, 1024]⟩
abbrev S4096x1536 : Shape := ⟨2, ![4096, 1536]⟩
abbrev S_ : Shape := ⟨0, ![]⟩
abbrev S1024x1536 : Shape := ⟨2, ![1024, 1536]⟩
abbrev S4096 : Shape := ⟨1, ![4096]⟩
abbrev S4096x1 : Shape := ⟨2, ![4096, 1]⟩
abbrev S1536x1024 : Shape := ⟨2, ![1536, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1536, .f32⟩
  | .hbm, ⟨3, _⟩ => ⟨S_, .f32⟩
  | .hbm, ⟨4, _⟩ => ⟨S1024x1536, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1536, .f32⟩
  | .hbm, ⟨21, _⟩ => ⟨S1536x1024, .f32⟩
  | .hbm, ⟨22, _⟩ => ⟨S1024x1536, .f32⟩
  | .hbm, ⟨23, _⟩ => ⟨S1536x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel7.lean ====
abbrev S4096x1024 : Shape := ⟨2, ![4096, 1024]⟩
abbrev S1x1024 : Shape := ⟨2, ![1, 1024]⟩
abbrev S4096x512 : Shape := ⟨2, ![4096, 512]⟩
abbrev S_ : Shape := ⟨0, ![]⟩
abbrev S4096 : Shape := ⟨1, ![4096]⟩
abbrev S4096x1 : Shape := ⟨2, ![4096, 1]⟩
abbrev S512x1024 : Shape := ⟨2, ![512, 1024]⟩
abbrev S1024x1024 : Shape := ⟨2, ![1024, 1024]⟩
abbrev S1024x512 : Shape := ⟨2, ![1024, 512]⟩

abbrev nBuf : Space → Nat
  | .hbm => 21
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x512, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S4096x512, .bf16⟩
  | .hbm, ⟨20, _⟩ => ⟨S512x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Kernel7Ideal.lean ====
abbrev S4096x1024 : Shape := ⟨2, ![4096, 1024]⟩
abbrev S1x1024 : Shape := ⟨2, ![1, 1024]⟩
abbrev S4096x512 : Shape := ⟨2, ![4096, 512]⟩
abbrev S_ : Shape := ⟨0, ![]⟩
abbrev S4096 : Shape := ⟨1, ![4096]⟩
abbrev S4096x1 : Shape := ⟨2, ![4096, 1]⟩
abbrev S512x1024 : Shape := ⟨2, ![512, 1024]⟩
abbrev S1024x1024 : Shape := ⟨2, ![1024, 1024]⟩
abbrev S1024x512 : Shape := ⟨2, ![1024, 512]⟩

abbrev nBuf : Space → Nat
  | .hbm => 21
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x512, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S4096x512, .bf16⟩
  | .hbm, ⟨20, _⟩ => ⟨S512x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference7Ideal.lean ====
abbrev S4096x1024 : Shape := ⟨2, ![4096, 1024]⟩
abbrev S1x1024 : Shape := ⟨2, ![1, 1024]⟩
abbrev S4096x512 : Shape := ⟨2, ![4096, 512]⟩
abbrev S_ : Shape := ⟨0, ![]⟩
abbrev S1024x512 : Shape := ⟨2, ![1024, 512]⟩
abbrev S4096 : Shape := ⟨1, ![4096]⟩
abbrev S4096x1 : Shape := ⟨2, ![4096, 1]⟩
abbrev S512x1024 : Shape := ⟨2, ![512, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x512, .f32⟩
  | .hbm, ⟨3, _⟩ => ⟨S_, .f32⟩
  | .hbm, ⟨4, _⟩ => ⟨S1024x512, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x512, .f32⟩
  | .hbm, ⟨21, _⟩ => ⟨S512x1024, .f32⟩
  | .hbm, ⟨22, _⟩ => ⟨S1024x512, .f32⟩
  | .hbm, ⟨23, _⟩ => ⟨S512x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel8.lean ====
abbrev S4096x1024 : Shape := ⟨2, ![4096, 1024]⟩
abbrev S1x1024 : Shape := ⟨2, ![1, 1024]⟩
abbrev S4096x128 : Shape := ⟨2, ![4096, 128]⟩
abbrev S_ : Shape := ⟨0, ![]⟩
abbrev S4096 : Shape := ⟨1, ![4096]⟩
abbrev S4096x1 : Shape := ⟨2, ![4096, 1]⟩
abbrev S128x1024 : Shape := ⟨2, ![128, 1024]⟩
abbrev S1024x1024 : Shape := ⟨2, ![1024, 1024]⟩
abbrev S1024x128 : Shape := ⟨2, ![1024, 128]⟩

abbrev nBuf : Space → Nat
  | .hbm => 21
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x128, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S4096x128, .bf16⟩
  | .hbm, ⟨20, _⟩ => ⟨S128x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .bf16⟩
  | .local _ .vmem, ⟨4, _⟩ => ⟨S128x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference8Ideal.lean ====
abbrev S4096x1024 : Shape := ⟨2, ![4096, 1024]⟩
abbrev S1x1024 : Shape := ⟨2, ![1, 1024]⟩
abbrev S4096x128 : Shape := ⟨2, ![4096, 128]⟩
abbrev S_ : Shape := ⟨0, ![]⟩
abbrev S1024x128 : Shape := ⟨2, ![1024, 128]⟩
abbrev S4096 : Shape := ⟨1, ![4096]⟩
abbrev S4096x1 : Shape := ⟨2, ![4096, 1]⟩
abbrev S128x1024 : Shape := ⟨2, ![128, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x128, .f32⟩
  | .hbm, ⟨3, _⟩ => ⟨S_, .f32⟩
  | .hbm, ⟨4, _⟩ => ⟨S1024x128, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x128, .f32⟩
  | .hbm, ⟨21, _⟩ => ⟨S128x1024, .f32⟩
  | .hbm, ⟨22, _⟩ => ⟨S1024x128, .f32⟩
  | .hbm, ⟨23, _⟩ => ⟨S128x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel9.lean ====
abbrev S4096x1024 : Shape := ⟨2, ![4096, 1024]⟩
abbrev S1x1024 : Shape := ⟨2, ![1, 1024]⟩
abbrev S1024x2048 : Shape := ⟨2, ![1024, 2048]⟩
abbrev S_ : Shape := ⟨0, ![]⟩
abbrev S4096 : Shape := ⟨1, ![4096]⟩
abbrev S4096x1 : Shape := ⟨2, ![4096, 1]⟩
abbrev S2048x1024 : Shape := ⟨2, ![2048, 1024]⟩
abbrev S4096x2048 : Shape := ⟨2, ![4096, 2048]⟩
abbrev S1024x1024 : Shape := ⟨2, ![1024, 1024]⟩

abbrev nBuf : Space → Nat
  | .hbm => 22
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2048, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S2048x1024, .f32⟩
  | .hbm, ⟨20, _⟩ => ⟨S2048x1024, .bf16⟩
  | .hbm, ⟨21, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S1024x2048, .f32⟩
  | .local _ .vmem, ⟨4, _⟩ => ⟨S1024x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Kernel9Ideal.lean ====
abbrev S4096x1024 : Shape := ⟨2, ![4096, 1024]⟩
abbrev S1x1024 : Shape := ⟨2, ![1, 1024]⟩
abbrev S1024x2048 : Shape := ⟨2, ![1024, 2048]⟩
abbrev S_ : Shape := ⟨0, ![]⟩
abbrev S4096 : Shape := ⟨1, ![4096]⟩
abbrev S4096x1 : Shape := ⟨2, ![4096, 1]⟩
abbrev S2048x1024 : Shape := ⟨2, ![2048, 1024]⟩
abbrev S4096x2048 : Shape := ⟨2, ![4096, 2048]⟩
abbrev S1024x1024 : Shape := ⟨2, ![1024, 1024]⟩

abbrev nBuf : Space → Nat
  | .hbm => 22
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2048, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S2048x1024, .f32⟩
  | .hbm, ⟨20, _⟩ => ⟨S2048x1024, .bf16⟩
  | .hbm, ⟨21, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S1024x2048, .f32⟩
  | .local _ .vmem, ⟨4, _⟩ => ⟨S1024x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S4096x1024 : Shape := ⟨2, ![4096, 1024]⟩
abbrev S1x1024 : Shape := ⟨2, ![1, 1024]⟩
abbrev S1024x2048 : Shape := ⟨2, ![1024, 2048]⟩
abbrev S_ : Shape := ⟨0, ![]⟩
abbrev S4096 : Shape := ⟨1, ![4096]⟩
abbrev S4096x1 : Shape := ⟨2, ![4096, 1]⟩
abbrev S4096x2048 : Shape := ⟨2, ![4096, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2048, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Kernel10.lean ====
abbrev S4096x1024 : Shape := ⟨2, ![4096, 1024]⟩
abbrev S1x1024 : Shape := ⟨2, ![1, 1024]⟩
abbrev S1024x512 : Shape := ⟨2, ![1024, 512]⟩
abbrev S_ : Shape := ⟨0, ![]⟩
abbrev S4096 : Shape := ⟨1, ![4096]⟩
abbrev S4096x1 : Shape := ⟨2, ![4096, 1]⟩
abbrev S512x1024 : Shape := ⟨2, ![512, 1024]⟩
abbrev S4096x512 : Shape := ⟨2, ![4096, 512]⟩
abbrev S1024x1024 : Shape := ⟨2, ![1024, 1024]⟩

abbrev nBuf : Space → Nat
  | .hbm => 22
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x512, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S512x1024, .f32⟩
  | .hbm, ⟨20, _⟩ => ⟨S512x1024, .bf16⟩
  | .hbm, ⟨21, _⟩ => ⟨S4096x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference10Ideal.lean ====
abbrev S4096x1024 : Shape := ⟨2, ![4096, 1024]⟩
abbrev S1x1024 : Shape := ⟨2, ![1, 1024]⟩
abbrev S1024x512 : Shape := ⟨2, ![1024, 512]⟩
abbrev S_ : Shape := ⟨0, ![]⟩
abbrev S4096 : Shape := ⟨1, ![4096]⟩
abbrev S4096x1 : Shape := ⟨2, ![4096, 1]⟩
abbrev S4096x512 : Shape := ⟨2, ![4096, 512]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x512, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x512, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Kernel11.lean ====
abbrev S4x785x1024 : Shape := ⟨3, ![4, 785, 1024]⟩
abbrev S785x1024 : Shape := ⟨2, ![785, 1024]⟩
abbrev S4x785x256 : Shape := ⟨3, ![4, 785, 256]⟩
abbrev S785x256 : Shape := ⟨2, ![785, 256]⟩
abbrev S1x785x256 : Shape := ⟨3, ![1, 785, 256]⟩

abbrev nBuf : Space → Nat
  | .hbm => 8
  | .vmem => 16
  | .smem => 0
  | _ => 0

abbrev bufTy : (tb : Table) → Fin (tcTables nBuf tb) → BufTy
  | .hbm, ⟨0, _⟩ => ⟨S4x785x1024, .bf16⟩
  | .hbm, ⟨1, _⟩ => ⟨S785x1024, .f32⟩
  | .hbm, ⟨2, _⟩ => ⟨S785x1024, .f32⟩
  | .hbm, ⟨3, _⟩ => ⟨S785x1024, .f32⟩
  | .hbm, ⟨4, _⟩ => ⟨S785x1024, .f32⟩
  | .hbm, ⟨5, _⟩ => ⟨S785x1024, .f32⟩
  | .hbm, ⟨6, _⟩ => ⟨S785x1024, .f32⟩
  | .hbm, ⟨7, _⟩ => ⟨S785x1024, .f32⟩
  | .local _ .vmem, ⟨0, _⟩ => ⟨S4x785x256, .bf16⟩
  | .local _ .vmem, ⟨1, _⟩ => ⟨S4x785x256, .bf16⟩
  | .local _ .vmem, ⟨2, _⟩ => ⟨S785x256, .f32⟩
  | .local _ .vmem, ⟨3, _⟩ => ⟨S785x256, .f32⟩
  | .local _ .vmem, ⟨4, _⟩ => ⟨S785x256, .f32⟩
  | .local _ .vmem, ⟨5, _⟩ => ⟨S785x256, .f32⟩
  | .local _ .vmem, ⟨6, _⟩ => ⟨S785x256, .f32⟩
  | .local _ .vmem, ⟨7, _⟩ => ⟨S785x256, .f32⟩
  | .local _ .vmem, ⟨8, _⟩ => ⟨S785x256, .f32⟩
  | .local _ .vmem, ⟨9, _⟩ => ⟨S785x256, .f32⟩
  | .local _ .vmem, ⟨10, _⟩ => ⟨S785x256, .f32⟩
  | .local _ .vmem, ⟨11, _⟩ => ⟨S785x256, .f32⟩
  | .local _ .vmem, ⟨12, _⟩ => ⟨S785x256, .f32⟩
  | .local _ .vmem, ⟨13, _⟩ => ⟨S785x256, .f32⟩
  | .local _ .vmem, ⟨14, _⟩ => ⟨S785x256, .f32⟩
  | .local _ .vmem, ⟨15, _⟩ => ⟨S785x256, .f32⟩
  | _, _ => ⟨S4x785x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c256_i32 : BitVec 32 := 256#32
  let v0 : BitVec 32 := Scalar.muli arg0 c256_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let c0_i32_4 : BitVec 32 := 0#32
  let v18 : BitVec 1 := Scalar.cmpi .eq c4_i32 c0_i32_4
  let c1_i32_5 : BitVec 32 := 1#32
  let v19 : BitVec 32 := Scalar.select v18 c1_i32_5 c4_i32
  let v20 : BitVec 32 := Scalar.remsi arg0 v19
  let c0_i32_6 : BitVec 32 := 0#32
  let v21 : BitVec 1 := Scalar.cmpi .ne v20 c0_i32_6
  let c0_i32_7 : BitVec 32 := 0#32
  let v22 : BitVec 1 := Scalar.cmpi .slt v20 c0_i32_7
  let c0_i32_8 : BitVec 32 := 0#32
  let v23 : BitVec 1 := Scalar.cmpi .slt v19 c0_i32_8
  let v24 : BitVec 1 := Scalar.xori v22 v23
  let v25 : BitVec 1 := Scalar.andi v24 v21
  let v26 : BitVec 32 := Scalar.addi v20 v19
  let v27 : BitVec 32 := Scalar.select v25 v26 v20
  let c0_i32_9 : BitVec 32 := 0#32
  let c0_i32_10 : BitVec 32 := 0#32
  ![c0_i32_9.toNat, v17.toNat, v27.toNat]

def cc0_transform_1 (i : grid0.Coords) : Fin 2 → Nat :=
  let arg0 : BitVec 32 := BitVec.ofNat 32 (i 0).val
  let c256_i32 : BitVec 32 := 256#32
  let v0 : BitVec 32 := Scalar.muli arg0 c256_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let c0_i32_4 : BitVec 32 := 0#32
  let v18 : BitVec 1 := Scalar.cmpi .eq c4_i32 c0_i32_4
  let c1_i32_5 : BitVec 32 := 1#32
  let v19 : BitVec 32 := Scalar.select v18 c1_i32_5 c4_i32
  let v20 : BitVec 32 := Scalar.remsi arg0 v19
  let c0_i32_6 : BitVec 32 := 0#32
  let v21 : BitVec 1 := Scalar.cmpi .ne v20 c0_i32_6
  let c0_i32_7 : BitVec 32 := 0#32
  let v22 : BitVec 1 := Scalar.cmpi .slt v20 c0_i32_7
  let c0_i32_8 : BitVec 32 := 0#32
  let v23 : BitVec 1 := Scalar.cmpi .slt v19 c0_i32_8
  let v24 : BitVec 1 := Scalar.xori v22 v23
  let v25 : BitVec 1 := Scalar.andi v24 v21
  let v26 : BitVec 32 := Scalar.addi v20 v19
  let v27 : BitVec 32 := Scalar.select v25 v26 v20
  let c0_i32_9 : BitVec 32 := 0#32
  ![v17.toNat, v27.toNat]

def cc0_transform_2 (i : grid0.Coords) : Fin 2 → Nat :=
  let arg0 : BitVec 32 := BitVec.ofNat 32 (i 0).val
  let c256_i32 : BitVec 32 := 256#32
  let v0 : BitVec 32 := Scalar.muli arg0 c256_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let c0_i32_4 : BitVec 32 := 0#32
  let v18 : BitVec 1 := Scalar.cmpi .eq c4_i32 c0_i32_4
  let c1_i32_5 : BitVec 32 := 1#32
  let v19 : BitVec 32 := Scalar.select v18 c1_i32_5 c4_i32
  let v20 : BitVec 32 := Scalar.remsi arg0 v19
  let c0_i32_6 : BitVec 32 := 0#32
  let v21 : BitVec 1 := Scalar.cmpi .ne v20 c0_i32_6
  let c0_i32_7 : BitVec 32 := 0#32
  let v22 : BitVec 1 := Scalar.cmpi .slt v20 c0_i32_7
  let c0_i32_8 : BitVec 32 := 0#32
  let v23 : BitVec 1 := Scalar.cmpi .slt v19 c0_i32_8
  let v24 : BitVec 1 := Scalar.xori v22 v23
  let v25 : BitVec 1 := Scalar.andi v24 v21
  let v26 : BitVec 32 := Scalar.addi v20 v19
  let v27 : BitVec 32 := Scalar.select v25 v26 v20
  let c0_i32_9 : BitVec 32 := 0#32
  ![v17.toNat, v27.toNat]

def cc0_transform_3 (i : grid0.Coords) : Fin 2 → Nat :=
  let arg0 : BitVec 32 := BitVec.ofNat 32 (i 0).val
  let c256_i32 : BitVec 32 := 256#32
  let v0 : BitVec 32 := Scalar.muli arg0 c256_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let c0_i32_4 : BitVec 32 := 0#32
  let v18 : BitVec 1 := Scalar.cmpi .eq c4_i32 c0_i32_4
  let c1_i32_5 : BitVec 32 := 1#32
  let v19 : BitVec 32 := Scalar.select v18 c1_i32_5 c4_i32
  let v20 : BitVec 32 := Scalar.remsi arg0 v19
  let c0_i32_6 : BitVec 32 := 0#32
  let v21 : BitVec 1 := Scalar.cmpi .ne v20 c0_i32_6
  let c0_i32_7 : BitVec 32 := 0#32
  let v22 : BitVec 1 := Scalar.cmpi .slt v20 c0_i32_7
  let c0_i32_8 : BitVec 32 := 0#32
  let v23 : BitVec 1 := Scalar.cmpi .slt v19 c0_i32_8
  let v24 : BitVec 1 := Scalar.xori v22 v23
  let v25 : BitVec 1 := Scalar.andi v24 v21
  let v26 : BitVec 32 := Scalar.addi v20 v19
  let v27 : BitVec 32 := Scalar.select v25 v26 v20
  let c0_i32_9 : BitVec 32 := 0#32
  ![v17.toNat, v27.toNat]

def cc0_transform_4 (i : grid0.Coords) : Fin 2 → Nat :=
  let arg0 : BitVec 32 := BitVec.ofNat 32 (i 0).val
  let c256_i32 : BitVec 32 := 256#32
  let v0 : BitVec 32 := Scalar.muli arg0 c256_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let c0_i32_4 : BitVec 32 := 0#32
  let v18 : BitVec 1 := Scalar.cmpi .eq c4_i32 c0_i32_4
  let c1_i32_5 : BitVec 32 := 1#32
  let v19 : BitVec 32 := Scalar.select v18 c1_i32_5 c4_i32
  let v20 : BitVec 32 := Scalar.remsi arg0 v19
  let c0_i32_6 : BitVec 32 := 0#32
  let v21 : BitVec 1 := Scalar.cmpi .ne v20 c0_i32_6
  let c0_i32_7 : BitVec 32 := 0#32
  let v22 : BitVec 1 := Scalar.cmpi .slt v20 c0_i32_7
  let c0_i32_8 : BitVec 32 := 0#32
  let v23 : BitVec 1 := Scalar.cmpi .slt v19 c0_i32_8
  let v24 : BitVec 1 := Scalar.xori v22 v23
  let v25 : BitVec 1 := Scalar.andi v24 v21
  let v26 : BitVec 32 := Scalar.addi v20 v19
  let v27 : BitVec 32 := Scalar.select v25 v26 v20
  let c0_i32_9 : BitVec 32 := 0#32
  ![v17.toNat, v27.toNat]

def cc0_transform_5 (i : grid0.Coords) : Fin 2 → Nat :=
  let arg0 : BitVec 32 := BitVec.ofNat 32 (i 0).val
  let c256_i32 : BitVec 32 := 256#32
  let v0 : BitVec 32 := Scalar.muli arg0 c256_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let c0_i32_4 : BitVec 32 := 0#32
  let v18 : BitVec 1 := Scalar.cmpi .eq c4_i32 c0_i32_4
  let c1_i32_5 : BitVec 32 := 1#32
  let v19 : BitVec 32 := Scalar.select v18 c1_i32_5 c4_i32
  let v20 : BitVec 32 := Scalar.remsi arg0 v19
  let c0_i32_6 : BitVec 32 := 0#32
  let v21 : BitVec 1 := Scalar.cmpi .ne v20 c0_i32_6
  let c0_i32_7 : BitVec 32 := 0#32
  let v22 : BitVec 1 := Scalar.cmpi .slt v20 c0_i32_7
  let c0_i32_8 : BitVec 32 := 0#32
  let v23 : BitVec 1 := Scalar.cmpi .slt v19 c0_i32_8
  let v24 : BitVec 1 := Scalar.xori v22 v23
  let v25 : BitVec 1 := Scalar.andi v24 v21
  let v26 : BitVec 32 := Scalar.addi v20 v19
  let v27 : BitVec 32 := Scalar.select v25 v26 v20
  let c0_i32_9 : BitVec 32 := 0#32
  ![v17.toNat, v27.toNat]

def cc0_transform_6 (i : grid0.Coords) : Fin 2 → Nat :=
  let arg0 : BitVec 32 := BitVec.ofNat 32 (i 0).val
  let c256_i32 : BitVec 32 := 256#32
  let v0 : BitVec 32 := Scalar.muli arg0 c256_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let c0_i32_4 : BitVec 32 := 0#32
  let v18 : BitVec 1 := Scalar.cmpi .eq c4_i32 c0_i32_4
  let c1_i32_5 : BitVec 32 := 1#32
  let v19 : BitVec 32 := Scalar.select v18 c1_i32_5 c4_i32
  let v20 : BitVec 32 := Scalar.remsi arg0 v19
  let c0_i32_6 : BitVec 32 := 0#32
  let v21 : BitVec 1 := Scalar.cmpi .ne v20 c0_i32_6
  let c0_i32_7 : BitVec 32 := 0#32
  let v22 : BitVec 1 := Scalar.cmpi .slt v20 c0_i32_7
  let c0_i32_8 : BitVec 32 := 0#32
  let v23 : BitVec 1 := Scalar.cmpi .slt v19 c0_i32_8
  let v24 : BitVec 1 := Scalar.xori v22 v23
  let v25 : BitVec 1 := Scalar.andi v24 v21
  let v26 : BitVec 32 := Scalar.addi v20 v19
  let v27 : BitVec 32 := Scalar.select v25 v26 v20
  let c0_i32_9 : BitVec 32 := 0#32
  ![v17.toNat, v27.toNat]

def cc0_transform_7 (i : grid0.Coords) : Fin 2 → Nat :=
  let arg0 : BitVec 32 := BitVec.ofNat 32 (i 0).val
  let c256_i32 : BitVec 32 := 256#32
  let v0 : BitVec 32 := Scalar.muli arg0 c256_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let c0_i32_4 : BitVec 32 := 0#32
  let v18 : BitVec 1 := Scalar.cmpi .eq c4_i32 c0_i32_4
  let c1_i32_5 : BitVec 32 := 1#32
  let v19 : BitVec 32 := Scalar.select v18 c1_i32_5 c4_i32
  let v20 : BitVec 32 := Scalar.remsi arg0 v19
  let c0_i32_6 : BitVec 32 := 0#32
  let v21 : BitVec 1 := Scalar.cmpi .ne v20 c0_i32_6
  let c0_i32_7 : BitVec 32 := 0#32
  let v22 : BitVec 1 := Scalar.cmpi .slt v20 c0_i32_7
  let c0_i32_8 : BitVec 32 := 0#32
  let v23 : BitVec 1 := Scalar.cmpi .slt v19 c0_i32_8
  let v24 : BitVec 1 := Scalar.xori v22 v23
  let v25 : BitVec 1 := Scalar.andi v24 v21
  let v26 : BitVec 32 := Scalar.addi v20 v19
  let v27 : BitVec 32 := Scalar.select v25 v26 v20
  let c0_i32_9 : BitVec 32 := 0#32
  ![v17.toNat, v27.toNat]

abbrev stage0_0 : Fin 2 → Memref sig .tc .vmem S4x785x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S785x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S785x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S785x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S785x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S785x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S785x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S785x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel11Ideal.lean ====
abbrev S4x785x1024 : Shape := ⟨3, ![4, 785, 1024]⟩
abbrev S785x1024 : Shape := ⟨2, ![785, 1024]⟩
abbrev S4x785x256 : Shape := ⟨3, ![4, 785, 256]⟩
abbrev S785x256 : Shape := ⟨2, ![785, 256]⟩
abbrev S1x785x256 : Shape := ⟨3, ![1, 785, 256]⟩

abbrev nBuf : Space → Nat
  | .hbm => 8
  | .vmem => 16
  | .smem => 0
  | _ => 0

abbrev bufTy : (tb : Table) → Fin (tcTables nBuf tb) → BufTy
  | .hbm, ⟨0, _⟩ => ⟨S4x785x1024, .bf16⟩
  | .hbm, ⟨1, _⟩ => ⟨S785x1024, .f32⟩
  | .hbm, ⟨2, _⟩ => ⟨S785x1024, .f32⟩
  | .hbm, ⟨3, _⟩ => ⟨S785x1024, .f32⟩
  | .hbm, ⟨4, _⟩ => ⟨S785x1024, .f32⟩
  | .hbm, ⟨5, _⟩ => ⟨S785x1024, .f32⟩
  | .hbm, ⟨6, _⟩ => ⟨S785x1024, .f32⟩
  | .hbm, ⟨7, _⟩ => ⟨S785x1024, .f32⟩
  | .local _ .vmem, ⟨0, _⟩ => ⟨S4x785x256, .bf16⟩
  | .local _ .vmem, ⟨1, _⟩ => ⟨S4x785x256, .bf16⟩
  | .local _ .vmem, ⟨2, _⟩ => ⟨S785x256, .f32⟩
  | .local _ .vmem, ⟨3, _⟩ => ⟨S785x256, .f32⟩
  | .local _ .vmem, ⟨4, _⟩ => ⟨S785x256, .f32⟩
  | .local _ .vmem, ⟨5, _⟩ => ⟨S785x256, .f32⟩
  | .local _ .vmem, ⟨6, _⟩ => ⟨S785x256, .f32⟩
  | .local _ .vmem, ⟨7, _⟩ => ⟨S785x256, .f32⟩
  | .local _ .vmem, ⟨8, _⟩ => ⟨S785x256, .f32⟩
  | .local _ .vmem, ⟨9, _⟩ => ⟨S785x256, .f32⟩
  | .local _ .vmem, ⟨10, _⟩ => ⟨S785x256, .f32⟩
  | .local _ .vmem, ⟨11, _⟩ => ⟨S785x256, .f32⟩
  | .local _ .vmem, ⟨12, _⟩ => ⟨S785x256, .f32⟩
  | .local _ .vmem, ⟨13, _⟩ => ⟨S785x256, .f32⟩
  | .local _ .vmem, ⟨14, _⟩ => ⟨S785x256, .f32⟩
  | .local _ .vmem, ⟨15, _⟩ => ⟨S785x256, .f32⟩
  | _, _ => ⟨S4x785x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "c1" => some (((5463681 / 8388608)⁻¹ : ℝ) : EReal)
  | "c2" => some (((2672307 / 268435456)⁻¹ : ℝ) : EReal)
  | _ => none

abbrev grid0 : Pipeline.Grid := ⟨1, ![4], ![false]⟩

def cc0_transform_0 (i : grid0.Coords) : Fin 3 → Nat :=
  let arg0 : BitVec 32 := BitVec.ofNat 32 (i 0).val
  let c256_i32 : BitVec 32 := 256#32
  let v0 : BitVec 32 := Scalar.muli arg0 c256_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let c0_i32_4 : BitVec 32 := 0#32
  let v18 : BitVec 1 := Scalar.cmpi .eq c4_i32 c0_i32_4
  let c1_i32_5 : BitVec 32 := 1#32
  let v19 : BitVec 32 := Scalar.select v18 c1_i32_5 c4_i32
  let v20 : BitVec 32 := Scalar.remsi arg0 v19
  let c0_i32_6 : BitVec 32 := 0#32
  let v21 : BitVec 1 := Scalar.cmpi .ne v20 c0_i32_6
  let c0_i32_7 : BitVec 32 := 0#32
  let v22 : BitVec 1 := Scalar.cmpi .slt v20 c0_i32_7
  let c0_i32_8 : BitVec 32 := 0#32
  let v23 : BitVec 1 := Scalar.cmpi .slt v19 c0_i32_8
  let v24 : BitVec 1 := Scalar.xori v22 v23
  let v25 : BitVec 1 := Scalar.andi v24 v21
  let v26 : BitVec 32 := Scalar.addi v20 v19
  let v27 : BitVec 32 := Scalar.select v25 v26 v20
  let c0_i32_9 : BitVec 32 := 0#32
  let c0_i32_10 : BitVec 32 := 0#32
  ![c0_i32_9.toNat, v17.toNat, v27.toNat]

def cc0_transform_1 (i : grid0.Coords) : Fin 2 → Nat :=
  let arg0 : BitVec 32 := BitVec.ofNat 32 (i 0).val
  let c256_i32 : BitVec 32 := 256#32
  let v0 : BitVec 32 := Scalar.muli arg0 c256_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let c0_i32_4 : BitVec 32 := 0#32
  let v18 : BitVec 1 := Scalar.cmpi .eq c4_i32 c0_i32_4
  let c1_i32_5 : BitVec 32 := 1#32
  let v19 : BitVec 32 := Scalar.select v18 c1_i32_5 c4_i32
  let v20 : BitVec 32 := Scalar.remsi arg0 v19
  let c0_i32_6 : BitVec 32 := 0#32
  let v21 : BitVec 1 := Scalar.cmpi .ne v20 c0_i32_6
  let c0_i32_7 : BitVec 32 := 0#32
  let v22 : BitVec 1 := Scalar.cmpi .slt v20 c0_i32_7
  let c0_i32_8 : BitVec 32 := 0#32
  let v23 : BitVec 1 := Scalar.cmpi .slt v19 c0_i32_8
  let v24 : BitVec 1 := Scalar.xori v22 v23
  let v25 : BitVec 1 := Scalar.andi v24 v21
  let v26 : BitVec 32 := Scalar.addi v20 v19
  let v27 : BitVec 32 := Scalar.select v25 v26 v20
  let c0_i32_9 : BitVec 32 := 0#32
  ![v17.toNat, v27.toNat]

def cc0_transform_2 (i : grid0.Coords) : Fin 2 → Nat :=
  let arg0 : BitVec 32 := BitVec.ofNat 32 (i 0).val
  let c256_i32 : BitVec 32 := 256#32
  let v0 : BitVec 32 := Scalar.muli arg0 c256_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let c0_i32_4 : BitVec 32 := 0#32
  let v18 : BitVec 1 := Scalar.cmpi .eq c4_i32 c0_i32_4
  let c1_i32_5 : BitVec 32 := 1#32
  let v19 : BitVec 32 := Scalar.select v18 c1_i32_5 c4_i32
  let v20 : BitVec 32 := Scalar.remsi arg0 v19
  let c0_i32_6 : BitVec 32 := 0#32
  let v21 : BitVec 1 := Scalar.cmpi .ne v20 c0_i32_6
  let c0_i32_7 : BitVec 32 := 0#32
  let v22 : BitVec 1 := Scalar.cmpi .slt v20 c0_i32_7
  let c0_i32_8 : BitVec 32 := 0#32
  let v23 : BitVec 1 := Scalar.cmpi .slt v19 c0_i32_8
  let v24 : BitVec 1 := Scalar.xori v22 v23
  let v25 : BitVec 1 := Scalar.andi v24 v21
  let v26 : BitVec 32 := Scalar.addi v20 v19
  let v27 : BitVec 32 := Scalar.select v25 v26 v20
  let c0_i32_9 : BitVec 32 := 0#32
  ![v17.toNat, v27.toNat]

def cc0_transform_3 (i : grid0.Coords) : Fin 2 → Nat :=
  let arg0 : BitVec 32 := BitVec.ofNat 32 (i 0).val
  let c256_i32 : BitVec 32 := 256#32
  let v0 : BitVec 32 := Scalar.muli arg0 c256_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let c0_i32_4 : BitVec 32 := 0#32
  let v18 : BitVec 1 := Scalar.cmpi .eq c4_i32 c0_i32_4
  let c1_i32_5 : BitVec 32 := 1#32
  let v19 : BitVec 32 := Scalar.select v18 c1_i32_5 c4_i32
  let v20 : BitVec 32 := Scalar.remsi arg0 v19
  let c0_i32_6 : BitVec 32 := 0#32
  let v21 : BitVec 1 := Scalar.cmpi .ne v20 c0_i32_6
  let c0_i32_7 : BitVec 32 := 0#32
  let v22 : BitVec 1 := Scalar.cmpi .slt v20 c0_i32_7
  let c0_i32_8 : BitVec 32 := 0#32
  let v23 : BitVec 1 := Scalar.cmpi .slt v19 c0_i32_8
  let v24 : BitVec 1 := Scalar.xori v22 v23
  let v25 : BitVec 1 := Scalar.andi v24 v21
  let v26 : BitVec 32 := Scalar.addi v20 v19
  let v27 : BitVec 32 := Scalar.select v25 v26 v20
  let c0_i32_9 : BitVec 32 := 0#32
  ![v17.toNat, v27.toNat]

def cc0_transform_4 (i : grid0.Coords) : Fin 2 → Nat :=
  let arg0 : BitVec 32 := BitVec.ofNat 32 (i 0).val
  let c256_i32 : BitVec 32 := 256#32
  let v0 : BitVec 32 := Scalar.muli arg0 c256_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let c0_i32_4 : BitVec 32 := 0#32
  let v18 : BitVec 1 := Scalar.cmpi .eq c4_i32 c0_i32_4
  let c1_i32_5 : BitVec 32 := 1#32
  let v19 : BitVec 32 := Scalar.select v18 c1_i32_5 c4_i32
  let v20 : BitVec 32 := Scalar.remsi arg0 v19
  let c0_i32_6 : BitVec 32 := 0#32
  let v21 : BitVec 1 := Scalar.cmpi .ne v20 c0_i32_6
  let c0_i32_7 : BitVec 32 := 0#32
  let v22 : BitVec 1 := Scalar.cmpi .slt v20 c0_i32_7
  let c0_i32_8 : BitVec 32 := 0#32
  let v23 : BitVec 1 := Scalar.cmpi .slt v19 c0_i32_8
  let v24 : BitVec 1 := Scalar.xori v22 v23
  let v25 : BitVec 1 := Scalar.andi v24 v21
  let v26 : BitVec 32 := Scalar.addi v20 v19
  let v27 : BitVec 32 := Scalar.select v25 v26 v20
  let c0_i32_9 : BitVec 32 := 0#32
  ![v17.toNat, v27.toNat]

def cc0_transform_5 (i : grid0.Coords) : Fin 2 → Nat :=
  let arg0 : BitVec 32 := BitVec.ofNat 32 (i 0).val
  let c256_i32 : BitVec 32 := 256#32
  let v0 : BitVec 32 := Scalar.muli arg0 c256_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let c0_i32_4 : BitVec 32 := 0#32
  let v18 : BitVec 1 := Scalar.cmpi .eq c4_i32 c0_i32_4
  let c1_i32_5 : BitVec 32 := 1#32
  let v19 : BitVec 32 := Scalar.select v18 c1_i32_5 c4_i32
  let v20 : BitVec 32 := Scalar.remsi arg0 v19
  let c0_i32_6 : BitVec 32 := 0#32
  let v21 : BitVec 1 := Scalar.cmpi .ne v20 c0_i32_6
  let c0_i32_7 : BitVec 32 := 0#32
  let v22 : BitVec 1 := Scalar.cmpi .slt v20 c0_i32_7
  let c0_i32_8 : BitVec 32 := 0#32
  let v23 : BitVec 1 := Scalar.cmpi .slt v19 c0_i32_8
  let v24 : BitVec 1 := Scalar.xori v22 v23
  let v25 : BitVec 1 := Scalar.andi v24 v21
  let v26 : BitVec 32 := Scalar.addi v20 v19
  let v27 : BitVec 32 := Scalar.select v25 v26 v20
  let c0_i32_9 : BitVec 32 := 0#32
  ![v17.toNat, v27.toNat]

def cc0_transform_6 (i : grid0.Coords) : Fin 2 → Nat :=
  let arg0 : BitVec 32 := BitVec.ofNat 32 (i 0).val
  let c256_i32 : BitVec 32 := 256#32
  let v0 : BitVec 32 := Scalar.muli arg0 c256_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let c0_i32_4 : BitVec 32 := 0#32
  let v18 : BitVec 1 := Scalar.cmpi .eq c4_i32 c0_i32_4
  let c1_i32_5 : BitVec 32 := 1#32
  let v19 : BitVec 32 := Scalar.select v18 c1_i32_5 c4_i32
  let v20 : BitVec 32 := Scalar.remsi arg0 v19
  let c0_i32_6 : BitVec 32 := 0#32
  let v21 : BitVec 1 := Scalar.cmpi .ne v20 c0_i32_6
  let c0_i32_7 : BitVec 32 := 0#32
  let v22 : BitVec 1 := Scalar.cmpi .slt v20 c0_i32_7
  let c0_i32_8 : BitVec 32 := 0#32
  let v23 : BitVec 1 := Scalar.cmpi .slt v19 c0_i32_8
  let v24 : BitVec 1 := Scalar.xori v22 v23
  let v25 : BitVec 1 := Scalar.andi v24 v21
  let v26 : BitVec 32 := Scalar.addi v20 v19
  let v27 : BitVec 32 := Scalar.select v25 v26 v20
  let c0_i32_9 : BitVec 32 := 0#32
  ![v17.toNat, v27.toNat]

def cc0_transform_7 (i : grid0.Coords) : Fin 2 → Nat :=
  let arg0 : BitVec 32 := BitVec.ofNat 32 (i 0).val
  let c256_i32 : BitVec 32 := 256#32
  let v0 : BitVec 32 := Scalar.muli arg0 c256_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let c0_i32_4 : BitVec 32 := 0#32
  let v18 : BitVec 1 := Scalar.cmpi .eq c4_i32 c0_i32_4
  let c1_i32_5 : BitVec 32 := 1#32
  let v19 : BitVec 32 := Scalar.select v18 c1_i32_5 c4_i32
  let v20 : BitVec 32 := Scalar.remsi arg0 v19
  let c0_i32_6 : BitVec 32 := 0#32
  let v21 : BitVec 1 := Scalar.cmpi .ne v20 c0_i32_6
  let c0_i32_7 : BitVec 32 := 0#32
  let v22 : BitVec 1 := Scalar.cmpi .slt v20 c0_i32_7
  let c0_i32_8 : BitVec 32 := 0#32
  let v23 : BitVec 1 := Scalar.cmpi .slt v19 c0_i32_8
  let v24 : BitVec 1 := Scalar.xori v22 v23
  let v25 : BitVec 1 := Scalar.andi v24 v21
  let v26 : BitVec 32 := Scalar.addi v20 v19
  let v27 : BitVec 32 := Scalar.select v25 v26 v20
  let c0_i32_9 : BitVec 32 := 0#32
  ![v17.toNat, v27.toNat]

abbrev stage0_0 : Fin 2 → Memref sig .tc .vmem S4x785x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S785x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S785x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S785x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S785x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S785x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S785x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S785x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference11Ideal.lean ====
abbrev S4x785x1024 : Shape := ⟨3, ![4, 785, 1024]⟩
abbrev S785x1024 : Shape := ⟨2, ![785, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x785x1024, .bf16⟩
  | .hbm, ⟨1, _⟩ => ⟨S785x1024, .f32⟩
  | .hbm, ⟨2, _⟩ => ⟨S785x1024, .f32⟩
  | .hbm, ⟨3, _⟩ => ⟨S785x1024, .f32⟩
  | .hbm, ⟨4, _⟩ => ⟨S4x785x1024, .f32⟩
  | .hbm, ⟨5, _⟩ => ⟨S_, .f32⟩
  | .hbm, ⟨6, _⟩ => ⟨S785x1024, .f32⟩
  | .hbm, ⟨7, _⟩ => ⟨S_, .f32⟩
  | .hbm, ⟨8, _⟩ => ⟨S785x1024, .f32⟩
  | .hbm, ⟨9, _⟩ => ⟨S785x1024, .f32⟩
  | .hbm, ⟨10, _⟩ => ⟨S_, .f32⟩
  | .hbm, ⟨11, _⟩ => ⟨S785x1024, .f32⟩
  | .hbm, ⟨12, _⟩ => ⟨S785x1024, .f32⟩
  | .hbm, ⟨13, _⟩ => ⟨S785x1024, .f32⟩
  | .hbm, ⟨14, _⟩ => ⟨S_, .f32⟩
  | .hbm, ⟨15, _⟩ => ⟨S785x1024, .f32⟩
  | .hbm, ⟨16, _⟩ => ⟨S785x1024, .f32⟩
  | .hbm, ⟨17, _⟩ => ⟨S785x1024, .f32⟩
  | .hbm, ⟨18, _⟩ => ⟨S_, .f32⟩
  | .hbm, ⟨19, _⟩ => ⟨S785x1024, .f32⟩
  | .hbm, ⟨20, _⟩ => ⟨S785x1024, .f32⟩
  | .hbm, ⟨21, _⟩ => ⟨S785x1024, .f32⟩
  | .hbm, ⟨22, _⟩ => ⟨S_, .f32⟩
  | .hbm, ⟨23, _⟩ => ⟨S785x1024, .f32⟩
  | .hbm, ⟨24, _⟩ => ⟨S785x1024, .f32⟩
  | .hbm, ⟨25, _⟩ => ⟨S_, .f32⟩
  | .hbm, ⟨26, _⟩ => ⟨S785x1024, .f32⟩
  | .hbm, ⟨27, _⟩ => ⟨S785x1024, .f32⟩
  | .hbm, ⟨28, _⟩ => ⟨S785x1024, .f32⟩
  | .hbm, ⟨29, _⟩ => ⟨S_, .f32⟩
  | .hbm, ⟨30, _⟩ => ⟨S785x1024, .f32⟩
  | .hbm, ⟨31, _⟩ => ⟨S785x1024, .f32⟩
  | .hbm, ⟨32, _⟩ => ⟨S785x1024, .f32⟩
  | .hbm, ⟨33, _⟩ => ⟨S_, .f32⟩
  | .hbm, ⟨34, _⟩ => ⟨S785x1024, .f32⟩
  | .hbm, ⟨35, _⟩ => ⟨S785x1024, .f32⟩
  | .hbm, ⟨36, _⟩ => ⟨S785x1024, .f32⟩
  | .hbm, ⟨37, _⟩ => ⟨S_, .f32⟩
  | .hbm, ⟨38, _⟩ => ⟨S785x1024, .f32⟩
  | .hbm, ⟨39, _⟩ => ⟨S785x1024, .f32⟩
  | _, _ => ⟨S4x785x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel12.lean ====
abbrev S4x64x64 : Shape := ⟨3, ![4, 64, 64]⟩
abbrev S64x64 : Shape := ⟨2, ![64, 64]⟩
abbrev S1x64x64 : Shape := ⟨3, ![1, 64, 64]⟩

abbrev nBuf : Space → Nat
  | .hbm => 8
  | .vmem => 8
  | .smem => 0
  | _ => 0

abbrev bufTy : (tb : Table) → Fin (tcTables nBuf tb) → BufTy
  | .hbm, ⟨0, _⟩ => ⟨S4x64x64, .bf16⟩
  | .hbm, ⟨1, _⟩ => ⟨S64x64, .f32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S64x64, .f32⟩
  | .local _ .vmem, ⟨0, _⟩ => ⟨S4x64x64, .bf16⟩
  | .local _ .vmem, ⟨1, _⟩ => ⟨S64x64, .f32⟩
  | .local _ .vmem, ⟨2, _⟩ => ⟨S64x64, .f32⟩
  | .local _ .vmem, ⟨3, _⟩ => ⟨S64x64, .f32⟩
  | .local _ .vmem, ⟨4, _⟩ => ⟨S64x64, .f32⟩
  | .local _ .vmem, ⟨5, _⟩ => ⟨S64x64, .f32⟩
  | .local _ .vmem, ⟨6, _⟩ => ⟨S64x64, .f32⟩
  | .local _ .vmem, ⟨7, _⟩ => ⟨S64x64, .f32⟩
  | _, _ => ⟨S4x64x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c64_i32 : BitVec 32 := 64#32
  let v0 : BitVec 32 := Scalar.muli arg0 c64_i32
  let c64_i32_0 : BitVec 32 := 64#32
  let v1 : BitVec 32 := Scalar.divsi v0 c64_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c64_i32_0 c0_i32_2
  let v8 : BitVec 32 := Scalar.extui v7
  let c0_i32_3 : BitVec 32 := 0#32
  let v9 : BitVec 1 := Scalar.cmpi .slt c64_i32_0 c0_i32_3
  let v10 : BitVec 32 := Scalar.extui v9
  let v11 : BitVec 32 := Scalar.subi v8 v10
  let v12 : BitVec 1 := Scalar.cmpi .ne v6 v11
  let v13 : BitVec 32 := Scalar.remsi v0 c64_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![c0_i32_11.toNat, v17.toNat, v27.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c64_i32_0 : BitVec 32 := 64#32
  let v1 : BitVec 32 := Scalar.divsi v0 c64_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c64_i32_0 c0_i32_2
  let v8 : BitVec 32 := Scalar.extui v7
  let c0_i32_3 : BitVec 32 := 0#32
  let v9 : BitVec 1 := Scalar.cmpi .slt c64_i32_0 c0_i32_3
  let v10 : BitVec 32 := Scalar.extui v9
  let v11 : BitVec 32 := Scalar.subi v8 v10
  let v12 : BitVec 1 := Scalar.cmpi .ne v6 v11
  let v13 : BitVec 32 := Scalar.remsi v0 c64_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, v27.toNat]

def cc0_transform_2 (i : grid0.Coords) : Fin 2 → Nat :=
  let arg0 : BitVec 32 := BitVec.ofNat 32 (i 0).val
  let c64_i32 : BitVec 32 := 64#32
  let v0 : BitVec 32 := Scalar.muli arg0 c64_i32
  let c64_i32_0 : BitVec 32 := 64#32
  let v1 : BitVec 32 := Scalar.divsi v0 c64_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c64_i32_0 c0_i32_2
  let v8 : BitVec 32 := Scalar.extui v7
  let c0_i32_3 : BitVec 32 := 0#32
  let v9 : BitVec 1 := Scalar.cmpi .slt c64_i32_0 c0_i32_3
  let v10 : BitVec 32 := Scalar.extui v9
  let v11 : BitVec 32 := Scalar.subi v8 v10
  let v12 : BitVec 1 := Scalar.cmpi .ne v6 v11
  let v13 : BitVec 32 := Scalar.remsi v0 c64_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, v27.toNat]

def cc0_transform_3 (i : grid0.Coords) : Fin 2 → Nat :=
  let arg0 : BitVec 32 := BitVec.ofNat 32 (i 0).val
  let c64_i32 : BitVec 32 := 64#32
  let v0 : BitVec 32 := Scalar.muli arg0 c64_i32
  let c64_i32_0 : BitVec 32 := 64#32
  let v1 : BitVec 32 := Scalar.divsi v0 c64_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c64_i32_0 c0_i32_2
  let v8 : BitVec 32 := Scalar.extui v7
  let c0_i32_3 : BitVec 32 := 0#32
  let v9 : BitVec 1 := Scalar.cmpi .slt c64_i32_0 c0_i32_3
  let v10 : BitVec 32 := Scalar.extui v9
  let v11 : BitVec 32 := Scalar.subi v8 v10
  let v12 : BitVec 1 := Scalar.cmpi .ne v6 v11
  let v13 : BitVec 32 := Scalar.remsi v0 c64_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, v27.toNat]

def cc0_transform_4 (i : grid0.Coords) : Fin 2 → Nat :=
  let arg0 : BitVec 32 := BitVec.ofNat 32 (i 0).val
  let c64_i32 : BitVec 32 := 64#32
  let v0 : BitVec 32 := Scalar.muli arg0 c64_i32
  let c64_i32_0 : BitVec 32 := 64#32
  let v1 : BitVec 32 := Scalar.divsi v0 c64_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c64_i32_0 c0_i32_2
  let v8 : BitVec 32 := Scalar.extui v7
  let c0_i32_3 : BitVec 32 := 0#32
  let v9 : BitVec 1 := Scalar.cmpi .slt c64_i32_0 c0_i32_3
  let v10 : BitVec 32 := Scalar.extui v9
  let v11 : BitVec 32 := Scalar.subi v8 v10
  let v12 : BitVec 1 := Scalar.cmpi .ne v6 v11
  let v13 : BitVec 32 := Scalar.remsi v0 c64_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, v27.toNat]

def cc0_transform_5 (i : grid0.Coords) : Fin 2 → Nat :=
  let arg0 : BitVec 32 := BitVec.ofNat 32 (i 0).val
  let c64_i32 : BitVec 32 := 64#32
  let v0 : BitVec 32 := Scalar.muli arg0 c64_i32
  let c64_i32_0 : BitVec 32 := 64#32
  let v1 : BitVec 32 := Scalar.divsi v0 c64_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c64_i32_0 c0_i32_2
  let v8 : BitVec 32 := Scalar.extui v7
  let c0_i32_3 : BitVec 32 := 0#32
  let v9 : BitVec 1 := Scalar.cmpi .slt c64_i32_0 c0_i32_3
  let v10 : BitVec 32 := Scalar.extui v9
  let v11 : BitVec 32 := Scalar.subi v8 v10
  let v12 : BitVec 1 := Scalar.cmpi .ne v6 v11
  let v13 : BitVec 32 := Scalar.remsi v0 c64_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, v27.toNat]

def cc0_transform_6 (i : grid0.Coords) : Fin 2 → Nat :=
  let arg0 : BitVec 32 := BitVec.ofNat 32 (i 0).val
  let c64_i32 : BitVec 32 := 64#32
  let v0 : BitVec 32 := Scalar.muli arg0 c64_i32
  let c64_i32_0 : BitVec 32 := 64#32
  let v1 : BitVec 32 := Scalar.divsi v0 c64_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c64_i32_0 c0_i32_2
  let v8 : BitVec 32 := Scalar.extui v7
  let c0_i32_3 : BitVec 32 := 0#32
  let v9 : BitVec 1 := Scalar.cmpi .slt c64_i32_0 c0_i32_3
  let v10 : BitVec 32 := Scalar.extui v9
  let v11 : BitVec 32 := Scalar.subi v8 v10
  let v12 : BitVec 1 := Scalar.cmpi .ne v6 v11
  let v13 : BitVec 32 := Scalar.remsi v0 c64_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, v27.toNat]

def cc0_transform_7 (i : grid0.Coords) : Fin 2 → Nat :=
  let arg0 : BitVec 32 := BitVec.ofNat 32 (i 0).val
  let c64_i32 : BitVec 32 := 64#32
  let v0 : BitVec 32 := Scalar.muli arg0 c64_i32
  let c64_i32_0 : BitVec 32 := 64#32
  let v1 : BitVec 32 := Scalar.divsi v0 c64_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c64_i32_0 c0_i32_2
  let v8 : BitVec 32 := Scalar.extui v7
  let c0_i32_3 : BitVec 32 := 0#32
  let v9 : BitVec 1 := Scalar.cmpi .slt c64_i32_0 c0_i32_3
  let v10 : BitVec 32 := Scalar.extui v9
  let v11 : BitVec 32 := Scalar.subi v8 v10
  let v12 : BitVec 1 := Scalar.cmpi .ne v6 v11
  let v13 : BitVec 32 := Scalar.remsi v0 c64_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, v27.toNat]

abbrev stage0_0 : Fin 1 → Memref sig .tc .vmem S4x64x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel12Ideal.lean ====
abbrev S4x64x64 : Shape := ⟨3, ![4, 64, 64]⟩
abbrev S64x64 : Shape := ⟨2, ![64, 64]⟩
abbrev S1x64x64 : Shape := ⟨3, ![1, 64, 64]⟩

abbrev nBuf : Space → Nat
  | .hbm => 8
  | .vmem => 8
  | .smem => 0
  | _ => 0

abbrev bufTy : (tb : Table) → Fin (tcTables nBuf tb) → BufTy
  | .hbm, ⟨0, _⟩ => ⟨S4x64x64, .bf16⟩
  | .hbm, ⟨1, _⟩ => ⟨S64x64, .f32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S64x64, .f32⟩
  | .local _ .vmem, ⟨0, _⟩ => ⟨S4x64x64, .bf16⟩
  | .local _ .vmem, ⟨1, _⟩ => ⟨S64x64, .f32⟩
  | .local _ .vmem, ⟨2, _⟩ => ⟨S64x64, .f32⟩
  | .local _ .vmem, ⟨3, _⟩ => ⟨S64x64, .f32⟩
  | .local _ .vmem, ⟨4, _⟩ => ⟨S64x64, .f32⟩
  | .local _ .vmem, ⟨5, _⟩ => ⟨S64x64, .f32⟩
  | .local _ .vmem, ⟨6, _⟩ => ⟨S64x64, .f32⟩
  | .local _ .vmem, ⟨7, _⟩ => ⟨S64x64, .f32⟩
  | _, _ => ⟨S4x64x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "c1" => some (((5463681 / 8388608)⁻¹ : ℝ) : EReal)
  | "c2" => some (((2672307 / 268435456)⁻¹ : ℝ) : EReal)
  | _ => none

abbrev grid0 : Pipeline.Grid := ⟨1, ![1], ![false]⟩

def cc0_transform_0 (i : grid0.Coords) : Fin 3 → Nat :=
  let arg0 : BitVec 32 := BitVec.ofNat 32 (i 0).val
  let c64_i32 : BitVec 32 := 64#32
  let v0 : BitVec 32 := Scalar.muli arg0 c64_i32
  let c64_i32_0 : BitVec 32 := 64#32
  let v1 : BitVec 32 := Scalar.divsi v0 c64_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c64_i32_0 c0_i32_2
  let v8 : BitVec 32 := Scalar.extui v7
  let c0_i32_3 : BitVec 32 := 0#32
  let v9 : BitVec 1 := Scalar.cmpi .slt c64_i32_0 c0_i32_3
  let v10 : BitVec 32 := Scalar.extui v9
  let v11 : BitVec 32 := Scalar.subi v8 v10
  let v12 : BitVec 1 := Scalar.cmpi .ne v6 v11
  let v13 : BitVec 32 := Scalar.remsi v0 c64_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![c0_i32_11.toNat, v17.toNat, v27.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c64_i32_0 : BitVec 32 := 64#32
  let v1 : BitVec 32 := Scalar.divsi v0 c64_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c64_i32_0 c0_i32_2
  let v8 : BitVec 32 := Scalar.extui v7
  let c0_i32_3 : BitVec 32 := 0#32
  let v9 : BitVec 1 := Scalar.cmpi .slt c64_i32_0 c0_i32_3
  let v10 : BitVec 32 := Scalar.extui v9
  let v11 : BitVec 32 := Scalar.subi v8 v10
  let v12 : BitVec 1 := Scalar.cmpi .ne v6 v11
  let v13 : BitVec 32 := Scalar.remsi v0 c64_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, v27.toNat]

def cc0_transform_2 (i : grid0.Coords) : Fin 2 → Nat :=
  let arg0 : BitVec 32 := BitVec.ofNat 32 (i 0).val
  let c64_i32 : BitVec 32 := 64#32
  let v0 : BitVec 32 := Scalar.muli arg0 c64_i32
  let c64_i32_0 : BitVec 32 := 64#32
  let v1 : BitVec 32 := Scalar.divsi v0 c64_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c64_i32_0 c0_i32_2
  let v8 : BitVec 32 := Scalar.extui v7
  let c0_i32_3 : BitVec 32 := 0#32
  let v9 : BitVec 1 := Scalar.cmpi .slt c64_i32_0 c0_i32_3
  let v10 : BitVec 32 := Scalar.extui v9
  let v11 : BitVec 32 := Scalar.subi v8 v10
  let v12 : BitVec 1 := Scalar.cmpi .ne v6 v11
  let v13 : BitVec 32 := Scalar.remsi v0 c64_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, v27.toNat]

def cc0_transform_3 (i : grid0.Coords) : Fin 2 → Nat :=
  let arg0 : BitVec 32 := BitVec.ofNat 32 (i 0).val
  let c64_i32 : BitVec 32 := 64#32
  let v0 : BitVec 32 := Scalar.muli arg0 c64_i32
  let c64_i32_0 : BitVec 32 := 64#32
  let v1 : BitVec 32 := Scalar.divsi v0 c64_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c64_i32_0 c0_i32_2
  let v8 : BitVec 32 := Scalar.extui v7
  let c0_i32_3 : BitVec 32 := 0#32
  let v9 : BitVec 1 := Scalar.cmpi .slt c64_i32_0 c0_i32_3
  let v10 : BitVec 32 := Scalar.extui v9
  let v11 : BitVec 32 := Scalar.subi v8 v10
  let v12 : BitVec 1 := Scalar.cmpi .ne v6 v11
  let v13 : BitVec 32 := Scalar.remsi v0 c64_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, v27.toNat]

def cc0_transform_4 (i : grid0.Coords) : Fin 2 → Nat :=
  let arg0 : BitVec 32 := BitVec.ofNat 32 (i 0).val
  let c64_i32 : BitVec 32 := 64#32
  let v0 : BitVec 32 := Scalar.muli arg0 c64_i32
  let c64_i32_0 : BitVec 32 := 64#32
  let v1 : BitVec 32 := Scalar.divsi v0 c64_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c64_i32_0 c0_i32_2
  let v8 : BitVec 32 := Scalar.extui v7
  let c0_i32_3 : BitVec 32 := 0#32
  let v9 : BitVec 1 := Scalar.cmpi .slt c64_i32_0 c0_i32_3
  let v10 : BitVec 32 := Scalar.extui v9
  let v11 : BitVec 32 := Scalar.subi v8 v10
  let v12 : BitVec 1 := Scalar.cmpi .ne v6 v11
  let v13 : BitVec 32 := Scalar.remsi v0 c64_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, v27.toNat]

def cc0_transform_5 (i : grid0.Coords) : Fin 2 → Nat :=
  let arg0 : BitVec 32 := BitVec.ofNat 32 (i 0).val
  let c64_i32 : BitVec 32 := 64#32
  let v0 : BitVec 32 := Scalar.muli arg0 c64_i32
  let c64_i32_0 : BitVec 32 := 64#32
  let v1 : BitVec 32 := Scalar.divsi v0 c64_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c64_i32_0 c0_i32_2
  let v8 : BitVec 32 := Scalar.extui v7
  let c0_i32_3 : BitVec 32 := 0#32
  let v9 : BitVec 1 := Scalar.cmpi .slt c64_i32_0 c0_i32_3
  let v10 : BitVec 32 := Scalar.extui v9
  let v11 : BitVec 32 := Scalar.subi v8 v10
  let v12 : BitVec 1 := Scalar.cmpi .ne v6 v11
  let v13 : BitVec 32 := Scalar.remsi v0 c64_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, v27.toNat]

def cc0_transform_6 (i : grid0.Coords) : Fin 2 → Nat :=
  let arg0 : BitVec 32 := BitVec.ofNat 32 (i 0).val
  let c64_i32 : BitVec 32 := 64#32
  let v0 : BitVec 32 := Scalar.muli arg0 c64_i32
  let c64_i32_0 : BitVec 32 := 64#32
  let v1 : BitVec 32 := Scalar.divsi v0 c64_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c64_i32_0 c0_i32_2
  let v8 : BitVec 32 := Scalar.extui v7
  let c0_i32_3 : BitVec 32 := 0#32
  let v9 : BitVec 1 := Scalar.cmpi .slt c64_i32_0 c0_i32_3
  let v10 : BitVec 32 := Scalar.extui v9
  let v11 : BitVec 32 := Scalar.subi v8 v10
  let v12 : BitVec 1 := Scalar.cmpi .ne v6 v11
  let v13 : BitVec 32 := Scalar.remsi v0 c64_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, v27.toNat]

def cc0_transform_7 (i : grid0.Coords) : Fin 2 → Nat :=
  let arg0 : BitVec 32 := BitVec.ofNat 32 (i 0).val
  let c64_i32 : BitVec 32 := 64#32
  let v0 : BitVec 32 := Scalar.muli arg0 c64_i32
  let c64_i32_0 : BitVec 32 := 64#32
  let v1 : BitVec 32 := Scalar.divsi v0 c64_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c64_i32_0 c0_i32_2
  let v8 : BitVec 32 := Scalar.extui v7
  let c0_i32_3 : BitVec 32 := 0#32
  let v9 : BitVec 1 := Scalar.cmpi .slt c64_i32_0 c0_i32_3
  let v10 : BitVec 32 := Scalar.extui v9
  let v11 : BitVec 32 := Scalar.subi v8 v10
  let v12 : BitVec 1 := Scalar.cmpi .ne v6 v11
  let v13 : BitVec 32 := Scalar.remsi v0 c64_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, v27.toNat]

abbrev stage0_0 : Fin 1 → Memref sig .tc .vmem S4x64x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference12Ideal.lean ====
abbrev S4x64x64 : Shape := ⟨3, ![4, 64, 64]⟩
abbrev S64x64 : Shape := ⟨2, ![64, 64]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x64x64, .bf16⟩
  | .hbm, ⟨1, _⟩ => ⟨S64x64, .f32⟩
  | .hbm, ⟨2, _⟩ => ⟨S64x64, .f32⟩
  | .hbm, ⟨3, _⟩ => ⟨S64x64, .f32⟩
  | .hbm, ⟨4, _⟩ => ⟨S4x64x64, .f32⟩
  | .hbm, ⟨5, _⟩ => ⟨S_, .f32⟩
  | .hbm, ⟨6, _⟩ => ⟨S64x64, .f32⟩
  | .hbm, ⟨7, _⟩ => ⟨S_, .f32⟩
  | .hbm, ⟨8, _⟩ => ⟨S64x64, .f32⟩
  | .hbm, ⟨9, _⟩ => ⟨S64x64, .f32⟩
  | .hbm, ⟨10, _⟩ => ⟨S_, .f32⟩
  | .hbm, ⟨11, _⟩ => ⟨S64x64, .f32⟩
  | .hbm, ⟨12, _⟩ => ⟨S64x64, .f32⟩
  | .hbm, ⟨13, _⟩ => ⟨S64x64, .f32⟩
  | .hbm, ⟨14, _⟩ => ⟨S_, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S_, .f32⟩
  | .hbm, ⟨19, _⟩ => ⟨S64x64, .f32⟩
  | .hbm, ⟨20, _⟩ => ⟨S64x64, .f32⟩
  | .hbm, ⟨21, _⟩ => ⟨S64x64, .f32⟩
  | .hbm, ⟨22, _⟩ => ⟨S_, .f32⟩
  | .hbm, ⟨23, _⟩ => ⟨S64x64, .f32⟩
  | .hbm, ⟨24, _⟩ => ⟨S64x64, .f32⟩
  | .hbm, ⟨25, _⟩ => ⟨S_, .f32⟩
  | .hbm, ⟨26, _⟩ => ⟨S64x64, .f32⟩
  | .hbm, ⟨27, _⟩ => ⟨S64x64, .f32⟩
  | .hbm, ⟨28, _⟩ => ⟨S64x64, .f32⟩
  | .hbm, ⟨29, _⟩ => ⟨S_, .f32⟩
  | .hbm, ⟨30, _⟩ => ⟨S64x64, .f32⟩
  | .hbm, ⟨31, _⟩ => ⟨S64x64, .f32⟩
  | .hbm, ⟨32, _⟩ => ⟨S64x64, .f32⟩
  | .hbm, ⟨33, _⟩ => ⟨S_, .f32⟩
  | .hbm, ⟨34, _⟩ => ⟨S64x64, .f32⟩
  | .hbm, ⟨35, _⟩ => ⟨S64x64, .f32⟩
  | .hbm, ⟨36, _⟩ => ⟨S64x64, .f32⟩
  | .hbm, ⟨37, _⟩ => ⟨S_, .f32⟩
  | .hbm, ⟨38, _⟩ => ⟨S64x64, .f32⟩
  | .hbm, ⟨39, _⟩ => ⟨S64x64, .f32⟩
  | _, _ => ⟨S4x64x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel13.lean ====
abbrev S4x4x192 : Shape := ⟨3, ![4, 4, 192]⟩
abbrev S4x192 : Shape := ⟨2, ![4, 192]⟩
abbrev S1x4x192 : Shape := ⟨3, ![1, 4, 192]⟩

abbrev nBuf : Space → Nat
  | .hbm => 8
  | .vmem => 8
  | .smem => 0
  | _ => 0

abbrev bufTy : (tb : Table) → Fin (tcTables nBuf tb) → BufTy
  | .hbm, ⟨0, _⟩ => ⟨S4x4x192, .bf16⟩
  | .hbm, ⟨1, _⟩ => ⟨S4x192, .f32⟩
  | .hbm, ⟨2, _⟩ => ⟨S4x192, .f32⟩
  | .hbm, ⟨3, _⟩ => ⟨S4x192, .f32⟩
  | .hbm, ⟨4, _⟩ => ⟨S4x192, .f32⟩
  | .hbm, ⟨5, _⟩ => ⟨S4x192, .f32⟩
  | .hbm, ⟨6, _⟩ => ⟨S4x192, .f32⟩
  | .hbm, ⟨7, _⟩ => ⟨S4x192, .f32⟩
  | .local _ .vmem, ⟨0, _⟩ => ⟨S4x4x192, .bf16⟩
  | .local _ .vmem, ⟨1, _⟩ => ⟨S4x192, .f32⟩
  | .local _ .vmem, ⟨2, _⟩ => ⟨S4x192, .f32⟩
  | .local _ .vmem, ⟨3, _⟩ => ⟨S4x192, .f32⟩
  | .local _ .vmem, ⟨4, _⟩ => ⟨S4x192, .f32⟩
  | .local _ .vmem, ⟨5, _⟩ => ⟨S4x192, .f32⟩
  | .local _ .vmem, ⟨6, _⟩ => ⟨S4x192, .f32⟩
  | .local _ .vmem, ⟨7, _⟩ => ⟨S4x192, .f32⟩
  | _, _ => ⟨S4x4x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c192_i32 : BitVec 32 := 192#32
  let v0 : BitVec 32 := Scalar.muli arg0 c192_i32
  let c192_i32_0 : BitVec 32 := 192#32
  let v1 : BitVec 32 := Scalar.divsi v0 c192_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c192_i32_0 c0_i32_2
  let v8 : BitVec 32 := Scalar.extui v7
  let c0_i32_3 : BitVec 32 := 0#32
  let v9 : BitVec 1 := Scalar.cmpi .slt c192_i32_0 c0_i32_3
  let v10 : BitVec 32 := Scalar.extui v9
  let v11 : BitVec 32 := Scalar.subi v8 v10
  let v12 : BitVec 1 := Scalar.cmpi .ne v6 v11
  let v13 : BitVec 32 := Scalar.remsi v0 c192_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![c0_i32_11.toNat, v17.toNat, v27.toNat]

def cc0_transform_1 (i : grid0.Coords) : Fin 2 → Nat :=
  let arg0 : BitVec 32 := BitVec.ofNat 32 (i 0).val
  let c192_i32 : BitVec 32 := 192#32
  let v0 : BitVec 32 := Scalar.muli arg0 c192_i32
  let c192_i32_0 : BitVec 32 := 192#32
  let v1 : BitVec 32 := Scalar.divsi v0 c192_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c192_i32_0 c0_i32_2
  let v8 : BitVec 32 := Scalar.extui v7
  let c0_i32_3 : BitVec 32 := 0#32
  let v9 : BitVec 1 := Scalar.cmpi .slt c192_i32_0 c0_i32_3
  let v10 : BitVec 32 := Scalar.extui v9
  let v11 : BitVec 32 := Scalar.subi v8 v10
  let v12 : BitVec 1 := Scalar.cmpi .ne v6 v11
  let v13 : BitVec 32 := Scalar.remsi v0 c192_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, v27.toNat]

def cc0_transform_2 (i : grid0.Coords) : Fin 2 → Nat :=
  let arg0 : BitVec 32 := BitVec.ofNat 32 (i 0).val
  let c192_i32 : BitVec 32 := 192#32
  let v0 : BitVec 32 := Scalar.muli arg0 c192_i32
  let c192_i32_0 : BitVec 32 := 192#32
  let v1 : BitVec 32 := Scalar.divsi v0 c192_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c192_i32_0 c0_i32_2
  let v8 : BitVec 32 := Scalar.extui v7
  let c0_i32_3 : BitVec 32 := 0#32
  let v9 : BitVec 1 := Scalar.cmpi .slt c192_i32_0 c0_i32_3
  let v10 : BitVec 32 := Scalar.extui v9
  let v11 : BitVec 32 := Scalar.subi v8 v10
  let v12 : BitVec 1 := Scalar.cmpi .ne v6 v11
  let v13 : BitVec 32 := Scalar.remsi v0 c192_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, v27.toNat]

def cc0_transform_3 (i : grid0.Coords) : Fin 2 → Nat :=
  let arg0 : BitVec 32 := BitVec.ofNat 32 (i 0).val
  let c192_i32 : BitVec 32 := 192#32
  let v0 : BitVec 32 := Scalar.muli arg0 c192_i32
  let c192_i32_0 : BitVec 32 := 192#32
  let v1 : BitVec 32 := Scalar.divsi v0 c192_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c192_i32_0 c0_i32_2
  let v8 : BitVec 32 := Scalar.extui v7
  let c0_i32_3 : BitVec 32 := 0#32
  let v9 : BitVec 1 := Scalar.cmpi .slt c192_i32_0 c0_i32_3
  let v10 : BitVec 32 := Scalar.extui v9
  let v11 : BitVec 32 := Scalar.subi v8 v10
  let v12 : BitVec 1 := Scalar.cmpi .ne v6 v11
  let v13 : BitVec 32 := Scalar.remsi v0 c192_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, v27.toNat]

def cc0_transform_4 (i : grid0.Coords) : Fin 2 → Nat :=
  let arg0 : BitVec 32 := BitVec.ofNat 32 (i 0).val
  let c192_i32 : BitVec 32 := 192#32
  let v0 : BitVec 32 := Scalar.muli arg0 c192_i32
  let c192_i32_0 : BitVec 32 := 192#32
  let v1 : BitVec 32 := Scalar.divsi v0 c192_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c192_i32_0 c0_i32_2
  let v8 : BitVec 32 := Scalar.extui v7
  let c0_i32_3 : BitVec 32 := 0#32
  let v9 : BitVec 1 := Scalar.cmpi .slt c192_i32_0 c0_i32_3
  let v10 : BitVec 32 := Scalar.extui v9
  let v11 : BitVec 32 := Scalar.subi v8 v10
  let v12 : BitVec 1 := Scalar.cmpi .ne v6 v11
  let v13 : BitVec 32 := Scalar.remsi v0 c192_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, v27.toNat]

def cc0_transform_5 (i : grid0.Coords) : Fin 2 → Nat :=
  let arg0 : BitVec 32 := BitVec.ofNat 32 (i 0).val
  let c192_i32 : BitVec 32 := 192#32
  let v0 : BitVec 32 := Scalar.muli arg0 c192_i32
  let c192_i32_0 : BitVec 32 := 192#32
  let v1 : BitVec 32 := Scalar.divsi v0 c192_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c192_i32_0 c0_i32_2
  let v8 : BitVec 32 := Scalar.extui v7
  let c0_i32_3 : BitVec 32 := 0#32
  let v9 : BitVec 1 := Scalar.cmpi .slt c192_i32_0 c0_i32_3
  let v10 : BitVec 32 := Scalar.extui v9
  let v11 : BitVec 32 := Scalar.subi v8 v10
  let v12 : BitVec 1 := Scalar.cmpi .ne v6 v11
  let v13 : BitVec 32 := Scalar.remsi v0 c192_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, v27.toNat]

def cc0_transform_6 (i : grid0.Coords) : Fin 2 → Nat :=
  let arg0 : BitVec 32 := BitVec.ofNat 32 (i 0).val
  let c192_i32 : BitVec 32 := 192#32
  let v0 : BitVec 32 := Scalar.muli arg0 c192_i32
  let c192_i32_0 : BitVec 32 := 192#32
  let v1 : BitVec 32 := Scalar.divsi v0 c192_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c192_i32_0 c0_i32_2
  let v8 : BitVec 32 := Scalar.extui v7
  let c0_i32_3 : BitVec 32 := 0#32
  let v9 : BitVec 1 := Scalar.cmpi .slt c192_i32_0 c0_i32_3
  let v10 : BitVec 32 := Scalar.extui v9
  let v11 : BitVec 32 := Scalar.subi v8 v10
  let v12 : BitVec 1 := Scalar.cmpi .ne v6 v11
  let v13 : BitVec 32 := Scalar.remsi v0 c192_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, v27.toNat]

def cc0_transform_7 (i : grid0.Coords) : Fin 2 → Nat :=
  let arg0 : BitVec 32 := BitVec.ofNat 32 (i 0).val
  let c192_i32 : BitVec 32 := 192#32
  let v0 : BitVec 32 := Scalar.muli arg0 c192_i32
  let c192_i32_0 : BitVec 32 := 192#32
  let v1 : BitVec 32 := Scalar.divsi v0 c192_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c192_i32_0 c0_i32_2
  let v8 : BitVec 32 := Scalar.extui v7
  let c0_i32_3 : BitVec 32 := 0#32
  let v9 : BitVec 1 := Scalar.cmpi .slt c192_i32_0 c0_i32_3
  let v10 : BitVec 32 := Scalar.extui v9
  let v11 : BitVec 32 := Scalar.subi v8 v10
  let v12 : BitVec 1 := Scalar.cmpi .ne v6 v11
  let v13 : BitVec 32 := Scalar.remsi v0 c192_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, v27.toNat]

abbrev stage0_0 : Fin 1 → Memref sig .tc .vmem S4x4x192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel13Ideal.lean ====
abbrev S4x4x192 : Shape := ⟨3, ![4, 4, 192]⟩
abbrev S4x192 : Shape := ⟨2, ![4, 192]⟩
abbrev S1x4x192 : Shape := ⟨3, ![1, 4, 192]⟩

abbrev nBuf : Space → Nat
  | .hbm => 8
  | .vmem => 8
  | .smem => 0
  | _ => 0

abbrev bufTy : (tb : Table) → Fin (tcTables nBuf tb) → BufTy
  | .hbm, ⟨0, _⟩ => ⟨S4x4x192, .bf16⟩
  | .hbm, ⟨1, _⟩ => ⟨S4x192, .f32⟩
  | .hbm, ⟨2, _⟩ => ⟨S4x192, .f32⟩
  | .hbm, ⟨3, _⟩ => ⟨S4x192, .f32⟩
  | .hbm, ⟨4, _⟩ => ⟨S4x192, .f32⟩
  | .hbm, ⟨5, _⟩ => ⟨S4x192, .f32⟩
  | .hbm, ⟨6, _⟩ => ⟨S4x192, .f32⟩
  | .hbm, ⟨7, _⟩ => ⟨S4x192, .f32⟩
  | .local _ .vmem, ⟨0, _⟩ => ⟨S4x4x192, .bf16⟩
  | .local _ .vmem, ⟨1, _⟩ => ⟨S4x192, .f32⟩
  | .local _ .vmem, ⟨2, _⟩ => ⟨S4x192, .f32⟩
  | .local _ .vmem, ⟨3, _⟩ => ⟨S4x192, .f32⟩
  | .local _ .vmem, ⟨4, _⟩ => ⟨S4x192, .f32⟩
  | .local _ .vmem, ⟨5, _⟩ => ⟨S4x192, .f32⟩
  | .local _ .vmem, ⟨6, _⟩ => ⟨S4x192, .f32⟩
  | .local _ .vmem, ⟨7, _⟩ => ⟨S4x192, .f32⟩
  | _, _ => ⟨S4x4x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "c1" => some (((5463681 / 8388608)⁻¹ : ℝ) : EReal)
  | "c2" => some (((2672307 / 268435456)⁻¹ : ℝ) : EReal)
  | _ => none

abbrev grid0 : Pipeline.Grid := ⟨1, ![1], ![false]⟩

def cc0_transform_0 (i : grid0.Coords) : Fin 3 → Nat :=
  let arg0 : BitVec 32 := BitVec.ofNat 32 (i 0).val
  let c192_i32 : BitVec 32 := 192#32
  let v0 : BitVec 32 := Scalar.muli arg0 c192_i32
  let c192_i32_0 : BitVec 32 := 192#32
  let v1 : BitVec 32 := Scalar.divsi v0 c192_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c192_i32_0 c0_i32_2
  let v8 : BitVec 32 := Scalar.extui v7
  let c0_i32_3 : BitVec 32 := 0#32
  let v9 : BitVec 1 := Scalar.cmpi .slt c192_i32_0 c0_i32_3
  let v10 : BitVec 32 := Scalar.extui v9
  let v11 : BitVec 32 := Scalar.subi v8 v10
  let v12 : BitVec 1 := Scalar.cmpi .ne v6 v11
  let v13 : BitVec 32 := Scalar.remsi v0 c192_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![c0_i32_11.toNat, v17.toNat, v27.toNat]

def cc0_transform_1 (i : grid0.Coords) : Fin 2 → Nat :=
  let arg0 : BitVec 32 := BitVec.ofNat 32 (i 0).val
  let c192_i32 : BitVec 32 := 192#32
  let v0 : BitVec 32 := Scalar.muli arg0 c192_i32
  let c192_i32_0 : BitVec 32 := 192#32
  let v1 : BitVec 32 := Scalar.divsi v0 c192_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c192_i32_0 c0_i32_2
  let v8 : BitVec 32 := Scalar.extui v7
  let c0_i32_3 : BitVec 32 := 0#32
  let v9 : BitVec 1 := Scalar.cmpi .slt c192_i32_0 c0_i32_3
  let v10 : BitVec 32 := Scalar.extui v9
  let v11 : BitVec 32 := Scalar.subi v8 v10
  let v12 : BitVec 1 := Scalar.cmpi .ne v6 v11
  let v13 : BitVec 32 := Scalar.remsi v0 c192_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, v27.toNat]

def cc0_transform_2 (i : grid0.Coords) : Fin 2 → Nat :=
  let arg0 : BitVec 32 := BitVec.ofNat 32 (i 0).val
  let c192_i32 : BitVec 32 := 192#32
  let v0 : BitVec 32 := Scalar.muli arg0 c192_i32
  let c192_i32_0 : BitVec 32 := 192#32
  let v1 : BitVec 32 := Scalar.divsi v0 c192_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c192_i32_0 c0_i32_2
  let v8 : BitVec 32 := Scalar.extui v7
  let c0_i32_3 : BitVec 32 := 0#32
  let v9 : BitVec 1 := Scalar.cmpi .slt c192_i32_0 c0_i32_3
  let v10 : BitVec 32 := Scalar.extui v9
  let v11 : BitVec 32 := Scalar.subi v8 v10
  let v12 : BitVec 1 := Scalar.cmpi .ne v6 v11
  let v13 : BitVec 32 := Scalar.remsi v0 c192_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, v27.toNat]

def cc0_transform_3 (i : grid0.Coords) : Fin 2 → Nat :=
  let arg0 : BitVec 32 := BitVec.ofNat 32 (i 0).val
  let c192_i32 : BitVec 32 := 192#32
  let v0 : BitVec 32 := Scalar.muli arg0 c192_i32
  let c192_i32_0 : BitVec 32 := 192#32
  let v1 : BitVec 32 := Scalar.divsi v0 c192_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c192_i32_0 c0_i32_2
  let v8 : BitVec 32 := Scalar.extui v7
  let c0_i32_3 : BitVec 32 := 0#32
  let v9 : BitVec 1 := Scalar.cmpi .slt c192_i32_0 c0_i32_3
  let v10 : BitVec 32 := Scalar.extui v9
  let v11 : BitVec 32 := Scalar.subi v8 v10
  let v12 : BitVec 1 := Scalar.cmpi .ne v6 v11
  let v13 : BitVec 32 := Scalar.remsi v0 c192_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, v27.toNat]

def cc0_transform_4 (i : grid0.Coords) : Fin 2 → Nat :=
  let arg0 : BitVec 32 := BitVec.ofNat 32 (i 0).val
  let c192_i32 : BitVec 32 := 192#32
  let v0 : BitVec 32 := Scalar.muli arg0 c192_i32
  let c192_i32_0 : BitVec 32 := 192#32
  let v1 : BitVec 32 := Scalar.divsi v0 c192_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c192_i32_0 c0_i32_2
  let v8 : BitVec 32 := Scalar.extui v7
  let c0_i32_3 : BitVec 32 := 0#32
  let v9 : BitVec 1 := Scalar.cmpi .slt c192_i32_0 c0_i32_3
  let v10 : BitVec 32 := Scalar.extui v9
  let v11 : BitVec 32 := Scalar.subi v8 v10
  let v12 : BitVec 1 := Scalar.cmpi .ne v6 v11
  let v13 : BitVec 32 := Scalar.remsi v0 c192_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, v27.toNat]

def cc0_transform_5 (i : grid0.Coords) : Fin 2 → Nat :=
  let arg0 : BitVec 32 := BitVec.ofNat 32 (i 0).val
  let c192_i32 : BitVec 32 := 192#32
  let v0 : BitVec 32 := Scalar.muli arg0 c192_i32
  let c192_i32_0 : BitVec 32 := 192#32
  let v1 : BitVec 32 := Scalar.divsi v0 c192_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c192_i32_0 c0_i32_2
  let v8 : BitVec 32 := Scalar.extui v7
  let c0_i32_3 : BitVec 32 := 0#32
  let v9 : BitVec 1 := Scalar.cmpi .slt c192_i32_0 c0_i32_3
  let v10 : BitVec 32 := Scalar.extui v9
  let v11 : BitVec 32 := Scalar.subi v8 v10
  let v12 : BitVec 1 := Scalar.cmpi .ne v6 v11
  let v13 : BitVec 32 := Scalar.remsi v0 c192_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, v27.toNat]

def cc0_transform_6 (i : grid0.Coords) : Fin 2 → Nat :=
  let arg0 : BitVec 32 := BitVec.ofNat 32 (i 0).val
  let c192_i32 : BitVec 32 := 192#32
  let v0 : BitVec 32 := Scalar.muli arg0 c192_i32
  let c192_i32_0 : BitVec 32 := 192#32
  let v1 : BitVec 32 := Scalar.divsi v0 c192_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c192_i32_0 c0_i32_2
  let v8 : BitVec 32 := Scalar.extui v7
  let c0_i32_3 : BitVec 32 := 0#32
  let v9 : BitVec 1 := Scalar.cmpi .slt c192_i32_0 c0_i32_3
  let v10 : BitVec 32 := Scalar.extui v9
  let v11 : BitVec 32 := Scalar.subi v8 v10
  let v12 : BitVec 1 := Scalar.cmpi .ne v6 v11
  let v13 : BitVec 32 := Scalar.remsi v0 c192_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, v27.toNat]

def cc0_transform_7 (i : grid0.Coords) : Fin 2 → Nat :=
  let arg0 : BitVec 32 := BitVec.ofNat 32 (i 0).val
  let c192_i32 : BitVec 32 := 192#32
  let v0 : BitVec 32 := Scalar.muli arg0 c192_i32
  let c192_i32_0 : BitVec 32 := 192#32
  let v1 : BitVec 32 := Scalar.divsi v0 c192_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c192_i32_0 c0_i32_2
  let v8 : BitVec 32 := Scalar.extui v7
  let c0_i32_3 : BitVec 32 := 0#32
  let v9 : BitVec 1 := Scalar.cmpi .slt c192_i32_0 c0_i32_3
  let v10 : BitVec 32 := Scalar.extui v9
  let v11 : BitVec 32 := Scalar.subi v8 v10
  let v12 : BitVec 1 := Scalar.cmpi .ne v6 v11
  let v13 : BitVec 32 := Scalar.remsi v0 c192_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, v27.toNat]

abbrev stage0_0 : Fin 1 → Memref sig .tc .vmem S4x4x192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference13Ideal.lean ====
abbrev S4x4x192 : Shape := ⟨3, ![4, 4, 192]⟩
abbrev S4x192 : Shape := ⟨2, ![4, 192]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x4x192, .bf16⟩
  | .hbm, ⟨1, _⟩ => ⟨S4x192, .f32⟩
  | .hbm, ⟨2, _⟩ => ⟨S4x192, .f32⟩
  | .hbm, ⟨3, _⟩ => ⟨S4x192, .f32⟩
  | .hbm, ⟨4, _⟩ => ⟨S4x4x192, .f32⟩
  | .hbm, ⟨5, _⟩ => ⟨S_, .f32⟩
  | .hbm, ⟨6, _⟩ => ⟨S4x192, .f32⟩
  | .hbm, ⟨7, _⟩ => ⟨S_, .f32⟩
  | .hbm, ⟨8, _⟩ => ⟨S4x192, .f32⟩
  | .hbm, ⟨9, _⟩ => ⟨S4x192, .f32⟩
  | .hbm, ⟨10, _⟩ => ⟨S_, .f32⟩
  | .hbm, ⟨11, _⟩ => ⟨S4x192, .f32⟩
  | .hbm, ⟨12, _⟩ => ⟨S4x192, .f32⟩
  | .hbm, ⟨13, _⟩ => ⟨S4x192, .f32⟩
  | .hbm, ⟨14, _⟩ => ⟨S_, .f32⟩
  | .hbm, ⟨15, _⟩ => ⟨S4x192, .f32⟩
  | .hbm, ⟨16, _⟩ => ⟨S4x192, .f32⟩
  | .hbm, ⟨17, _⟩ => ⟨S4x192, .f32⟩
  | .hbm, ⟨18, _⟩ => ⟨S_, .f32⟩
  | .hbm, ⟨19, _⟩ => ⟨S4x192, .f32⟩
  | .hbm, ⟨20, _⟩ => ⟨S4x192, .f32⟩
  | .hbm, ⟨21, _⟩ => ⟨S4x192, .f32⟩
  | .hbm, ⟨22, _⟩ => ⟨S_, .f32⟩
  | .hbm, ⟨23, _⟩ => ⟨S4x192, .f32⟩
  | .hbm, ⟨24, _⟩ => ⟨S4x192, .f32⟩
  | .hbm, ⟨25, _⟩ => ⟨S_, .f32⟩
  | .hbm, ⟨26, _⟩ => ⟨S4x192, .f32⟩
  | .hbm, ⟨27, _⟩ => ⟨S4x192, .f32⟩
  | .hbm, ⟨28, _⟩ => ⟨S4x192, .f32⟩
  | .hbm, ⟨29, _⟩ => ⟨S_, .f32⟩
  | .hbm, ⟨30, _⟩ => ⟨S4x192, .f32⟩
  | .hbm, ⟨31, _⟩ => ⟨S4x192, .f32⟩
  | .hbm, ⟨32, _⟩ => ⟨S4x192, .f32⟩
  | .hbm, ⟨33, _⟩ => ⟨S_, .f32⟩
  | .hbm, ⟨34, _⟩ => ⟨S4x192, .f32⟩
  | .hbm, ⟨35, _⟩ => ⟨S4x192, .f32⟩
  | .hbm, ⟨36, _⟩ => ⟨S4x192, .f32⟩
  | .hbm, ⟨37, _⟩ => ⟨S_, .f32⟩
  | .hbm, ⟨38, _⟩ => ⟨S4x192, .f32⟩
  | .hbm, ⟨39, _⟩ => ⟨S4x192, .f32⟩
  | _, _ => ⟨S4x4x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel14.lean ====
abbrev S8x512x128 : Shape := ⟨3, ![8, 512, 128]⟩
abbrev S512x128 : Shape := ⟨2, ![512, 128]⟩
abbrev S8x256x128 : Shape := ⟨3, ![8, 256, 128]⟩
abbrev S256x128 : Shape := ⟨2, ![256, 128]⟩
abbrev S1x256x128 : Shape := ⟨3, ![1, 256, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .local _ .vmem, ⟨0, _⟩ => ⟨S8x256x128, .f32⟩
  | .local _ .vmem, ⟨1, _⟩ => ⟨S8x256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | _, _ => ⟨S8x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c128_i32 : BitVec 32 := 128#32
  let v0 : BitVec 32 := Scalar.muli arg0 c128_i32
  let c128_i32_0 : BitVec 32 := 128#32
  let v1 : BitVec 32 := Scalar.divsi v0 c128_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c128_i32_0 c0_i32_2
  let v8 : BitVec 32 := Scalar.extui v7
  let c0_i32_3 : BitVec 32 := 0#32
  let v9 : BitVec 1 := Scalar.cmpi .slt c128_i32_0 c0_i32_3
  let v10 : BitVec 32 := Scalar.extui v9
  let v11 : BitVec 32 := Scalar.subi v8 v10
  let v12 : BitVec 1 := Scalar.cmpi .ne v6 v11
  let v13 : BitVec 32 := Scalar.remsi v0 c128_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![c0_i32_11.toNat, v17.toNat, v27.toNat]

def cc0_transform_1 (i : grid0.Coords) : Fin 2 → Nat :=
  let arg0 : BitVec 32 := BitVec.ofNat 32 (i 0).val
  let c128_i32 : BitVec 32 := 128#32
  let v0 : BitVec 32 := Scalar.muli arg0 c128_i32
  let c128_i32_0 : BitVec 32 := 128#32
  let v1 : BitVec 32 := Scalar.divsi v0 c128_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c128_i32_0 c0_i32_2
  let v8 : BitVec 32 := Scalar.extui v7
  let c0_i32_3 : BitVec 32 := 0#32
  let v9 : BitVec 1 := Scalar.cmpi .slt c128_i32_0 c0_i32_3
  let v10 : BitVec 32 := Scalar.extui v9
  let v11 : BitVec 32 := Scalar.subi v8 v10
  let v12 : BitVec 1 := Scalar.cmpi .ne v6 v11
  let v13 : BitVec 32 := Scalar.remsi v0 c128_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, v27.toNat]

def cc0_transform_2 (i : grid0.Coords) : Fin 2 → Nat :=
  let arg0 : BitVec 32 := BitVec.ofNat 32 (i 0).val
  let c128_i32 : BitVec 32 := 128#32
  let v0 : BitVec 32 := Scalar.muli arg0 c128_i32
  let c128_i32_0 : BitVec 32 := 128#32
  let v1 : BitVec 32 := Scalar.divsi v0 c128_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c128_i32_0 c0_i32_2
  let v8 : BitVec 32 := Scalar.extui v7
  let c0_i32_3 : BitVec 32 := 0#32
  let v9 : BitVec 1 := Scalar.cmpi .slt c128_i32_0 c0_i32_3
  let v10 : BitVec 32 := Scalar.extui v9
  let v11 : BitVec 32 := Scalar.subi v8 v10
  let v12 : BitVec 1 := Scalar.cmpi .ne v6 v11
  let v13 : BitVec 32 := Scalar.remsi v0 c128_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, v27.toNat]

def cc0_transform_3 (i : grid0.Coords) : Fin 2 → Nat :=
  let arg0 : BitVec 32 := BitVec.ofNat 32 (i 0).val
  let c128_i32 : BitVec 32 := 128#32
  let v0 : BitVec 32 := Scalar.muli arg0 c128_i32
  let c128_i32_0 : BitVec 32 := 128#32
  let v1 : BitVec 32 := Scalar.divsi v0 c128_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c128_i32_0 c0_i32_2
  let v8 : BitVec 32 := Scalar.extui v7
  let c0_i32_3 : BitVec 32 := 0#32
  let v9 : BitVec 1 := Scalar.cmpi .slt c128_i32_0 c0_i32_3
  let v10 : BitVec 32 := Scalar.extui v9
  let v11 : BitVec 32 := Scalar.subi v8 v10
  let v12 : BitVec 1 := Scalar.cmpi .ne v6 v11
  let v13 : BitVec 32 := Scalar.remsi v0 c128_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, v27.toNat]

def cc0_transform_4 (i : grid0.Coords) : Fin 2 → Nat :=
  let arg0 : BitVec 32 := BitVec.ofNat 32 (i 0).val
  let c128_i32 : BitVec 32 := 128#32
  let v0 : BitVec 32 := Scalar.muli arg0 c128_i32
  let c128_i32_0 : BitVec 32 := 128#32
  let v1 : BitVec 32 := Scalar.divsi v0 c128_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c128_i32_0 c0_i32_2
  let v8 : BitVec 32 := Scalar.extui v7
  let c0_i32_3 : BitVec 32 := 0#32
  let v9 : BitVec 1 := Scalar.cmpi .slt c128_i32_0 c0_i32_3
  let v10 : BitVec 32 := Scalar.extui v9
  let v11 : BitVec 32 := Scalar.subi v8 v10
  let v12 : BitVec 1 := Scalar.cmpi .ne v6 v11
  let v13 : BitVec 32 := Scalar.remsi v0 c128_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, v27.toNat]

def cc0_transform_5 (i : grid0.Coords) : Fin 2 → Nat :=
  let arg0 : BitVec 32 := BitVec.ofNat 32 (i 0).val
  let c128_i32 : BitVec 32 := 128#32
  let v0 : BitVec 32 := Scalar.muli arg0 c128_i32
  let c128_i32_0 : BitVec 32 := 128#32
  let v1 : BitVec 32 := Scalar.divsi v0 c128_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c128_i32_0 c0_i32_2
  let v8 : BitVec 32 := Scalar.extui v7
  let c0_i32_3 : BitVec 32 := 0#32
  let v9 : BitVec 1 := Scalar.cmpi .slt c128_i32_0 c0_i32_3
  let v10 : BitVec 32 := Scalar.extui v9
  let v11 : BitVec 32 := Scalar.subi v8 v10
  let v12 : BitVec 1 := Scalar.cmpi .ne v6 v11
  let v13 : BitVec 32 := Scalar.remsi v0 c128_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, v27.toNat]

def cc0_transform_6 (i : grid0.Coords) : Fin 2 → Nat :=
  let arg0 : BitVec 32 := BitVec.ofNat 32 (i 0).val
  let c128_i32 : BitVec 32 := 128#32
  let v0 : BitVec 32 := Scalar.muli arg0 c128_i32
  let c128_i32_0 : BitVec 32 := 128#32
  let v1 : BitVec 32 := Scalar.divsi v0 c128_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c128_i32_0 c0_i32_2
  let v8 : BitVec 32 := Scalar.extui v7
  let c0_i32_3 : BitVec 32 := 0#32
  let v9 : BitVec 1 := Scalar.cmpi .slt c128_i32_0 c0_i32_3
  let v10 : BitVec 32 := Scalar.extui v9
  let v11 : BitVec 32 := Scalar.subi v8 v10
  let v12 : BitVec 1 := Scalar.cmpi .ne v6 v11
  let v13 : BitVec 32 := Scalar.remsi v0 c128_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, v27.toNat]

def cc0_transform_7 (i : grid0.Coords) : Fin 2 → Nat :=
  let arg0 : BitVec 32 := BitVec.ofNat 32 (i 0).val
  let c128_i32 : BitVec 32 := 128#32
  let v0 : BitVec 32 := Scalar.muli arg0 c128_i32
  let c128_i32_0 : BitVec 32 := 128#32
  let v1 : BitVec 32 := Scalar.divsi v0 c128_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c128_i32_0 c0_i32_2
  let v8 : BitVec 32 := Scalar.extui v7
  let c0_i32_3 : BitVec 32 := 0#32
  let v9 : BitVec 1 := Scalar.cmpi .slt c128_i32_0 c0_i32_3
  let v10 : BitVec 32 := Scalar.extui v9
  let v11 : BitVec 32 := Scalar.subi v8 v10
  let v12 : BitVec 1 := Scalar.cmpi .ne v6 v11
  let v13 : BitVec 32 := Scalar.remsi v0 c128_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, v27.toNat]

abbrev stage0_0 : Fin 2 → Memref sig .tc .vmem S8x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel14Ideal.lean ====
abbrev S8x512x128 : Shape := ⟨3, ![8, 512, 128]⟩
abbrev S512x128 : Shape := ⟨2, ![512, 128]⟩
abbrev S8x256x128 : Shape := ⟨3, ![8, 256, 128]⟩
abbrev S256x128 : Shape := ⟨2, ![256, 128]⟩
abbrev S1x256x128 : Shape := ⟨3, ![1, 256, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .local _ .vmem, ⟨0, _⟩ => ⟨S8x256x128, .f32⟩
  | .local _ .vmem, ⟨1, _⟩ => ⟨S8x256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | _, _ => ⟨S8x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "c1" => some (((5463681 / 8388608)⁻¹ : ℝ) : EReal)
  | "c2" => some (((2672307 / 268435456)⁻¹ : ℝ) : EReal)
  | _ => none

abbrev grid0 : Pipeline.Grid := ⟨1, ![2], ![false]⟩

def cc0_transform_0 (i : grid0.Coords) : Fin 3 → Nat :=
  let arg0 : BitVec 32 := BitVec.ofNat 32 (i 0).val
  let c128_i32 : BitVec 32 := 128#32
  let v0 : BitVec 32 := Scalar.muli arg0 c128_i32
  let c128_i32_0 : BitVec 32 := 128#32
  let v1 : BitVec 32 := Scalar.divsi v0 c128_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c128_i32_0 c0_i32_2
  let v8 : BitVec 32 := Scalar.extui v7
  let c0_i32_3 : BitVec 32 := 0#32
  let v9 : BitVec 1 := Scalar.cmpi .slt c128_i32_0 c0_i32_3
  let v10 : BitVec 32 := Scalar.extui v9
  let v11 : BitVec 32 := Scalar.subi v8 v10
  let v12 : BitVec 1 := Scalar.cmpi .ne v6 v11
  let v13 : BitVec 32 := Scalar.remsi v0 c128_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![c0_i32_11.toNat, v17.toNat, v27.toNat]

def cc0_transform_1 (i : grid0.Coords) : Fin 2 → Nat :=
  let arg0 : BitVec 32 := BitVec.ofNat 32 (i 0).val
  let c128_i32 : BitVec 32 := 128#32
  let v0 : BitVec 32 := Scalar.muli arg0 c128_i32
  let c128_i32_0 : BitVec 32 := 128#32
  let v1 : BitVec 32 := Scalar.divsi v0 c128_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c128_i32_0 c0_i32_2
  let v8 : BitVec 32 := Scalar.extui v7
  let c0_i32_3 : BitVec 32 := 0#32
  let v9 : BitVec 1 := Scalar.cmpi .slt c128_i32_0 c0_i32_3
  let v10 : BitVec 32 := Scalar.extui v9
  let v11 : BitVec 32 := Scalar.subi v8 v10
  let v12 : BitVec 1 := Scalar.cmpi .ne v6 v11
  let v13 : BitVec 32 := Scalar.remsi v0 c128_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, v27.toNat]

def cc0_transform_2 (i : grid0.Coords) : Fin 2 → Nat :=
  let arg0 : BitVec 32 := BitVec.ofNat 32 (i 0).val
  let c128_i32 : BitVec 32 := 128#32
  let v0 : BitVec 32 := Scalar.muli arg0 c128_i32
  let c128_i32_0 : BitVec 32 := 128#32
  let v1 : BitVec 32 := Scalar.divsi v0 c128_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c128_i32_0 c0_i32_2
  let v8 : BitVec 32 := Scalar.extui v7
  let c0_i32_3 : BitVec 32 := 0#32
  let v9 : BitVec 1 := Scalar.cmpi .slt c128_i32_0 c0_i32_3
  let v10 : BitVec 32 := Scalar.extui v9
  let v11 : BitVec 32 := Scalar.subi v8 v10
  let v12 : BitVec 1 := Scalar.cmpi .ne v6 v11
  let v13 : BitVec 32 := Scalar.remsi v0 c128_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, v27.toNat]

def cc0_transform_3 (i : grid0.Coords) : Fin 2 → Nat :=
  let arg0 : BitVec 32 := BitVec.ofNat 32 (i 0).val
  let c128_i32 : BitVec 32 := 128#32
  let v0 : BitVec 32 := Scalar.muli arg0 c128_i32
  let c128_i32_0 : BitVec 32 := 128#32
  let v1 : BitVec 32 := Scalar.divsi v0 c128_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c128_i32_0 c0_i32_2
  let v8 : BitVec 32 := Scalar.extui v7
  let c0_i32_3 : BitVec 32 := 0#32
  let v9 : BitVec 1 := Scalar.cmpi .slt c128_i32_0 c0_i32_3
  let v10 : BitVec 32 := Scalar.extui v9
  let v11 : BitVec 32 := Scalar.subi v8 v10
  let v12 : BitVec 1 := Scalar.cmpi .ne v6 v11
  let v13 : BitVec 32 := Scalar.remsi v0 c128_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, v27.toNat]

def cc0_transform_4 (i : grid0.Coords) : Fin 2 → Nat :=
  let arg0 : BitVec 32 := BitVec.ofNat 32 (i 0).val
  let c128_i32 : BitVec 32 := 128#32
  let v0 : BitVec 32 := Scalar.muli arg0 c128_i32
  let c128_i32_0 : BitVec 32 := 128#32
  let v1 : BitVec 32 := Scalar.divsi v0 c128_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c128_i32_0 c0_i32_2
  let v8 : BitVec 32 := Scalar.extui v7
  let c0_i32_3 : BitVec 32 := 0#32
  let v9 : BitVec 1 := Scalar.cmpi .slt c128_i32_0 c0_i32_3
  let v10 : BitVec 32 := Scalar.extui v9
  let v11 : BitVec 32 := Scalar.subi v8 v10
  let v12 : BitVec 1 := Scalar.cmpi .ne v6 v11
  let v13 : BitVec 32 := Scalar.remsi v0 c128_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, v27.toNat]

def cc0_transform_5 (i : grid0.Coords) : Fin 2 → Nat :=
  let arg0 : BitVec 32 := BitVec.ofNat 32 (i 0).val
  let c128_i32 : BitVec 32 := 128#32
  let v0 : BitVec 32 := Scalar.muli arg0 c128_i32
  let c128_i32_0 : BitVec 32 := 128#32
  let v1 : BitVec 32 := Scalar.divsi v0 c128_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c128_i32_0 c0_i32_2
  let v8 : BitVec 32 := Scalar.extui v7
  let c0_i32_3 : BitVec 32 := 0#32
  let v9 : BitVec 1 := Scalar.cmpi .slt c128_i32_0 c0_i32_3
  let v10 : BitVec 32 := Scalar.extui v9
  let v11 : BitVec 32 := Scalar.subi v8 v10
  let v12 : BitVec 1 := Scalar.cmpi .ne v6 v11
  let v13 : BitVec 32 := Scalar.remsi v0 c128_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, v27.toNat]

def cc0_transform_6 (i : grid0.Coords) : Fin 2 → Nat :=
  let arg0 : BitVec 32 := BitVec.ofNat 32 (i 0).val
  let c128_i32 : BitVec 32 := 128#32
  let v0 : BitVec 32 := Scalar.muli arg0 c128_i32
  let c128_i32_0 : BitVec 32 := 128#32
  let v1 : BitVec 32 := Scalar.divsi v0 c128_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c128_i32_0 c0_i32_2
  let v8 : BitVec 32 := Scalar.extui v7
  let c0_i32_3 : BitVec 32 := 0#32
  let v9 : BitVec 1 := Scalar.cmpi .slt c128_i32_0 c0_i32_3
  let v10 : BitVec 32 := Scalar.extui v9
  let v11 : BitVec 32 := Scalar.subi v8 v10
  let v12 : BitVec 1 := Scalar.cmpi .ne v6 v11
  let v13 : BitVec 32 := Scalar.remsi v0 c128_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, v27.toNat]

def cc0_transform_7 (i : grid0.Coords) : Fin 2 → Nat :=
  let arg0 : BitVec 32 := BitVec.ofNat 32 (i 0).val
  let c128_i32 : BitVec 32 := 128#32
  let v0 : BitVec 32 := Scalar.muli arg0 c128_i32
  let c128_i32_0 : BitVec 32 := 128#32
  let v1 : BitVec 32 := Scalar.divsi v0 c128_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c128_i32_0 c0_i32_2
  let v8 : BitVec 32 := Scalar.extui v7
  let c0_i32_3 : BitVec 32 := 0#32
  let v9 : BitVec 1 := Scalar.cmpi .slt c128_i32_0 c0_i32_3
  let v10 : BitVec 32 := Scalar.extui v9
  let v11 : BitVec 32 := Scalar.subi v8 v10
  let v12 : BitVec 1 := Scalar.cmpi .ne v6 v11
  let v13 : BitVec 32 := Scalar.remsi v0 c128_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, v27.toNat]

abbrev stage0_0 : Fin 2 → Memref sig .tc .vmem S8x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference14Ideal.lean ====
abbrev S8x512x128 : Shape := ⟨3, ![8, 512, 128]⟩
abbrev S512x128 : Shape := ⟨2, ![512, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S_, .f32⟩
  | .hbm, ⟨5, _⟩ => ⟨S512x128, .f32⟩
  | .hbm, ⟨6, _⟩ => ⟨S_, .f32⟩
  | .hbm, ⟨7, _⟩ => ⟨S512x128, .f32⟩
  | .hbm, ⟨8, _⟩ => ⟨S512x128, .f32⟩
  | .hbm, ⟨9, _⟩ => ⟨S_, .f32⟩
  | .hbm, ⟨10, _⟩ => ⟨S512x128, .f32⟩
  | .hbm, ⟨11, _⟩ => ⟨S512x128, .f32⟩
  | .hbm, ⟨12, _⟩ => ⟨S512x128, .f32⟩
  | .hbm, ⟨13, _⟩ => ⟨S_, .f32⟩
  | .hbm, ⟨14, _⟩ => ⟨S512x128, .f32⟩
  | .hbm, ⟨15, _⟩ => ⟨S512x128, .f32⟩
  | .hbm, ⟨16, _⟩ => ⟨S512x128, .f32⟩
  | .hbm, ⟨17, _⟩ => ⟨S_, .f32⟩
  | .hbm, ⟨18, _⟩ => ⟨S512x128, .f32⟩
  | .hbm, ⟨19, _⟩ => ⟨S512x128, .f32⟩
  | .hbm, ⟨20, _⟩ => ⟨S512x128, .f32⟩
  | .hbm, ⟨21, _⟩ => ⟨S_, .f32⟩
  | .hbm, ⟨22, _⟩ => ⟨S512x128, .f32⟩
  | .hbm, ⟨23, _⟩ => ⟨S512x128, .f32⟩
  | .hbm, ⟨24, _⟩ => ⟨S_, .f32⟩
  | .hbm, ⟨25, _⟩ => ⟨S512x128, .f32⟩
  | .hbm, ⟨26, _⟩ => ⟨S512x128, .f32⟩
  | .hbm, ⟨27, _⟩ => ⟨S512x128, .f32⟩
  | .hbm, ⟨28, _⟩ => ⟨S_, .f32⟩
  | .hbm, ⟨29, _⟩ => ⟨S512x128, .f32⟩
  | .hbm, ⟨30, _⟩ => ⟨S512x128, .f32⟩
  | .hbm, ⟨31, _⟩ => ⟨S512x128, .f32⟩
  | .hbm, ⟨32, _⟩ => ⟨S_, .f32⟩
  | .hbm, ⟨33, _⟩ => ⟨S512x128, .f32⟩
  | .hbm, ⟨34, _⟩ => ⟨S512x128, .f32⟩
  | .hbm, ⟨35, _⟩ => ⟨S512x128, .f32⟩
  | .hbm, ⟨36, _⟩ => ⟨S_, .f32⟩
  | .hbm, ⟨37, _⟩ => ⟨S512x128, .f32⟩
  | .hbm, ⟨38, _⟩ => ⟨S512x128, .f32⟩
  | _, _ => ⟨S8x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel15.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c1024_i32 : BitVec 32 := 1024#32
  let v0 : BitVec 32 := Scalar.muli arg0 c1024_i32
  let c1024_i32_0 : BitVec 32 := 1024#32
  let v1 : BitVec 32 := Scalar.divsi v0 c1024_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![c0_i32_11.toNat, v17.toNat, v27.toNat]

def cc0_transform_1 (i : grid0.Coords) : Fin 2 → Nat :=
  let arg0 : BitVec 32 := BitVec.ofNat 32 (i 0).val
  let c1024_i32 : BitVec 32 := 1024#32
  let v0 : BitVec 32 := Scalar.muli arg0 c1024_i32
  let c1024_i32_0 : BitVec 32 := 1024#32
  let v1 : BitVec 32 := Scalar.divsi v0 c1024_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, v27.toNat]

def cc0_transform_2 (i : grid0.Coords) : Fin 2 → Nat :=
  let arg0 : BitVec 32 := BitVec.ofNat 32 (i 0).val
  let c1024_i32 : BitVec 32 := 1024#32
  let v0 : BitVec 32 := Scalar.muli arg0 c1024_i32
  let c1024_i32_0 : BitVec 32 := 1024#32
  let v1 : BitVec 32 := Scalar.divsi v0 c1024_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, v27.toNat]

def cc0_transform_3 (i : grid0.Coords) : Fin 2 → Nat :=
  let arg0 : BitVec 32 := BitVec.ofNat 32 (i 0).val
  let c1024_i32 : BitVec 32 := 1024#32
  let v0 : BitVec 32 := Scalar.muli arg0 c1024_i32
  let c1024_i32_0 : BitVec 32 := 1024#32
  let v1 : BitVec 32 := Scalar.divsi v0 c1024_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, v27.toNat]

def cc0_transform_4 (i : grid0.Coords) : Fin 2 → Nat :=
  let arg0 : BitVec 32 := BitVec.ofNat 32 (i 0).val
  let c1024_i32 : BitVec 32 := 1024#32
  let v0 : BitVec 32 := Scalar.muli arg0 c1024_i32
  let c1024_i32_0 : BitVec 32 := 1024#32
  let v1 : BitVec 32 := Scalar.divsi v0 c1024_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, v27.toNat]

def cc0_transform_5 (i : grid0.Coords) : Fin 2 → Nat :=
  let arg0 : BitVec 32 := BitVec.ofNat 32 (i 0).val
  let c1024_i32 : BitVec 32 := 1024#32
  let v0 : BitVec 32 := Scalar.muli arg0 c1024_i32
  let c1024_i32_0 : BitVec 32 := 1024#32
  let v1 : BitVec 32 := Scalar.divsi v0 c1024_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, v27.toNat]

def cc0_transform_6 (i : grid0.Coords) : Fin 2 → Nat :=
  let arg0 : BitVec 32 := BitVec.ofNat 32 (i 0).val
  let c1024_i32 : BitVec 32 := 1024#32
  let v0 : BitVec 32 := Scalar.muli arg0 c1024_i32
  let c1024_i32_0 : BitVec 32 := 1024#32
  let v1 : BitVec 32 := Scalar.divsi v0 c1024_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, v27.toNat]

def cc0_transform_7 (i : grid0.Coords) : Fin 2 → Nat :=
  let arg0 : BitVec 32 := BitVec.ofNat 32 (i 0).val
  let c1024_i32 : BitVec 32 := 1024#32
  let v0 : BitVec 32 := Scalar.muli arg0 c1024_i32
  let c1024_i32_0 : BitVec 32 := 1024#32
  let v1 : BitVec 32 := Scalar.divsi v0 c1024_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, v27.toNat]

abbrev stage0_0 : Fin 1 → Memref sig .tc .vmem S8x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel15Ideal.lean ====
variable {F : FTy → Type} [FloatOps F] [Named F]
def κ : String → Option EReal := fun
  | "c1" => some (((5463681 / 8388608)⁻¹ : ℝ) : EReal)
  | "c2" => some (((2672307 / 268435456)⁻¹ : ℝ) : EReal)
  | _ => none
-- ==== Reference15Ideal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S_, .f32⟩
  | .hbm, ⟨5, _⟩ => ⟨S128x1024, .f32⟩
  | .hbm, ⟨6, _⟩ => ⟨S_, .f32⟩
  | .hbm, ⟨7, _⟩ => ⟨S128x1024, .f32⟩
  | .hbm, ⟨8, _⟩ => ⟨S128x1024, .f32⟩
  | .hbm, ⟨9, _⟩ => ⟨S_, .f32⟩
  | .hbm, ⟨10, _⟩ => ⟨S128x1024, .f32⟩
  | .hbm, ⟨11, _⟩ => ⟨S128x1024, .f32⟩
  | .hbm, ⟨12, _⟩ => ⟨S128x1024, .f32⟩
  | .hbm, ⟨13, _⟩ => ⟨S_, .f32⟩
  | .hbm, ⟨14, _⟩ => ⟨S128x1024, .f32⟩
  | .hbm, ⟨15, _⟩ => ⟨S128x1024, .f32⟩
  | .hbm, ⟨16, _⟩ => ⟨S128x1024, .f32⟩
  | .hbm, ⟨17, _⟩ => ⟨S_, .f32⟩
  | .hbm, ⟨18, _⟩ => ⟨S128x1024, .f32⟩
  | .hbm, ⟨19, _⟩ => ⟨S128x1024, .f32⟩
  | .hbm, ⟨20, _⟩ => ⟨S128x1024, .f32⟩
  | .hbm, ⟨21, _⟩ => ⟨S_, .f32⟩
  | .hbm, ⟨22, _⟩ => ⟨S128x1024, .f32⟩
  | .hbm, ⟨23, _⟩ => ⟨S128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S_, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S_, .f32⟩
  | .hbm, ⟨33, _⟩ => ⟨S128x1024, .f32⟩
  | .hbm, ⟨34, _⟩ => ⟨S128x1024, .f32⟩
  | .hbm, ⟨35, _⟩ => ⟨S128x1024, .f32⟩
  | .hbm, ⟨36, _⟩ => ⟨S_, .f32⟩
  | .hbm, ⟨37, _⟩ => ⟨S128x1024, .f32⟩
  | .hbm, ⟨38, _⟩ => ⟨S128x1024, .f32⟩
  | _, _ => ⟨S8x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel16.lean ====
abbrev S4096x1024 : Shape := ⟨2, ![4096, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference16Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.TailRunStart.lean ====
/- GENERATED, UNTRUSTED: the whole-body RUN of `proofs.«01_k».proof.KernelIdeal`'s kernel in
   case A of its frame certificate (`Gen.kernelRun0_A`: the body's triple by `sl_exec` over the skeleton; the
   pieces each buffer ends with are the witness) — one module per case, so that each case elaborates in a separate
   `lean` process with its own memory; the run modules form a chain (each imports the one before) so that an
   auxiliary theorem `simp` generates for a part's skeleton (`<part>_skel.congr_simp`) is declared in one module only. DO NOT EDIT. -/
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 8000000 in
/-- What the body's stores leave in each output's staging memref, as pieces (last first) IN CASE A (`scf.if` 0 taken: points 0), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S256x1024 .f32)
      (harg1 : arg1.IsWhole) (arg2 : Memref sig .tc .vmem S256x1024 .f32) (harg2 : arg2.IsWhole)
      (arg3 : Memref sig .tc .vmem S256x2048 .f32) (harg3 : arg3.IsWhole) (arg4 : Memref sig .tc .vmem S256x512 .f32)
      (harg4 : arg4.IsWhole) (arg5 : Memref sig .tc .vmem S256x512 .f32) (harg5 : arg5.IsWhole)
      (arg6 : Memref sig .tc .vmem S256x512 .f32) (harg6 : arg6.IsWhole) (arg7 : Memref sig .tc .vmem S256x512 .f32)
      (harg7 : arg7.IsWhole) (arg8 : Memref sig .tc .vmem S256x512 .f32) (harg8 : arg8.IsWhole)
      (arg9 : Memref sig .tc .vmem S256x512 .f32) (harg9 : arg9.IsWhole) (arg10 : Memref sig .tc .vmem S256x512 .f32)
      (harg10 : arg10.IsWhole) (arg11 : Memref sig .tc .vmem S1x512 .f32) (harg11 : arg11.IsWhole)
      (arg12 : Memref sig .tc .vmem S1x512 .f32) (harg12 : arg12.IsWhole) (arg13 : Memref sig .tc .vmem S1x512 .f32)
      (harg13 : arg13.IsWhole) (arg14 : Memref sig .tc .vmem S1x128 .f32) (harg14 : arg14.IsWhole)
      (arg15 : Memref sig .tc .vmem S512x1024 .bf16) (harg15 : arg15.IsWhole) (arg16 : Memref sig .tc .vmem S512x1024 .bf16)
      (harg16 : arg16.IsWhole) (arg17 : Memref sig .tc .vmem S1024x1024 .bf16) (harg17 : arg17.IsWhole)
      (arg18 : Memref sig .tc .vmem S1x1024 .f32) (harg18 : arg18.IsWhole) (arg19 : Memref sig .tc .vmem S256x512 .f32)
      (harg19 : arg19.IsWhole) (arg20 : Memref sig .tc .vmem S256x512 .f32) (harg20 : arg20.IsWhole)
      (arg21 : Memref sig .tc .vmem S256x512 .f32) (harg21 : arg21.IsWhole) (arg22 : Memref sig .tc .vmem S256x512 .f32)
      (harg22 : arg22.IsWhole) (arg23 : Memref sig .tc .vmem S256x512 .bf16) (harg23 : arg23.IsWhole)
      (arg24 : Memref sig .tc .vmem S256x512 .f32) (harg24 : arg24.IsWhole) (arg25 : Memref sig .tc .vmem S256x512 .bf16)
      (harg25 : arg25.IsWhole) (arg26 : Memref sig .tc .vmem S256x2048 .bf16) (harg26 : arg26.IsWhole)
      (arg27 : Memref sig .tc .vmem S256x1024 .f32) (harg27 : arg27.IsWhole) (arg28 : Memref sig .tc .vmem S512x1024 .f32)
      (harg28 : arg28.IsWhole) (arg29 : Memref sig .tc .vmem S512x1024 .f32) (harg29 : arg29.IsWhole)
      (arg30 : Memref sig .tc .vmem S1024x1024 .f32) (harg30 : arg30.IsWhole) (arg31 : Memref sig .tc .vmem S1x1024 .f32)
      (harg31 : arg31.IsWhole) (arg32 : Memref sig .tc .vmem S8x128 .f32) (harg32 : arg32.IsWhole)
      (arg33 : Memref sig .tc .vmem S1x512 .f32) (harg33 : arg33.IsWhole) (arg34 : Memref sig .tc .vmem S1x512 .f32)
      (harg34 : arg34.IsWhole) (arg35 : Memref sig .tc .vmem S1x512 .f32) (harg35 : arg35.IsWhole)
      (arg36 : Memref sig .tc .vmem S1x128 .f32) (harg36 : arg36.IsWhole) (hc0 : cond0_0 i)
    (x0 : Vec F S256x1024 .f32) (x1 : Vec F S256x1024 .f32) (x2 : Vec F S256x2048 .f32) (x3 : Vec F S256x512 .f32)
        (x4 : Vec F S256x512 .f32) (x5 : Vec F S256x512 .f32) (x6 : Vec F S256x512 .f32) (x7 : Vec F S256x512 .f32)
        (x8 : Vec F S256x512 .f32) (x9 : Vec F S256x512 .f32) (x10 : Vec F S1x512 .f32) (x11 : Vec F S1x512 .f32)
        (x12 : Vec F S1x512 .f32) (x13 : Vec F S1x128 .f32) (x14 : Vec F S512x1024 .bf16) (x15 : Vec F S512x1024 .bf16)
        (x16 : Vec F S1024x1024 .bf16) (x17 : Vec F S1x1024 .f32) :
    Σ' (L18 : List (View.Piece (Elt F) S256x512 .f32)), Σ' (L19 : List (View.Piece (Elt F) S256x512 .f32)),
        Σ' (L20 : List (View.Piece (Elt F) S256x512 .f32)), Σ' (L21 : List (View.Piece (Elt F) S256x512 .f32)),
        Σ' (L22 : List (View.Piece (Elt F) S256x512 .bf16)), Σ' (L23 : List (View.Piece (Elt F) S256x512 .f32)),
        Σ' (L24 : List (View.Piece (Elt F) S256x512 .bf16)), Σ' (L25 : List (View.Piece (Elt F) S256x2048 .bf16)),
        Σ' (L26 : List (View.Piece (Elt F) S256x1024 .f32)), Σ' (L27 : List (View.Piece (Elt F) S512x1024 .f32)),
        Σ' (L28 : List (View.Piece (Elt F) S512x1024 .f32)), Σ' (L29 : List (View.Piece (Elt F) S1024x1024 .f32)),
        Σ' (L30 : List (View.Piece (Elt F) S1x1024 .f32)), Σ' (L31 : List (View.Piece (Elt F) S8x128 .f32)),
        Σ' (L32 : List (View.Piece (Elt F) S1x512 .f32)), Σ' (L33 : List (View.Piece (Elt F) S1x512 .f32)),
        Σ' (L34 : List (View.Piece (Elt F) S1x512 .f32)), { L35 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ)
            arg3 fullShare x2 ∗ owns (c : Thread nD τ) arg4 fullShare x3 ∗ owns (c : Thread nD τ) arg5 fullShare x4 ∗
            owns (c : Thread nD τ) arg6 fullShare x5 ∗ owns (c : Thread nD τ) arg7 fullShare x6 ∗ owns (c : Thread nD τ)
            arg8 fullShare x7 ∗ owns (c : Thread nD τ) arg9 fullShare x8 ∗ owns (c : Thread nD τ) arg10 fullShare x9 ∗
            owns (c : Thread nD τ) arg11 fullShare x10 ∗ owns (c : Thread nD τ) arg12 fullShare x11 ∗ owns (c : Thread nD τ)
            arg13 fullShare x12 ∗ owns (c : Thread nD τ) arg14 fullShare x13 ∗ owns (c : Thread nD τ) arg15 fullShare x14 ∗
            owns (c : Thread nD τ) arg16 fullShare x15 ∗ owns (c : Thread nD τ) arg17 fullShare x16 ∗ owns (c : Thread nD τ)
            arg18 fullShare x17 ∗ (∃ d, owns (c : Thread nD τ) arg19 fullShare d) ∗ (∃ d, owns (c : Thread nD τ)
            arg20 fullShare d) ∗ (∃ d, owns (c : Thread nD τ) arg21 fullShare d) ∗ (∃ d, owns (c : Thread nD τ)
            arg22 fullShare d) ∗ (∃ d, owns (c : Thread nD τ) arg23 fullShare d) ∗ (∃ d, owns (c : Thread nD τ)
            arg24 fullShare d) ∗ (∃ d, owns (c : Thread nD τ) arg25 fullShare d) ∗ (∃ d, owns (c : Thread nD τ)
            arg26 fullShare d) ∗ (∃ d, owns (c : Thread nD τ) arg27 fullShare d) ∗ (∃ d, owns (c : Thread nD τ)
            arg28 fullShare d) ∗ (∃ d, owns (c : Thread nD τ) arg29 fullShare d) ∗ (∃ d, owns (c : Thread nD τ)
            arg30 fullShare d) ∗ (∃ d, owns (c : Thread nD τ) arg31 fullShare d) ∗ (∃ d, owns (c : Thread nD τ)
            arg32 fullShare d) ∗ (∃ d, owns (c : Thread nD τ) arg33 fullShare d) ∗ (∃ d, owns (c : Thread nD τ)
            arg34 fullShare d) ∗ (∃ d, owns (c : Thread nD τ) arg35 fullShare d) ∗ (∃ d, owns (c : Thread nD τ)
            arg36 fullShare d)
            ∗ (iprop(owns (c : Thread nD τ) arg1 fullShare x0 ∗ owns (c : Thread nD τ) arg2 fullShare x1 ∗
                owns (c : Thread nD τ) arg3 fullShare x2 ∗ owns (c : Thread nD τ) arg4 fullShare x3 ∗ owns (c : Thread nD τ)
                arg5 fullShare x4 ∗ owns (c : Thread nD τ) arg6 fullShare x5 ∗ owns (c : Thread nD τ) arg7 fullShare x6 ∗
                owns (c : Thread nD τ) arg8 fullShare x7 ∗ owns (c : Thread nD τ) arg9 fullShare x8 ∗ owns (c : Thread nD τ)
                arg10 fullShare x9 ∗ owns (c : Thread nD τ) arg11 fullShare x10 ∗ owns (c : Thread nD τ) arg12 fullShare x11 ∗
                owns (c : Thread nD τ) arg13 fullShare x12 ∗ owns (c : Thread nD τ) arg14 fullShare x13 ∗
                owns (c : Thread nD τ) arg15 fullShare x14 ∗ owns (c : Thread nD τ) arg16 fullShare x15 ∗
                owns (c : Thread nD τ) arg17 fullShare x16 ∗ owns (c : Thread nD τ) arg18 fullShare x17 ∗ (∃ f,
                arg19.view.loc (c : Thread nD τ) ↦[arg19.view.set]{fullShare} arg19.view.writes (Elt F) f L18) ∗ (∃ f,
                arg20.view.loc (c : Thread nD τ) ↦[arg20.view.set]{fullShare} arg20.view.writes (Elt F) f L19) ∗ (∃ f,
                arg21.view.loc (c : Thread nD τ) ↦[arg21.view.set]{fullShare} arg21.view.writes (Elt F) f L20) ∗ (∃ f,
                arg22.view.loc (c : Thread nD τ) ↦[arg22.view.set]{fullShare} arg22.view.writes (Elt F) f L21) ∗ (∃ f,
                arg23.view.loc (c : Thread nD τ) ↦[arg23.view.set]{fullShare} arg23.view.writes (Elt F) f L22) ∗ (∃ f,
                arg24.view.loc (c : Thread nD τ) ↦[arg24.view.set]{fullShare} arg24.view.writes (Elt F) f L23) ∗ (∃ f,
                arg25.view.loc (c : Thread nD τ) ↦[arg25.view.set]{fullShare} arg25.view.writes (Elt F) f L24) ∗ (∃ f,
                arg26.view.loc (c : Thread nD τ) ↦[arg26.view.set]{fullShare} arg26.view.writes (Elt F) f L25) ∗ (∃ f,
                arg27.view.loc (c : Thread nD τ) ↦[arg27.view.set]{fullShare} arg27.view.writes (Elt F) f L26) ∗ (∃ f,
                arg28.view.loc (c : Thread nD τ) ↦[arg28.view.set]{fullShare} arg28.view.writes (Elt F) f L27) ∗ (∃ f,
                arg29.view.loc (c : Thread nD τ) ↦[arg29.view.set]{fullShare} arg29.view.writes (Elt F) f L28) ∗ (∃ f,
                arg30.view.loc (c : Thread nD τ) ↦[arg30.view.set]{fullShare} arg30.view.writes (Elt F) f L29) ∗ (∃ f,
                arg31.view.loc (c : Thread nD τ) ↦[arg31.view.set]{fullShare} arg31.view.writes (Elt F) f L30) ∗ (∃ f,
                arg32.view.loc (c : Thread nD τ) ↦[arg32.view.set]{fullShare} arg32.view.writes (Elt F) f L31) ∗ (∃ f,
                arg33.view.loc (c : Thread nD τ) ↦[arg33.view.set]{fullShare} arg33.view.writes (Elt F) f L32) ∗ (∃ f,
                arg34.view.loc (c : Thread nD τ) ↦[arg34.view.set]{fullShare} arg34.view.writes (Elt F) f L33) ∗ (∃ f,
                arg35.view.loc (c : Thread nD τ) ↦[arg35.view.set]{fullShare} arg35.view.writes (Elt F) f L34) ∗ (∃ f,
                arg36.view.loc (c : Thread nD τ) ↦[arg36.view.set]{fullShare} arg36.view.writes (Elt F) f L35)) -∗ K ⟨⟩))
          ⊢ wp frame (wpE (defs₀ (F := F)) Variants.none c none) E (cc0_tail i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36) K } := by
  refine ⟨?_, ?_, ?_, ?_, ?_, ?_, ?_, ?_, ?_, ?_, ?_, ?_, ?_, ?_, ?_, ?_, ?_, ?_, fun E K => ?run⟩
  case run =>
    simp only [cc0_tail_eq_skeleton]; unfold cc0_tail_skel
    simp only [k0_part23_eq_skeleton, k0_part1_eq_skeleton, k0_part2_eq_skeleton, k0_part3_eq_skeleton, k0_part4_eq_skeleton,
        k0_part5_eq_skeleton, k0_part6_eq_skeleton, k0_part7_eq_skeleton, k0_part8_eq_skeleton, k0_part9_eq_skeleton,
        k0_part10_eq_skeleton, k0_part11_eq_skeleton, k0_part12_eq_skeleton, k0_part13_eq_skeleton, k0_part14_eq_skeleton,
        k0_part15_eq_skeleton, k0_part16_eq_skeleton, k0_part17_eq_skeleton, k0_part18_eq_skeleton, k0_part19_eq_skeleton,
        k0_part20_eq_skeleton, k0_part21_eq_skeleton, k0_part22_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6,
        H6⟩, ⟨%f7, %hf7, H7⟩, ⟨%f8, %hf8, H8⟩, ⟨%f9, %hf9, H9⟩, ⟨%f10, %hf10, H10⟩, ⟨%f11, %hf11, H11⟩, ⟨%f12, %hf12, H12⟩,
        ⟨%f13, %hf13, H13⟩, ⟨%f14, %hf14, H14⟩, ⟨%f15, %hf15, H15⟩, ⟨%f16, %hf16, H16⟩, ⟨%f17, %hf17, H17⟩, ⟨%d18, %f18, -,
        H18⟩, ⟨%d19, %f19, -, H19⟩, ⟨%d20, %f20, -, H20⟩, ⟨%d21, %f21, -, H21⟩, ⟨%d22, %f22, -, H22⟩, ⟨%d23, %f23, -, H23⟩,
        ⟨%d24, %f24, -, H24⟩, ⟨%d25, %f25, -, H25⟩, ⟨%d26, %f26, -, H26⟩, ⟨%d27, %f27, -, H27⟩, ⟨%d28, %f28, -, H28⟩, ⟨%d29,
        %f29, -, H29⟩, ⟨%d30, %f30, -, H30⟩, ⟨%d31, %f31, -, H31⟩, ⟨%d32, %f32, -, H32⟩, ⟨%d33, %f33, -, H33⟩, ⟨%d34, %f34, -,
        H34⟩, ⟨%d35, %f35, -, H35⟩, Hk⟩
    obtain rfl := harg1.eq_unread hf0; obtain rfl := harg2.eq_unread hf1; obtain rfl := harg3.eq_unread hf2; obtain rfl :=
        harg4.eq_unread hf3; obtain rfl := harg5.eq_unread hf4; obtain rfl := harg6.eq_unread hf5; obtain rfl :=
        harg7.eq_unread hf6; obtain rfl := harg8.eq_unread hf7; obtain rfl := harg9.eq_unread hf8; obtain rfl :=
        harg10.eq_unread hf9; obtain rfl := harg11.eq_unread hf10; obtain rfl := harg12.eq_unread hf11; obtain rfl :=
        harg13.eq_unread hf12; obtain rfl := harg14.eq_unread hf13; obtain rfl := harg15.eq_unread hf14; obtain rfl :=
        harg16.eq_unread hf15; obtain rfl := harg17.eq_unread hf16; obtain rfl := harg18.eq_unread hf17
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    isplitl [H30]; · iexists _; iexact H30
    isplitl [H31]; · iexists _; iexact H31
    isplitl [H32]; · iexists _; iexact H32
    isplitl [H33]; · iexists _; iexact H33
    isplitl [H34]; · iexists _; iexact H34
    iexists _; iexact H35

end Cert.KernelIdeal.Gen

end
-- ==== Proof.TailLeft.lean ====
/-
  What the backward tail's body leaves in the outputs: at the point that starts the sums over tokens and at the later ones, the
  stores cover each output's buffer; what the buffers hold after each point.
-/
module

public import proofs.«01_k».proof.Proof.TailRunStart
public import proofs.«01_k».proof.Proof.TailRunAdd
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a point leaves in the eighteen outputs' buffers, in window order. -/
abbrev Outs (F : FTy → Type)
    [FloatOps F] : Type := Vec F S256x512 .f32 × Vec F S256x512 .f32 × Vec F S256x512 .f32 × Vec F S256x512 .f32 × Vec F
    S256x512 .bf16 × Vec F S256x512 .f32 × Vec F S256x512 .bf16 × Vec F S256x2048 .bf16 × Vec F S256x1024 .f32 × Vec F
    S512x1024 .f32 × Vec F S512x1024 .f32 × Vec F S1024x1024 .f32 × Vec F S1x1024 .f32 × Vec F S8x128 .f32 × Vec F S1x512 .f32
    × Vec F S1x512 .f32 × Vec F S1x512 .f32 × Vec F S1x128 .f32

/-- The body's run at the point that starts the sums. -/
abbrev runA (c : Dev nD) (t : Fin cfg0.N) (h0 : t.val % 16 = 0) :=
  kernelRun0_A (F := F) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) (ms0_9 t) (hs0_9 t)
      (ms0_10 t) (hs0_10 t) (ms0_11 t) (hs0_11 t) (ms0_12 t) (hs0_12 t) (ms0_13 t) (hs0_13 t) (ms0_14 t) (hs0_14 t) (ms0_15 t)
      (hs0_15 t) (ms0_16 t) (hs0_16 t) (ms0_17 t) (hs0_17 t) (ms0_18 t) (hs0_18 t) (ms0_19 t) (hs0_19 t) (ms0_20 t) (hs0_20 t)
      (ms0_21 t) (hs0_21 t) (ms0_22 t) (hs0_22 t) (ms0_23 t) (hs0_23 t) (ms0_24 t) (hs0_24 t) (ms0_25 t) (hs0_25 t) (ms0_26 t)
      (hs0_26 t) (ms0_27 t) (hs0_27 t) (ms0_28 t) (hs0_28 t) (ms0_29 t) (hs0_29 t) (ms0_30 t) (hs0_30 t) (ms0_31 t) (hs0_31 t)
      (ms0_32 t) (hs0_32 t) (ms0_33 t) (hs0_33 t) (ms0_34 t) (hs0_34 t) (ms0_35 t) (hs0_35 t) ((hcond0_0 t).mpr h0)
      (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t)
      (iblk m c 15 t) (iblk m c 16 t) (iblk m c 17 t)

/-- The body's run at a later point, over what the point before left. -/
abbrev runB (c : Dev nD) (t : Fin cfg0.N) (h0 : ¬t.val % 16 = 0) (a : Outs F) :=
  kernelRun0_B (F := F) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) (ms0_9 t) (hs0_9 t)
      (ms0_10 t) (hs0_10 t) (ms0_11 t) (hs0_11 t) (ms0_12 t) (hs0_12 t) (ms0_13 t) (hs0_13 t) (ms0_14 t) (hs0_14 t) (ms0_15 t)
      (hs0_15 t) (ms0_16 t) (hs0_16 t) (ms0_17 t) (hs0_17 t) (ms0_18 t) (hs0_18 t) (ms0_19 t) (hs0_19 t) (ms0_20 t) (hs0_20 t)
      (ms0_21 t) (hs0_21 t) (ms0_22 t) (hs0_22 t) (ms0_23 t) (hs0_23 t) (ms0_24 t) (hs0_24 t) (ms0_25 t) (hs0_25 t) (ms0_26 t)
      (hs0_26 t) (ms0_27 t) (hs0_27 t) (ms0_28 t) (hs0_28 t) (ms0_29 t) (hs0_29 t) (ms0_30 t) (hs0_30 t) (ms0_31 t) (hs0_31 t)
      (ms0_32 t) (hs0_32 t) (ms0_33 t) (hs0_33 t) (ms0_34 t) (hs0_34 t) (ms0_35 t) (hs0_35 t) (fun h => h0 ((hcond0_0 t).mp h))
      (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t)
      (iblk m c 15 t) (iblk m c 16 t) (iblk m c 17 t)
      a.2.2.2.2.2.2.2.2.2.1 a.2.2.2.2.2.2.2.2.2.2.1 a.2.2.2.2.2.2.2.2.2.2.2.1 a.2.2.2.2.2.2.2.2.2.2.2.2.1
      a.2.2.2.2.2.2.2.2.2.2.2.2.2.1 a.2.2.2.2.2.2.2.2.2.2.2.2.2.2.1 a.2.2.2.2.2.2.2.2.2.2.2.2.2.2.2.1
      a.2.2.2.2.2.2.2.2.2.2.2.2.2.2.2.2.1 a.2.2.2.2.2.2.2.2.2.2.2.2.2.2.2.2.2

/-- What a list of stores leaves in a buffer they cover, whatever it held. -/
abbrev left {s : Shape} {e : EltTy} (v : View sig .tc .vmem s e) (L : List (View.Piece (Elt F) s e)) : Vec F s e :=
  v.read (Elt F) (v.writes (Elt F) v.junk L)

theorem covA_18 (c : Dev nD) (t : Fin cfg0.N) (h0 : t.val % 16 = 0) (y : S256x512.Idx) : ∃ pc ∈ (runA m c t h0).1, y ∈ pc.1.set :=
  View.cover_of_tiledL (runA m c t h0).1 S256x128.size (by sl_kernel_rfl) y
theorem covA_19 (c : Dev nD) (t : Fin cfg0.N) (h0 : t.val % 16 = 0) (y : S256x512.Idx) : ∃ pc ∈ (runA m c t h0).2.1, y ∈ pc.1.set :=
  View.cover_of_tiledL (runA m c t h0).2.1 S256x128.size (by sl_kernel_rfl) y
theorem covA_20 (c : Dev nD) (t : Fin cfg0.N) (h0 : t.val % 16 = 0) (y : S256x512.Idx) : ∃ pc ∈ (runA m c t h0).2.2.1, y ∈ pc.1.set :=
  View.cover_of_tiledL (runA m c t h0).2.2.1 S256x128.size (by sl_kernel_rfl) y
theorem covA_21 (c : Dev nD) (t : Fin cfg0.N) (h0 : t.val % 16 = 0) (y : S256x512.Idx) : ∃ pc ∈ (runA m c t h0).2.2.2.1, y ∈ pc.1.set :=
  View.cover_of_tiledL (runA m c t h0).2.2.2.1 S256x128.size (by sl_kernel_rfl) y
theorem covA_22 (c : Dev nD) (t : Fin cfg0.N) (h0 : t.val % 16 = 0) (y : S256x512.Idx) : ∃ pc ∈ (runA m c t h0).2.2.2.2.1, y ∈ pc.1.set :=
  View.cover_of_tiledL (runA m c t h0).2.2.2.2.1 S256x128.size (by sl_kernel_rfl) y
theorem covA_23 (c : Dev nD) (t : Fin cfg0.N) (h0 : t.val % 16 = 0) (y : S256x512.Idx) : ∃ pc ∈ (runA m c t h0).2.2.2.2.2.1, y ∈ pc.1.set :=
  View.cover_of_tiledL (runA m c t h0).2.2.2.2.2.1 S256x128.size (by sl_kernel_rfl) y
theorem covA_24 (c : Dev nD) (t : Fin cfg0.N) (h0 : t.val % 16 = 0) (y : S256x512.Idx) : ∃ pc ∈ (runA m c t h0).2.2.2.2.2.2.1, y ∈ pc.1.set :=
  View.cover_of_tiledL (runA m c t h0).2.2.2.2.2.2.1 S256x128.size (by sl_kernel_rfl) y
theorem covA_25 (c : Dev nD) (t : Fin cfg0.N) (h0 : t.val % 16 = 0) (y : S256x2048.Idx) : ∃ pc ∈ (runA m c t h0).2.2.2.2.2.2.2.1, y ∈ pc.1.set :=
  View.cover_of_tiledL (runA m c t h0).2.2.2.2.2.2.2.1 S256x1024.size (by sl_kernel_rfl) y
theorem covA_26 (c : Dev nD) (t : Fin cfg0.N) (h0 : t.val % 16 = 0) (y : S256x1024.Idx) : ∃ pc ∈ (runA m c t h0).2.2.2.2.2.2.2.2.1, y ∈ pc.1.set :=
  View.cover_of_tiledL (runA m c t h0).2.2.2.2.2.2.2.2.1 S256x1024.size (by sl_kernel_rfl) y
theorem covA_27 (c : Dev nD) (t : Fin cfg0.N) (h0 : t.val % 16 = 0) (y : S512x1024.Idx) : ∃ pc ∈ (runA m c t h0).2.2.2.2.2.2.2.2.2.1, y ∈ pc.1.set :=
  View.cover_of_tiledL (runA m c t h0).2.2.2.2.2.2.2.2.2.1 S512x1024.size (by sl_kernel_rfl) y
theorem covA_28 (c : Dev nD) (t : Fin cfg0.N) (h0 : t.val % 16 = 0) (y : S512x1024.Idx)
      : ∃ pc ∈ (runA m c t h0).2.2.2.2.2.2.2.2.2.2.1, y ∈ pc.1.set :=
  View.cover_of_tiledL (runA m c t h0).2.2.2.2.2.2.2.2.2.2.1 S512x1024.size (by sl_kernel_rfl) y
theorem covA_29 (c : Dev nD) (t : Fin cfg0.N) (h0 : t.val % 16 = 0) (y : S1024x1024.Idx)
      : ∃ pc ∈ (runA m c t h0).2.2.2.2.2.2.2.2.2.2.2.1, y ∈ pc.1.set :=
  View.cover_of_tiledL (runA m c t h0).2.2.2.2.2.2.2.2.2.2.2.1 S1024x1024.size (by sl_kernel_rfl) y
theorem covA_30 (c : Dev nD) (t : Fin cfg0.N) (h0 : t.val % 16 = 0) (y : S1x1024.Idx)
      : ∃ pc ∈ (runA m c t h0).2.2.2.2.2.2.2.2.2.2.2.2.1, y ∈ pc.1.set :=
  View.cover_of_tiledL (runA m c t h0).2.2.2.2.2.2.2.2.2.2.2.2.1 S1x1024.size (by sl_kernel_rfl) y
theorem covA_31 (c : Dev nD) (t : Fin cfg0.N) (h0 : t.val % 16 = 0) (y : S8x128.Idx)
      : ∃ pc ∈ (runA m c t h0).2.2.2.2.2.2.2.2.2.2.2.2.2.1, y ∈ pc.1.set :=
  View.cover_of_tiledL (runA m c t h0).2.2.2.2.2.2.2.2.2.2.2.2.2.1 S8x128.size (by sl_kernel_rfl) y
theorem covA_32 (c : Dev nD) (t : Fin cfg0.N) (h0 : t.val % 16 = 0) (y : S1x512.Idx)
      : ∃ pc ∈ (runA m c t h0).2.2.2.2.2.2.2.2.2.2.2.2.2.2.1, y ∈ pc.1.set :=
  View.cover_of_tiledBy (runA m c t h0).2.2.2.2.2.2.2.2.2.2.2.2.2.2.1 ![1, 128] (by sl_kernel_rfl) y
theorem covA_33 (c : Dev nD) (t : Fin cfg0.N) (h0 : t.val % 16 = 0) (y : S1x512.Idx)
      : ∃ pc ∈ (runA m c t h0).2.2.2.2.2.2.2.2.2.2.2.2.2.2.2.1, y ∈ pc.1.set :=
  View.cover_of_tiledBy (runA m c t h0).2.2.2.2.2.2.2.2.2.2.2.2.2.2.2.1 ![1, 128] (by sl_kernel_rfl) y
theorem covA_34 (c : Dev nD) (t : Fin cfg0.N) (h0 : t.val % 16 = 0) (y : S1x512.Idx)
      : ∃ pc ∈ (runA m c t h0).2.2.2.2.2.2.2.2.2.2.2.2.2.2.2.2.1, y ∈ pc.1.set :=
  View.cover_of_tiledBy (runA m c t h0).2.2.2.2.2.2.2.2.2.2.2.2.2.2.2.2.1 ![1, 128] (by sl_kernel_rfl) y
theorem covA_35 (c : Dev nD) (t : Fin cfg0.N) (h0 : t.val % 16 = 0) (y : S1x128.Idx)
      : ∃ pc ∈ (runA m c t h0).2.2.2.2.2.2.2.2.2.2.2.2.2.2.2.2.2.1, y ∈ pc.1.set :=
  View.cover_of_tiledL (runA m c t h0).2.2.2.2.2.2.2.2.2.2.2.2.2.2.2.2.2.1 S1x128.size (by sl_kernel_rfl) y

/-- What the outputs hold after the first point. -/
def outsA (c : Dev nD) (t : Fin cfg0.N) (h0 : t.val % 16 = 0) : Outs F :=
  (left VO0_18 (runA m c t h0).1,
    left VO0_19 (runA m c t h0).2.1,
    left VO0_20 (runA m c t h0).2.2.1,
    left VO0_21 (runA m c t h0).2.2.2.1,
    left VO0_22 (runA m c t h0).2.2.2.2.1,
    left VO0_23 (runA m c t h0).2.2.2.2.2.1,
    left VO0_24 (runA m c t h0).2.2.2.2.2.2.1,
    left VO0_25 (runA m c t h0).2.2.2.2.2.2.2.1,
    left VO0_26 (runA m c t h0).2.2.2.2.2.2.2.2.1,
    left VO0_27 (runA m c t h0).2.2.2.2.2.2.2.2.2.1,
    left VO0_28 (runA m c t h0).2.2.2.2.2.2.2.2.2.2.1,
    left VO0_29 (runA m c t h0).2.2.2.2.2.2.2.2.2.2.2.1,
    left VO0_30 (runA m c t h0).2.2.2.2.2.2.2.2.2.2.2.2.1,
    left VO0_31 (runA m c t h0).2.2.2.2.2.2.2.2.2.2.2.2.2.1,
    left VO0_32 (runA m c t h0).2.2.2.2.2.2.2.2.2.2.2.2.2.2.1,
    left VO0_33 (runA m c t h0).2.2.2.2.2.2.2.2.2.2.2.2.2.2.2.1,
    left VO0_34 (runA m c t h0).2.2.2.2.2.2.2.2.2.2.2.2.2.2.2.2.1,
    left VO0_35 (runA m c t h0).2.2.2.2.2.2.2.2.2.2.2.2.2.2.2.2.2.1)

theorem covB_18 (c : Dev nD) (t : Fin cfg0.N) (h0 : ¬t.val % 16 = 0) (a : Outs F) (y : S256x512.Idx) : ∃ pc ∈ (runB m c t h0 a).1, y ∈ pc.1.set :=
  View.cover_of_tiledL (runB m c t h0 a).1 S256x128.size (by sl_kernel_rfl) y
theorem covB_19 (c : Dev nD) (t : Fin cfg0.N) (h0 : ¬t.val % 16 = 0) (a : Outs F) (y : S256x512.Idx) : ∃ pc ∈ (runB m c t h0 a).2.1, y ∈ pc.1.set :=
  View.cover_of_tiledL (runB m c t h0 a).2.1 S256x128.size (by sl_kernel_rfl) y
theorem covB_20 (c : Dev nD) (t : Fin cfg0.N) (h0 : ¬t.val % 16 = 0) (a : Outs F) (y : S256x512.Idx) : ∃ pc ∈ (runB m c t h0 a).2.2.1, y ∈ pc.1.set :=
  View.cover_of_tiledL (runB m c t h0 a).2.2.1 S256x128.size (by sl_kernel_rfl) y
theorem covB_21 (c : Dev nD) (t : Fin cfg0.N) (h0 : ¬t.val % 16 = 0) (a : Outs F) (y : S256x512.Idx)
      : ∃ pc ∈ (runB m c t h0 a).2.2.2.1, y ∈ pc.1.set :=
  View.cover_of_tiledL (runB m c t h0 a).2.2.2.1 S256x128.size (by sl_kernel_rfl) y
theorem covB_22 (c : Dev nD) (t : Fin cfg0.N) (h0 : ¬t.val % 16 = 0) (a : Outs F) (y : S256x512.Idx)
      : ∃ pc ∈ (runB m c t h0 a).2.2.2.2.1, y ∈ pc.1.set :=
  View.cover_of_tiledL (runB m c t h0 a).2.2.2.2.1 S256x128.size (by sl_kernel_rfl) y
theorem covB_23 (c : Dev nD) (t : Fin cfg0.N) (h0 : ¬t.val % 16 = 0) (a : Outs F) (y : S256x512.Idx)
      : ∃ pc ∈ (runB m c t h0 a).2.2.2.2.2.1, y ∈ pc.1.set :=
  View.cover_of_tiledL (runB m c t h0 a).2.2.2.2.2.1 S256x128.size (by sl_kernel_rfl) y
theorem covB_24 (c : Dev nD) (t : Fin cfg0.N) (h0 : ¬t.val % 16 = 0) (a : Outs F) (y : S256x512.Idx)
      : ∃ pc ∈ (runB m c t h0 a).2.2.2.2.2.2.1, y ∈ pc.1.set :=
  View.cover_of_tiledL (runB m c t h0 a).2.2.2.2.2.2.1 S256x128.size (by sl_kernel_rfl) y
theorem covB_25 (c : Dev nD) (t : Fin cfg0.N) (h0 : ¬t.val % 16 = 0) (a : Outs F) (y : S256x2048.Idx)
      : ∃ pc ∈ (runB m c t h0 a).2.2.2.2.2.2.2.1, y ∈ pc.1.set :=
  View.cover_of_tiledL (runB m c t h0 a).2.2.2.2.2.2.2.1 S256x1024.size (by sl_kernel_rfl) y
theorem covB_26 (c : Dev nD) (t : Fin cfg0.N) (h0 : ¬t.val % 16 = 0) (a : Outs F) (y : S256x1024.Idx)
      : ∃ pc ∈ (runB m c t h0 a).2.2.2.2.2.2.2.2.1, y ∈ pc.1.set :=
  View.cover_of_tiledL (runB m c t h0 a).2.2.2.2.2.2.2.2.1 S256x1024.size (by sl_kernel_rfl) y
theorem covB_27 (c : Dev nD) (t : Fin cfg0.N) (h0 : ¬t.val % 16 = 0) (a : Outs F) (y : S512x1024.Idx)
      : ∃ pc ∈ (runB m c t h0 a).2.2.2.2.2.2.2.2.2.1, y ∈ pc.1.set :=
  View.cover_of_tiledL (runB m c t h0 a).2.2.2.2.2.2.2.2.2.1 S512x1024.size (by sl_kernel_rfl) y
theorem covB_28 (c : Dev nD) (t : Fin cfg0.N) (h0 : ¬t.val % 16 = 0) (a : Outs F) (y : S512x1024.Idx)
      : ∃ pc ∈ (runB m c t h0 a).2.2.2.2.2.2.2.2.2.2.1, y ∈ pc.1.set :=
  View.cover_of_tiledL (runB m c t h0 a).2.2.2.2.2.2.2.2.2.2.1 S512x1024.size (by sl_kernel_rfl) y
theorem covB_29 (c : Dev nD) (t : Fin cfg0.N) (h0 : ¬t.val % 16 = 0) (a : Outs F) (y : S1024x1024.Idx)
      : ∃ pc ∈ (runB m c t h0 a).2.2.2.2.2.2.2.2.2.2.2.1, y ∈ pc.1.set :=
  View.cover_of_tiledL (runB m c t h0 a).2.2.2.2.2.2.2.2.2.2.2.1 S1024x1024.size (by sl_kernel_rfl) y
theorem covB_30 (c : Dev nD) (t : Fin cfg0.N) (h0 : ¬t.val % 16 = 0) (a : Outs F) (y : S1x1024.Idx)
      : ∃ pc ∈ (runB m c t h0 a).2.2.2.2.2.2.2.2.2.2.2.2.1, y ∈ pc.1.set :=
  View.cover_of_tiledL (runB m c t h0 a).2.2.2.2.2.2.2.2.2.2.2.2.1 S1x1024.size (by sl_kernel_rfl) y
theorem covB_31 (c : Dev nD) (t : Fin cfg0.N) (h0 : ¬t.val % 16 = 0) (a : Outs F) (y : S8x128.Idx)
      : ∃ pc ∈ (runB m c t h0 a).2.2.2.2.2.2.2.2.2.2.2.2.2.1, y ∈ pc.1.set :=
  View.cover_of_tiledL (runB m c t h0 a).2.2.2.2.2.2.2.2.2.2.2.2.2.1 S8x128.size (by sl_kernel_rfl) y
theorem covB_32 (c : Dev nD) (t : Fin cfg0.N) (h0 : ¬t.val % 16 = 0) (a : Outs F) (y : S1x512.Idx)
      : ∃ pc ∈ (runB m c t h0 a).2.2.2.2.2.2.2.2.2.2.2.2.2.2.1, y ∈ pc.1.set :=
  View.cover_of_tiledL (runB m c t h0 a).2.2.2.2.2.2.2.2.2.2.2.2.2.2.1 S1x128.size (by sl_kernel_rfl) y
theorem covB_33 (c : Dev nD) (t : Fin cfg0.N) (h0 : ¬t.val % 16 = 0) (a : Outs F) (y : S1x512.Idx)
      : ∃ pc ∈ (runB m c t h0 a).2.2.2.2.2.2.2.2.2.2.2.2.2.2.2.1, y ∈ pc.1.set :=
  View.cover_of_tiledL (runB m c t h0 a).2.2.2.2.2.2.2.2.2.2.2.2.2.2.2.1 S1x128.size (by sl_kernel_rfl) y
theorem covB_34 (c : Dev nD) (t : Fin cfg0.N) (h0 : ¬t.val % 16 = 0) (a : Outs F) (y : S1x512.Idx)
      : ∃ pc ∈ (runB m c t h0 a).2.2.2.2.2.2.2.2.2.2.2.2.2.2.2.2.1, y ∈ pc.1.set :=
  View.cover_of_tiledL (runB m c t h0 a).2.2.2.2.2.2.2.2.2.2.2.2.2.2.2.2.1 S1x128.size (by sl_kernel_rfl) y
theorem covB_35 (c : Dev nD) (t : Fin cfg0.N) (h0 : ¬t.val % 16 = 0) (a : Outs F) (y : S1x128.Idx)
      : ∃ pc ∈ (runB m c t h0 a).2.2.2.2.2.2.2.2.2.2.2.2.2.2.2.2.2.1, y ∈ pc.1.set :=
  View.cover_of_tiledL (runB m c t h0 a).2.2.2.2.2.2.2.2.2.2.2.2.2.2.2.2.2.1 S1x128.size (by sl_kernel_rfl) y

/-- What the outputs hold after a later point. -/
def outsB (c : Dev nD) (t : Fin cfg0.N) (h0 : ¬t.val % 16 = 0) (a : Outs F) : Outs F :=
  (left VO0_18 (runB m c t h0 a).1,
    left VO0_19 (runB m c t h0 a).2.1,
    left VO0_20 (runB m c t h0 a).2.2.1,
    left VO0_21 (runB m c t h0 a).2.2.2.1,
    left VO0_22 (runB m c t h0 a).2.2.2.2.1,
    left VO0_23 (runB m c t h0 a).2.2.2.2.2.1,
    left VO0_24 (runB m c t h0 a).2.2.2.2.2.2.1,
    left VO0_25 (runB m c t h0 a).2.2.2.2.2.2.2.1,
    left VO0_26 (runB m c t h0 a).2.2.2.2.2.2.2.2.1,
    left VO0_27 (runB m c t h0 a).2.2.2.2.2.2.2.2.2.1,
    left VO0_28 (runB m c t h0 a).2.2.2.2.2.2.2.2.2.2.1,
    left VO0_29 (runB m c t h0 a).2.2.2.2.2.2.2.2.2.2.2.1,
    left VO0_30 (runB m c t h0 a).2.2.2.2.2.2.2.2.2.2.2.2.1,
    left VO0_31 (runB m c t h0 a).2.2.2.2.2.2.2.2.2.2.2.2.2.1,
    left VO0_32 (runB m c t h0 a).2.2.2.2.2.2.2.2.2.2.2.2.2.2.1,
    left VO0_33 (runB m c t h0 a).2.2.2.2.2.2.2.2.2.2.2.2.2.2.2.1,
    left VO0_34 (runB m c t h0 a).2.2.2.2.2.2.2.2.2.2.2.2.2.2.2.2.1,
    left VO0_35 (runB m c t h0 a).2.2.2.2.2.2.2.2.2.2.2.2.2.2.2.2.2.1)

/-- What the outputs' buffers hold after point `n`. -/
def outsAt (c : Dev nD) : (n : ℕ) → n < cfg0.N → Outs F
  | 0, hn => outsA m c ⟨0, hn⟩ (Nat.zero_mod _)
  | n + 1, hn =>
    if h0 : (n + 1) % 16 = 0 then outsA m c ⟨n + 1, hn⟩ h0
    else outsB m c ⟨n + 1, hn⟩ h0 (outsAt c n (Nat.lt_of_succ_lt hn))

theorem outsAt_A (c : Dev nD) (t : Fin cfg0.N) (h0 : t.val % 16 = 0) : outsAt m c t.val t.isLt = outsA m c t h0 := by
  obtain ⟨n, hn⟩ := t
  cases n with
  | zero => exact rfl
  | succ n => exact (dif_pos h0).trans rfl

/-- What the point before `t` left. -/
abbrev before (c : Dev nD) (t : Fin cfg0.N) : Outs F := outsAt m c (t.val - 1) (Nat.lt_of_le_of_lt (Nat.sub_le _ _) t.isLt)

theorem outsAt_B (c : Dev nD) (t : Fin cfg0.N) (h0 : ¬t.val % 16 = 0) :
    outsAt m c t.val t.isLt = outsB m c t h0 (before m c t) := by
  obtain ⟨n, hn⟩ := t
  cases n with
  | zero => exact absurd (Nat.zero_mod _) h0
  | succ n => exact (dif_neg h0).trans rfl

end Cert.KernelIdeal.Gen

end
-- ==== Proof.TailBody.lean ====
/-
  The body of the backward tail: sixteen points of 256 tokens each, the first of which starts the sums over tokens and the
  others add to them. The pipeline's data, and the body's triple at a point.
-/
module

public import proofs.«01_k».proof.Proof.TailLeft

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline's proof data: the arrays as the region finds them, each input's buffer at its block, the outputs' as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => (outsAt m c t.val t.isLt).1
    | ⟨19, _⟩ => (outsAt m c t.val t.isLt).2.1
    | ⟨20, _⟩ => (outsAt m c t.val t.isLt).2.2.1
    | ⟨21, _⟩ => (outsAt m c t.val t.isLt).2.2.2.1
    | ⟨22, _⟩ => (outsAt m c t.val t.isLt).2.2.2.2.1
    | ⟨23, _⟩ => (outsAt m c t.val t.isLt).2.2.2.2.2.1
    | ⟨24, _⟩ => (outsAt m c t.val t.isLt).2.2.2.2.2.2.1
    | ⟨25, _⟩ => (outsAt m c t.val t.isLt).2.2.2.2.2.2.2.1
    | ⟨26, _⟩ => (outsAt m c t.val t.isLt).2.2.2.2.2.2.2.2.1
    | ⟨27, _⟩ => (outsAt m c t.val t.isLt).2.2.2.2.2.2.2.2.2.1
    | ⟨28, _⟩ => (outsAt m c t.val t.isLt).2.2.2.2.2.2.2.2.2.2.1
    | ⟨29, _⟩ => (outsAt m c t.val t.isLt).2.2.2.2.2.2.2.2.2.2.2.1
    | ⟨30, _⟩ => (outsAt m c t.val t.isLt).2.2.2.2.2.2.2.2.2.2.2.2.1
    | ⟨31, _⟩ => (outsAt m c t.val t.isLt).2.2.2.2.2.2.2.2.2.2.2.2.2.1
    | ⟨32, _⟩ => (outsAt m c t.val t.isLt).2.2.2.2.2.2.2.2.2.2.2.2.2.2.1
    | ⟨33, _⟩ => (outsAt m c t.val t.isLt).2.2.2.2.2.2.2.2.2.2.2.2.2.2.2.1
    | ⟨34, _⟩ => (outsAt m c t.val t.isLt).2.2.2.2.2.2.2.2.2.2.2.2.2.2.2.2.1
    | ⟨35, _⟩ => (outsAt m c t.val t.isLt).2.2.2.2.2.2.2.2.2.2.2.2.2.2.2.2.2
    | ⟨_ + 36, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = (outsAt m c t.val t.isLt).1 := by dsimp only [dats]
theorem after0_19 (c : Dev nD) (t : Fin cfg0.N) : (dats m 0 c).after 19 t = (outsAt m c t.val t.isLt).2.1 := by dsimp only [dats]
theorem after0_20 (c : Dev nD) (t : Fin cfg0.N) : (dats m 0 c).after 20 t = (outsAt m c t.val t.isLt).2.2.1 := by dsimp only [dats]
theorem after0_21 (c : Dev nD) (t : Fin cfg0.N) : (dats m 0 c).after 21 t = (outsAt m c t.val t.isLt).2.2.2.1 := by dsimp only [dats]
theorem after0_22 (c : Dev nD) (t : Fin cfg0.N) : (dats m 0 c).after 22 t = (outsAt m c t.val t.isLt).2.2.2.2.1 := by dsimp only [dats]
theorem after0_23 (c : Dev nD) (t : Fin cfg0.N) : (dats m 0 c).after 23 t = (outsAt m c t.val t.isLt).2.2.2.2.2.1 := by dsimp only [dats]
theorem after0_24 (c : Dev nD) (t : Fin cfg0.N) : (dats m 0 c).after 24 t = (outsAt m c t.val t.isLt).2.2.2.2.2.2.1 := by dsimp only [dats]
theorem after0_25 (c : Dev nD) (t : Fin cfg0.N) : (dats m 0 c).after 25 t = (outsAt m c t.val t.isLt).2.2.2.2.2.2.2.1 := by dsimp only [dats]
theorem after0_26 (c : Dev nD) (t : Fin cfg0.N) : (dats m 0 c).after 26 t = (outsAt m c t.val t.isLt).2.2.2.2.2.2.2.2.1 := by dsimp only [dats]
theorem after0_27 (c : Dev nD) (t : Fin cfg0.N) : (dats m 0 c).after 27 t = (outsAt m c t.val t.isLt).2.2.2.2.2.2.2.2.2.1 := by dsimp only [dats]
theorem after0_28 (c : Dev nD) (t : Fin cfg0.N) : (dats m 0 c).after 28 t = (outsAt m c t.val t.isLt).2.2.2.2.2.2.2.2.2.2.1 := by dsimp only [dats]
theorem after0_29 (c : Dev nD) (t : Fin cfg0.N) : (dats m 0 c).after 29 t = (outsAt m c t.val t.isLt).2.2.2.2.2.2.2.2.2.2.2.1 := by dsimp only [dats]
theorem after0_30 (c : Dev nD) (t : Fin cfg0.N) : (dats m 0 c).after 30 t = (outsAt m c t.val t.isLt).2.2.2.2.2.2.2.2.2.2.2.2.1 := by dsimp only [dats]
theorem after0_31 (c : Dev nD) (t : Fin cfg0.N) : (dats m 0 c).after 31 t = (outsAt m c t.val t.isLt).2.2.2.2.2.2.2.2.2.2.2.2.2.1 := by dsimp only [dats]
theorem after0_32 (c : Dev nD) (t : Fin cfg0.N) : (dats m 0 c).after 32 t = (outsAt m c t.val t.isLt).2.2.2.2.2.2.2.2.2.2.2.2.2.2.1 := by dsimp only [dats]
theorem after0_33 (c : Dev nD) (t : Fin cfg0.N) : (dats m 0 c).after 33 t = (outsAt m c t.val t.isLt).2.2.2.2.2.2.2.2.2.2.2.2.2.2.2.1 := by dsimp only [dats]
theorem after0_34 (c : Dev nD) (t : Fin cfg0.N) : (dats m 0 c).after 34 t = (outsAt m c t.val t.isLt).2.2.2.2.2.2.2.2.2.2.2.2.2.2.2.2.1 := by dsimp only [dats]
theorem after0_35 (c : Dev nD) (t : Fin cfg0.N) : (dats m 0 c).after 35 t = (outsAt m c t.val t.isLt).2.2.2.2.2.2.2.2.2.2.2.2.2.2.2.2.2 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d

/-! A sum over tokens is not written back before the last point, so its buffer holds what the point before left. -/

theorem before0_27 (c : Dev nD) (t : Fin cfg0.N) (h0 : ¬t.val % 16 = 0) (d) : (dats m 0 c).before 27 t d = (before m c t).2.2.2.2.2.2.2.2.2.1 := by
  have hN : t.val < 16 := lt_of_lt_of_eq t.isLt (show cfg0.N = 16 from N_0)
  rw [Dat.before_out_kept _ 27 rfl t (by omega) (Bool.eq_false_iff.mpr fun h => by have := (flush0_27 _).mp h; dsimp only at this; omega)
    (fun _ => rfl) (fun _ _ => rfl)]
  dsimp only [dats]
theorem before0_28 (c : Dev nD) (t : Fin cfg0.N) (h0 : ¬t.val % 16 = 0) (d) : (dats m 0 c).before 28 t d = (before m c t).2.2.2.2.2.2.2.2.2.2.1 := by
  have hN : t.val < 16 := lt_of_lt_of_eq t.isLt (show cfg0.N = 16 from N_0)
  rw [Dat.before_out_kept _ 28 rfl t (by omega) (Bool.eq_false_iff.mpr fun h => by have := (flush0_28 _).mp h; dsimp only at this; omega)
    (fun _ => rfl) (fun _ _ => rfl)]
  dsimp only [dats]
theorem before0_29 (c : Dev nD) (t : Fin cfg0.N) (h0 : ¬t.val % 16 = 0) (d) : (dats m 0 c).before 29 t d = (before m c t).2.2.2.2.2.2.2.2.2.2.2.1 := by
  have hN : t.val < 16 := lt_of_lt_of_eq t.isLt (show cfg0.N = 16 from N_0)
  rw [Dat.before_out_kept _ 29 rfl t (by omega) (Bool.eq_false_iff.mpr fun h => by have := (flush0_29 _).mp h; dsimp only at this; omega)
    (fun _ => rfl) (fun _ _ => rfl)]
  dsimp only [dats]
theorem before0_30 (c : Dev nD) (t : Fin cfg0.N) (h0 : ¬t.val % 16 = 0) (d) : (dats m 0 c).before 30 t d = (before m c t).2.2.2.2.2.2.2.2.2.2.2.2.1 := by
  have hN : t.val < 16 := lt_of_lt_of_eq t.isLt (show cfg0.N = 16 from N_0)
  rw [Dat.before_out_kept _ 30 rfl t (by omega) (Bool.eq_false_iff.mpr fun h => by have := (flush0_30 _).mp h; dsimp only at this; omega)
    (fun _ => rfl) (fun _ _ => rfl)]
  dsimp only [dats]
theorem before0_31 (c : Dev nD) (t : Fin cfg0.N) (h0 : ¬t.val % 16 = 0) (d) : (dats m 0 c).before 31 t d = (before m c t).2.2.2.2.2.2.2.2.2.2.2.2.2.1 := by
  have hN : t.val < 16 := lt_of_lt_of_eq t.isLt (show cfg0.N = 16 from N_0)
  rw [Dat.before_out_kept _ 31 rfl t (by omega) (Bool.eq_false_iff.mpr fun h => by have := (flush0_31 _).mp h; dsimp only at this; omega)
    (fun _ => rfl) (fun _ _ => rfl)]
  dsimp only [dats]
theorem before0_32 (c : Dev nD) (t : Fin cfg0.N) (h0 : ¬t.val % 16 = 0) (d) : (dats m 0 c).before 32 t d = (before m c t).2.2.2.2.2.2.2.2.2.2.2.2.2.2.1 := by
  have hN : t.val < 16 := lt_of_lt_of_eq t.isLt (show cfg0.N = 16 from N_0)
  rw [Dat.before_out_kept _ 32 rfl t (by omega) (Bool.eq_false_iff.mpr fun h => by have := (flush0_32 _).mp h; dsimp only at this; omega)
    (fun _ => rfl) (fun _ _ => rfl)]
  dsimp only [dats]
theorem before0_33 (c : Dev nD) (t : Fin cfg0.N) (h0 : ¬t.val % 16 = 0) (d) : (dats m 0 c).before 33 t d = (before m c t).2.2.2.2.2.2.2.2.2.2.2.2.2.2.2.1 := by
  have hN : t.val < 16 := lt_of_lt_of_eq t.isLt (show cfg0.N = 16 from N_0)
  rw [Dat.before_out_kept _ 33 rfl t (by omega) (Bool.eq_false_iff.mpr fun h => by have := (flush0_33 _).mp h; dsimp only at this; omega)
    (fun _ => rfl) (fun _ _ => rfl)]
  dsimp only [dats]
theorem before0_34 (c : Dev nD) (t : Fin cfg0.N) (h0 : ¬t.val % 16 = 0) (d) : (dats m 0 c).before 34 t d = (before m c t).2.2.2.2.2.2.2.2.2.2.2.2.2.2.2.2.1 := by
  have hN : t.val < 16 := lt_of_lt_of_eq t.isLt (show cfg0.N = 16 from N_0)
  rw [Dat.before_out_kept _ 34 rfl t (by omega) (Bool.eq_false_iff.mpr fun h => by have := (flush0_34 _).mp h; dsimp only at this; omega)
    (fun _ => rfl) (fun _ _ => rfl)]
  dsimp only [dats]
theorem before0_35 (c : Dev nD) (t : Fin cfg0.N) (h0 : ¬t.val % 16 = 0) (d) : (dats m 0 c).before 35 t d = (before m c t).2.2.2.2.2.2.2.2.2.2.2.2.2.2.2.2.2 := by
  have hN : t.val < 16 := lt_of_lt_of_eq t.isLt (show cfg0.N = 16 from N_0)
  rw [Dat.before_out_kept _ 35 rfl t (by omega) (Bool.eq_false_iff.mpr fun h => by have := (flush0_35 _).mp h; dsimp only at this; omega)
    (fun _ => rfl) (fun _ _ => rfl)]
  dsimp only [dats]

/-- What the body takes at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d))
    ∗ (∃ d, owns (c : Thread nD τ) (ms0_30 t) fullShare ((dats m 0 c).before 30 t d))
    ∗ (∃ d, owns (c : Thread nD τ) (ms0_31 t) fullShare ((dats m 0 c).before 31 t d))
    ∗ (∃ d, owns (c : Thread nD τ) (ms0_32 t) fullShare ((dats m 0 c).before 32 t d))
    ∗ (∃ d, owns (c : Thread nD τ) (ms0_33 t) fullShare ((dats m 0 c).before 33 t d))
    ∗ (∃ d, owns (c : Thread nD τ) (ms0_34 t) fullShare ((dats m 0 c).before 34 t d))
    ∗ (∃ d, owns (c : Thread nD τ) (ms0_35 t) fullShare ((dats m 0 c).before 35 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t)
    ∗ owns (c : Thread nD τ) (ms0_30 t) fullShare ((dats m 0 c).after 30 t)
    ∗ owns (c : Thread nD τ) (ms0_31 t) fullShare ((dats m 0 c).after 31 t)
    ∗ owns (c : Thread nD τ) (ms0_32 t) fullShare ((dats m 0 c).after 32 t)
    ∗ owns (c : Thread nD τ) (ms0_33 t) fullShare ((dats m 0 c).after 33 t)
    ∗ owns (c : Thread nD τ) (ms0_34 t) fullShare ((dats m 0 c).after 34 t)
    ∗ owns (c : Thread nD τ) (ms0_35 t) fullShare ((dats m 0 c).after 35 t))

set_option maxHeartbeats 7200000 in
/-- The body at any point: the run of the point's case, each output's stores read back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9,
      before0_10, before0_11, before0_12, before0_13, before0_14, before0_15, before0_16, before0_17]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11,
        after0_12, after0_13, after0_14, after0_15, after0_16, after0_17, after0_18, after0_19, after0_20, after0_21,
        after0_22, after0_23, after0_24, after0_25, after0_26, after0_27, after0_28, after0_29, after0_30, after0_31,
        after0_32, after0_33, after0_34, after0_35]
  by_cases h0 : t.val % 16 = 0
  · rw [outsAt_A m c t h0]
    unfold outsA; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9,
        H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18,
        H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27,
        H27⟩, ⟨%d28, H28⟩, ⟨%d29, H29⟩, ⟨%d30, H30⟩, ⟨%d31, H31⟩, ⟨%d32, H32⟩, ⟨%d33, H33⟩, ⟨%d34, H34⟩, ⟨%d35, H35⟩⟩
    iapply ((runA m c t h0).2.2.2.2.2.2.2.2.2.2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    isplitl [H30]; · iexists _; iexact H30
    isplitl [H31]; · iexists _; iexact H31
    isplitl [H32]; · iexists _; iexact H32
    isplitl [H33]; · iexists _; iexact H33
    isplitl [H34]; · iexists _; iexact H34
    isplitl [H35]; · iexists _; iexact H35
    iintro ⟨H0, H1, H2, H3, H4, H5, H6, H7, H8, H9, H10, H11, H12, H13, H14, H15, H16, H17, ⟨%e18, H18⟩, ⟨%e19, H19⟩, ⟨%e20,
        H20⟩, ⟨%e21, H21⟩, ⟨%e22, H22⟩, ⟨%e23, H23⟩, ⟨%e24, H24⟩, ⟨%e25, H25⟩, ⟨%e26, H26⟩, ⟨%e27, H27⟩, ⟨%e28, H28⟩, ⟨%e29,
        H29⟩, ⟨%e30, H30⟩, ⟨%e31, H31⟩, ⟨%e32, H32⟩, ⟨%e33, H33⟩, ⟨%e34, H34⟩, ⟨%e35, H35⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]
    · unfold owns; iexists _; isplitr
      swap; · iexact H18
      ipureintro; exact View.read_writes_of_cover _ _ _ _ _ (covA_18 m c t h0)
    isplitl [H19]
    · unfold owns; iexists _; isplitr
      swap; · iexact H19
      ipureintro; exact View.read_writes_of_cover _ _ _ _ _ (covA_19 m c t h0)
    isplitl [H20]
    · unfold owns; iexists _; isplitr
      swap; · iexact H20
      ipureintro; exact View.read_writes_of_cover _ _ _ _ _ (covA_20 m c t h0)
    isplitl [H21]
    · unfold owns; iexists _; isplitr
      swap; · iexact H21
      ipureintro; exact View.read_writes_of_cover _ _ _ _ _ (covA_21 m c t h0)
    isplitl [H22]
    · unfold owns; iexists _; isplitr
      swap; · iexact H22
      ipureintro; exact View.read_writes_of_cover _ _ _ _ _ (covA_22 m c t h0)
    isplitl [H23]
    · unfold owns; iexists _; isplitr
      swap; · iexact H23
      ipureintro; exact View.read_writes_of_cover _ _ _ _ _ (covA_23 m c t h0)
    isplitl [H24]
    · unfold owns; iexists _; isplitr
      swap; · iexact H24
      ipureintro; exact View.read_writes_of_cover _ _ _ _ _ (covA_24 m c t h0)
    isplitl [H25]
    · unfold owns; iexists _; isplitr
      swap; · iexact H25
      ipureintro; exact View.read_writes_of_cover _ _ _ _ _ (covA_25 m c t h0)
    isplitl [H26]
    · unfold owns; iexists _; isplitr
      swap; · iexact H26
      ipureintro; exact View.read_writes_of_cover _ _ _ _ _ (covA_26 m c t h0)
    isplitl [H27]
    · unfold owns; iexists _; isplitr
      swap; · iexact H27
      ipureintro; exact View.read_writes_of_cover _ _ _ _ _ (covA_27 m c t h0)
    isplitl [H28]
    · unfold owns; iexists _; isplitr
      swap; · iexact H28
      ipureintro; exact View.read_writes_of_cover _ _ _ _ _ (covA_28 m c t h0)
    isplitl [H29]
    · unfold owns; iexists _; isplitr
      swap; · iexact H29
      ipureintro; exact View.read_writes_of_cover _ _ _ _ _ (covA_29 m c t h0)
    isplitl [H30]
    · unfold owns; iexists _; isplitr
      swap; · iexact H30
      ipureintro; exact View.read_writes_of_cover _ _ _ _ _ (covA_30 m c t h0)
    isplitl [H31]
    · unfold owns; iexists _; isplitr
      swap; · iexact H31
      ipureintro; exact View.read_writes_of_cover _ _ _ _ _ (covA_31 m c t h0)
    isplitl [H32]
    · unfold owns; iexists _; isplitr
      swap; · iexact H32
      ipureintro; exact View.read_writes_of_cover _ _ _ _ _ (covA_32 m c t h0)
    isplitl [H33]
    · unfold owns; iexists _; isplitr
      swap; · iexact H33
      ipureintro; exact View.read_writes_of_cover _ _ _ _ _ (covA_33 m c t h0)
    isplitl [H34]
    · unfold owns; iexists _; isplitr
      swap; · iexact H34
      ipureintro; exact View.read_writes_of_cover _ _ _ _ _ (covA_34 m c t h0)
    unfold owns; iexists _; isplitr
    swap; · iexact H35
    ipureintro; exact View.read_writes_of_cover _ _ _ _ _ (covA_35 m c t h0)
  · rw [outsAt_B m c t h0]
    simp only [before0_27 m c t h0, before0_28 m c t h0, before0_29 m c t h0, before0_30 m c t h0, before0_31 m c t h0,
        before0_32 m c t h0, before0_33 m c t h0, before0_34 m c t h0, before0_35 m c t h0]
    unfold outsB; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9,
        H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18,
        H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27,
        H27⟩, ⟨%d28, H28⟩, ⟨%d29, H29⟩, ⟨%d30, H30⟩, ⟨%d31, H31⟩, ⟨%d32, H32⟩, ⟨%d33, H33⟩, ⟨%d34, H34⟩, ⟨%d35, H35⟩⟩
    iapply ((runB m c t h0 (before m c t)).2.2.2.2.2.2.2.2.2.2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexact H27
    isplitl [H28]; · iexact H28
    isplitl [H29]; · iexact H29
    isplitl [H30]; · iexact H30
    isplitl [H31]; · iexact H31
    isplitl [H32]; · iexact H32
    isplitl [H33]; · iexact H33
    isplitl [H34]; · iexact H34
    isplitl [H35]; · iexact H35
    iintro ⟨H0, H1, H2, H3, H4, H5, H6, H7, H8, H9, H10, H11, H12, H13, H14, H15, H16, H17, ⟨%e18, H18⟩, ⟨%e19, H19⟩, ⟨%e20,
        H20⟩, ⟨%e21, H21⟩, ⟨%e22, H22⟩, ⟨%e23, H23⟩, ⟨%e24, H24⟩, ⟨%e25, H25⟩, ⟨%e26, H26⟩, ⟨%e27, H27⟩, ⟨%e28, H28⟩, ⟨%e29,
        H29⟩, ⟨%e30, H30⟩, ⟨%e31, H31⟩, ⟨%e32, H32⟩, ⟨%e33, H33⟩, ⟨%e34, H34⟩, ⟨%e35, H35⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]
    · unfold owns; iexists _; isplitr
      swap; · iexact H18
      ipureintro; exact View.read_writes_of_cover _ _ _ _ _ (covB_18 m c t h0 (before m c t))
    isplitl [H19]
    · unfold owns; iexists _; isplitr
      swap; · iexact H19
      ipureintro; exact View.read_writes_of_cover _ _ _ _ _ (covB_19 m c t h0 (before m c t))
    isplitl [H20]
    · unfold owns; iexists _; isplitr
      swap; · iexact H20
      ipureintro; exact View.read_writes_of_cover _ _ _ _ _ (covB_20 m c t h0 (before m c t))
    isplitl [H21]
    · unfold owns; iexists _; isplitr
      swap; · iexact H21
      ipureintro; exact View.read_writes_of_cover _ _ _ _ _ (covB_21 m c t h0 (before m c t))
    isplitl [H22]
    · unfold owns; iexists _; isplitr
      swap; · iexact H22
      ipureintro; exact View.read_writes_of_cover _ _ _ _ _ (covB_22 m c t h0 (before m c t))
    isplitl [H23]
    · unfold owns; iexists _; isplitr
      swap; · iexact H23
      ipureintro; exact View.read_writes_of_cover _ _ _ _ _ (covB_23 m c t h0 (before m c t))
    isplitl [H24]
    · unfold owns; iexists _; isplitr
      swap; · iexact H24
      ipureintro; exact View.read_writes_of_cover _ _ _ _ _ (covB_24 m c t h0 (before m c t))
    isplitl [H25]
    · unfold owns; iexists _; isplitr
      swap; · iexact H25
      ipureintro; exact View.read_writes_of_cover _ _ _ _ _ (covB_25 m c t h0 (before m c t))
    isplitl [H26]
    · unfold owns; iexists _; isplitr
      swap; · iexact H26
      ipureintro; exact View.read_writes_of_cover _ _ _ _ _ (covB_26 m c t h0 (before m c t))
    isplitl [H27]
    · unfold owns; iexists _; isplitr
      swap; · iexact H27
      ipureintro; exact View.read_writes_of_cover _ _ _ _ _ (covB_27 m c t h0 (before m c t))
    isplitl [H28]
    · unfold owns; iexists _; isplitr
      swap; · iexact H28
      ipureintro; exact View.read_writes_of_cover _ _ _ _ _ (covB_28 m c t h0 (before m c t))
    isplitl [H29]
    · unfold owns; iexists _; isplitr
      swap; · iexact H29
      ipureintro; exact View.read_writes_of_cover _ _ _ _ _ (covB_29 m c t h0 (before m c t))
    isplitl [H30]
    · unfold owns; iexists _; isplitr
      swap; · iexact H30
      ipureintro; exact View.read_writes_of_cover _ _ _ _ _ (covB_30 m c t h0 (before m c t))
    isplitl [H31]
    · unfold owns; iexists _; isplitr
      swap; · iexact H31
      ipureintro; exact View.read_writes_of_cover _ _ _ _ _ (covB_31 m c t h0 (before m c t))
    isplitl [H32]
    · unfold owns; iexists _; isplitr
      swap; · iexact H32
      ipureintro; exact View.read_writes_of_cover _ _ _ _ _ (covB_32 m c t h0 (before m c t))
    isplitl [H33]
    · unfold owns; iexists _; isplitr
      swap; · iexact H33
      ipureintro; exact View.read_writes_of_cover _ _ _ _ _ (covB_33 m c t h0 (before m c t))
    isplitl [H34]
    · unfold owns; iexists _; isplitr
      swap; · iexact H34
      ipureintro; exact View.read_writes_of_cover _ _ _ _ _ (covB_34 m c t h0 (before m c t))
    unfold owns; iexists _; isplitr
    swap; · iexact H35
    ipureintro; exact View.read_writes_of_cover _ _ _ _ _ (covB_35 m c t h0 (before m c t))

end Cert.KernelIdeal.Gen

end
-- ==== Proof.TailFrame.lean ====
/-
  The frame of the backward tail: from the body's triple at each point, the run of the whole call, the argument arrays as they
  were, and every counter at zero.
-/
module

public import proofs.«01_k».proof.Defs
public import proofs.«01_k».proof.Proof.TailBody
public import proofs.«01_k».proof.Proof.Gen.Kernel
public import Idealize.ShloMosaic.Lib.Claim
public import Idealize.ShloMosaic.Lib.Tactic

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body table's row at point `t`. -/
theorem defs₀_row (t : Fin cfg0.N) :
    defs₀ (F := F) .tc cfg0.body (cfg0.bodyArgs t (cfg0.slots t)) = bodyAt0 t := by
  unfold defs₀; rw [Defs.onTc_tc]

set_option maxHeartbeats 7200000 in
/-- The obligation of the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every weakly fair execution terminates with the arrays as the proof data says and every counter at zero. -/
theorem run_main_quiescent : θ_run defs (onTc (τ := τ) (main (F := F))) (s₀ m ρ) (fun r => (Pipeline.FramePost cfgs (dats m)
      0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- Every argument array of every device is in `mem` as it was in `m`. -/
abbrev Kept (m mem : (ℓ : Loc nD τ sig) → Buf (Elt F) ℓ) : Prop := ∀ c : Dev nD,
      mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4)
      ∧ mem ((c.tc : Thread nD τ).loc main_arg5) = m ((c.tc : Thread nD τ).loc main_arg5)
      ∧ mem ((c.tc : Thread nD τ).loc main_arg6) = m ((c.tc : Thread nD τ).loc main_arg6)
      ∧ mem ((c.tc : Thread nD τ).loc main_arg7) = m ((c.tc : Thread nD τ).loc main_arg7)
      ∧ mem ((c.tc : Thread nD τ).loc main_arg8) = m ((c.tc : Thread nD τ).loc main_arg8)
      ∧ mem ((c.tc : Thread nD τ).loc main_arg9) = m ((c.tc : Thread nD τ).loc main_arg9)
      ∧ mem ((c.tc : Thread nD τ).loc main_arg10) = m ((c.tc : Thread nD τ).loc main_arg10)
      ∧ mem ((c.tc : Thread nD τ).loc main_arg11) = m ((c.tc : Thread nD τ).loc main_arg11)
      ∧ mem ((c.tc : Thread nD τ).loc main_arg12) = m ((c.tc : Thread nD τ).loc main_arg12)
      ∧ mem ((c.tc : Thread nD τ).loc main_arg13) = m ((c.tc : Thread nD τ).loc main_arg13)
      ∧ mem ((c.tc : Thread nD τ).loc main_arg14) = m ((c.tc : Thread nD τ).loc main_arg14)
      ∧ mem ((c.tc : Thread nD τ).loc main_arg15) = m ((c.tc : Thread nD τ).loc main_arg15)
      ∧ mem ((c.tc : Thread nD τ).loc main_arg16) = m ((c.tc : Thread nD τ).loc main_arg16)
      ∧ mem ((c.tc : Thread nD τ).loc main_arg17) = m ((c.tc : Thread nD τ).loc main_arg17)

/-- The argument arrays end unchanged. -/
theorem unchanged : θ_run defs (onTc (τ := τ) (main (F := F))) ⟨m, fun _ => 0, ρ⟩ (fun r => Kept m r.2.mem) :=
  frame_of m ρ (dats m) (A_eq m) (run_main m ρ)

/-- The frame over the float values `F`: termination, the argument arrays as they were, every counter at zero. No precondition
    is asked. -/
def Quiet (F : FTy → Type) [FloatOps F] : Prop := ∀ (m : (ℓ : Loc nD τ sig) → Buf (Elt F) ℓ) (ρ : Dev nD → PrngReg), True →
  θ_run defs (onTc (τ := τ) (main (F := F))) ⟨m, fun _ => 0, ρ⟩ (fun r => Kept m r.2.mem ∧ r.2.sem = fun _ => 0)

/-- It holds over any. -/
theorem quiet : Quiet F := fun m ρ _ =>
  θ_run_and (unchanged m ρ) ((θ_run defs _ _).mono (fun _ h => h.2) (run_main_quiescent m ρ))

/-- The frame over the ideal values. -/
theorem frame_ideal : Cert.quiescent_KernelIdeal := fun m ρ h => quiet (F := Ideal) m ρ h

/-- The program over the floats' bits has the same text. -/
theorem same_text : Cert.quiescent_Kernel = Quiet Bits := by sl_kernel_rfl

/-- The frame over the bits. -/
theorem frame_bits : Cert.quiescent_Kernel := same_text ▸ quiet (F := Bits)

end Cert.KernelIdeal.Gen

end
-- ==== Proof.Dots.lean ====
/-
  Matrix products over the extended reals, read at an index. A product of two matrices with one contracted axis is the
  sum over that axis; which axis of which operand is contracted is read off the dimension numbers, so that one statement
  serves every size. The three forms met here: rows with columns (`dot_nn`), rows with rows (`dot_nt`) and columns with
  columns (`dot_tn`).
-/
module

public import Idealize.ShloMosaic.Lib.ValueIdx
public import Idealize.ShloMosaic.PureOps.Ideal.Laws

@[expose] public section

noncomputable section

namespace Cert.Dots

open Idealize.ShloMosaic Idealize.ShloMosaic.ValueIdx

variable {K M N : Nat}

/-- The sum over the contraction index of a product of columns with columns. -/
theorem sum_tn (d : DotDims ⟨2, ![K, M]⟩ ⟨2, ![K, N]⟩ ⟨2, ![M, N]⟩)
    (h1 : d.lhsContracting = [0]) (h2 : d.rhsContracting = [0]) (h3 : d.lhsNonContracting = [1])
    (h4 : d.rhsNonContracting = [1]) (h5 : d.lhsBatch = []) (h6 : d.rhsBatch = [])
    (f : (⟨2, ![K, M]⟩ : Shape).Idx → EReal) (g : (⟨2, ![K, N]⟩ : Shape).Idx → EReal) (j : (⟨2, ![M, N]⟩ : Shape).Idx) :
    ∑ k : d.contr.Idx, f (d.lhsIdx j k) * g (d.rhsIdx j k) = ∑ k : Fin K, f (ix2 k (j 0)) * g (ix2 k (j 1)) := by
  obtain ⟨lc, rc, ln, rn, lb, rb, wf⟩ := d
  subst h1 h2 h3 h4 h5 h6
  rw [← Equiv.sum_comp (contrEquiv1 _ K rfl rfl).symm]
  refine Finset.sum_congr rfl fun k _ => ?_
  congr 2
  · funext a; match a with | ⟨0, _⟩ => rfl | ⟨1, _⟩ => rfl
  · funext a; match a with | ⟨0, _⟩ => rfl | ⟨1, _⟩ => rfl

/-- The sum over the contraction index of a product of rows with rows. -/
theorem sum_nt (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = [])
    (f : (⟨2, ![M, K]⟩ : Shape).Idx → EReal) (g : (⟨2, ![N, K]⟩ : Shape).Idx → EReal) (j : (⟨2, ![M, N]⟩ : Shape).Idx) :
    ∑ k : d.contr.Idx, f (d.lhsIdx j k) * g (d.rhsIdx j k) = ∑ k : Fin K, f (ix2 (j 0) k) * g (ix2 (j 1) k) := by
  obtain ⟨lc, rc, ln, rn, lb, rb, wf⟩ := d
  subst h1 h2 h3 h4 h5 h6
  rw [← Equiv.sum_comp (contrEquiv1 _ K rfl rfl).symm]
  refine Finset.sum_congr rfl fun k _ => ?_
  congr 2
  · funext a; match a with | ⟨0, _⟩ => rfl | ⟨1, _⟩ => rfl
  · funext a; match a with | ⟨0, _⟩ => rfl | ⟨1, _⟩ => rfl

/-- The sum over the contraction index of a product of rows with columns. -/
theorem sum_nn (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (f : (⟨2, ![M, K]⟩ : Shape).Idx → EReal) (g : (⟨2, ![K, N]⟩ : Shape).Idx → EReal) (j : (⟨2, ![M, N]⟩ : Shape).Idx) :
    ∑ k : d.contr.Idx, f (d.lhsIdx j k) * g (d.rhsIdx j k) = ∑ k : Fin K, f (ix2 (j 0) k) * g (ix2 k (j 1)) := by
  obtain ⟨lc, rc, ln, rn, lb, rb, wf⟩ := d
  subst h1 h2 h3 h4 h5 h6
  rw [← Equiv.sum_comp (contrEquiv1 _ K rfl rfl).symm]
  refine Finset.sum_congr rfl fun k _ => ?_
  congr 2
  · funext a; match a with | ⟨0, _⟩ => rfl | ⟨1, _⟩ => rfl
  · funext a; match a with | ⟨0, _⟩ => rfl | ⟨1, _⟩ => rfl

variable {φ₁ φ₂ : FTy}

/-- A kernel's product of columns with columns, into zero. -/
theorem dot_tn (d : DotDims ⟨2, ![K, M]⟩ ⟨2, ![K, N]⟩ ⟨2, ![M, N]⟩)
    (h1 : d.lhsContracting = [0]) (h2 : d.rhsContracting = [0]) (h3 : d.lhsNonContracting = [1])
    (h4 : d.rhsNonContracting = [1]) (h5 : d.lhsBatch = []) (h6 : d.rhsBatch = []) (prec : Option ContractPrecision)
    (f : FVec Ideal ⟨2, ![K, M]⟩ φ₁) (g : FVec Ideal ⟨2, ![K, N]⟩ φ₂) (j : (⟨2, ![M, N]⟩ : Shape).Idx) :
    matmul (F := Ideal) d prec f g (constant ⟨2, ![M, N]⟩ .f32 0x00000000#32) j
      = ∑ k : Fin K, f (ix2 k (j 0)) * g (ix2 k (j 1)) := by
  simp only [matmul]
  rw [Ideal.matmul_constant_zero_apply]
  exact sum_tn d h1 h2 h3 h4 h5 h6 f g j

/-- A kernel's product of rows with rows, into zero. -/
theorem dot_nt (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = []) (prec : Option ContractPrecision)
    (f : FVec Ideal ⟨2, ![M, K]⟩ φ₁) (g : FVec Ideal ⟨2, ![N, K]⟩ φ₂) (j : (⟨2, ![M, N]⟩ : Shape).Idx) :
    matmul (F := Ideal) d prec f g (constant ⟨2, ![M, N]⟩ .f32 0x00000000#32) j
      = ∑ k : Fin K, f (ix2 (j 0) k) * g (ix2 (j 1) k) := by
  simp only [matmul]
  rw [Ideal.matmul_constant_zero_apply]
  exact sum_nt d h1 h2 h3 h4 h5 h6 f g j

/-- A kernel's product of rows with columns, into zero. -/
theorem dot_nn (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) (prec : Option ContractPrecision)
    (f : FVec Ideal ⟨2, ![M, K]⟩ φ₁) (g : FVec Ideal ⟨2, ![K, N]⟩ φ₂) (j : (⟨2, ![M, N]⟩ : Shape).Idx) :
    matmul (F := Ideal) d prec f g (constant ⟨2, ![M, N]⟩ .f32 0x00000000#32) j
      = ∑ k : Fin K, f (ix2 (j 0) k) * g (ix2 k (j 1)) := by
  simp only [matmul]
  rw [Ideal.matmul_constant_zero_apply]
  exact sum_nn d h1 h2 h3 h4 h5 h6 f g j

/-- A sum over rows, taken block by block of `B` rows. -/
theorem sum_blocks (T B : Nat) (f : Nat → EReal) :
    ∑ t : Fin T, ∑ k : Fin B, f (t.val * B + k.val) = ∑ r : Fin (T * B), f r.val := by
  rw [← Fintype.sum_prod_type' (f := fun (t : Fin T) (k : Fin B) => f (t.val * B + k.val)),
    ← Equiv.sum_comp finProdFinEquiv]
  refine Finset.sum_congr rfl fun p _ => ?_
  congr 1
  simp [finProdFinEquiv]
  ring

/-- A sum over rows is the sum over its four quarters, one after the other. -/
theorem sum_quarters {B n : Nat} (hn : n = 4 * B) (f : Fin n → EReal) :
    ∑ r : Fin n, f r = ∑ k : Fin B, f ⟨k.val, by omega⟩ + ∑ k : Fin B, f ⟨1 * B + k.val, by omega⟩
      + ∑ k : Fin B, f ⟨2 * B + k.val, by omega⟩ + ∑ k : Fin B, f ⟨3 * B + k.val, by omega⟩ := by
  subst hn
  have h := sum_blocks 4 B (fun r => if hr : r < 4 * B then f ⟨r, hr⟩ else 0)
  rw [Fin.sum_univ_four] at h
  simp only [Fin.is_lt, dite_true] at h
  rw [← h]
  refine congrArg₂ (fun x y : EReal => x + y) (congrArg₂ (fun x y : EReal => x + y) (congrArg₂ (fun x y : EReal => x + y)
    ?_ ?_) ?_) ?_ <;> refine Finset.sum_congr rfl fun k _ => ?_
  · rw [dif_pos (by simp; omega)]; congr 2; simp
  · rw [dif_pos (by simp; omega)]; rfl
  · rw [dif_pos (by simp; omega)]; rfl
  · rw [dif_pos (by simp; omega)]; rfl

/-- A sum over `a + b` places is the sum over the first `a` and the sum over the last `b`. -/
theorem sum_split {n : ℕ} (a b : ℕ) (h : n = a + b) (f : Fin n → EReal) :
    ∑ k, f k = ∑ k : Fin a, f ⟨k.val, by omega⟩ + ∑ k : Fin b, f ⟨a + k.val, by omega⟩ := by
  subst h
  exact Fin.sum_univ_add f

end Cert.Dots

end
-- ==== Proof.Rms.lean ====
/-
  The gradient of a root-mean-square norm over the extended reals. A kernel forms it as `r (u - x̂ mean(u x̂))` with `x̂ = r x`;
  differentiating the norm line by line gives `u r + x v + v x` with `v` the cotangent of the mean square. Both agree for every
  row, finite or not: `r` is the reciprocal square root of a positive number, so it is a nonnegative real, and multiplication by
  a nonnegative real distributes over sums of extended reals.
-/
module

public import Idealize.ShloMosaic.PureOps.Ideal.Laws

@[expose] public section

noncomputable section

namespace Cert.Rms

open Idealize.ShloMosaic

/-- Dividing by a real that is not zero is multiplying by its inverse. -/
theorem div_real (y : EReal) {d : ℝ} (hd : d ≠ 0) : Ideal.div y (d : EReal) = y * ((d⁻¹ : ℝ) : EReal) := by
  unfold Ideal.div
  rw [if_neg (by exact_mod_cast hd), EReal.coe_inv]

/-- A nonnegative real distributes over a sum of two. -/
theorem mul_add_real {c : ℝ} (hc : 0 ≤ c) (a b : EReal) : (c : EReal) * (a + b) = c * a + c * b :=
  EReal.left_distrib_of_nonneg_of_ne_top (by exact_mod_cast hc) (EReal.coe_ne_top c) a b

/-- A nonnegative real distributes over a finite sum. -/
theorem mul_sum_real {ι : Type} (s : Finset ι) {c : ℝ} (hc : 0 ≤ c) (f : ι → EReal) :
    (c : EReal) * ∑ k ∈ s, f k = ∑ k ∈ s, (c : EReal) * f k := by
  classical
  induction s using Finset.induction_on with
  | empty => simp
  | insert a s ha ih => rw [Finset.sum_insert ha, Finset.sum_insert ha, mul_add_real hc, ih]

/-- A square is not negative. -/
theorem mul_self_nonneg (x : EReal) : 0 ≤ x * x := by
  rcases le_total 0 x with h | h
  · exact mul_nonneg h h
  · simpa using mul_nonneg (EReal.neg_nonneg.mpr h) (EReal.neg_nonneg.mpr h)

/-- A mean square with something positive added to it is positive. -/
theorem mean_sq_pos {ι : Type} (s : Finset ι) (x : ι → EReal) {d : ℝ} (hd : 0 < d) {e : EReal} (he : 0 < e) :
    0 < Ideal.div (∑ k ∈ s, x k * x k) (d : EReal) + e := by
  rw [div_real _ hd.ne']
  have h : (0 : EReal) ≤ (∑ k ∈ s, x k * x k) * ((d⁻¹ : ℝ) : EReal) :=
    mul_nonneg (Finset.sum_nonneg fun k _ => mul_self_nonneg (x k)) (by exact_mod_cast (inv_pos.mpr hd).le)
  exact lt_of_lt_of_le he (le_add_of_nonneg_left h)

/-- The reciprocal square root of a positive number is a nonnegative real, and dividing it by the number is cubing it. -/
theorem rsqrt_real {a : EReal} (ha : 0 < a) :
    ∃ r : ℝ, 0 ≤ r ∧ Ideal.rsqrt a = (r : EReal) ∧ Ideal.div (Ideal.rsqrt a) a = ((r * r * r : ℝ) : EReal) := by
  induction a using EReal.rec with
  | bot => simp at ha
  | top => exact ⟨0, le_rfl, by simp, by simp [Ideal.div]⟩
  | coe b =>
    have hb : 0 < b := by exact_mod_cast ha
    refine ⟨(Real.sqrt b)⁻¹, by positivity, ?_, ?_⟩
    · rw [Ideal.rsqrt_coe, if_neg hb.not_gt, if_neg hb.ne']
    · rw [Ideal.rsqrt_coe, if_neg hb.not_gt, if_neg hb.ne', div_real _ hb.ne', ← EReal.coe_mul]
      congr 1
      have := Real.mul_self_sqrt hb.le
      have h2 : (Real.sqrt b)⁻¹ * (Real.sqrt b)⁻¹ = b⁻¹ := by rw [← mul_inv, this]
      rw [mul_assoc, h2]

/-- The two forms of the gradient. -/
theorem back {n : ℕ} (x u : Fin n → EReal) {a : EReal} (ha : 0 < a) {d : ℝ} (hd : 0 < d) (j : Fin n) :
    Ideal.rsqrt a * (u j - x j * Ideal.rsqrt a * Ideal.div (∑ k, u k * (x k * Ideal.rsqrt a)) (d : EReal))
      = u j * Ideal.rsqrt a
        + x j * Ideal.div ((∑ k, x k * u k) * (((-(1 / 2) : ℝ) : EReal) * Ideal.div (Ideal.rsqrt a) a)) (d : EReal)
        + Ideal.div ((∑ k, x k * u k) * (((-(1 / 2) : ℝ) : EReal) * Ideal.div (Ideal.rsqrt a) a)) (d : EReal) * x j := by
  obtain ⟨r, hr, e1, e2⟩ := rsqrt_real ha
  rw [e2, e1, div_real _ hd.ne', div_real _ hd.ne']
  have hs : ∑ k, u k * (x k * (r : EReal)) = (r : EReal) * ∑ k, x k * u k := by
    rw [mul_sum_real _ hr]
    exact Finset.sum_congr rfl fun k _ => by ac_rfl
  rw [hs]
  generalize (∑ k, x k * u k) = s
  have hc : 0 ≤ r * r * r * d⁻¹ * (1 / 2) := by positivity
  have hv : s * (((-(1 / 2) : ℝ) : EReal) * ((r * r * r : ℝ) : EReal)) * ((d⁻¹ : ℝ) : EReal)
      = -(((r * r * r * d⁻¹ * (1 / 2) : ℝ) : EReal) * s) := by
    rw [← EReal.coe_mul, mul_assoc, ← EReal.coe_mul, mul_comm s, ← neg_mul, ← EReal.coe_neg]
    congr 2; ring
  rw [hv, sub_eq_add_neg, mul_add_real hr, add_assoc]
  refine congrArg₂ (· + ·) (mul_comm _ _) ?_
  have hl : (r : EReal) * -(x j * r * ((r : EReal) * s * ((d⁻¹ : ℝ) : EReal)))
      = -(((r * r * r * d⁻¹ : ℝ) : EReal) * (x j * s)) := by
    rw [mul_neg]
    congr 1
    push_cast
    ac_rfl
  have h2 : ((r * r * r * d⁻¹ : ℝ) : EReal) = ((r * r * r * d⁻¹ * (1 / 2) : ℝ) : EReal) + ((r * r * r * d⁻¹ * (1 / 2) : ℝ) : EReal) := by
    rw [← EReal.coe_add]; congr 1; ring
  rw [hl, h2, EReal.right_distrib_of_nonneg (by exact_mod_cast hc) (by exact_mod_cast hc), mul_neg, neg_mul]
  have hx : x j * (((r * r * r * d⁻¹ * (1 / 2) : ℝ) : EReal) * s) = ((r * r * r * d⁻¹ * (1 / 2) : ℝ) : EReal) * (x j * s) := by ac_rfl
  have hy : ((r * r * r * d⁻¹ * (1 / 2) : ℝ) : EReal) * s * x j = ((r * r * r * d⁻¹ * (1 / 2) : ℝ) : EReal) * (x j * s) := by ac_rfl
  rw [hx, hy]
  generalize ((r * r * r * d⁻¹ * (1 / 2) : ℝ) : EReal) * (x j * s) = y
  induction y using EReal.rec with
  | bot => rfl
  | top => rfl
  | coe y => rw [← EReal.coe_add, ← EReal.coe_neg, ← EReal.coe_neg, ← EReal.coe_add]; congr 1; ring

/-- The float word of 1024. -/
theorem ofBits_1024 : Ideal.ofBits .f32 0x44800000#32 = ((1024 : ℝ) : EReal) := by
  simp [Ideal.ofBits, Ideal.ieee, -EReal.coe_mul]; norm_num

/-- The float word of minus one half. -/
theorem ofBits_neg_half : Ideal.ofBits .f32 0xBF000000#32 = ((-(1 / 2) : ℝ) : EReal) := by
  simp [Ideal.ofBits, Ideal.ieee, -EReal.coe_mul]; norm_num

/-- The small number added to a mean square is positive. -/
theorem eps_pos : 0 < Ideal.ofBits .f32 0x358637BD#32 := by
  simp [Ideal.ofBits, Ideal.ieee, -EReal.coe_mul]

end Cert.Rms

end
-- ==== Proof.TailRow.lean ====
/-
  The backward tail of one token in plain mathematics: the two branches' normalised and gated outputs, the merged output, the
  loss's error, and the cotangents down to the gates and the merged output, each a function of the token's row of inputs.
-/
module

public import proofs.«01_k».proof.Proof.Rms
public import Mathlib.Analysis.SpecialFunctions.Trigonometric.DerivHyp

@[expose] public section

noncomputable section

namespace Cert.Tail

open Idealize.ShloMosaic

/-- The inputs of one token, with the weights it meets. -/
structure Row where
  x : Fin 1024 → EReal
  tgt : Fin 1024 → EReal
  g : Fin 2048 → EReal
  y : Fin 512 → EReal
  r : Fin 512 → EReal
  k : Fin 512 → EReal
  v : Fin 512 → EReal
  z : Fin 512 → EReal
  o : Fin 512 → EReal
  zg : Fin 512 → EReal
  gw : Fin 512 → EReal
  gb : Fin 512 → EReal
  rk : Fin 512 → EReal
  on : Fin 128 → EReal
  wa : Fin 512 → Fin 1024 → EReal
  wb : Fin 512 → Fin 1024 → EReal
  wo : Fin 1024 → Fin 1024 → EReal
  now : Fin 1024 → EReal

abbrev half : EReal := Ideal.ofBits .f32 0x3F000000#32
abbrev one : EReal := Ideal.ofBits .f32 0x3F800000#32

theorem half_eq : half = ((1 / 2 : ℝ) : EReal) := by
  simp [half, Ideal.ofBits, Ideal.ieee, -EReal.coe_mul]; norm_num
theorem one_eq : one = 1 := by
  simp [one, Ideal.ofBits, Ideal.ieee, -EReal.coe_mul]; norm_num
theorem ofBits_64 : Ideal.ofBits .f32 0x42800000#32 = ((64 : ℝ) : EReal) := by
  simp [Ideal.ofBits, Ideal.ieee, -EReal.coe_mul]; norm_num
theorem ofBits_64th : Ideal.ofBits .f32 0x3C800000#32 = ((64⁻¹ : ℝ) : EReal) := by
  simp [Ideal.ofBits, Ideal.ieee, -EReal.coe_mul]; norm_num
theorem ofBits_1024th : Ideal.ofBits .f32 0x3A800000#32 = ((1024⁻¹ : ℝ) : EReal) := by
  simp [Ideal.ofBits, Ideal.ieee, -EReal.coe_mul]; norm_num
theorem ofBits_2048th : Ideal.ofBits .f32 0x3A000000#32 = ((2048⁻¹ : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num

/-- Multiplying by one sixty-fourth is dividing by sixty-four. -/
theorem mul_64th (s : EReal) : s * Ideal.ofBits .f32 0x3C800000#32 = Ideal.div s (Ideal.ofBits .f32 0x42800000#32) := by
  rw [ofBits_64, ofBits_64th, Rms.div_real _ (by norm_num)]

/-- The logistic function, through the hyperbolic tangent. -/
def sig (x : EReal) : EReal := half * (Ideal.tanh (half * x) + one)

/-- The logistic function is the reciprocal of one and an exponential, at every extended real. -/
theorem sig_eq (x : EReal) : Ideal.div one (one + Ideal.exp (-x)) = sig x := by
  unfold sig
  rw [one_eq, half_eq]
  induction x using EReal.rec with
  | bot =>
    rw [EReal.coe_mul_bot_of_pos (by norm_num), Ideal.tanh_bot, EReal.neg_bot, Ideal.exp_top]
    have h : (1 : EReal) + ⊤ = ⊤ := rfl
    have h' : (-1 : EReal) + 1 = 0 := by
      have := EReal.coe_add (-1) 1
      norm_num at this; exact this.symm
    rw [h, h', mul_zero]
    simp [Ideal.div]
  | top =>
    rw [EReal.coe_mul_top_of_pos (by norm_num), Ideal.tanh_top, EReal.neg_top, Ideal.exp_bot, add_zero]
    have h : Ideal.div 1 1 = ((1 * (1 : ℝ)⁻¹ : ℝ) : EReal) := by
      have := Rms.div_real (1 : EReal) (d := 1) one_ne_zero
      simpa using this
    rw [h]
    have h2 : (1 : EReal) + 1 = ((2 : ℝ) : EReal) := by
      rw [← EReal.coe_one, ← EReal.coe_add]
      norm_num
    rw [h2, ← EReal.coe_mul]
    norm_num
  | coe r =>
    have hd : (1 + Real.exp (-r)) ≠ 0 := by positivity
    have e1 : (1 : EReal) + Ideal.exp (-(r : EReal)) = ((1 + Real.exp (-r) : ℝ) : EReal) := by
      rw [← EReal.coe_neg, Ideal.exp_coe, EReal.coe_add, EReal.coe_one]
    rw [e1, Rms.div_real _ hd, one_mul, ← EReal.coe_mul, Ideal.tanh_coe, ← EReal.coe_one, ← EReal.coe_add, ← EReal.coe_mul]
    congr 1
    rw [Real.tanh_eq_sinh_div_cosh, Real.sinh_eq, Real.cosh_eq]
    have ha : Real.exp (1 / 2 * r) ≠ 0 := (Real.exp_pos _).ne'
    have hb : Real.exp (-r) = Real.exp (-(1 / 2 * r)) * Real.exp (-(1 / 2 * r)) := by
      rw [← Real.exp_add]; congr 1; ring
    have hc : Real.exp (-(1 / 2 * r)) = (Real.exp (1 / 2 * r))⁻¹ := Real.exp_neg _
    rw [hb, hc]
    have hp := Real.exp_pos (1 / 2 * r)
    field_simp
    ring

/-- The sum over the sixty-four places of the head a place is in. -/
def head64 (f : Fin 512 → EReal) (c : Fin 512) : EReal := ∑ l : Fin 64, f ⟨64 * (c.val / 64) + l.val, by omega⟩

/-- The sum over the hundred and twenty-eight places of the head a place is in. -/
def head128 (f : Fin 512 → EReal) (c : Fin 512) : EReal := ∑ l : Fin 128, f ⟨128 * (c.val / 128) + l.val, by omega⟩

/-- A head's values less their mean. -/
def cen (y : Fin 512 → EReal) (c : Fin 512) : EReal := y c - Ideal.div (head64 y c) (Ideal.ofBits .f32 0x42800000#32)

/-- The first branch's gated output. -/
def ya (R : Row) (c : Fin 512) : EReal :=
  (cen R.y c * Ideal.rsqrt (Ideal.div (head64 (fun j => cen R.y j * cen R.y j) c) (Ideal.ofBits .f32 0x42800000#32)
      + Ideal.ofBits .f32 0x3A27C5AC#32) * R.gw c + R.gb c + head64 (fun j => R.r j * R.k j * R.rk j) c * R.v c)
    * (R.z c * sig (R.z c))

/-- The second branch's gated output. -/
def yb (R : Row) (c : Fin 512) : EReal :=
  R.o c * Ideal.rsqrt (Ideal.div (head128 (fun j => R.o j * R.o j) c) (Ideal.ofBits .f32 0x43000000#32)
      + Ideal.ofBits .f32 0x358637BD#32) * R.on ⟨c.val % 128, by omega⟩ * (R.zg c * sig (R.zg c))

def ua (R : Row) (q : Fin 1024) : EReal := ∑ c : Fin 512, ya R c * R.wa c q
def ub (R : Row) (q : Fin 1024) : EReal := ∑ c : Fin 512, yb R c * R.wb c q
def ga (R : Row) (q : Fin 1024) : EReal := sig (R.g ⟨q.val, by omega⟩)
def gb (R : Row) (q : Fin 1024) : EReal := sig (R.g ⟨1024 + q.val, by omega⟩)

/-- The gated merge of the two branches. -/
def mm (R : Row) (q : Fin 1024) : EReal := ga R q * ua R q + gb R q * ub R q

/-- The residual stream after the layer. -/
def xo (R : Row) (q : Fin 1024) : EReal := R.x q + ∑ k : Fin 1024, mm R k * R.wo k q

/-- Its mean square, with the small number added. -/
def ms (R : Row) : EReal :=
  Ideal.div (∑ q : Fin 1024, xo R q * xo R q) (Ideal.ofBits .f32 0x44800000#32) + Ideal.ofBits .f32 0x358637BD#32

theorem ms_pos (R : Row) : 0 < ms R := by
  unfold ms
  rw [Rms.ofBits_1024]
  exact Rms.mean_sq_pos _ _ (by norm_num) Rms.eps_pos

def yn (R : Row) (q : Fin 1024) : EReal := xo R q * Ideal.rsqrt (ms R)
def err (R : Row) (q : Fin 1024) : EReal := yn R q * R.now q - R.tgt q
def dy (R : Row) (q : Fin 1024) : EReal := err R q * Ideal.ofBits .f32 0x3A800000#32
def du (R : Row) (q : Fin 1024) : EReal := dy R q * R.now q

/-- The cotangent of the residual stream after the layer. -/
def dxo (R : Row) (q : Fin 1024) : EReal :=
  Ideal.rsqrt (ms R) * (du R q - yn R q * Ideal.div (∑ l : Fin 1024, du R l * yn R l) (Ideal.ofBits .f32 0x44800000#32))

/-- The cotangent of the gated merge. -/
def dm (R : Row) (q : Fin 1024) : EReal := ∑ l : Fin 1024, dxo R l * R.wo q l

/-- The cotangents of the gates' inputs. -/
def dga (R : Row) (q : Fin 1024) : EReal := dm R q * ua R q * ga R q * (one - ga R q)
def dgb (R : Row) (q : Fin 1024) : EReal := dm R q * ub R q * gb R q * (one - gb R q)

/-- Half the mean of the squared error. -/
def loss (R : Row) : EReal := Ideal.ofBits .f32 0x3A000000#32 * ∑ q : Fin 1024, err R q * err R q

end Cert.Tail

end
-- ==== Proof.TailMask.lean ====
/-
  The block mask of the first branch's heads: one where two lanes lie in the same sixty-four, zero elsewhere, and what a product
  with it is: the sum over the lane's own sixty-four.
-/
module

public import proofs.«01_k».proof.Proof.Gen.KernelIdeal.Skeleton
public import proofs.«01_k».proof.Proof.Dots
public import proofs.«01_k».proof.Proof.TailRow

@[expose] public section

noncomputable section

namespace Cert.KernelIdeal.Value

open Cert.KernelIdeal Cert.KernelIdeal.Gen Idealize.ShloMosaic Idealize.ShloMosaic.TcCoe
open Idealize.ShloMosaic.ValueIdx

variable {F : FTy → Type} [FloatOps F]

/-- The mask. -/
abbrev mask : FVec F S128x128 .f32 := k0_pay5 (iota .tc S128x128 32 [0] iota_S128x128_d0_w32) k0_pay2 k0_pay3 k0_pay4

/-- The number of the sixty-four a lane lies in: its quotient by sixty-four, rounded down. -/
abbrev lane (i : BitVec 32) : BitVec 32 :=
  Scalar.select
    (IntOp.andi
      (IntOp.cmpi .ne (IntOp.subi ((IntOp.cmpi .sgt i 0#32).setWidth 32) ((IntOp.cmpi .slt i 0#32).setWidth 32))
        (Scalar.subi (Scalar.extui (Scalar.cmpi .sgt 64#32 0#32)) (Scalar.extui (Scalar.cmpi .slt 64#32 0#32))))
      (IntOp.cmpi .ne (IntOp.remsi .vector i 64#32) 0#32))
    (IntOp.subi (IntOp.divsi .vector i 64#32) 1#32) (IntOp.divsi .vector i 64#32)

theorem lane_eq : ∀ k : Fin 128, lane (BitVec.ofNat 32 k.val) = BitVec.ofNat 32 (k.val / 64) := by
  decide +kernel

theorem same_lane : ∀ a b : Fin 2, ((IntOp.cmpi .eq (BitVec.ofNat 32 a.val) (BitVec.ofNat 32 b.val)).setWidth 32).toInt
    = if a.val = b.val then (1 : ℤ) else 0 := by
  decide +kernel

/-- The mask at two lanes. -/
theorem mask_apply (k q : Fin 128) : mask (F := Ideal) (ix2 k q) = if k.val / 64 = q.val / 64 then (1 : EReal) else 0 := by
  have h : mask (F := Ideal) (ix2 k q)
      = ((((IntOp.cmpi .eq (lane (BitVec.ofNat 32 (0 * 128 + k.val)))
          (lane (BitVec.ofNat 32 (0 * 128 + q.val)))).setWidth 32).toInt : ℝ) : EReal) := rfl
  rw [h, Nat.zero_mul, Nat.zero_add, Nat.zero_add, lane_eq, lane_eq, same_lane ⟨k.val / 64, by omega⟩ ⟨q.val / 64, by omega⟩]
  split <;> simp

/-- The sum of a row against a lane of the mask is the sum over the lane's own sixty-four. -/
theorem sum_mask (f : Fin 128 → EReal) (q : Fin 128) :
    ∑ k : Fin 128, f k * mask (F := Ideal) (ix2 k q) = ∑ l : Fin 64, f ⟨64 * (q.val / 64) + l.val, by omega⟩ := by
  have h : ∀ k : Fin 128, f k * mask (F := Ideal) (ix2 k q) = if k.val / 64 = q.val / 64 then f k else 0 := fun k => by
    rw [mask_apply]
    split
    · exact mul_one (M := EReal) _
    · exact mul_zero (M₀ := EReal) _
  rw [Finset.sum_congr rfl fun k _ => h k, ← Finset.sum_filter]
  refine (Finset.sum_bij (fun l _ => ⟨64 * (q.val / 64) + l.val, by omega⟩) (fun l _ => ?_) (fun a _ b _ e => ?_) (fun k hk => ?_)
    (fun l _ => rfl)).symm
  · rw [Finset.mem_filter]
    exact ⟨Finset.mem_univ _, by show (64 * (q.val / 64) + l.val) / 64 = q.val / 64; omega⟩
  · have := congrArg Fin.val e
    exact Fin.ext (by simp only at this; omega)
  · have hk' := (Finset.mem_filter.mp hk).2
    exact ⟨⟨k.val - 64 * (q.val / 64), by omega⟩, Finset.mem_univ _, Fin.ext (by show 64 * (q.val / 64) + (k.val - 64 * (q.val / 64)) = k.val; omega)⟩

/-- A product with the mask. -/
theorem dot_mask (f : FVec Ideal S256x128 .f32) (p : Fin 256) (q : Fin 128) :
    matmul (F := Ideal) dot_S256x128_S128x128_S256x128_1_0_0_1_n_n none f mask (constant S256x128 .f32 0x00000000#32) (ix2 p q)
      = ∑ l : Fin 64, f (ix2 p ⟨64 * (q.val / 64) + l.val, by omega⟩) :=
  (Dots.dot_nn dot_S256x128_S128x128_S256x128_1_0_0_1_n_n rfl rfl rfl rfl rfl rfl none f mask (ix2 p q)).trans
    (sum_mask (fun k => f (ix2 p k)) q)

end Cert.KernelIdeal.Value

end
-- ==== Proof.Lines.lean ====
/-
  Sums along one axis of a block, kept as a column or a row, and the spreading of a column or a row over a block, each at an
  index.
-/
module

public import Idealize.ShloMosaic.PureOps.Ideal.Laws
public import Idealize.ShloMosaic.Lib.Pipeline.Value
public import Idealize.ShloMosaic.Lib.ValueIdx

@[expose] public section

noncomputable section

namespace Cert.Lines

open Idealize.ShloMosaic Idealize.ShloMosaic.ValueIdx

variable {n k : ℕ}

/-- The sums of the rows, as a column. -/
theorem rowSum (x : FVec Ideal ⟨2, ![n, k]⟩ .f32) (h : (⟨2, ![n, k]⟩ : Shape).Reduces [1] ⟨1, ![n]⟩) (hφ : FKind.Formats .f32)
    (hacc : (0x00000000#32 : BitVec 32) = FKind.add.neutral .f32 hφ) (hs : (⟨1, ![n]⟩ : Shape).ShapeCasts ⟨2, ![n, 1]⟩)
    (j : (⟨2, ![n, 1]⟩ : Shape).Idx) :
    shapeCast ⟨2, ![n, 1]⟩ (multiReduction .add [1] ⟨1, ![n]⟩ x 0x00000000#32 h hφ hacc) hs j = ∑ q : Fin k, x (ix2 (j 0) q) := by
  have h1 : (j 1).val < 1 := (j 1).isLt
  refine (shapeCast_apply _ hs j (ix1 (j 0)) ?_).trans ?_
  · show (Shape.rowMajorPi ![n] (ix1 (j 0))).val = (Shape.rowMajorPi ![n, 1] j).val
    rw [Shape.rowMajorPi_succ_val, Shape.rowMajorPi_succ_val, Shape.rowMajorPi_zero, Shape.rowMajorPi_succ_val, Shape.rowMajorPi_zero]
    simp [ix1]; first | omega | (rw [show (j 0).val = 0 by omega]; simp)
  · refine (Ideal.multiReduction_add_single x _ h hφ hacc _).trans (Finset.sum_congr rfl fun q _ => congrArg x ?_)
    funext a; apply Fin.ext
    match a with
    | ⟨0, _⟩ => rfl
    | ⟨1, _⟩ => rfl

/-- The sums of the columns, as a row. -/
theorem colSum (x : FVec Ideal ⟨2, ![n, k]⟩ .f32) (h : (⟨2, ![n, k]⟩ : Shape).Reduces [0] ⟨1, ![k]⟩) (hφ : FKind.Formats .f32)
    (hacc : (0x00000000#32 : BitVec 32) = FKind.add.neutral .f32 hφ) (hs : (⟨1, ![k]⟩ : Shape).ShapeCasts ⟨2, ![1, k]⟩)
    (j : (⟨2, ![1, k]⟩ : Shape).Idx) :
    shapeCast ⟨2, ![1, k]⟩ (multiReduction .add [0] ⟨1, ![k]⟩ x 0x00000000#32 h hφ hacc) hs j = ∑ r : Fin n, x (ix2 r (j 1)) := by
  have h0 : (j 0).val < 1 := (j 0).isLt
  refine (shapeCast_apply _ hs j (ix1 (j 1)) ?_).trans ?_
  · show (Shape.rowMajorPi ![k] (ix1 (j 1))).val = (Shape.rowMajorPi ![1, k] j).val
    rw [Shape.rowMajorPi_succ_val, Shape.rowMajorPi_succ_val, Shape.rowMajorPi_zero, Shape.rowMajorPi_succ_val, Shape.rowMajorPi_zero]
    simp [ix1]; first | omega | (rw [show (j 0).val = 0 by omega]; simp)
  · refine (Ideal.multiReduction_add_single x _ h hφ hacc _).trans (Finset.sum_congr rfl fun q _ => congrArg x ?_)
    funext a; apply Fin.ext
    match a with
    | ⟨0, _⟩ => rfl
    | ⟨1, _⟩ => rfl

/-- A column spread over a block. -/
theorem spreadCol {α : Type} (x : (⟨2, ![n, 1]⟩ : Shape).Idx → α) (h : (⟨2, ![n, 1]⟩ : Shape).Broadcasts ⟨2, ![n, k]⟩)
    (j : (⟨2, ![n, k]⟩ : Shape).Idx) : broadcastTo ⟨2, ![n, k]⟩ x h j = x (ix2 (j 0) 0) := by
  have h0 : (j 0).val < n := (j 0).isLt
  refine broadcastTo_apply x h j _ fun a => ?_
  match a with
  | ⟨0, _⟩ =>
    show (j 0).val = if n = 1 then 0 else (j 0).val
    split <;> omega
  | ⟨1, _⟩ => rfl

/-- A row spread over a block. -/
theorem spreadRow {α : Type} (x : (⟨2, ![1, k]⟩ : Shape).Idx → α) (h : (⟨2, ![1, k]⟩ : Shape).Broadcasts ⟨2, ![n, k]⟩)
    (j : (⟨2, ![n, k]⟩ : Shape).Idx) : broadcastTo ⟨2, ![n, k]⟩ x h j = x (ix2 0 (j 1)) := by
  have h1 : (j 1).val < k := (j 1).isLt
  refine broadcastTo_apply x h j _ fun a => ?_
  match a with
  | ⟨0, _⟩ => rfl
  | ⟨1, _⟩ =>
    show (j 1).val = if k = 1 then 0 else (j 1).val
    split <;> omega

end Cert.Lines

end
-- ==== Proof.TailBranch.lean ====
/-
  The two branches' gated outputs as the tail forms them, a hundred and twenty-eight lanes at a time, and the four pieces side
  by side: at each token they are the branch outputs of the token's row.
-/
module

public import proofs.«01_k».proof.Proof.TailMask
public import proofs.«01_k».proof.Proof.Lines
public import Idealize.ShloMosaic.Lib.Pipeline.ValueKit.Tiles

@[expose] public section

noncomputable section

namespace Cert.KernelIdeal.Value

open Cert.KernelIdeal Cert.KernelIdeal.Gen Idealize.ShloMosaic Idealize.ShloMosaic.TcCoe
open Idealize.ShloMosaic.ValueIdx

variable {F : FTy → Type} [FloatOps F]

/-- The blocks a point reads. -/
structure Blocks (F : FTy → Type) [FloatOps F] where
  x : Vec F S256x1024 .f32
  tgt : Vec F S256x1024 .f32
  g : Vec F S256x2048 .f32
  y : Vec F S256x512 .f32
  r : Vec F S256x512 .f32
  k : Vec F S256x512 .f32
  v : Vec F S256x512 .f32
  z : Vec F S256x512 .f32
  o : Vec F S256x512 .f32
  zg : Vec F S256x512 .f32
  gw : Vec F S1x512 .f32
  gb : Vec F S1x512 .f32
  rk : Vec F S1x512 .f32
  on : Vec F S1x128 .f32
  wa : Vec F S512x1024 .bf16
  wb : Vec F S512x1024 .bf16
  wo : Vec F S1024x1024 .bf16
  now : Vec F S1x1024 .f32

/-- The row of a token of the blocks. -/
abbrev Blocks.row (b : Blocks Ideal) (p : Fin 256) : Tail.Row where
  x q := b.x (ix2 p q)
  tgt q := b.tgt (ix2 p q)
  g q := b.g (ix2 p q)
  y q := b.y (ix2 p q)
  r q := b.r (ix2 p q)
  k q := b.k (ix2 p q)
  v q := b.v (ix2 p q)
  z q := b.z (ix2 p q)
  o q := b.o (ix2 p q)
  zg q := b.zg (ix2 p q)
  gw q := b.gw (ix2 0 q)
  gb q := b.gb (ix2 0 q)
  rk q := b.rk (ix2 0 q)
  on q := b.on (ix2 0 q)
  wa c q := b.wa (ix2 c q)
  wb c q := b.wb (ix2 c q)
  wo c q := b.wo (ix2 c q)
  now q := b.now (ix2 0 q)

theorem inSeg {n : ℕ} (g : Fin 4) (a : Fin 2) : (![0, 128 * g.val] : Fin 2 → ℕ) a + (![n, 128] : Fin 2 → ℕ) a ≤ (![n, 512] : Fin 2 → ℕ) a := by
  match a with
  | ⟨0, _⟩ => simp
  | ⟨1, _⟩ => show 128 * g.val + 128 ≤ 512; omega

/-- A block's lanes of a quarter. -/
abbrev seg (x : Vec F S256x512 .f32) (g : Fin 4) : Vec F S256x128 .f32 :=
  View.ld (S := S256x512) x (Rect.unit ![0, 128 * g.val] S256x128.size (inSeg g))

/-- A weight row's lanes of a quarter. -/
abbrev segW (x : Vec F S1x512 .f32) (g : Fin 4) : Vec F S1x128 .f32 :=
  View.ld (S := S1x512) x (Rect.unit ![0, 128 * g.val] S1x128.size (inSeg g))

theorem seg_apply (x : Vec Ideal S256x512 .f32) (g : Fin 4) (p : Fin 256) (q : Fin 128) :
    seg x g (ix2 p q) = x (ix2 p ⟨128 * g.val + q.val, by omega⟩) :=
  View.ld_unit_apply_of x _ _ _ _ _ fun a => by
    match a with
    | ⟨0, _⟩ => show p.val = 0 + p.val; omega
    | ⟨1, _⟩ => rfl

theorem segW_apply (x : Vec Ideal S1x512 .f32) (g : Fin 4) (q : Fin 128) :
    segW x g (ix2 0 q) = x (ix2 0 ⟨128 * g.val + q.val, by omega⟩) :=
  View.ld_unit_apply_of x _ _ _ _ _ fun a => by
    match a with
    | ⟨0, _⟩ => rfl
    | ⟨1, _⟩ => rfl

/-- A quarter of the first branch. -/
def pieceA (b : Blocks F) (g : Fin 4) : FVec F S256x128 .f32 :=
  k0_pay32 (seg b.r g) (seg b.k g) (seg b.v g) (seg b.z g) (segW b.rk g) mask
    (k0_pay24 (seg b.y g) (segW b.gw g) (segW b.gb g) mask)

/-- A quarter of the second branch. -/
def pieceB (b : Blocks F) (g : Fin 4) : FVec F S256x128 .f32 := k0_pay80 (seg b.o g) (seg b.zg g) b.on

section
variable (g : Fin 4) (p : Fin 256)

theorem head64_at (f : Fin 512 → EReal) (q : Fin 128) :
    Tail.head64 f ⟨128 * g.val + q.val, by omega⟩ = ∑ l : Fin 64, f ⟨128 * g.val + (64 * (q.val / 64) + l.val), by omega⟩ := by
  unfold Tail.head64
  refine Finset.sum_congr rfl fun l _ => congrArg f (Fin.ext ?_)
  show 64 * ((128 * g.val + q.val) / 64) + l.val = 128 * g.val + (64 * (q.val / 64) + l.val)
  omega

theorem head128_at (f : Fin 512 → EReal) (q : Fin 128) :
    Tail.head128 f ⟨128 * g.val + q.val, by omega⟩ = ∑ l : Fin 128, f ⟨128 * g.val + l.val, by omega⟩ := by
  unfold Tail.head128
  refine Finset.sum_congr rfl fun l _ => congrArg f (Fin.ext ?_)
  show 128 * ((128 * g.val + q.val) / 128) + l.val = 128 * g.val + l.val
  omega

theorem dot_head (f : FVec Ideal S256x128 .f32) (h : Fin 512 → EReal)
    (hf : ∀ q : Fin 128, f (ix2 p q) = h ⟨128 * g.val + q.val, by omega⟩) (q : Fin 128) :
    matmul (F := Ideal) dot_S256x128_S128x128_S256x128_1_0_0_1_n_n none f mask (constant S256x128 .f32 0x00000000#32) (ix2 p q)
      = Tail.head64 h ⟨128 * g.val + q.val, by omega⟩ := by
  rw [dot_mask, head64_at]
  exact Finset.sum_congr rfl fun l _ => hf _

theorem pay19_apply (y : Vec Ideal S256x128 .f32) (h : Fin 512 → EReal)
    (hy : ∀ q : Fin 128, y (ix2 p q) = h ⟨128 * g.val + q.val, by omega⟩) (q : Fin 128) :
    k0_pay19 y mask (ix2 p q) = Tail.cen h ⟨128 * g.val + q.val, by omega⟩ := by
  unfold k0_pay19
  exact congrArg₂ (fun a s : EReal => a - s) (hy q)
    ((congrArg (fun s : EReal => s * Ideal.ofBits .f32 0x3C800000#32) (dot_head g p y h hy q)).trans (Tail.mul_64th _))

theorem pay20_apply (y : Vec Ideal S256x128 .f32) (h : Fin 512 → EReal)
    (hy : ∀ q : Fin 128, y (ix2 p q) = h ⟨128 * g.val + q.val, by omega⟩) (q : Fin 128) :
    k0_pay20 y mask (ix2 p q)
      = Ideal.div (Tail.head64 (fun j => Tail.cen h j * Tail.cen h j) ⟨128 * g.val + q.val, by omega⟩)
          (Ideal.ofBits .f32 0x42800000#32) + Ideal.ofBits .f32 0x3A27C5AC#32 := by
  unfold k0_pay20
  refine congrArg (fun s : EReal => s + Ideal.ofBits .f32 0x3A27C5AC#32)
    ((congrArg (fun s : EReal => s * Ideal.ofBits .f32 0x3C800000#32)
      (dot_head g p _ (fun j => Tail.cen h j * Tail.cen h j) (fun q' => ?_) q)).trans (Tail.mul_64th _))
  exact congrArg₂ (fun a b : EReal => a * b) (pay19_apply g p y h hy q') (pay19_apply g p y h hy q')

theorem pieceA_apply (b : Blocks Ideal) (q : Fin 128) :
    pieceA b g (ix2 p q) = Tail.ya (b.row p) ⟨128 * g.val + q.val, by omega⟩ := by
  have hy := seg_apply b.y g p
  have hw : ∀ (w : Vec Ideal S1x512 .f32) (q : Fin 128),
      broadcastTo S256x128 (segW w g) broadcasts_S1x128_S256x128 (ix2 p q) = w (ix2 0 ⟨128 * g.val + q.val, by omega⟩) :=
    fun w q => (Lines.spreadRow (segW w g) broadcasts_S1x128_S256x128 (ix2 p q)).trans (segW_apply w g q)
  unfold pieceA k0_pay32 k0_pay27 k0_pay26 k0_pay25 k0_pay31 k0_pay30 k0_pay28 k0_pay24 k0_pay23 k0_pay21
  refine congrArg₂ (fun a b : EReal => a * b) (congrArg₂ (fun a b : EReal => a + b)
    (congrArg₂ (fun a b : EReal => a + b) (congrArg₂ (fun a b : EReal => a * b) (congrArg₂ (fun a b : EReal => a * b)
      (pay19_apply g p _ _ hy q) (congrArg Ideal.rsqrt (pay20_apply g p _ _ hy q))) (hw b.gw q)) (hw b.gb q))
    (congrArg₂ (fun a b : EReal => a * b) (dot_head g p _ (fun j => b.r (ix2 p j) * b.k (ix2 p j) * b.rk (ix2 0 j)) (fun q' => ?_) q)
      (seg_apply b.v g p q))) (congrArg (fun a : EReal => a * Tail.sig a) (seg_apply b.z g p q))
  exact congrArg₂ (fun a b : EReal => a * b) (congrArg₂ (fun a b : EReal => a * b) (seg_apply b.r g p q') (seg_apply b.k g p q'))
    (hw b.rk q')

theorem pieceB_apply (b : Blocks Ideal) (q : Fin 128) :
    pieceB b g (ix2 p q) = Tail.yb (b.row p) ⟨128 * g.val + q.val, by omega⟩ := by
  have ho := seg_apply b.o g p
  have hs : broadcastTo S256x128 (k0_pay72 (seg b.o g)) broadcasts_S256x1_S256x128 (ix2 p q)
      = Ideal.rsqrt (Ideal.div (Tail.head128 (fun j => b.o (ix2 p j) * b.o (ix2 p j)) ⟨128 * g.val + q.val, by omega⟩)
          (Ideal.ofBits .f32 0x43000000#32) + Ideal.ofBits .f32 0x358637BD#32) := by
    refine (Lines.spreadCol _ broadcasts_S256x1_S256x128 (ix2 p q)).trans ?_
    unfold k0_pay72 k0_pay71
    refine congrArg (fun s : EReal => Ideal.rsqrt (Ideal.div s (Ideal.ofBits .f32 0x43000000#32) + Ideal.ofBits .f32 0x358637BD#32))
      ((Lines.rowSum _ reduces_S256x128_S256 _ _ shapeCasts_S256_S256x1 _).trans ?_)
    rw [head128_at]
    exact Finset.sum_congr rfl fun l _ => congrArg₂ (fun a b : EReal => a * b) (ho l) (ho l)
  unfold pieceB k0_pay80 k0_pay79 k0_pay78 k0_pay76 k0_pay75 k0_pay74
  refine congrArg₂ (fun a b : EReal => a * b) (congrArg₂ (fun a b : EReal => a * b)
    (congrArg₂ (fun a b : EReal => a * b) (ho q) hs)
    ((Lines.spreadRow b.on broadcasts_S1x128_S256x128 (ix2 p q)).trans (congrArg b.on ?_)))
    (congrArg (fun a : EReal => a * Tail.sig a) (seg_apply b.zg g p q))
  funext a; apply Fin.ext
  match a with
  | ⟨0, _⟩ => rfl
  | ⟨1, _⟩ => show q.val = (128 * g.val + q.val) % 128; omega

end

/-- Four pieces side by side, read at a lane. -/
theorem cat4 (x : Fin 4 → FVec Ideal S256x128 .f32) (f : Fin 512 → EReal) (p : Fin 256)
    (h : ∀ (g : Fin 4) (q : Fin 128), x g (ix2 p q) = f ⟨128 * g.val + q.val, by omega⟩) (c : Fin 512) :
    concatenate S256x512 1 [⟨S256x128, x 0⟩, ⟨S256x128, x 1⟩, ⟨S256x128, x 2⟩, ⟨S256x128, x 3⟩]
      concatenates_S256x128_S256x128_S256x128_S256x128_S256x512_d1 (ix2 p c) = f c := by
  have key : ∀ (g : Fin 4) (hg : g.val = c.val / 128),
      concatenate S256x512 1 [⟨S256x128, x 0⟩, ⟨S256x128, x 1⟩, ⟨S256x128, x 2⟩, ⟨S256x128, x 3⟩]
        concatenates_S256x128_S256x128_S256x128_S256x128_S256x512_d1 (ix2 p c) = x g (ix2 p ⟨c.val % 128, by omega⟩) := fun g hg => by
    refine concatenate_apply_piece (t := S256x512) 1 _ _ (ix2 p c) g.val (by simp) S256x128 (x g) ?_ rfl (128 * g.val) ?_
      (ix2 p ⟨c.val % 128, by omega⟩) ?_ ?_
    · match g with
      | 0 => rfl
      | 1 => rfl
      | 2 => rfl
      | 3 => rfl
    · match g with
      | 0 => rfl
      | 1 => rfl
      | 2 => rfl
      | 3 => rfl
    · intro a ha
      match a with
      | ⟨0, _⟩ => rfl
      | ⟨1, _⟩ => exact absurd rfl ha
    · show 128 * g.val + c.val % 128 = c.val
      omega
  rw [key ⟨c.val / 128, by omega⟩ rfl, h]
  exact congrArg f (Fin.ext (by show 128 * (c.val / 128) + c.val % 128 = c.val; omega))

/-- The first branch's block, in the short format. -/
abbrev blockA (b : Blocks F) : FVec F S256x512 .bf16 := k0_pay102 (pieceA b 0) (pieceA b 1) (pieceA b 2) (pieceA b 3)

/-- The second branch's block, in the short format. -/
abbrev blockB (b : Blocks F) : FVec F S256x512 .bf16 :=
  k0_pay103 (seg b.zg 3) (pieceB b 0) (pieceB b 1) (pieceB b 2) (k0_pay97 (seg b.o 3) b.on) (k0_pay98 (seg b.zg 3))
    (FloatOps.ofBits .f32 0x3F800000#32)

theorem blockA_apply (b : Blocks Ideal) (p : Fin 256) (c : Fin 512) : blockA b (ix2 p c) = Tail.ya (b.row p) c := by
  unfold blockA k0_pay102
  exact cat4 (pieceA b) _ p (fun g q => pieceA_apply g p b q) c

theorem blockB_apply (b : Blocks Ideal) (p : Fin 256) (c : Fin 512) : blockB b (ix2 p c) = Tail.yb (b.row p) c := by
  unfold blockB k0_pay103
  exact cat4 (pieceB b) _ p (fun g q => pieceB_apply g p b q) c

end Cert.KernelIdeal.Value

end
-- ==== Proof.TailTile.lean ====
/-
  A point's values at a token: from the branches through the gated merge, the output product, the norm and the error, to the
  cotangents, each is the row's own value.
-/
module

public import proofs.«01_k».proof.Proof.TailBranch

@[expose] public section

set_option maxRecDepth 16384

noncomputable section

namespace Cert.KernelIdeal.Value

open Cert.KernelIdeal Cert.KernelIdeal.Gen Idealize.ShloMosaic Idealize.ShloMosaic.TcCoe
open Idealize.ShloMosaic.ValueIdx

variable {F : FTy → Type} [FloatOps F]

/-- The gates' inputs of the first branch and of the second. -/
abbrev gateA (g : Vec F S256x2048 .f32) : Vec F S256x1024 .f32 :=
  View.ld (S := S256x2048) g (Rect.unit ![0, 0] S256x1024.size inb_S256x2048_S256x1024_0_0)
abbrev gateB (g : Vec F S256x2048 .f32) : Vec F S256x1024 .f32 :=
  View.ld (S := S256x2048) g (Rect.unit ![0, 1024] S256x1024.size inb_S256x2048_S256x1024_0_1024)

abbrev tUA (b : Blocks F) : FVec F S256x1024 .f32 := k0_pay104 (pieceA b 0) (pieceA b 1) (pieceA b 2) (pieceA b 3) b.wa
abbrev tUB (b : Blocks F) : FVec F S256x1024 .f32 :=
  k0_pay105 (seg b.zg 3) (pieceB b 0) (pieceB b 1) (pieceB b 2) (k0_pay97 (seg b.o 3) b.on) (k0_pay98 (seg b.zg 3))
    (FloatOps.ofBits .f32 0x3F800000#32) b.wb
abbrev tGA (b : Blocks F) : FVec F S256x1024 .f32 := k0_pay106 (gateA b.g)
abbrev tGB (b : Blocks F) : FVec F S256x1024 .f32 := k0_pay107 (gateB b.g)

/-- The gated merge, in the short format. -/
abbrev tM (b : Blocks F) : FVec F S256x1024 .bf16 :=
  k0_pay108 (pieceA b 0) (pieceA b 1) (pieceA b 2) (pieceA b 3) (seg b.zg 3) (pieceB b 0) (pieceB b 1) (pieceB b 2)
    (k0_pay97 (seg b.o 3) b.on) (k0_pay98 (seg b.zg 3)) (FloatOps.ofBits .f32 0x3F800000#32) b.wa b.wb (gateA b.g) (gateB b.g)

abbrev tW (b : Blocks F) : FVec F S1024x1024 .bf16 := k0_pay109 b.wo
abbrev tXo (b : Blocks F) : FVec F S256x1024 .f32 := k0_pay110 (tM b) b.x (tW b)
abbrev tRs (b : Blocks F) : FVec F S256x1 .f32 := k0_pay111 (tM b) b.x (tW b)
abbrev tYn (b : Blocks F) : FVec F S256x1024 .f32 := k0_pay112 (tM b) b.x (tW b)
abbrev tErr (b : Blocks F) : FVec F S256x1024 .f32 := k0_pay113 (tM b) b.x (tW b) b.now b.tgt
abbrev tDy (b : Blocks F) : FVec F S256x1024 .f32 := k0_pay114 (tM b) b.x (tW b) b.now b.tgt
abbrev tDxo (b : Blocks F) : FVec F S256x1024 .f32 := k0_pay115 (tM b) b.x (tW b) b.now b.tgt
abbrev tDxoShort (b : Blocks F) : FVec F S256x1024 .bf16 := k0_pay116 (tM b) b.x (tW b) b.now b.tgt
abbrev tDm (b : Blocks F) : FVec F S256x1024 .f32 := k0_pay117 (tM b) b.x (tW b) b.now b.tgt b.wo
abbrev tDmA (b : Blocks F) : FVec F S256x1024 .bf16 := k0_pay118 (tGA b) (tM b) b.x (tW b) b.now b.tgt b.wo
abbrev tDmB (b : Blocks F) : FVec F S256x1024 .bf16 := k0_pay119 (tGB b) (tM b) b.x (tW b) b.now b.tgt b.wo
abbrev tDga (b : Blocks F) : FVec F S256x1024 .bf16 :=
  k0_pay121 (tGA b) (k0_pay120 (tUA b) (tGA b) (tM b) b.x (tW b) b.now b.tgt b.wo) (FloatOps.ofBits .f32 0x3F800000#32)
abbrev tDgb (b : Blocks F) : FVec F S256x1024 .bf16 := k0_pay122 (tUB b) (tGB b) (tDm b)

section
variable (b : Blocks Ideal) (p : Fin 256) (q : Fin 1024)

theorem tUA_apply : tUA b (ix2 p q) = Tail.ua (b.row p) q := by
  unfold tUA k0_pay104
  rw [shapeCast_self]
  refine (Dots.dot_nn dot_S256x512_S512x1024_S256x1024_1_0_0_1_n_n rfl rfl rfl rfl rfl rfl none (blockA b) b.wa _).trans ?_
  exact Finset.sum_congr rfl fun c _ => congrArg (fun s : EReal => s * b.wa (ix2 c q)) (blockA_apply b p c)

theorem tUB_apply : tUB b (ix2 p q) = Tail.ub (b.row p) q := by
  unfold tUB k0_pay105
  rw [shapeCast_self]
  refine (Dots.dot_nn dot_S256x512_S512x1024_S256x1024_1_0_0_1_n_n rfl rfl rfl rfl rfl rfl none (blockB b) b.wb _).trans ?_
  exact Finset.sum_congr rfl fun c _ => congrArg (fun s : EReal => s * b.wb (ix2 c q)) (blockB_apply b p c)

theorem gateA_apply : gateA b.g (ix2 p q) = b.g (ix2 p ⟨q.val, by omega⟩) :=
  View.ld_unit_apply_of b.g _ _ _ _ _ fun a => by
    match a with
    | ⟨0, _⟩ => show p.val = 0 + p.val; omega
    | ⟨1, _⟩ => show q.val = 0 + q.val; omega

theorem gateB_apply : gateB b.g (ix2 p q) = b.g (ix2 p ⟨1024 + q.val, by omega⟩) :=
  View.ld_unit_apply_of b.g _ _ _ _ _ fun a => by
    match a with
    | ⟨0, _⟩ => show p.val = 0 + p.val; omega
    | ⟨1, _⟩ => rfl

theorem tGA_apply : tGA b (ix2 p q) = Tail.ga (b.row p) q := congrArg Tail.sig (gateA_apply b p q)
theorem tGB_apply : tGB b (ix2 p q) = Tail.gb (b.row p) q := congrArg Tail.sig (gateB_apply b p q)

theorem tM_apply : tM b (ix2 p q) = Tail.mm (b.row p) q :=
  congrArg₂ (fun s t : EReal => s + t) (congrArg₂ (fun s t : EReal => s * t) (tGA_apply b p q) (tUA_apply b p q))
    (congrArg₂ (fun s t : EReal => s * t) (tGB_apply b p q) (tUB_apply b p q))

theorem tXo_apply : tXo b (ix2 p q) = Tail.xo (b.row p) q := by
  unfold tXo k0_pay110 tW k0_pay109
  rw [shapeCast_self]
  refine congrArg (fun s : EReal => b.x (ix2 p q) + s)
    ((Dots.dot_nn dot_S256x1024_S1024x1024_S256x1024_1_0_0_1_n_n rfl rfl rfl rfl rfl rfl none (tM b) b.wo _).trans ?_)
  exact Finset.sum_congr rfl fun c _ => congrArg (fun s : EReal => s * b.wo (ix2 c q)) (tM_apply b p c)

theorem tRs_apply : tRs b (ix2 p 0) = Ideal.rsqrt (Tail.ms (b.row p)) := by
  unfold tRs k0_pay111
  refine congrArg (fun s : EReal => Ideal.rsqrt (Ideal.div s (Ideal.ofBits .f32 0x44800000#32) + Ideal.ofBits .f32 0x358637BD#32))
    ((Lines.rowSum _ reduces_S256x1024_S256 _ _ shapeCasts_S256_S256x1 _).trans ?_)
  exact Finset.sum_congr rfl fun l _ => congrArg₂ (fun s t : EReal => s * t) (tXo_apply b p l) (tXo_apply b p l)

theorem spreadRs : broadcastTo S256x1024 (tRs b) broadcasts_S256x1_S256x1024 (ix2 p q) = Ideal.rsqrt (Tail.ms (b.row p)) :=
  (Lines.spreadCol (tRs b) broadcasts_S256x1_S256x1024 (ix2 p q)).trans (tRs_apply b p)

theorem spreadNow : broadcastTo S256x1024 b.now broadcasts_S1x1024_S256x1024 (ix2 p q) = b.now (ix2 0 q) :=
  Lines.spreadRow b.now broadcasts_S1x1024_S256x1024 (ix2 p q)

theorem tYn_apply : tYn b (ix2 p q) = Tail.yn (b.row p) q :=
  congrArg₂ (fun s t : EReal => s * t) (tXo_apply b p q) (spreadRs b p q)

theorem tErr_apply : tErr b (ix2 p q) = Tail.err (b.row p) q :=
  congrArg (fun s : EReal => s - b.tgt (ix2 p q))
    (congrArg₂ (fun s t : EReal => s * t) (tYn_apply b p q) (spreadNow b p q))

theorem tDy_apply : tDy b (ix2 p q) = Tail.dy (b.row p) q :=
  congrArg (fun s : EReal => s * Ideal.ofBits .f32 0x3A800000#32) (tErr_apply b p q)

theorem tDxo_apply : tDxo b (ix2 p q) = Tail.dxo (b.row p) q := by
  have hdu : ∀ l : Fin 1024, mulf (tDy b) (broadcastTo S256x1024 b.now broadcasts_S1x1024_S256x1024) (ix2 p l) = Tail.du (b.row p) l :=
    fun l => congrArg₂ (fun s t : EReal => s * t) (tDy_apply b p l) (spreadNow b p l)
  unfold tDxo k0_pay115
  refine congrArg₂ (fun s t : EReal => s * t) (spreadRs b p q) (congrArg₂ (fun s t : EReal => s - t) (hdu q)
    (congrArg₂ (fun s t : EReal => s * t) (tYn_apply b p q) ((Lines.spreadCol _ broadcasts_S256x1_S256x1024 (ix2 p q)).trans ?_)))
  refine congrArg (fun s : EReal => Ideal.div s (Ideal.ofBits .f32 0x44800000#32))
    ((Lines.rowSum _ reduces_S256x1024_S256 _ _ shapeCasts_S256_S256x1 _).trans ?_)
  exact Finset.sum_congr rfl fun l _ => congrArg₂ (fun s t : EReal => s * t) (hdu l) (tYn_apply b p l)

theorem tDxoShort_apply : tDxoShort b (ix2 p q) = Tail.dxo (b.row p) q := tDxo_apply b p q

theorem tDm_apply : tDm b (ix2 p q) = Tail.dm (b.row p) q := by
  unfold tDm k0_pay117
  rw [shapeCast_self]
  refine (Dots.dot_nt dot_S256x1024_S1024x1024_S256x1024_1_1_0_0_n_n rfl rfl rfl rfl rfl rfl none (tDxoShort b) b.wo _).trans ?_
  exact Finset.sum_congr rfl fun c _ => congrArg (fun s : EReal => s * b.wo (ix2 q c)) (tDxoShort_apply b p c)

theorem tDmA_apply : tDmA b (ix2 p q) = Tail.dm (b.row p) q * Tail.ga (b.row p) q :=
  congrArg₂ (fun s t : EReal => s * t) (tDm_apply b p q) (tGA_apply b p q)

theorem tDmB_apply : tDmB b (ix2 p q) = Tail.dm (b.row p) q * Tail.gb (b.row p) q :=
  congrArg₂ (fun s t : EReal => s * t) (tDm_apply b p q) (tGB_apply b p q)

theorem tDga_apply : tDga b (ix2 p q) = Tail.dga (b.row p) q :=
  congrArg₂ (fun s t : EReal => s * t) (congrArg₂ (fun s t : EReal => s * t)
    (congrArg₂ (fun s t : EReal => s * t) (tDm_apply b p q) (tUA_apply b p q)) (tGA_apply b p q))
    (congrArg (fun s : EReal => Tail.one - s) (tGA_apply b p q))

theorem tDgb_apply : tDgb b (ix2 p q) = Tail.dgb (b.row p) q :=
  congrArg₂ (fun s t : EReal => s * t) (congrArg₂ (fun s t : EReal => s * t)
    (congrArg₂ (fun s t : EReal => s * t) (tDm_apply b p q) (tUB_apply b p q)) (tGB_apply b p q))
    (congrArg (fun s : EReal => Tail.one - s) (tGB_apply b p q))

end

end Cert.KernelIdeal.Value

end
-- ==== Proof.TailBlocks.lean ====
/-
  The blocks a point of the tail reads, and what it makes of them: its tiles of the cotangents, and the sums over tokens with
  its own part added.
-/
module

public import proofs.«01_k».proof.Proof.TailLeft
public import proofs.«01_k».proof.Proof.TailTile
public import Idealize.ShloMosaic.Lib.Tactic

@[expose] public section

set_option maxRecDepth 16384

noncomputable section

namespace Cert.KernelIdeal.Value

open Cert.KernelIdeal Cert.KernelIdeal.Gen Idealize.ShloMosaic Idealize.ShloMosaic.TcCoe

variable {F : FTy → Type} [FloatOps F]
variable (m : (ℓ : Loc nD τ sig) → Buf (Elt F) ℓ)

/-- The blocks point `t` reads. -/
abbrev blk (c : Dev nD) (t : Fin cfg0.N) : Blocks F where
  x := iblk m c 0 t
  tgt := iblk m c 1 t
  g := iblk m c 2 t
  y := iblk m c 3 t
  r := iblk m c 4 t
  k := iblk m c 5 t
  v := iblk m c 6 t
  z := iblk m c 7 t
  o := iblk m c 8 t
  zg := iblk m c 9 t
  gw := iblk m c 10 t
  gb := iblk m c 11 t
  rk := iblk m c 12 t
  on := iblk m c 13 t
  wa := iblk m c 14 t
  wb := iblk m c 15 t
  wo := iblk m c 16 t
  now := iblk m c 17 t

/-- The tile of the gates' cotangent: the first branch's half, then the second's. -/
def dgBlock (b : Blocks F) : Vec F S256x2048 .bf16 :=
  View.canon (Val := Elt F) (s := S256x2048) (e := .bf16)
    [⟨Rect.unit ![0, 1024] S256x1024.size inb_S256x2048_S256x1024_0_1024, tDgb b⟩,
      ⟨Rect.unit ![0, 0] S256x1024.size inb_S256x2048_S256x1024_0_0, tDga b⟩]

/-- The sums over tokens with a point's part added. -/
def addWa (b : Blocks F) (a : Vec F S512x1024 .f32) : Vec F S512x1024 .f32 := k0_pay236 (blockA b) (tDmA b) (k0_pay235 a)
def addWb (b : Blocks F) (a : Vec F S512x1024 .f32) : Vec F S512x1024 .f32 := k0_pay237 (blockB b) (tDmB b) a
def addWo (b : Blocks F) (a : Vec F S1024x1024 .f32) : Vec F S1024x1024 .f32 := k0_pay234 (tM b) (tDxoShort b) a
def addNow (b : Blocks F) (a : Vec F S1x1024 .f32) : Vec F S1x1024 .f32 := k0_pay238 (tYn b) (tDy b) a
def addLoss (b : Blocks F) (a : Vec F S8x128 .f32) : Vec F S8x128 .f32 := k0_pay1 (k0_pay239 a) (k0_pay240 (tErr b))

theorem hz : (![0, 0] : Fin 2 → Nat) = fun _ => 0 := funext fun a => by fin_cases a <;> rfl

/-- Reading a whole block is reading the block. -/
theorem ld_whole2 {n k : ℕ} {e : EltTy} (inb : ∀ a, (![0, 0] : Fin 2 → ℕ) a + (![n, k] : Fin 2 → ℕ) a ≤ (⟨2, ![n, k]⟩ : Shape).size a)
    (X : (⟨2, ![n, k]⟩ : Shape).Idx → Elt F e) : View.ld X (Rect.unit (s := ⟨2, ![n, k]⟩) ![0, 0] ![n, k] inb) = X :=
  View.ld_unit_zero (S := ⟨2, ![n, k]⟩) hz inb X

end Cert.KernelIdeal.Value

end
-- ==== Proof.TailOutsA.lean ====
/-
  What the point that starts the sums leaves in the outputs.
-/
module

public import proofs.«01_k».proof.Proof.TailBlocks

@[expose] public section

set_option maxRecDepth 16384

noncomputable section

namespace Cert.KernelIdeal.Value

open Cert.KernelIdeal Cert.KernelIdeal.Gen Idealize.ShloMosaic Idealize.ShloMosaic.TcCoe

variable {F : FTy → Type} [FloatOps F]
variable (m : (ℓ : Loc nD τ sig) → Buf (Elt F) ℓ)

set_option maxHeartbeats 8000000 in
theorem dg_A (c : Dev nD) (t : Fin cfg0.N) (h0 : t.val % 16 = 0) : (outsA m c t h0).2.2.2.2.2.2.2.1 = dgBlock (blk m c t) := by
  refine (show (outsA m c t h0).2.2.2.2.2.2.2.1 = left VO0_25 (runA m c t h0).2.2.2.2.2.2.2.1 by
    delta outsA
    with_reducible rfl).trans ?_
  refine (View.read_writes_eq_canon VO0_25 VO0_25.junk _ (covA_25 m c t h0)).trans ?_
  unfold runA kernelRun0_A
  dsimp only
  sl_unfold_words
  simp only [View.readAt_eq_ld, Memref.IsWhole.read_unread, ld_whole2]
  sl_kernel_rfl

set_option maxHeartbeats 8000000 in
theorem dxo_A (c : Dev nD) (t : Fin cfg0.N) (h0 : t.val % 16 = 0) : (outsA m c t h0).2.2.2.2.2.2.2.2.1 = tDxo (blk m c t) := by
  refine (show (outsA m c t h0).2.2.2.2.2.2.2.2.1 = left VO0_26 (runA m c t h0).2.2.2.2.2.2.2.2.1 by
    delta outsA
    with_reducible rfl).trans ?_
  refine (View.read_writes_eq_canon VO0_26 VO0_26.junk _ (covA_26 m c t h0)).trans ?_
  unfold runA kernelRun0_A
  dsimp only
  sl_unfold_words
  rw [View.canon_unit_zero hz]
  simp only [View.readAt_eq_ld, Memref.IsWhole.read_unread, ld_whole2]
  sl_kernel_rfl

set_option maxHeartbeats 8000000 in
theorem dwa_A (c : Dev nD) (t : Fin cfg0.N) (h0 : t.val % 16 = 0) : (outsA m c t h0).2.2.2.2.2.2.2.2.2.1 = addWa (blk m c t) k0_pay212 := by
  refine (show (outsA m c t h0).2.2.2.2.2.2.2.2.2.1 = left VO0_27 (runA m c t h0).2.2.2.2.2.2.2.2.2.1 by
    delta outsA
    with_reducible rfl).trans ?_
  refine (View.read_writes_eq_canon VO0_27 VO0_27.junk _ (covA_27 m c t h0)).trans ?_
  unfold runA kernelRun0_A
  dsimp only
  sl_unfold_words
  rw [View.canon_cons_unit_zero (S := S512x1024) hz, View.readCov_unit_zero (S := S512x1024) _ hz]
  simp only [View.readAt_eq_ld, Memref.IsWhole.read_unread, ld_whole2]
  sl_kernel_rfl

set_option maxHeartbeats 8000000 in
theorem dwb_A (c : Dev nD) (t : Fin cfg0.N) (h0 : t.val % 16 = 0) : (outsA m c t h0).2.2.2.2.2.2.2.2.2.2.1 = addWb (blk m c t) k0_pay213 := by
  refine (show (outsA m c t h0).2.2.2.2.2.2.2.2.2.2.1 = left VO0_28 (runA m c t h0).2.2.2.2.2.2.2.2.2.2.1 by
    delta outsA
    with_reducible rfl).trans ?_
  refine (View.read_writes_eq_canon VO0_28 VO0_28.junk _ (covA_28 m c t h0)).trans ?_
  unfold runA kernelRun0_A
  dsimp only
  sl_unfold_words
  rw [View.canon_cons_unit_zero (S := S512x1024) hz, View.readCov_unit_zero (S := S512x1024) _ hz]
  simp only [View.readAt_eq_ld, Memref.IsWhole.read_unread, ld_whole2]
  sl_kernel_rfl

set_option maxHeartbeats 8000000 in
theorem dwo_A (c : Dev nD) (t : Fin cfg0.N) (h0 : t.val % 16 = 0) : (outsA m c t h0).2.2.2.2.2.2.2.2.2.2.2.1 = addWo (blk m c t) k0_pay214 := by
  refine (show (outsA m c t h0).2.2.2.2.2.2.2.2.2.2.2.1 = left VO0_29 (runA m c t h0).2.2.2.2.2.2.2.2.2.2.2.1 by
    delta outsA
    with_reducible rfl).trans ?_
  refine (View.read_writes_eq_canon VO0_29 VO0_29.junk _ (covA_29 m c t h0)).trans ?_
  unfold runA kernelRun0_A
  dsimp only
  sl_unfold_words
  rw [View.canon_cons_unit_zero (S := S1024x1024) hz, View.readCov_unit_zero (S := S1024x1024) _ hz]
  simp only [View.readAt_eq_ld, Memref.IsWhole.read_unread, ld_whole2]
  sl_kernel_rfl

set_option maxHeartbeats 8000000 in
theorem dnow_A (c : Dev nD) (t : Fin cfg0.N) (h0 : t.val % 16 = 0) : (outsA m c t h0).2.2.2.2.2.2.2.2.2.2.2.2.1 = addNow (blk m c t) k0_pay215 := by
  refine (show (outsA m c t h0).2.2.2.2.2.2.2.2.2.2.2.2.1 = left VO0_30 (runA m c t h0).2.2.2.2.2.2.2.2.2.2.2.2.1 by
    delta outsA
    with_reducible rfl).trans ?_
  refine (View.read_writes_eq_canon VO0_30 VO0_30.junk _ (covA_30 m c t h0)).trans ?_
  unfold runA kernelRun0_A
  dsimp only
  sl_unfold_words
  rw [View.canon_cons_unit_zero (S := S1x1024) hz, View.readCov_unit_zero (S := S1x1024) _ hz]
  simp only [View.readAt_eq_ld, Memref.IsWhole.read_unread, ld_whole2]
  sl_kernel_rfl

set_option maxHeartbeats 8000000 in
theorem loss_A (c : Dev nD) (t : Fin cfg0.N) (h0 : t.val % 16 = 0) : (outsA m c t h0).2.2.2.2.2.2.2.2.2.2.2.2.2.1 = addLoss (blk m c t) k0_pay216 := by
  refine (show (outsA m c t h0).2.2.2.2.2.2.2.2.2.2.2.2.2.1 = left VO0_31 (runA m c t h0).2.2.2.2.2.2.2.2.2.2.2.2.2.1 by
    delta outsA
    with_reducible rfl).trans ?_
  refine (View.read_writes_eq_canon VO0_31 VO0_31.junk _ (covA_31 m c t h0)).trans ?_
  unfold runA kernelRun0_A
  dsimp only
  sl_unfold_words
  rw [View.canon_cons_unit_zero (S := S8x128) hz, View.readCov_unit_zero (S := S8x128) _ hz]
  simp only [View.readAt_eq_ld, Memref.IsWhole.read_unread, ld_whole2]
  sl_kernel_rfl

end Cert.KernelIdeal.Value

end
-- ==== Proof.TailOutsB.lean ====
/-
  What a later point leaves in the outputs, from what the point before left.
-/
module

public import proofs.«01_k».proof.Proof.TailBlocks

@[expose] public section

set_option maxRecDepth 16384

noncomputable section

namespace Cert.KernelIdeal.Value

open Cert.KernelIdeal Cert.KernelIdeal.Gen Idealize.ShloMosaic Idealize.ShloMosaic.TcCoe

variable {F : FTy → Type} [FloatOps F]
variable (m : (ℓ : Loc nD τ sig) → Buf (Elt F) ℓ)

set_option maxHeartbeats 8000000 in
theorem dg_B (c : Dev nD) (t : Fin cfg0.N) (h0 : ¬t.val % 16 = 0) (a : Outs F) : (outsB m c t h0 a).2.2.2.2.2.2.2.1 = dgBlock (blk m c t) := by
  refine (show (outsB m c t h0 a).2.2.2.2.2.2.2.1 = left VO0_25 (runB m c t h0 a).2.2.2.2.2.2.2.1 by
    delta outsB
    with_reducible rfl).trans ?_
  refine (View.read_writes_eq_canon VO0_25 VO0_25.junk _ (covB_25 m c t h0 a)).trans ?_
  unfold runB kernelRun0_B
  dsimp only
  sl_unfold_words
  simp only [View.readAt_eq_ld, Memref.IsWhole.read_unread, ld_whole2]
  sl_kernel_rfl

set_option maxHeartbeats 8000000 in
theorem dxo_B (c : Dev nD) (t : Fin cfg0.N) (h0 : ¬t.val % 16 = 0) (a : Outs F) : (outsB m c t h0 a).2.2.2.2.2.2.2.2.1 = tDxo (blk m c t) := by
  refine (show (outsB m c t h0 a).2.2.2.2.2.2.2.2.1 = left VO0_26 (runB m c t h0 a).2.2.2.2.2.2.2.2.1 by
    delta outsB
    with_reducible rfl).trans ?_
  refine (View.read_writes_eq_canon VO0_26 VO0_26.junk _ (covB_26 m c t h0 a)).trans ?_
  unfold runB kernelRun0_B
  dsimp only
  sl_unfold_words
  rw [View.canon_unit_zero hz]
  simp only [View.readAt_eq_ld, Memref.IsWhole.read_unread, ld_whole2]
  sl_kernel_rfl

set_option maxHeartbeats 8000000 in
theorem dwa_B (c : Dev nD) (t : Fin cfg0.N) (h0 : ¬t.val % 16 = 0) (a : Outs F) : (outsB m c t h0 a).2.2.2.2.2.2.2.2.2.1 = addWa (blk m c t) (a.2.2.2.2.2.2.2.2.2.1) := by
  refine (show (outsB m c t h0 a).2.2.2.2.2.2.2.2.2.1 = left VO0_27 (runB m c t h0 a).2.2.2.2.2.2.2.2.2.1 by
    delta outsB
    with_reducible rfl).trans ?_
  refine (View.read_writes_eq_canon VO0_27 VO0_27.junk _ (covB_27 m c t h0 a)).trans ?_
  unfold runB kernelRun0_B
  dsimp only
  sl_unfold_words
  rw [View.canon_unit_zero hz]
  simp only [View.readAt_eq_ld, Memref.IsWhole.read_unread, ld_whole2]
  sl_kernel_rfl

set_option maxHeartbeats 8000000 in
theorem dwb_B (c : Dev nD) (t : Fin cfg0.N) (h0 : ¬t.val % 16 = 0) (a : Outs F) : (outsB m c t h0 a).2.2.2.2.2.2.2.2.2.2.1 = addWb (blk m c t) (a.2.2.2.2.2.2.2.2.2.2.1) := by
  refine (show (outsB m c t h0 a).2.2.2.2.2.2.2.2.2.2.1 = left VO0_28 (runB m c t h0 a).2.2.2.2.2.2.2.2.2.2.1 by
    delta outsB
    with_reducible rfl).trans ?_
  refine (View.read_writes_eq_canon VO0_28 VO0_28.junk _ (covB_28 m c t h0 a)).trans ?_
  unfold runB kernelRun0_B
  dsimp only
  sl_unfold_words
  rw [View.canon_unit_zero hz]
  simp only [View.readAt_eq_ld, Memref.IsWhole.read_unread, ld_whole2]
  sl_kernel_rfl

set_option maxHeartbeats 8000000 in
theorem dwo_B (c : Dev nD) (t : Fin cfg0.N) (h0 : ¬t.val % 16 = 0) (a : Outs F) : (outsB m c t h0 a).2.2.2.2.2.2.2.2.2.2.2.1 = addWo (blk m c t) (a.2.2.2.2.2.2.2.2.2.2.2.1) := by
  refine (show (outsB m c t h0 a).2.2.2.2.2.2.2.2.2.2.2.1 = left VO0_29 (runB m c t h0 a).2.2.2.2.2.2.2.2.2.2.2.1 by
    delta outsB
    with_reducible rfl).trans ?_
  refine (View.read_writes_eq_canon VO0_29 VO0_29.junk _ (covB_29 m c t h0 a)).trans ?_
  unfold runB kernelRun0_B
  dsimp only
  sl_unfold_words
  rw [View.canon_unit_zero hz]
  simp only [View.readAt_eq_ld, Memref.IsWhole.read_unread, ld_whole2]
  sl_kernel_rfl

set_option maxHeartbeats 8000000 in
theorem dnow_B (c : Dev nD) (t : Fin cfg0.N) (h0 : ¬t.val % 16 = 0) (a : Outs F) : (outsB m c t h0 a).2.2.2.2.2.2.2.2.2.2.2.2.1 = addNow (blk m c t) (a.2.2.2.2.2.2.2.2.2.2.2.2.1) := by
  refine (show (outsB m c t h0 a).2.2.2.2.2.2.2.2.2.2.2.2.1 = left VO0_30 (runB m c t h0 a).2.2.2.2.2.2.2.2.2.2.2.2.1 by
    delta outsB
    with_reducible rfl).trans ?_
  refine (View.read_writes_eq_canon VO0_30 VO0_30.junk _ (covB_30 m c t h0 a)).trans ?_
  unfold runB kernelRun0_B
  dsimp only
  sl_unfold_words
  rw [View.canon_unit_zero hz]
  simp only [View.readAt_eq_ld, Memref.IsWhole.read_unread, ld_whole2]
  sl_kernel_rfl

set_option maxHeartbeats 8000000 in
theorem loss_B (c : Dev nD) (t : Fin cfg0.N) (h0 : ¬t.val % 16 = 0) (a : Outs F) : (outsB m c t h0 a).2.2.2.2.2.2.2.2.2.2.2.2.2.1 = addLoss (blk m c t) (a.2.2.2.2.2.2.2.2.2.2.2.2.2.1) := by
  refine (show (outsB m c t h0 a).2.2.2.2.2.2.2.2.2.2.2.2.2.1 = left VO0_31 (runB m c t h0 a).2.2.2.2.2.2.2.2.2.2.2.2.2.1 by
    delta outsB
    with_reducible rfl).trans ?_
  refine (View.read_writes_eq_canon VO0_31 VO0_31.junk _ (covB_31 m c t h0 a)).trans ?_
  unfold runB kernelRun0_B
  dsimp only
  sl_unfold_words
  rw [View.canon_unit_zero hz]
  simp only [View.readAt_eq_ld, Memref.IsWhole.read_unread, ld_whole2]
  sl_kernel_rfl

end Cert.KernelIdeal.Value

end
-- ==== Proof.TailSums.lean ====
/-
  What a point of the tail adds to the sums over tokens, in plain mathematics: the rows of its block, each with the value of
  its token; and its tile of the gates' cotangent, half by half.
-/
module

public import proofs.«01_k».proof.Proof.TailBlocks
public import Idealize.ShloMosaic.Lib.Pointwise.Reduce

@[expose] public section

set_option maxRecDepth 16384

noncomputable section

namespace Cert.KernelIdeal.Value

open Cert.KernelIdeal Cert.KernelIdeal.Gen Idealize.ShloMosaic.TcCoe
open Idealize.ShloMosaic hiding ix2 ix3
open Idealize.ShloMosaic.ValueIdx

section
variable (b : Blocks Ideal)

theorem addWa_apply (a : Vec Ideal S512x1024 .f32) (c : Fin 512) (q : Fin 1024) : addWa b a (ix2 c q)
    = (show EReal from a (ix2 c q)) + ∑ p : Fin 256, Tail.ya (b.row p) c * (Tail.dm (b.row p) q * Tail.ga (b.row p) q) := by
  unfold addWa k0_pay236 k0_pay235
  rw [shapeCast_self]
  refine congrArg (fun s : EReal => (show EReal from a (ix2 c q)) + s)
    ((Dots.dot_tn dot_S256x512_S256x1024_S512x1024_0_0_1_1_n_n rfl rfl rfl rfl rfl rfl none (blockA b) (tDmA b) _).trans ?_)
  exact Finset.sum_congr rfl fun p _ => congrArg₂ (fun s t : EReal => s * t) (blockA_apply b p c) (tDmA_apply b p q)

theorem addWb_apply (a : Vec Ideal S512x1024 .f32) (c : Fin 512) (q : Fin 1024) : addWb b a (ix2 c q)
    = (show EReal from a (ix2 c q)) + ∑ p : Fin 256, Tail.yb (b.row p) c * (Tail.dm (b.row p) q * Tail.gb (b.row p) q) := by
  unfold addWb k0_pay237
  rw [shapeCast_self]
  refine congrArg (fun s : EReal => (show EReal from a (ix2 c q)) + s)
    ((Dots.dot_tn dot_S256x512_S256x1024_S512x1024_0_0_1_1_n_n rfl rfl rfl rfl rfl rfl none (blockB b) (tDmB b) _).trans ?_)
  exact Finset.sum_congr rfl fun p _ => congrArg₂ (fun s t : EReal => s * t) (blockB_apply b p c) (tDmB_apply b p q)

theorem addWo_apply (a : Vec Ideal S1024x1024 .f32) (c q : Fin 1024) : addWo b a (ix2 c q)
    = (show EReal from a (ix2 c q)) + ∑ p : Fin 256, Tail.mm (b.row p) c * Tail.dxo (b.row p) q := by
  unfold addWo k0_pay234
  rw [shapeCast_self]
  refine congrArg (fun s : EReal => (show EReal from a (ix2 c q)) + s)
    ((Dots.dot_tn dot_S256x1024_S256x1024_S1024x1024_0_0_1_1_n_n rfl rfl rfl rfl rfl rfl none (tM b) (tDxoShort b) _).trans ?_)
  exact Finset.sum_congr rfl fun p _ => congrArg₂ (fun s t : EReal => s * t) (tM_apply b p c) (tDxoShort_apply b p q)

theorem addNow_apply (a : Vec Ideal S1x1024 .f32) (q : Fin 1024) : addNow b a (ix2 0 q)
    = (show EReal from a (ix2 0 q)) + ∑ p : Fin 256, Tail.dy (b.row p) q * Tail.yn (b.row p) q := by
  unfold addNow k0_pay238
  rw [shapeCast_self]
  refine congrArg (fun s : EReal => (show EReal from a (ix2 0 q)) + s)
    ((Lines.colSum _ reduces_S256x1024_S1024 _ _ shapeCasts_S1024_S1x1024 _).trans ?_)
  exact Finset.sum_congr rfl fun p _ => congrArg₂ (fun s t : EReal => s * t) (tDy_apply b p q) (tYn_apply b p q)

/-- A block with a leading axis of one, at a row and a lane. -/
theorem lead_apply (x : FVec Ideal S256x1024 .f32) (i : Fin 1) (p : Fin 256) (q : Fin 1024) :
    shapeCast S1x256x1024 x shapeCasts_S256x1024_S1x256x1024 (Idealize.ShloMosaic.ix3 i p q) = x (ix2 p q) := by
  have hi : i.val < 1 := i.isLt
  refine shapeCast_apply x _ _ (ix2 p q) ?_
  show (Shape.rowMajorPi ![256, 1024] (ix2 p q)).val = (Shape.rowMajorPi ![1, 256, 1024] (Idealize.ShloMosaic.ix3 i p q)).val
  rw [Shape.rowMajorPi_succ_val, Shape.rowMajorPi_succ_val, Shape.rowMajorPi_zero, Shape.rowMajorPi_succ_val,
    Shape.rowMajorPi_succ_val, Shape.rowMajorPi_succ_val, Shape.rowMajorPi_zero]
  simp [ix2, Idealize.ShloMosaic.ix3]

/-- The squares of a block, all together. -/
theorem squares_apply (j : S1.Idx) : multiReduction .add [1, 2] S1 (k0_pay240 (tErr b)) 0x00000000#32 reduces_S1x256x1024_S1 (.inl rfl) rfl j
    = ∑ p : Fin 256, ∑ q : Fin 1024, Tail.err (b.row p) q * Tail.err (b.row p) q := by
  refine (reduces_S1x256x1024_S1.sum_fiber_r3_a12 j (k0_pay240 (tErr b))).trans ?_
  refine Finset.sum_congr rfl fun p _ => Finset.sum_congr rfl fun q _ => ?_
  unfold k0_pay240
  refine (lead_apply _ _ p q).trans ?_
  exact congrArg₂ (fun s t : EReal => s * t) (tErr_apply b p q) (tErr_apply b p q)

theorem addLoss_apply (a : Vec Ideal S8x128 .f32) (i : S8x128.Idx) : addLoss b a i
    = (show EReal from a i) + ∑ p : Fin 256, Tail.loss (b.row p) := by
  have h0 : (0 : ℝ) ≤ 2048⁻¹ := by norm_num
  unfold addLoss k0_pay1 k0_pay239
  rw [shapeCast_self]
  refine congrArg (fun s : EReal => (show EReal from a i) + s)
    ((congrArg (fun s : EReal => Ideal.ofBits .f32 0x3A000000#32 * s) (squares_apply b _)).trans ?_)
  unfold Tail.loss
  rw [Tail.ofBits_2048th, Rms.mul_sum_real _ h0]

end

/-- The first and the second half of the lanes of a tile. -/
abbrev half0 : Rect S256x2048 := Rect.unit ![0, 0] S256x1024.size inb_S256x2048_S256x1024_0_0
abbrev half1 : Rect S256x2048 := Rect.unit ![0, 1024] S256x1024.size inb_S256x2048_S256x1024_0_1024

theorem half0_emb (p : Fin 256) (q : Fin 1024) : half0.emb (ix2 p q) = ix2 p ⟨q.val, by omega⟩ := by
  funext a; apply Fin.ext
  match a with
  | ⟨0, _⟩ => show 0 + 1 * p.val = p.val; omega
  | ⟨1, _⟩ => show 0 + 1 * q.val = q.val; omega

theorem half1_emb (p : Fin 256) (q : Fin 1024) : half1.emb (ix2 p q) = ix2 p ⟨1024 + q.val, by omega⟩ := by
  funext a; apply Fin.ext
  match a with
  | ⟨0, _⟩ => show 0 + 1 * p.val = p.val; omega
  | ⟨1, _⟩ => show 1024 + 1 * q.val = 1024 + q.val; omega

theorem half1_not_mem (p : Fin 256) (q : Fin 1024) : half0.emb (ix2 p q) ∉ half1.set := by
  rw [half0_emb, Rect.mem_set_unit]
  intro h
  have h1 : 1024 ≤ q.val := (h 1).1
  omega

/-- Two tiles side by side, at a lane of the first. -/
theorem halves_left (A : half0.shape.Idx → Elt Ideal .bf16) (B : half1.shape.Idx → Elt Ideal .bf16) (p : Fin 256) (q : Fin 1024) :
    View.canon [(⟨half1, B⟩ : View.Piece (Elt Ideal) S256x2048 .bf16), ⟨half0, A⟩] (half0.emb (ix2 p q)) = A (ix2 p q) :=
  (View.canon_cons_of_not_mem (⟨half1, B⟩ : View.Piece (Elt Ideal) S256x2048 .bf16) _ (half1_not_mem p q)).trans
    (View.canon_cons_emb half0 A [] (ix2 p q))

/-- … and at a lane of the second. -/
theorem halves_right (A : half0.shape.Idx → Elt Ideal .bf16) (B : half1.shape.Idx → Elt Ideal .bf16) (p : Fin 256) (q : Fin 1024) :
    View.canon [(⟨half1, B⟩ : View.Piece (Elt Ideal) S256x2048 .bf16), ⟨half0, A⟩] (half1.emb (ix2 p q)) = B (ix2 p q) :=
  View.canon_cons_emb half1 B _ (ix2 p q)

theorem dgBlock_left (b : Blocks Ideal) (p : Fin 256) (q : Fin 1024) : dgBlock b (ix2 p ⟨q.val, by omega⟩) = Tail.dga (b.row p) q := by
  rw [← half0_emb]
  exact (halves_left (tDga b) (tDgb b) p q).trans (tDga_apply b p q)

theorem dgBlock_right (b : Blocks Ideal) (p : Fin 256) (q : Fin 1024) :
    dgBlock b (ix2 p ⟨1024 + q.val, by omega⟩) = Tail.dgb (b.row p) q := by
  rw [← half1_emb]
  exact (halves_right (tDga b) (tDgb b) p q).trans (tDgb_apply b p q)

end Cert.KernelIdeal.Value

end
-- ==== Proof.TailRefBranch.lean ====
/-
  The reference's two branch outputs at a token: they are the branch outputs of the token's row.
-/
module

public import proofs.«01_k».proof.Proof.Gen.ReferenceIdeal.Read
public import proofs.«01_k».proof.Proof.TailRow

@[expose] public section

set_option maxRecDepth 16384

noncomputable section

namespace Cert.ReferenceIdeal.Value

open Cert.ReferenceIdeal Cert.ReferenceIdeal.Read Idealize.ShloMosaic Idealize.ShloMosaic.TcCoe
open Idealize.ShloMosaic.ValueIdx

/-- A lane of a head of sixty-four, and of a hundred and twenty-eight. -/
abbrev lane64 (i : S4096x8x64.Idx) : Fin 512 := ⟨64 * (i 1).val + (i 2).val, by
  have h1 : (i 1).val < 8 := (i 1).isLt
  have h2 : (i 2).val < 64 := (i 2).isLt
  omega⟩
abbrev lane128 (i : S4096x4x128.Idx) : Fin 512 := ⟨128 * (i 1).val + (i 2).val, by
  have h1 : (i 1).val < 4 := (i 1).isLt
  have h2 : (i 2).val < 128 := (i 2).isLt
  omega⟩

theorem split64 (i : S4096x8x64.Idx) : idx_main_v0 i = ix2 (i 0) (lane64 i) := by
  have h0 : (i 0).val < 4096 := (i 0).isLt
  have h1 : (i 1).val < 8 := (i 1).isLt
  have h2 : (i 2).val < 64 := (i 2).isLt
  funext a; apply Fin.ext
  match a with
  | ⟨0, _⟩ => show (((i 0).val * 8 + (i 1).val) * 64 + (i 2).val) / 512 = (i 0).val; omega
  | ⟨1, _⟩ => show (((i 0).val * 8 + (i 1).val) * 64 + (i 2).val) % 512 = 64 * (i 1).val + (i 2).val; omega

theorem split128 (i : S4096x4x128.Idx) : idx_main_v40 i = ix2 (i 0) (lane128 i) := by
  have h0 : (i 0).val < 4096 := (i 0).isLt
  have h1 : (i 1).val < 4 := (i 1).isLt
  have h2 : (i 2).val < 128 := (i 2).isLt
  funext a; apply Fin.ext
  match a with
  | ⟨0, _⟩ => show (((i 0).val * 4 + (i 1).val) * 128 + (i 2).val) / 512 = (i 0).val; omega
  | ⟨1, _⟩ => show (((i 0).val * 4 + (i 1).val) * 128 + (i 2).val) % 512 = 128 * (i 1).val + (i 2).val; omega

theorem head64_lane (f : Fin 512 → EReal) (i : S4096x8x64.Idx) (g : Fin 64 → EReal)
    (hg : ∀ l : Fin 64, g l = f ⟨64 * (i 1).val + l.val, by have h1 : (i 1).val < 8 := (i 1).isLt; omega⟩) :
    ∑ l, g l = Tail.head64 f (lane64 i) := by
  have h2 : (i 2).val < 64 := (i 2).isLt
  refine Finset.sum_congr rfl fun l _ => (hg l).trans (congrArg f (Fin.ext ?_))
  show 64 * (i 1).val + l.val = 64 * ((64 * (i 1).val + (i 2).val) / 64) + l.val
  omega

theorem head128_lane (f : Fin 512 → EReal) (i : S4096x4x128.Idx) (g : Fin 128 → EReal)
    (hg : ∀ l : Fin 128, g l = f ⟨128 * (i 1).val + l.val, by have h1 : (i 1).val < 4 := (i 1).isLt; omega⟩) :
    ∑ l, g l = Tail.head128 f (lane128 i) := by
  have h2 : (i 2).val < 128 := (i 2).isLt
  refine Finset.sum_congr rfl fun l _ => (hg l).trans (congrArg f (Fin.ext ?_))
  show 128 * (i 1).val + l.val = 128 * ((128 * (i 1).val + (i 2).val) / 128) + l.val
  omega

section
variable (y : S4096x512.Idx → EReal)

theorem mean_apply (i : S4096x8x64.Idx) :
    val_main_v5 (F := Ideal) y i = Ideal.div (Tail.head64 (fun q => y (ix2 (i 0) q)) (lane64 i)) (Ideal.ofBits .f32 0x42800000#32) := by
  rw [val_main_v5_apply, val_main_v4_apply, val_main_v2_apply, val_main_v1_apply, val_main_v3_apply]
  refine congrArg (fun s : EReal => Ideal.div s (Ideal.ofBits .f32 0x42800000#32)) ?_
  refine (congrArg₂ (fun a b : EReal => a + b) Ideal.ofBits_zero_f32 rfl).trans ((zero_add (M := EReal) _).trans ?_)
  refine head64_lane _ i _ fun l => ?_
  rw [val_main_v0_apply, split64]
  rfl

theorem cen_apply (i : S4096x8x64.Idx) : val_main_v6 (F := Ideal) y i = Tail.cen (fun q => y (ix2 (i 0) q)) (lane64 i) := by
  rw [val_main_v6_apply, mean_apply, val_main_v0_apply, split64]
  rfl

theorem cen'_apply (i : S4096x8x64.Idx) : val_main_v13 (F := Ideal) y i = Tail.cen (fun q => y (ix2 (i 0) q)) (lane64 i) := by
  have e : val_main_v13 (F := Ideal) y i = val_main_v6 (F := Ideal) y i := by
    rw [val_main_v13_apply, val_main_v6_apply, val_main_v12_apply, val_main_v5_apply]
  rw [e, cen_apply]

theorem rs_apply (i : S4096x8x64.Idx) :
    val_main_v17 (F := Ideal) y i = Ideal.rsqrt (Ideal.div
      (Tail.head64 (fun j => Tail.cen (fun q => y (ix2 (i 0) q)) j * Tail.cen (fun q => y (ix2 (i 0) q)) j) (lane64 i))
      (Ideal.ofBits .f32 0x42800000#32) + Ideal.ofBits .f32 0x3A27C5AC#32) := by
  rw [val_main_v17_apply, val_main_v16_apply, val_main_v15_apply, val_main_v11_apply, val_main_v9_apply, val_main_v8_apply,
    val_main_v10_apply, val_main_v14_apply]
  refine congrArg (fun s : EReal => Ideal.rsqrt (Ideal.div s (Ideal.ofBits .f32 0x42800000#32) + Ideal.ofBits .f32 0x3A27C5AC#32)) ?_
  refine (congrArg₂ (fun a b : EReal => a + b) Ideal.ofBits_zero_f32 rfl).trans ((zero_add (M := EReal) _).trans ?_)
  refine head64_lane _ i _ fun l => ?_
  rw [val_main_v7_apply, cen_apply]
  rfl

theorem bonus_apply (r k v : S4096x512.Idx → EReal) (rk : S1x512.Idx → EReal) (i : S4096x8x64.Idx) :
    val_main_v35 (F := Ideal) r k v rk i
      = Tail.head64 (fun j => r (ix2 (i 0) j) * k (ix2 (i 0) j) * rk (ix2 0 j)) (lane64 i) * v (ix2 (i 0) (lane64 i)) := by
  rw [val_main_v35_apply, val_main_v34_apply, val_main_v32_apply, val_main_v31_apply, val_main_v33_apply]
  refine congrArg₂ (fun a b : EReal => a * b) ?_ (congrArg v (split64 i))
  refine (congrArg₂ (fun a b : EReal => a + b) Ideal.ofBits_zero_f32 rfl).trans ((zero_add (M := EReal) _).trans ?_)
  refine head64_lane _ i _ fun l => ?_
  rw [val_main_v30_apply, val_main_v26_apply, val_main_v24_apply, val_main_v25_apply, val_main_v29_apply, val_main_v28_apply,
    val_main_v27_apply]
  refine congrArg₂ (fun a b : EReal => a * b) (congrArg₂ (fun a b : EReal => a * b) (congrArg r (split64 _)) (congrArg k (split64 _)))
    (congrArg rk ?_)
  have h1 : (i 1).val < 8 := (i 1).isLt
  funext a; apply Fin.ext
  match a with
  | ⟨0, _⟩ => rfl
  | ⟨1, _⟩ => show ((i 1).val * 64 + l.val) % 512 = 64 * (i 1).val + l.val; omega

theorem lane_join64 (r : Fin 4096) (c : Fin 512) : (idx_main_v19 (ix2 r c)) 0 = r ∧ lane64 (idx_main_v19 (ix2 r c)) = c := by
  constructor
  · apply Fin.ext
    show (r.val * 512 + c.val) / 512 = r.val
    omega
  · apply Fin.ext
    show 64 * ((r.val * 512 + c.val) / 64 % 8) + (r.val * 512 + c.val) % 64 = c.val
    omega

theorem lane_join128 (r : Fin 4096) (c : Fin 512) : (idx_main_v57 (ix2 r c)) 0 = r ∧ lane128 (idx_main_v57 (ix2 r c)) = c := by
  constructor
  · apply Fin.ext
    show (r.val * 512 + c.val) / 512 = r.val
    omega
  · apply Fin.ext
    show 128 * ((r.val * 512 + c.val) / 128 % 4) + (r.val * 512 + c.val) % 128 = c.val
    omega

end

/-- The whole arrays. -/
structure Arrays where
  x : S4096x1024.Idx → EReal
  tgt : S4096x1024.Idx → EReal
  g : S4096x2048.Idx → EReal
  y : S4096x512.Idx → EReal
  r : S4096x512.Idx → EReal
  k : S4096x512.Idx → EReal
  v : S4096x512.Idx → EReal
  z : S4096x512.Idx → EReal
  o : S4096x512.Idx → EReal
  zg : S4096x512.Idx → EReal
  gw : S1x512.Idx → EReal
  gb : S1x512.Idx → EReal
  rk : S1x512.Idx → EReal
  on : S1x128.Idx → EReal
  wa : S512x1024.Idx → EReal
  wb : S512x1024.Idx → EReal
  wo : S1024x1024.Idx → EReal
  now : S1x1024.Idx → EReal

/-- The row of a token. -/
abbrev Arrays.row (b : Arrays) (p : Fin 4096) : Tail.Row where
  x q := b.x (ix2 p q)
  tgt q := b.tgt (ix2 p q)
  g q := b.g (ix2 p q)
  y q := b.y (ix2 p q)
  r q := b.r (ix2 p q)
  k q := b.k (ix2 p q)
  v q := b.v (ix2 p q)
  z q := b.z (ix2 p q)
  o q := b.o (ix2 p q)
  zg q := b.zg (ix2 p q)
  gw q := b.gw (ix2 0 q)
  gb q := b.gb (ix2 0 q)
  rk q := b.rk (ix2 0 q)
  on q := b.on (ix2 0 q)
  wa c q := b.wa (ix2 c q)
  wb c q := b.wb (ix2 c q)
  wo c q := b.wo (ix2 c q)
  now q := b.now (ix2 0 q)

variable (b : Arrays) (r : Fin 4096)

theorem ya_apply (c : Fin 512) :
    val_main_v39 (F := Ideal) b.y b.r b.k b.v b.z b.gw b.gb b.rk (ix2 r c) = Tail.ya (b.row r) c := by
  obtain ⟨e0, e1⟩ := lane_join64 r c
  rw [val_main_v39_apply, val_main_v37_apply, val_main_v23_apply, val_main_v21_apply, val_main_v19_apply, val_main_v18_apply,
    val_main_v20_apply, val_main_v22_apply, val_main_v36_apply, val_main_v38_apply, cen'_apply, rs_apply,
    show idx_main_v36 (ix2 r c) = idx_main_v19 (ix2 r c) from rfl, bonus_apply, e0, e1]
  refine congrArg₂ (fun s t : EReal => s * t) (congrArg₂ (fun s t : EReal => s + t) (congrArg₂ (fun s t : EReal => s + t)
    (congrArg₂ (fun s t : EReal => s * t) rfl (congrArg b.gw ?_)) (congrArg b.gb ?_)) rfl)
    (congrArg (fun s : EReal => b.z (ix2 r c) * s) (Tail.sig_eq _))
  · funext a; match a with | ⟨0, _⟩ => rfl | ⟨1, _⟩ => rfl
  · funext a; match a with | ⟨0, _⟩ => rfl | ⟨1, _⟩ => rfl

theorem yb_apply (c : Fin 512) : val_main_v57 (F := Ideal) b.o b.zg b.on (ix2 r c) = Tail.yb (b.row r) c := by
  obtain ⟨e0, e1⟩ := lane_join128 r c
  have hs : ∀ i : S4096x4x128.Idx, val_main_v49 (F := Ideal) b.o i = Ideal.rsqrt (Ideal.div
      (Tail.head128 (fun j => b.o (ix2 (i 0) j) * b.o (ix2 (i 0) j)) (lane128 i))
      (Ideal.ofBits .f32 0x43000000#32) + Ideal.ofBits .f32 0x358637BD#32) := fun i => by
    rw [val_main_v49_apply, val_main_v48_apply, val_main_v47_apply, val_main_v45_apply, val_main_v43_apply, val_main_v42_apply,
      val_main_v44_apply, val_main_v46_apply]
    refine congrArg (fun s : EReal => Ideal.rsqrt (Ideal.div s (Ideal.ofBits .f32 0x43000000#32) + Ideal.ofBits .f32 0x358637BD#32)) ?_
    refine (congrArg₂ (fun a b : EReal => a + b) Ideal.ofBits_zero_f32 rfl).trans ((zero_add (M := EReal) _).trans ?_)
    refine head128_lane _ i _ fun l => ?_
    rw [val_main_v41_apply, val_main_v40_apply, split128]
    rfl
  rw [val_main_v57_apply, val_main_v56_apply, val_main_v53_apply, val_main_v50_apply, hs, val_main_v40_apply, split128,
    val_main_v52_apply, val_main_v51_apply, val_main_v55_apply, val_main_v54_apply,
    show idx_main_v54 (idx_main_v57 (ix2 r c)) = idx_main_v40 (idx_main_v57 (ix2 r c)) from rfl, split128, e0, e1]
  refine congrArg₂ (fun s t : EReal => s * t) (congrArg₂ (fun s t : EReal => s * t) rfl (congrArg b.on ?_))
    (congrArg (fun s : EReal => b.zg (ix2 r c) * s) ?_)
  · funext a; apply Fin.ext
    match a with
    | ⟨0, _⟩ => rfl
    | ⟨1, _⟩ => show (r.val * 512 + c.val) % 128 = c.val % 128; omega
  · refine (Tail.sig_eq _).trans (congrArg Tail.sig ((val_main_v54_apply _ _).trans (congrArg b.zg ?_)))
    rw [show idx_main_v54 (idx_main_v57 (ix2 r c)) = idx_main_v40 (idx_main_v57 (ix2 r c)) from rfl, split128, e0, e1]
    rfl

end Cert.ReferenceIdeal.Value

end
-- ==== Proof.TailRows.lean ====
/-
  What the tail's windows hold: at point `t` the rows from 256 `t` on of the arrays of tokens, and the whole of each weight.
  So a row of a point's block is a row of the arrays.
-/
module

public import proofs.«01_k».proof.Proof.TailBlocks
public import proofs.«01_k».proof.Proof.TailRefBranch

@[expose] public section

set_option maxRecDepth 16384

noncomputable section

namespace Cert.KernelIdeal.Value

open Cert.KernelIdeal Cert.KernelIdeal.Gen Idealize.ShloMosaic Idealize.ShloMosaic.TcCoe
open Idealize.ShloMosaic.ValueIdx
open Cert.ReferenceIdeal.Value (Arrays)

variable (m : (ℓ : Loc nD τ sig) → Buf (Elt Ideal) ℓ)

/-- The arrays a device is given. -/
abbrev arrays (c : Dev nD) : Arrays where
  x := m ((c : Thread nD τ).loc main_arg0)
  tgt := m ((c : Thread nD τ).loc main_arg1)
  g := m ((c : Thread nD τ).loc main_arg2)
  y := m ((c : Thread nD τ).loc main_arg3)
  r := m ((c : Thread nD τ).loc main_arg4)
  k := m ((c : Thread nD τ).loc main_arg5)
  v := m ((c : Thread nD τ).loc main_arg6)
  z := m ((c : Thread nD τ).loc main_arg7)
  o := m ((c : Thread nD τ).loc main_arg8)
  zg := m ((c : Thread nD τ).loc main_arg9)
  gw := m ((c : Thread nD τ).loc main_arg10)
  gb := m ((c : Thread nD τ).loc main_arg11)
  rk := m ((c : Thread nD τ).loc main_arg12)
  on := m ((c : Thread nD τ).loc main_arg13)
  wa := m ((c : Thread nD τ).loc main_arg14)
  wb := m ((c : Thread nD τ).loc main_arg15)
  wo := m ((c : Thread nD τ).loc main_arg16)
  now := m ((c : Thread nD τ).loc main_arg17)

/-- The windows of tokens are at their rows. -/
theorem index_rows (t : Fin cfg0.N) :
    win0_0.index t 0 = t.val ∧ win0_0.index t 1 = 0 ∧ win0_1.index t 0 = t.val ∧ win0_1.index t 1 = 0
    ∧ win0_2.index t 0 = t.val ∧ win0_2.index t 1 = 0 ∧ win0_3.index t 0 = t.val ∧ win0_3.index t 1 = 0
    ∧ win0_4.index t 0 = t.val ∧ win0_4.index t 1 = 0 ∧ win0_5.index t 0 = t.val ∧ win0_5.index t 1 = 0
    ∧ win0_6.index t 0 = t.val ∧ win0_6.index t 1 = 0 ∧ win0_7.index t 0 = t.val ∧ win0_7.index t 1 = 0
    ∧ win0_8.index t 0 = t.val ∧ win0_8.index t 1 = 0 ∧ win0_9.index t 0 = t.val ∧ win0_9.index t 1 = 0
    ∧ win0_25.index t 0 = t.val ∧ win0_25.index t 1 = 0 ∧ win0_26.index t 0 = t.val ∧ win0_26.index t 1 = 0 := by
  revert t; decide +kernel

/-- The other windows are their whole arrays. -/
theorem index_whole (t : Fin cfg0.N) :
    win0_10.index t 0 = 0 ∧ win0_10.index t 1 = 0 ∧ win0_11.index t 0 = 0 ∧ win0_11.index t 1 = 0
    ∧ win0_12.index t 0 = 0 ∧ win0_12.index t 1 = 0 ∧ win0_13.index t 0 = 0 ∧ win0_13.index t 1 = 0
    ∧ win0_14.index t 0 = 0 ∧ win0_14.index t 1 = 0 ∧ win0_15.index t 0 = 0 ∧ win0_15.index t 1 = 0
    ∧ win0_16.index t 0 = 0 ∧ win0_16.index t 1 = 0 ∧ win0_17.index t 0 = 0 ∧ win0_17.index t 1 = 0
    ∧ win0_27.index t 0 = 0 ∧ win0_27.index t 1 = 0 ∧ win0_28.index t 0 = 0 ∧ win0_28.index t 1 = 0
    ∧ win0_29.index t 0 = 0 ∧ win0_29.index t 1 = 0 ∧ win0_30.index t 0 = 0 ∧ win0_30.index t 1 = 0
    ∧ win0_31.index t 0 = 0 ∧ win0_31.index t 1 = 0 := by
  revert t; decide +kernel

theorem entry_wa (c : Dev nD) : V m c main_v0 = (arrays m c).wa := by
  unfold_abbrev_sides
  after_results
  rfl

theorem entry_wb (c : Dev nD) : V m c main_v1 = (arrays m c).wb := by
  unfold_abbrev_sides
  after_results
  rfl

theorem entry_wo (c : Dev nD) : V m c main_v2 = (arrays m c).wo := by
  unfold_abbrev_sides
  after_results
  rfl

section
variable (c : Dev nD) (t : Fin cfg0.N)

section
variable (p : Fin 256) (r : Fin 4096) (hr : r.val = t.val * 256 + p.val)
include hr

theorem block_x (q : Fin 1024) : iblk m c 0 t (ix2 p q) = (arrays m c).x (ix2 r q) := by
  refine Eq.trans ?_ (congrFun (V_main_arg0 m c) _)
  unfold iblk
  rw [View.read_apply]
  show V m c main_arg0 _ = V m c main_arg0 _
  congr 1
  have hi := index_rows t
  funext a; apply Fin.ext
  match a with
  | ⟨0, _⟩ => show win0_0.index t 0 * 256 + 1 * p.val = r.val; omega
  | ⟨1, _⟩ => show win0_0.index t 1 * 1024 + 1 * q.val = q.val; omega

theorem block_tgt (q : Fin 1024) : iblk m c 1 t (ix2 p q) = (arrays m c).tgt (ix2 r q) := by
  refine Eq.trans ?_ (congrFun (V_main_arg1 m c) _)
  unfold iblk
  rw [View.read_apply]
  show V m c main_arg1 _ = V m c main_arg1 _
  congr 1
  have hi := index_rows t
  funext a; apply Fin.ext
  match a with
  | ⟨0, _⟩ => show win0_1.index t 0 * 256 + 1 * p.val = r.val; omega
  | ⟨1, _⟩ => show win0_1.index t 1 * 1024 + 1 * q.val = q.val; omega

theorem block_g (q : Fin 2048) : iblk m c 2 t (ix2 p q) = (arrays m c).g (ix2 r q) := by
  refine Eq.trans ?_ (congrFun (V_main_arg2 m c) _)
  unfold iblk
  rw [View.read_apply]
  show V m c main_arg2 _ = V m c main_arg2 _
  congr 1
  have hi := index_rows t
  funext a; apply Fin.ext
  match a with
  | ⟨0, _⟩ => show win0_2.index t 0 * 256 + 1 * p.val = r.val; omega
  | ⟨1, _⟩ => show win0_2.index t 1 * 2048 + 1 * q.val = q.val; omega

theorem block_y (q : Fin 512) : iblk m c 3 t (ix2 p q) = (arrays m c).y (ix2 r q) := by
  refine Eq.trans ?_ (congrFun (V_main_arg3 m c) _)
  unfold iblk
  rw [View.read_apply]
  show V m c main_arg3 _ = V m c main_arg3 _
  congr 1
  have hi := index_rows t
  funext a; apply Fin.ext
  match a with
  | ⟨0, _⟩ => show win0_3.index t 0 * 256 + 1 * p.val = r.val; omega
  | ⟨1, _⟩ => show win0_3.index t 1 * 512 + 1 * q.val = q.val; omega

theorem block_r (q : Fin 512) : iblk m c 4 t (ix2 p q) = (arrays m c).r (ix2 r q) := by
  refine Eq.trans ?_ (congrFun (V_main_arg4 m c) _)
  unfold iblk
  rw [View.read_apply]
  show V m c main_arg4 _ = V m c main_arg4 _
  congr 1
  have hi := index_rows t
  funext a; apply Fin.ext
  match a with
  | ⟨0, _⟩ => show win0_4.index t 0 * 256 + 1 * p.val = r.val; omega
  | ⟨1, _⟩ => show win0_4.index t 1 * 512 + 1 * q.val = q.val; omega

theorem block_k (q : Fin 512) : iblk m c 5 t (ix2 p q) = (arrays m c).k (ix2 r q) := by
  refine Eq.trans ?_ (congrFun (V_main_arg5 m c) _)
  unfold iblk
  rw [View.read_apply]
  show V m c main_arg5 _ = V m c main_arg5 _
  congr 1
  have hi := index_rows t
  funext a; apply Fin.ext
  match a with
  | ⟨0, _⟩ => show win0_5.index t 0 * 256 + 1 * p.val = r.val; omega
  | ⟨1, _⟩ => show win0_5.index t 1 * 512 + 1 * q.val = q.val; omega

theorem block_v (q : Fin 512) : iblk m c 6 t (ix2 p q) = (arrays m c).v (ix2 r q) := by
  refine Eq.trans ?_ (congrFun (V_main_arg6 m c) _)
  unfold iblk
  rw [View.read_apply]
  show V m c main_arg6 _ = V m c main_arg6 _
  congr 1
  have hi := index_rows t
  funext a; apply Fin.ext
  match a with
  | ⟨0, _⟩ => show win0_6.index t 0 * 256 + 1 * p.val = r.val; omega
  | ⟨1, _⟩ => show win0_6.index t 1 * 512 + 1 * q.val = q.val; omega

theorem block_z (q : Fin 512) : iblk m c 7 t (ix2 p q) = (arrays m c).z (ix2 r q) := by
  refine Eq.trans ?_ (congrFun (V_main_arg7 m c) _)
  unfold iblk
  rw [View.read_apply]
  show V m c main_arg7 _ = V m c main_arg7 _
  congr 1
  have hi := index_rows t
  funext a; apply Fin.ext
  match a with
  | ⟨0, _⟩ => show win0_7.index t 0 * 256 + 1 * p.val = r.val; omega
  | ⟨1, _⟩ => show win0_7.index t 1 * 512 + 1 * q.val = q.val; omega

theorem block_o (q : Fin 512) : iblk m c 8 t (ix2 p q) = (arrays m c).o (ix2 r q) := by
  refine Eq.trans ?_ (congrFun (V_main_arg8 m c) _)
  unfold iblk
  rw [View.read_apply]
  show V m c main_arg8 _ = V m c main_arg8 _
  congr 1
  have hi := index_rows t
  funext a; apply Fin.ext
  match a with
  | ⟨0, _⟩ => show win0_8.index t 0 * 256 + 1 * p.val = r.val; omega
  | ⟨1, _⟩ => show win0_8.index t 1 * 512 + 1 * q.val = q.val; omega

theorem block_zg (q : Fin 512) : iblk m c 9 t (ix2 p q) = (arrays m c).zg (ix2 r q) := by
  refine Eq.trans ?_ (congrFun (V_main_arg9 m c) _)
  unfold iblk
  rw [View.read_apply]
  show V m c main_arg9 _ = V m c main_arg9 _
  congr 1
  have hi := index_rows t
  funext a; apply Fin.ext
  match a with
  | ⟨0, _⟩ => show win0_9.index t 0 * 256 + 1 * p.val = r.val; omega
  | ⟨1, _⟩ => show win0_9.index t 1 * 512 + 1 * q.val = q.val; omega

end

theorem block_gw (k : Fin 1) (q : Fin 512) : iblk m c 10 t (ix2 k q) = (arrays m c).gw (ix2 k q) := by
  refine Eq.trans ?_ (congrFun (V_main_arg10 m c) _)
  unfold iblk
  rw [View.read_apply]
  show V m c main_arg10 _ = V m c main_arg10 _
  congr 1
  have hi := index_whole t
  funext a; apply Fin.ext
  match a with
  | ⟨0, _⟩ => show win0_10.index t 0 * 1 + 1 * k.val = k.val; omega
  | ⟨1, _⟩ => show win0_10.index t 1 * 512 + 1 * q.val = q.val; omega

theorem block_gb (k : Fin 1) (q : Fin 512) : iblk m c 11 t (ix2 k q) = (arrays m c).gb (ix2 k q) := by
  refine Eq.trans ?_ (congrFun (V_main_arg11 m c) _)
  unfold iblk
  rw [View.read_apply]
  show V m c main_arg11 _ = V m c main_arg11 _
  congr 1
  have hi := index_whole t
  funext a; apply Fin.ext
  match a with
  | ⟨0, _⟩ => show win0_11.index t 0 * 1 + 1 * k.val = k.val; omega
  | ⟨1, _⟩ => show win0_11.index t 1 * 512 + 1 * q.val = q.val; omega

theorem block_rk (k : Fin 1) (q : Fin 512) : iblk m c 12 t (ix2 k q) = (arrays m c).rk (ix2 k q) := by
  refine Eq.trans ?_ (congrFun (V_main_arg12 m c) _)
  unfold iblk
  rw [View.read_apply]
  show V m c main_arg12 _ = V m c main_arg12 _
  congr 1
  have hi := index_whole t
  funext a; apply Fin.ext
  match a with
  | ⟨0, _⟩ => show win0_12.index t 0 * 1 + 1 * k.val = k.val; omega
  | ⟨1, _⟩ => show win0_12.index t 1 * 512 + 1 * q.val = q.val; omega

theorem block_on (k : Fin 1) (q : Fin 128) : iblk m c 13 t (ix2 k q) = (arrays m c).on (ix2 k q) := by
  refine Eq.trans ?_ (congrFun (V_main_arg13 m c) _)
  unfold iblk
  rw [View.read_apply]
  show V m c main_arg13 _ = V m c main_arg13 _
  congr 1
  have hi := index_whole t
  funext a; apply Fin.ext
  match a with
  | ⟨0, _⟩ => show win0_13.index t 0 * 1 + 1 * k.val = k.val; omega
  | ⟨1, _⟩ => show win0_13.index t 1 * 128 + 1 * q.val = q.val; omega

theorem block_wa (k : Fin 512) (q : Fin 1024) : iblk m c 14 t (ix2 k q) = (arrays m c).wa (ix2 k q) := by
  refine Eq.trans ?_ (congrFun (entry_wa m c) _)
  unfold iblk
  rw [View.read_apply]
  show V m c main_v0 _ = V m c main_v0 _
  congr 1
  have hi := index_whole t
  funext a; apply Fin.ext
  match a with
  | ⟨0, _⟩ => show win0_14.index t 0 * 512 + 1 * k.val = k.val; omega
  | ⟨1, _⟩ => show win0_14.index t 1 * 1024 + 1 * q.val = q.val; omega

theorem block_wb (k : Fin 512) (q : Fin 1024) : iblk m c 15 t (ix2 k q) = (arrays m c).wb (ix2 k q) := by
  refine Eq.trans ?_ (congrFun (entry_wb m c) _)
  unfold iblk
  rw [View.read_apply]
  show V m c main_v1 _ = V m c main_v1 _
  congr 1
  have hi := index_whole t
  funext a; apply Fin.ext
  match a with
  | ⟨0, _⟩ => show win0_15.index t 0 * 512 + 1 * k.val = k.val; omega
  | ⟨1, _⟩ => show win0_15.index t 1 * 1024 + 1 * q.val = q.val; omega

theorem block_wo (k : Fin 1024) (q : Fin 1024) : iblk m c 16 t (ix2 k q) = (arrays m c).wo (ix2 k q) := by
  refine Eq.trans ?_ (congrFun (entry_wo m c) _)
  unfold iblk
  rw [View.read_apply]
  show V m c main_v2 _ = V m c main_v2 _
  congr 1
  have hi := index_whole t
  funext a; apply Fin.ext
  match a with
  | ⟨0, _⟩ => show win0_16.index t 0 * 1024 + 1 * k.val = k.val; omega
  | ⟨1, _⟩ => show win0_16.index t 1 * 1024 + 1 * q.val = q.val; omega

theorem block_now (k : Fin 1) (q : Fin 1024) : iblk m c 17 t (ix2 k q) = (arrays m c).now (ix2 k q) := by
  refine Eq.trans ?_ (congrFun (V_main_arg17 m c) _)
  unfold iblk
  rw [View.read_apply]
  show V m c main_arg17 _ = V m c main_arg17 _
  congr 1
  have hi := index_whole t
  funext a; apply Fin.ext
  match a with
  | ⟨0, _⟩ => show win0_17.index t 0 * 1 + 1 * k.val = k.val; omega
  | ⟨1, _⟩ => show win0_17.index t 1 * 1024 + 1 * q.val = q.val; omega

/-- A row of a point's block is a row of the arrays. -/
theorem row_eq (p : Fin 256) (r : Fin 4096) (hr : r.val = t.val * 256 + p.val) : (blk m c t).row p = (arrays m c).row r := by
  unfold Blocks.row Arrays.row
  rw [Tail.Row.mk.injEq]
  exact ⟨funext (block_x m c t p r hr),
    funext (block_tgt m c t p r hr),
    funext (block_g m c t p r hr),
    funext (block_y m c t p r hr),
    funext (block_r m c t p r hr),
    funext (block_k m c t p r hr),
    funext (block_v m c t p r hr),
    funext (block_z m c t p r hr),
    funext (block_o m c t p r hr),
    funext (block_zg m c t p r hr),
    funext (block_gw m c t 0),
    funext (block_gb m c t 0),
    funext (block_rk m c t 0),
    funext (block_on m c t 0),
    funext fun k => funext (block_wa m c t k),
    funext fun k => funext (block_wb m c t k),
    funext fun k => funext (block_wo m c t k),
    funext (block_now m c t 0)⟩

end

end Cert.KernelIdeal.Value

end
-- ==== Proof.TailRef.lean ====
/-
  The reference's values at a token: each is the value of the token's row; its sums over tokens are sums over the rows.
-/
module

public import proofs.«01_k».proof.Proof.TailRefBranch

@[expose] public section

set_option maxRecDepth 16384

noncomputable section

namespace Cert.ReferenceIdeal.Value

open Cert.ReferenceIdeal Cert.ReferenceIdeal.Read Idealize.ShloMosaic Idealize.ShloMosaic.TcCoe
open Idealize.ShloMosaic.ValueIdx

section
variable (b : Arrays)

abbrev rUa : S4096x1024.Idx → EReal := val_main_v69 (F := Ideal) b.y b.r b.k b.v b.z b.gw b.gb b.rk b.wa
abbrev rUb : S4096x1024.Idx → EReal := val_main_v80 (F := Ideal) b.o b.zg b.on b.wb
abbrev rGa : S4096x1024.Idx → EReal := val_main_v65 (F := Ideal) b.g
abbrev rGb : S4096x1024.Idx → EReal := val_main_v76 (F := Ideal) b.g
abbrev rMm : S4096x1024.Idx → EReal := val_main_v82 (F := Ideal) b.g b.y b.r b.k b.v b.z b.o b.zg b.gw b.gb b.rk b.on b.wa b.wb
abbrev rXo : S4096x1024.Idx → EReal := val_main_v84 (F := Ideal) b.x b.g b.y b.r b.k b.v b.z b.o b.zg b.gw b.gb b.rk b.on b.wa b.wb b.wo
abbrev rMs : S4096x1.Idx → EReal := val_main_v91 (F := Ideal) b.x b.g b.y b.r b.k b.v b.z b.o b.zg b.gw b.gb b.rk b.on b.wa b.wb b.wo
abbrev rRs : S4096x1.Idx → EReal := val_main_v92 (F := Ideal) b.x b.g b.y b.r b.k b.v b.z b.o b.zg b.gw b.gb b.rk b.on b.wa b.wb b.wo
abbrev rYn : S4096x1024.Idx → EReal := val_main_v97 (F := Ideal) b.x b.g b.y b.r b.k b.v b.z b.o b.zg b.gw b.gb b.rk b.on b.wa b.wb b.wo
abbrev rErr : S4096x1024.Idx → EReal := val_main_v100 (F := Ideal) b.x b.tgt b.g b.y b.r b.k b.v b.z b.o b.zg b.gw b.gb b.rk b.on b.wa b.wb b.wo b.now
abbrev rDy : S4096x1024.Idx → EReal := val_main_v114 (F := Ideal) b.x b.tgt b.g b.y b.r b.k b.v b.z b.o b.zg b.gw b.gb b.rk b.on b.wa b.wb b.wo b.now
abbrev rDu : S4096x1024.Idx → EReal := val_main_v119 (F := Ideal) b.x b.tgt b.g b.y b.r b.k b.v b.z b.o b.zg b.gw b.gb b.rk b.on b.wa b.wb b.wo b.now
abbrev rBack : S4096.Idx → EReal := val_main_v128 (F := Ideal) b.x b.tgt b.g b.y b.r b.k b.v b.z b.o b.zg b.gw b.gb b.rk b.on b.wa b.wb b.wo b.now
abbrev rDxo : S4096x1024.Idx → EReal := val_main_v133 (F := Ideal) b.x b.tgt b.g b.y b.r b.k b.v b.z b.o b.zg b.gw b.gb b.rk b.on b.wa b.wb b.wo b.now
abbrev rDm : S4096x1024.Idx → EReal := val_main_v136 (F := Ideal) b.x b.tgt b.g b.y b.r b.k b.v b.z b.o b.zg b.gw b.gb b.rk b.on b.wa b.wb b.wo b.now
abbrev rDmA : S4096x1024.Idx → EReal := val_main_v142 (F := Ideal) b.x b.tgt b.g b.y b.r b.k b.v b.z b.o b.zg b.gw b.gb b.rk b.on b.wa b.wb b.wo b.now
abbrev rDmB : S4096x1024.Idx → EReal := val_main_v137 (F := Ideal) b.x b.tgt b.g b.y b.r b.k b.v b.z b.o b.zg b.gw b.gb b.rk b.on b.wa b.wb b.wo b.now
abbrev rDga : S4096x1024.Idx → EReal := val_main_v146 (F := Ideal) b.x b.tgt b.g b.y b.r b.k b.v b.z b.o b.zg b.gw b.gb b.rk b.on b.wa b.wb b.wo b.now
abbrev rDgb : S4096x1024.Idx → EReal := val_main_v141 (F := Ideal) b.x b.tgt b.g b.y b.r b.k b.v b.z b.o b.zg b.gw b.gb b.rk b.on b.wa b.wb b.wo b.now
abbrev rDg : S4096x2048.Idx → EReal := val_main_v148 (F := Ideal) b.x b.tgt b.g b.y b.r b.k b.v b.z b.o b.zg b.gw b.gb b.rk b.on b.wa b.wb b.wo b.now
abbrev rDwa : S512x1024.Idx → EReal := val_main_v145 (F := Ideal) b.x b.tgt b.g b.y b.r b.k b.v b.z b.o b.zg b.gw b.gb b.rk b.on b.wa b.wb b.wo b.now
abbrev rDwb : S512x1024.Idx → EReal := val_main_v140 (F := Ideal) b.x b.tgt b.g b.y b.r b.k b.v b.z b.o b.zg b.gw b.gb b.rk b.on b.wa b.wb b.wo b.now
abbrev rDwo : S1024x1024.Idx → EReal := val_main_v135 (F := Ideal) b.x b.tgt b.g b.y b.r b.k b.v b.z b.o b.zg b.gw b.gb b.rk b.on b.wa b.wb b.wo b.now
abbrev rDnow : S1x1024.Idx → EReal := val_main_v117 (F := Ideal) b.x b.tgt b.g b.y b.r b.k b.v b.z b.o b.zg b.gw b.gb b.rk b.on b.wa b.wb b.wo b.now
abbrev rMeans : S4096.Idx → EReal := val_main_v106 (F := Ideal) b.x b.tgt b.g b.y b.r b.k b.v b.z b.o b.zg b.gw b.gb b.rk b.on b.wa b.wb b.wo b.now
abbrev rLoss : S8x128.Idx → EReal := val_main_v149 (F := Ideal) b.x b.tgt b.g b.y b.r b.k b.v b.z b.o b.zg b.gw b.gb b.rk b.on b.wa b.wb b.wo b.now

end

/-- Half over the width times twice an error is the error over the width. -/
theorem scale (e : EReal) :
    Ideal.div (Tail.half * Tail.one) (Ideal.ofBits .f32 0x44800000#32) * (Ideal.ofBits .f32 0x40000000#32 * e)
      = e * Ideal.ofBits .f32 0x3A800000#32 := by
  rw [Tail.half_eq, Tail.one_eq, mul_one, Rms.ofBits_1024, Tail.ofBits_two, Tail.ofBits_1024th, Rms.div_real _ (by norm_num),
    ← mul_assoc, ← EReal.coe_mul, ← EReal.coe_mul, mul_comm]
  norm_num

/-- A sum over a vector's indices. -/
theorem sum_idx1 {n : ℕ} (f : (⟨1, ![n]⟩ : Shape).Idx → EReal) : ∑ j, f j = ∑ r : Fin n, f (ix1 r) := by
  refine Fintype.sum_equiv ⟨fun j => j 0, fun r => ix1 r, fun j => ?_, fun r => rfl⟩ _ _ fun j => congrArg f ?_
  · funext a; match a with | ⟨0, _⟩ => rfl
  · funext a; match a with | ⟨0, _⟩ => rfl

variable (b : Arrays)

section
variable (r : Fin 4096) (q : Fin 1024)

theorem rUa_apply : rUa b (ix2 r q) = Tail.ua (b.row r) q := by
  unfold rUa
  rw [val_main_v69_apply]
  refine Finset.sum_congr rfl fun k _ => congrArg₂ (fun s t : EReal => s * t) ?_ (congrArg b.wa ?_)
  · rw [show lidx_main_v69 (ix2 r q) k = ix2 r k by funext a; match a with | ⟨0, _⟩ => rfl | ⟨1, _⟩ => rfl]
    exact ya_apply b r k
  · funext a; match a with | ⟨0, _⟩ => rfl | ⟨1, _⟩ => rfl

theorem rUb_apply : rUb b (ix2 r q) = Tail.ub (b.row r) q := by
  unfold rUb
  rw [val_main_v80_apply]
  refine Finset.sum_congr rfl fun k _ => congrArg₂ (fun s t : EReal => s * t) ?_ (congrArg b.wb ?_)
  · rw [show lidx_main_v80 (ix2 r q) k = ix2 r k by funext a; match a with | ⟨0, _⟩ => rfl | ⟨1, _⟩ => rfl]
    exact yb_apply b r k
  · funext a; match a with | ⟨0, _⟩ => rfl | ⟨1, _⟩ => rfl

theorem rGa_apply : rGa b (ix2 r q) = Tail.ga (b.row r) q := by
  unfold rGa
  rw [val_main_v65_apply, val_main_v64_apply, val_main_v63_apply, val_main_v62_apply, val_main_v61_apply, val_main_v60_apply,
    val_main_v58_apply]
  refine (Tail.sig_eq _).trans (congrArg (fun i => Tail.sig (b.g i)) ?_)
  funext a; match a with | ⟨0, _⟩ => rfl | ⟨1, _⟩ => rfl

theorem rGb_apply : rGb b (ix2 r q) = Tail.gb (b.row r) q := by
  unfold rGb
  rw [val_main_v76_apply, val_main_v75_apply, val_main_v74_apply, val_main_v73_apply, val_main_v72_apply, val_main_v71_apply,
    val_main_v59_apply]
  refine (Tail.sig_eq _).trans (congrArg (fun i => Tail.sig (b.g i)) ?_)
  funext a; match a with | ⟨0, _⟩ => rfl | ⟨1, _⟩ => rfl

theorem rMm_apply : rMm b (ix2 r q) = Tail.mm (b.row r) q := by
  unfold rMm
  rw [val_main_v82_apply, val_main_v70_apply, val_main_v81_apply]
  exact congrArg₂ (fun s t : EReal => s + t) (congrArg₂ (fun s t : EReal => s * t) (rGa_apply b r q) (rUa_apply b r q))
    (congrArg₂ (fun s t : EReal => s * t) (rGb_apply b r q) (rUb_apply b r q))

theorem rXo_apply : rXo b (ix2 r q) = Tail.xo (b.row r) q := by
  unfold rXo
  rw [val_main_v84_apply, val_main_v83_apply]
  refine congrArg (fun s : EReal => b.x (ix2 r q) + s)
    (Finset.sum_congr rfl fun k _ => congrArg₂ (fun s t : EReal => s * t) ?_ (congrArg b.wo ?_))
  · rw [show lidx_main_v83 (ix2 r q) k = ix2 r k by funext a; match a with | ⟨0, _⟩ => rfl | ⟨1, _⟩ => rfl]
    exact rMm_apply b r k
  · funext a; match a with | ⟨0, _⟩ => rfl | ⟨1, _⟩ => rfl

theorem rMs_apply : rMs b (ix2 r 0) = Tail.ms (b.row r) := by
  unfold rMs
  rw [val_main_v91_apply, val_main_v89_apply, val_main_v87_apply, val_main_v86_apply, val_main_v88_apply, val_main_v90_apply]
  refine congrArg (fun s : EReal => Ideal.div s (Ideal.ofBits .f32 0x44800000#32) + Ideal.ofBits .f32 0x358637BD#32) ?_
  refine (congrArg₂ (fun a b : EReal => a + b) Ideal.ofBits_zero_f32 (Finset.sum_congr rfl fun l _ => ?_)).trans (zero_add (M := EReal) _)
  rw [show idx_main_v86 (idx_main_v87 (ix2 r 0)) l = ix2 r l by funext a; match a with | ⟨0, _⟩ => rfl | ⟨1, _⟩ => rfl,
    val_main_v85_apply]
  exact congrArg₂ (fun s t : EReal => s * t) (rXo_apply b r l) (rXo_apply b r l)

theorem rRs_apply : rRs b (ix2 r 0) = Ideal.rsqrt (Tail.ms (b.row r)) := by
  unfold rRs
  rw [val_main_v92_apply]
  exact congrArg Ideal.rsqrt (rMs_apply b r)

theorem column (i : S4096x1.Idx) (h : (i 0).val = r.val) : i = ix2 r 0 := by
  funext a; apply Fin.ext
  match a with
  | ⟨0, _⟩ => exact h
  | ⟨1, _⟩ => have h1 : (i 1).val < 1 := (i 1).isLt; show (i 1).val = 0; omega

theorem rYn_apply : rYn b (ix2 r q) = Tail.yn (b.row r) q := by
  unfold rYn
  rw [val_main_v97_apply, val_main_v96_apply, column r (idx_main_v96 (ix2 r q)) rfl]
  exact congrArg₂ (fun s t : EReal => s * t) (rXo_apply b r q) (rRs_apply b r)

theorem rErr_apply : rErr b (ix2 r q) = Tail.err (b.row r) q := by
  unfold rErr
  rw [val_main_v100_apply, val_main_v99_apply, val_main_v98_apply]
  refine congrArg (fun s : EReal => s - b.tgt (ix2 r q)) (congrArg₂ (fun s t : EReal => s * t) (rYn_apply b r q) (congrArg b.now ?_))
  funext a; match a with | ⟨0, _⟩ => rfl | ⟨1, _⟩ => rfl

theorem rDy_apply : rDy b (ix2 r q) = Tail.dy (b.row r) q := by
  unfold rDy
  rw [val_main_v114_apply, val_main_v113_apply, val_main_v112_apply, val_main_v110_apply, val_main_v109_apply, val_main_v111_apply,
    val_main_v103_apply, val_main_v102_apply]
  exact (scale _).trans (congrArg (fun s : EReal => s * Ideal.ofBits .f32 0x3A800000#32) (rErr_apply b r q))

theorem rDu_apply : rDu b (ix2 r q) = Tail.du (b.row r) q := by
  unfold rDu
  rw [val_main_v119_apply, val_main_v118_apply]
  refine congrArg₂ (fun s t : EReal => s * t) (rDy_apply b r q) (congrArg b.now ?_)
  funext a; match a with | ⟨0, _⟩ => rfl | ⟨1, _⟩ => rfl

theorem rBack_apply : rBack b (ix1 r)
    = Ideal.div ((∑ k : Fin 1024, Tail.xo (b.row r) k * Tail.du (b.row r) k)
        * (Ideal.ofBits .f32 0xBF000000#32 * Ideal.div (Ideal.rsqrt (Tail.ms (b.row r))) (Tail.ms (b.row r))))
        (Ideal.ofBits .f32 0x44800000#32) := by
  unfold rBack
  rw [val_main_v128_apply]
  refine (congrArg₂ (fun a b : EReal => a + b) Ideal.ofBits_zero_f32 (Fin.sum_univ_one _)).trans ((zero_add (M := EReal) _).trans ?_)
  rw [column r (idx_main_v128 (ix1 r) 0) rfl, val_main_v127_apply, val_main_v125_apply, val_main_v122_apply, val_main_v121_apply,
    val_main_v95_apply, val_main_v94_apply, val_main_v93_apply, val_main_v126_apply]
  refine congrArg (fun s : EReal => Ideal.div s (Ideal.ofBits .f32 0x44800000#32)) (congrArg₂ (fun s t : EReal => s * t) ?_
    (congrArg (fun s : EReal => Ideal.ofBits .f32 0xBF000000#32 * s) (congrArg₂ Ideal.div (rRs_apply b r) (rMs_apply b r))))
  refine (congrArg₂ (fun a b : EReal => a + b) Ideal.ofBits_zero_f32 (Finset.sum_congr rfl fun l _ => ?_)).trans (zero_add (M := EReal) _)
  rw [show idx_main_v121 (idx_main_v122 (ix2 r 0)) l = ix2 r l by
      funext a; apply Fin.ext; match a with | ⟨0, _⟩ => simp [idx_main_v121, idx_main_v122] | ⟨1, _⟩ => rfl,
    val_main_v120_apply]
  exact congrArg₂ (fun s t : EReal => s * t) (rXo_apply b r l) (rDu_apply b r l)

theorem rDxo_apply : rDxo b (ix2 r q) = Tail.dxo (b.row r) q := by
  have hb : val_main_v129 (F := Ideal) b.x b.tgt b.g b.y b.r b.k b.v b.z b.o b.zg b.gw b.gb b.rk b.on b.wa b.wb b.wo b.now (ix2 r q) = rBack b (ix1 r) := by
    rw [val_main_v129_apply]
    exact congrArg (rBack b) (by funext a; match a with | ⟨0, _⟩ => rfl)
  unfold rDxo
  rw [val_main_v133_apply, val_main_v131_apply, val_main_v124_apply, val_main_v123_apply, column r (idx_main_v123 (ix2 r q)) rfl,
    val_main_v130_apply, val_main_v132_apply, hb, rBack_apply]
  refine (congrArg₂ (fun s t : EReal => s + t) (congrArg₂ (fun s t : EReal => s + t)
    (congrArg₂ (fun s t : EReal => s * t) (rDu_apply b r q) (rRs_apply b r))
    (congrArg (fun s : EReal => s * _) (rXo_apply b r q))) (congrArg (fun s : EReal => _ * s) (rXo_apply b r q))).trans ?_
  unfold Tail.dxo Tail.yn
  rw [Rms.ofBits_1024, Rms.ofBits_neg_half]
  exact (Rms.back (Tail.xo (b.row r)) (Tail.du (b.row r)) (Tail.ms_pos (b.row r)) (by norm_num) q).symm

theorem rDm_apply : rDm b (ix2 r q) = Tail.dm (b.row r) q := by
  unfold rDm
  rw [val_main_v136_apply]
  refine Finset.sum_congr rfl fun k _ => congrArg₂ (fun s t : EReal => s * t) ?_ (congrArg b.wo ?_)
  · rw [show lidx_main_v136 (ix2 r q) k = ix2 r k by funext a; match a with | ⟨0, _⟩ => rfl | ⟨1, _⟩ => rfl]
    exact rDxo_apply b r k
  · funext a; match a with | ⟨0, _⟩ => rfl | ⟨1, _⟩ => rfl

theorem rDmA_apply : rDmA b (ix2 r q) = Tail.dm (b.row r) q * Tail.ga (b.row r) q := by
  unfold rDmA
  rw [val_main_v142_apply]
  exact (congrArg₂ (fun s t : EReal => s * t) (rGa_apply b r q) (rDm_apply b r q)).trans (mul_comm (G := EReal) _ _)

theorem rDmB_apply : rDmB b (ix2 r q) = Tail.dm (b.row r) q * Tail.gb (b.row r) q := by
  unfold rDmB
  rw [val_main_v137_apply]
  exact (congrArg₂ (fun s t : EReal => s * t) (rGb_apply b r q) (rDm_apply b r q)).trans (mul_comm (G := EReal) _ _)

theorem rDga_apply : rDga b (ix2 r q) = Tail.dga (b.row r) q := by
  unfold rDga
  rw [val_main_v146_apply, val_main_v143_apply, val_main_v68_apply, val_main_v67_apply, val_main_v66_apply]
  exact (congrArg₂ (fun s t : EReal => s * t) (congrArg₂ (fun s t : EReal => s * t) (rDm_apply b r q) (rUa_apply b r q))
    (congrArg (fun s : EReal => s * (Tail.one - s)) (rGa_apply b r q))).trans (mul_assoc (G := EReal) _ _ _).symm

theorem rDgb_apply : rDgb b (ix2 r q) = Tail.dgb (b.row r) q := by
  unfold rDgb
  rw [val_main_v141_apply, val_main_v138_apply, val_main_v79_apply, val_main_v78_apply, val_main_v77_apply]
  exact (congrArg₂ (fun s t : EReal => s * t) (congrArg₂ (fun s t : EReal => s * t) (rDm_apply b r q) (rUb_apply b r q))
    (congrArg (fun s : EReal => s * (Tail.one - s)) (rGb_apply b r q))).trans (mul_assoc (G := EReal) _ _ _).symm

end

theorem rDg_left (r : Fin 4096) (q : Fin 1024) : rDg b (ix2 r ⟨q.val, by omega⟩) = Tail.dga (b.row r) q := by
  unfold rDg
  rw [val_main_v148_apply]
  unfold val_main_v147
  refine (concatenate_pair_apply_left (t := S4096x2048) (s₁ := S4096x1024) (s₂ := S4096x1024) 1 (rDga b) (rDgb b) _
    (ix2 r ⟨q.val, by omega⟩) rfl (ix2 r q) fun a => ?_).trans (rDga_apply b r q)
  match a with | ⟨0, _⟩ => rfl | ⟨1, _⟩ => rfl

theorem rDg_right (r : Fin 4096) (q : Fin 1024) : rDg b (ix2 r ⟨1024 + q.val, by omega⟩) = Tail.dgb (b.row r) q := by
  unfold rDg
  rw [val_main_v148_apply]
  unfold val_main_v147
  refine (concatenate_pair_apply_right (t := S4096x2048) (s₁ := S4096x1024) (s₂ := S4096x1024) 1 (rDga b) (rDgb b) _
    (ix2 r ⟨1024 + q.val, by omega⟩) rfl rfl (ix2 r q) (fun a ha => ?_) ?_).trans (rDgb_apply b r q)
  · match a with | ⟨0, _⟩ => rfl | ⟨1, _⟩ => exact absurd rfl ha
  · show q.val + 1024 = 1024 + q.val
    omega

theorem rDwa_apply (c : Fin 512) (q : Fin 1024) :
    rDwa b (ix2 c q) = ∑ r : Fin 4096, Tail.ya (b.row r) c * (Tail.dm (b.row r) q * Tail.ga (b.row r) q) := by
  unfold rDwa
  rw [val_main_v145_apply, val_main_v144_apply]
  refine Finset.sum_congr rfl fun k _ => ?_
  rw [show lidx_main_v144 (idx_main_v145 (ix2 c q)) k = ix2 k q by funext a; match a with | ⟨0, _⟩ => rfl | ⟨1, _⟩ => rfl,
    show ridx_main_v144 (idx_main_v145 (ix2 c q)) k = ix2 k c by funext a; match a with | ⟨0, _⟩ => rfl | ⟨1, _⟩ => rfl]
  exact (congrArg₂ (fun s t : EReal => s * t) (rDmA_apply b k q) (ya_apply b k c)).trans (mul_comm (G := EReal) _ _)

theorem rDwb_apply (c : Fin 512) (q : Fin 1024) :
    rDwb b (ix2 c q) = ∑ r : Fin 4096, Tail.yb (b.row r) c * (Tail.dm (b.row r) q * Tail.gb (b.row r) q) := by
  unfold rDwb
  rw [val_main_v140_apply, val_main_v139_apply]
  refine Finset.sum_congr rfl fun k _ => ?_
  rw [show lidx_main_v139 (idx_main_v140 (ix2 c q)) k = ix2 k q by funext a; match a with | ⟨0, _⟩ => rfl | ⟨1, _⟩ => rfl,
    show ridx_main_v139 (idx_main_v140 (ix2 c q)) k = ix2 k c by funext a; match a with | ⟨0, _⟩ => rfl | ⟨1, _⟩ => rfl]
  exact (congrArg₂ (fun s t : EReal => s * t) (rDmB_apply b k q) (yb_apply b k c)).trans (mul_comm (G := EReal) _ _)

theorem rDwo_apply (c : Fin 1024) (q : Fin 1024) :
    rDwo b (ix2 c q) = ∑ r : Fin 4096, Tail.mm (b.row r) c * Tail.dxo (b.row r) q := by
  unfold rDwo
  rw [val_main_v135_apply, val_main_v134_apply]
  refine Finset.sum_congr rfl fun k _ => ?_
  rw [show lidx_main_v134 (idx_main_v135 (ix2 c q)) k = ix2 k q by funext a; match a with | ⟨0, _⟩ => rfl | ⟨1, _⟩ => rfl,
    show ridx_main_v134 (idx_main_v135 (ix2 c q)) k = ix2 k c by funext a; match a with | ⟨0, _⟩ => rfl | ⟨1, _⟩ => rfl]
  exact (congrArg₂ (fun s t : EReal => s * t) (rDxo_apply b k q) (rMm_apply b k c)).trans (mul_comm (G := EReal) _ _)

theorem rDnow_apply (q : Fin 1024) : rDnow b (ix2 0 q) = ∑ r : Fin 4096, Tail.dy (b.row r) q * Tail.yn (b.row r) q := by
  unfold rDnow
  rw [val_main_v117_apply, val_main_v116_apply]
  refine (congrArg₂ (fun a b : EReal => a + b) Ideal.ofBits_zero_f32 (Finset.sum_congr rfl fun k _ => ?_)).trans (zero_add (M := EReal) _)
  rw [show idx_main_v116 (idx_main_v117 (ix2 0 q)) k = ix2 k q by
      funext a; apply Fin.ext; match a with | ⟨0, _⟩ => rfl | ⟨1, _⟩ => simp [idx_main_v116, idx_main_v117],
    val_main_v115_apply]
  exact (congrArg₂ (fun s t : EReal => s * t) (rYn_apply b k q) (rDy_apply b k q)).trans (mul_comm (G := EReal) _ _)

theorem rMeans_apply (r : Fin 4096) : rMeans b (ix1 r)
    = Ideal.div (∑ q : Fin 1024, Tail.err (b.row r) q * Tail.err (b.row r) q) (Ideal.ofBits .f32 0x44800000#32) := by
  unfold rMeans
  rw [val_main_v106_apply, val_main_v104_apply, val_main_v105_apply]
  refine congrArg (fun s : EReal => Ideal.div s (Ideal.ofBits .f32 0x44800000#32)) ?_
  refine (congrArg₂ (fun a b : EReal => a + b) Ideal.ofBits_zero_f32 (Finset.sum_congr rfl fun l _ => ?_)).trans (zero_add (M := EReal) _)
  rw [show idx_main_v104 (ix1 r) l = ix2 r l by funext a; match a with | ⟨0, _⟩ => rfl | ⟨1, _⟩ => rfl, val_main_v101_apply]
  exact congrArg₂ (fun s t : EReal => s * t) (rErr_apply b r l) (rErr_apply b r l)

/-- The loss is the sum of the rows' losses. -/
theorem rLoss_apply (i : S8x128.Idx) : rLoss b i = ∑ r : Fin 4096, Tail.loss (b.row r) := by
  have hh : (0 : ℝ) ≤ 1 / 2 := by norm_num
  unfold rLoss
  rw [val_main_v149_apply, val_main_v108_apply, val_main_v107_apply]
  refine (congrArg (fun s : EReal => Tail.half * s) ((congrArg₂ (fun a b : EReal => a + b) Ideal.ofBits_zero_f32
    ((sum_idx1 (rMeans b)).trans (Finset.sum_congr rfl fun r _ => rMeans_apply b r))).trans (zero_add (M := EReal) _))).trans ?_
  rw [Tail.half_eq, Rms.mul_sum_real _ hh]
  refine Finset.sum_congr rfl fun r _ => ?_
  unfold Tail.loss
  rw [Rms.ofBits_1024, Rms.div_real _ (by norm_num), Tail.ofBits_2048th, ← mul_assoc, mul_right_comm, ← EReal.coe_mul]
  norm_num

end Cert.ReferenceIdeal.Value

end
-- ==== Proof.TailTotals.lean ====
/-
  What the tail's outputs hold: at each point its tiles of the cotangents, which are the reference's at the point's rows; after
  the last point the sums over all tokens, which are the reference's.
-/
module

public import proofs.«01_k».proof.Proof.TailOutsA
public import proofs.«01_k».proof.Proof.TailOutsB
public import proofs.«01_k».proof.Proof.TailSums
public import proofs.«01_k».proof.Proof.TailRows
public import proofs.«01_k».proof.Proof.TailRef

@[expose] public section

set_option maxRecDepth 16384

noncomputable section

namespace Cert.KernelIdeal.Value

open Cert.KernelIdeal Cert.KernelIdeal.Gen Idealize.ShloMosaic.TcCoe
open Idealize.ShloMosaic hiding ix2 ix3
open Idealize.ShloMosaic.ValueIdx
open Cert.ReferenceIdeal.Value (Arrays rDg rDxo rDwa rDwb rDwo rDnow rLoss rDg_left rDg_right rDxo_apply rDwa_apply rDwb_apply rDwo_apply rDnow_apply rLoss_apply)

variable (m : (ℓ : Loc nD τ sig) → Buf (Elt Ideal) ℓ)

/-- A function of a device's token's row, at any number. -/
def rowAt (f : Tail.Row → EReal) (c : Dev nD) (n : ℕ) : EReal := if h : n < 4096 then f ((arrays m c).row ⟨n, h⟩) else 0

/-- A sum over a point's rows is a sum over rows of the arrays. -/
theorem sum_rows (f : Tail.Row → EReal) (c : Dev nD) (t : Fin cfg0.N) :
    ∑ p : Fin 256, f ((blk m c t).row p) = ∑ p : Fin 256, rowAt m f c (t.val * 256 + p.val) := by
  have hN : cfg0.N = 16 := N_0
  have ht := t.isLt
  refine Finset.sum_congr rfl fun p _ => ?_
  have hp := p.isLt
  have h : t.val * 256 + p.val < 4096 := by omega
  rw [row_eq m c t p ⟨t.val * 256 + p.val, h⟩ rfl]
  unfold rowAt
  rw [dif_pos h]

/-- A number the first point sets and the others add to, each a sum over its rows, ends as the sum over all rows. -/
theorem accumulate (c : Dev nD) (π : Outs Ideal → EReal) (f : Tail.Row → EReal)
    (hA : ∀ (t : Fin cfg0.N) (h0 : t.val % 16 = 0), π (outsA m c t h0) = ∑ p : Fin 256, f ((blk m c t).row p))
    (hB : ∀ (t : Fin cfg0.N) (h0 : ¬t.val % 16 = 0) (a : Outs Ideal),
      π (outsB m c t h0 a) = π a + ∑ p : Fin 256, f ((blk m c t).row p)) (h : 15 < cfg0.N) :
    π (outsAt m c 15 h) = ∑ r : Fin 4096, f ((arrays m c).row r) := by
  have hN : cfg0.N = 16 := N_0
  have step : ∀ (n : ℕ) (hn : n < cfg0.N), π (outsAt m c n hn) = ∑ t : Fin (n + 1), ∑ p : Fin 256, rowAt m f c (t.val * 256 + p.val) := by
    intro n
    induction n with
    | zero =>
      intro hn
      refine (congrArg π (outsAt_A m c ⟨0, hn⟩ rfl)).trans ((hA ⟨0, hn⟩ rfl).trans ((sum_rows m f c ⟨0, hn⟩).trans ?_))
      exact (Fin.sum_univ_one (fun t : Fin 1 => ∑ p : Fin 256, rowAt m f c (t.val * 256 + p.val))).symm
    | succ n ih =>
      intro hn
      have h0 : ¬(⟨n + 1, hn⟩ : Fin cfg0.N).val % 16 = 0 := by show ¬(n + 1) % 16 = 0; omega
      refine (congrArg π (outsAt_B m c ⟨n + 1, hn⟩ h0)).trans ((hB ⟨n + 1, hn⟩ h0 _).trans ?_)
      refine (congrArg₂ (fun a b : EReal => a + b) (ih (by omega)) (sum_rows m f c ⟨n + 1, hn⟩)).trans ?_
      exact (Fin.sum_univ_castSucc (fun t : Fin (n + 2) => ∑ p : Fin 256, rowAt m f c (t.val * 256 + p.val))).symm
  refine (step 15 h).trans ((Dots.sum_blocks 16 256 (rowAt m f c)).trans ?_)
  exact Finset.sum_congr rfl fun r _ => dif_pos r.isLt

/-- A block's index is its row and its lane. -/
theorem pair {n k : ℕ} (j : (⟨2, ![n, k]⟩ : Shape).Idx) : j = ix2 (j 0) (j 1) := by
  funext a
  match a with | ⟨0, _⟩ => rfl | ⟨1, _⟩ => rfl

/-- A one-row block's index is its lane. -/
theorem line {k : ℕ} (j : (⟨2, ![1, k]⟩ : Shape).Idx) : j = ix2 0 (j 1) := by
  have h0 : (j 0).val < 1 := (j 0).isLt
  funext a; apply Fin.ext
  match a with
  | ⟨0, _⟩ => show (j 0).val = 0; omega
  | ⟨1, _⟩ => rfl

/-- The sum of output 27 after the last point. -/
theorem dwa_last (c : Dev nD) (h : 15 < cfg0.N) (j : S512x1024.Idx) : (outsAt m c 15 h).2.2.2.2.2.2.2.2.2.1 j = rDwa (arrays m c) j := by
  rw [pair j]
  refine (accumulate m c (fun a => a.2.2.2.2.2.2.2.2.2.1 (ix2 (j 0) (j 1))) (fun R => Tail.ya R (j 0) * (Tail.dm R (j 1) * Tail.ga R (j 1))) (fun t h0 => ?_) (fun t h0 a => ?_) h).trans
    (rDwa_apply (arrays m c) (j 0) (j 1)).symm
  · refine (congrFun (dwa_A m c t h0) _).trans ((addWa_apply (blk m c t) (k0_pay212 (F := Ideal)) (j 0) (j 1)).trans ?_)
    exact (congrArg (fun s : EReal => s + _) Ideal.ofBits_zero_f32).trans (zero_add (M := EReal) _)
  · exact (congrFun (dwa_B m c t h0 a) _).trans (addWa_apply (blk m c t) (a.2.2.2.2.2.2.2.2.2.1) (j 0) (j 1))

/-- The sum of output 28 after the last point. -/
theorem dwb_last (c : Dev nD) (h : 15 < cfg0.N) (j : S512x1024.Idx) : (outsAt m c 15 h).2.2.2.2.2.2.2.2.2.2.1 j = rDwb (arrays m c) j := by
  rw [pair j]
  refine (accumulate m c (fun a => a.2.2.2.2.2.2.2.2.2.2.1 (ix2 (j 0) (j 1))) (fun R => Tail.yb R (j 0) * (Tail.dm R (j 1) * Tail.gb R (j 1))) (fun t h0 => ?_) (fun t h0 a => ?_) h).trans
    (rDwb_apply (arrays m c) (j 0) (j 1)).symm
  · refine (congrFun (dwb_A m c t h0) _).trans ((addWb_apply (blk m c t) (k0_pay213 (F := Ideal)) (j 0) (j 1)).trans ?_)
    exact (congrArg (fun s : EReal => s + _) Ideal.ofBits_zero_f32).trans (zero_add (M := EReal) _)
  · exact (congrFun (dwb_B m c t h0 a) _).trans (addWb_apply (blk m c t) (a.2.2.2.2.2.2.2.2.2.2.1) (j 0) (j 1))

/-- The sum of output 29 after the last point. -/
theorem dwo_last (c : Dev nD) (h : 15 < cfg0.N) (j : S1024x1024.Idx) : (outsAt m c 15 h).2.2.2.2.2.2.2.2.2.2.2.1 j = rDwo (arrays m c) j := by
  rw [pair j]
  refine (accumulate m c (fun a => a.2.2.2.2.2.2.2.2.2.2.2.1 (ix2 (j 0) (j 1))) (fun R => Tail.mm R (j 0) * Tail.dxo R (j 1)) (fun t h0 => ?_) (fun t h0 a => ?_) h).trans
    (rDwo_apply (arrays m c) (j 0) (j 1)).symm
  · refine (congrFun (dwo_A m c t h0) _).trans ((addWo_apply (blk m c t) (k0_pay214 (F := Ideal)) (j 0) (j 1)).trans ?_)
    exact (congrArg (fun s : EReal => s + _) Ideal.ofBits_zero_f32).trans (zero_add (M := EReal) _)
  · exact (congrFun (dwo_B m c t h0 a) _).trans (addWo_apply (blk m c t) (a.2.2.2.2.2.2.2.2.2.2.2.1) (j 0) (j 1))

/-- The sum of output 30 after the last point. -/
theorem dnow_last (c : Dev nD) (h : 15 < cfg0.N) (j : S1x1024.Idx) : (outsAt m c 15 h).2.2.2.2.2.2.2.2.2.2.2.2.1 j = rDnow (arrays m c) j := by
  rw [line j]
  refine (accumulate m c (fun a => a.2.2.2.2.2.2.2.2.2.2.2.2.1 (ix2 0 (j 1))) (fun R => Tail.dy R (j 1) * Tail.yn R (j 1)) (fun t h0 => ?_) (fun t h0 a => ?_) h).trans
    (rDnow_apply (arrays m c) (j 1)).symm
  · refine (congrFun (dnow_A m c t h0) _).trans ((addNow_apply (blk m c t) (k0_pay215 (F := Ideal)) (j 1)).trans ?_)
    exact (congrArg (fun s : EReal => s + _) Ideal.ofBits_zero_f32).trans (zero_add (M := EReal) _)
  · exact (congrFun (dnow_B m c t h0 a) _).trans (addNow_apply (blk m c t) (a.2.2.2.2.2.2.2.2.2.2.2.2.1) (j 1))

/-- The sum of output 31 after the last point. -/
theorem loss_last (c : Dev nD) (h : 15 < cfg0.N) (j : S8x128.Idx) : (outsAt m c 15 h).2.2.2.2.2.2.2.2.2.2.2.2.2.1 j = rLoss (arrays m c) j := by
  refine (accumulate m c (fun a => a.2.2.2.2.2.2.2.2.2.2.2.2.2.1 j) (Tail.loss) (fun t h0 => ?_) (fun t h0 a => ?_) h).trans
    (rLoss_apply (arrays m c) j).symm
  · refine (congrFun (loss_A m c t h0) _).trans ((addLoss_apply (blk m c t) (k0_pay216 (F := Ideal)) j).trans ?_)
    exact (congrArg (fun s : EReal => s + _) Ideal.ofBits_zero_f32).trans (zero_add (M := EReal) _)
  · exact (congrFun (loss_B m c t h0 a) _).trans (addLoss_apply (blk m c t) (a.2.2.2.2.2.2.2.2.2.2.2.2.2.1) j)

theorem dxo_at (c : Dev nD) (t : Fin cfg0.N) : (outsAt m c t.val t.isLt).2.2.2.2.2.2.2.2.1 = tDxo (blk m c t) := by
  by_cases h0 : t.val % 16 = 0
  · rw [outsAt_A m c t h0, dxo_A m c t h0]
  · rw [outsAt_B m c t h0, dxo_B m c t h0]

theorem dg_at (c : Dev nD) (t : Fin cfg0.N) : (outsAt m c t.val t.isLt).2.2.2.2.2.2.2.1 = dgBlock (blk m c t) := by
  by_cases h0 : t.val % 16 = 0
  · rw [outsAt_A m c t h0, dg_A m c t h0]
  · rw [outsAt_B m c t h0, dg_B m c t h0]

/-- A point's tile of the merged output's cotangent is the reference's rows. -/
theorem dxo_rows (c : Dev nD) (t : Fin cfg0.N) (p : Fin 256) (r : Fin 4096) (hr : r.val = t.val * 256 + p.val) (q : Fin 1024) :
    tDxo (blk m c t) (ix2 p q) = rDxo (arrays m c) (ix2 r q) :=
  (tDxo_apply (blk m c t) p q).trans ((congrArg (fun R => Tail.dxo R q) (row_eq m c t p r hr)).trans (rDxo_apply (arrays m c) r q).symm)

/-- A point's tile of the gates' cotangent is the reference's rows. -/
theorem dg_rows (c : Dev nD) (t : Fin cfg0.N) (p : Fin 256) (r : Fin 4096) (hr : r.val = t.val * 256 + p.val) (q : Fin 2048) :
    dgBlock (blk m c t) (ix2 p q) = rDg (arrays m c) (ix2 r q) := by
  have e := row_eq m c t p r hr
  rcases lt_or_ge q.val 1024 with h | h
  · exact (dgBlock_left (blk m c t) p ⟨q.val, h⟩).trans
      ((congrArg (fun R => Tail.dga R ⟨q.val, h⟩) e).trans (rDg_left (arrays m c) r ⟨q.val, h⟩).symm)
  · have right : ∀ n : Fin 1024, dgBlock (blk m c t) (ix2 p ⟨1024 + n.val, by omega⟩) = rDg (arrays m c) (ix2 r ⟨1024 + n.val, by omega⟩) :=
      fun n => (dgBlock_right (blk m c t) p n).trans ((congrArg (fun R => Tail.dgb R n) e).trans (rDg_right (arrays m c) r n).symm)
    have hq : q = ⟨1024 + (q.val - 1024), by omega⟩ := Fin.ext (by show q.val = 1024 + (q.val - 1024); omega)
    exact (congrArg (fun l => dgBlock (blk m c t) (ix2 p l)) hq).trans ((right ⟨q.val - 1024, by omega⟩).trans
      (congrArg (fun l => rDg (arrays m c) (ix2 r l)) hq.symm))

end Cert.KernelIdeal.Value

end
-- ==== Proof.TailRefRun.lean ====
/-
  What the reference's run leaves in its results, as functions of the arrays it is given.
-/
module

public import proofs.«01_k».proof.Proof.TailRef
public import proofs.«01_k».proof.Proof.Gen.ReferenceIdeal.Run

@[expose] public section

set_option maxRecDepth 16384

noncomputable section

namespace Cert.ReferenceIdeal.Value

open Cert.ReferenceIdeal Idealize.ShloMosaic Idealize.ShloMosaic.TcCoe Idealize.SL.Sem

/-- The arrays the reference is given on a device. -/
abbrev given (m' : (ℓ : Loc nD τ sig) → Buf (Elt Ideal) ℓ)
    (c : Dev nD) : Arrays where
  x := m' ((c.tc : Thread nD τ).loc main_arg0)
  tgt := m' ((c.tc : Thread nD τ).loc main_arg1)
  g := m' ((c.tc : Thread nD τ).loc main_arg2)
  y := m' ((c.tc : Thread nD τ).loc main_arg3)
  r := m' ((c.tc : Thread nD τ).loc main_arg4)
  k := m' ((c.tc : Thread nD τ).loc main_arg5)
  v := m' ((c.tc : Thread nD τ).loc main_arg6)
  z := m' ((c.tc : Thread nD τ).loc main_arg7)
  o := m' ((c.tc : Thread nD τ).loc main_arg8)
  zg := m' ((c.tc : Thread nD τ).loc main_arg9)
  gw := m' ((c.tc : Thread nD τ).loc main_arg10)
  gb := m' ((c.tc : Thread nD τ).loc main_arg11)
  rk := m' ((c.tc : Thread nD τ).loc main_arg12)
  on := m' ((c.tc : Thread nD τ).loc main_arg13)
  wa := m' ((c.tc : Thread nD τ).loc main_arg14)
  wb := m' ((c.tc : Thread nD τ).loc main_arg15)
  wo := m' ((c.tc : Thread nD τ).loc main_arg16)
  now := m' ((c.tc : Thread nD τ).loc main_arg17)

/-- The argument arrays of a device are in `mem` as they were in `m'`. -/
abbrev Kept (m' mem : (ℓ : Loc nD τ sig) → Buf (Elt Ideal) ℓ) (c : Dev nD) : Prop :=
      mem ((c.tc : Thread nD τ).loc main_arg0) = m' ((c.tc : Thread nD τ).loc main_arg0)
      ∧ mem ((c.tc : Thread nD τ).loc main_arg1) = m' ((c.tc : Thread nD τ).loc main_arg1)
      ∧ mem ((c.tc : Thread nD τ).loc main_arg2) = m' ((c.tc : Thread nD τ).loc main_arg2)
      ∧ mem ((c.tc : Thread nD τ).loc main_arg3) = m' ((c.tc : Thread nD τ).loc main_arg3)
      ∧ mem ((c.tc : Thread nD τ).loc main_arg4) = m' ((c.tc : Thread nD τ).loc main_arg4)
      ∧ mem ((c.tc : Thread nD τ).loc main_arg5) = m' ((c.tc : Thread nD τ).loc main_arg5)
      ∧ mem ((c.tc : Thread nD τ).loc main_arg6) = m' ((c.tc : Thread nD τ).loc main_arg6)
      ∧ mem ((c.tc : Thread nD τ).loc main_arg7) = m' ((c.tc : Thread nD τ).loc main_arg7)
      ∧ mem ((c.tc : Thread nD τ).loc main_arg8) = m' ((c.tc : Thread nD τ).loc main_arg8)
      ∧ mem ((c.tc : Thread nD τ).loc main_arg9) = m' ((c.tc : Thread nD τ).loc main_arg9)
      ∧ mem ((c.tc : Thread nD τ).loc main_arg10) = m' ((c.tc : Thread nD τ).loc main_arg10)
      ∧ mem ((c.tc : Thread nD τ).loc main_arg11) = m' ((c.tc : Thread nD τ).loc main_arg11)
      ∧ mem ((c.tc : Thread nD τ).loc main_arg12) = m' ((c.tc : Thread nD τ).loc main_arg12)
      ∧ mem ((c.tc : Thread nD τ).loc main_arg13) = m' ((c.tc : Thread nD τ).loc main_arg13)
      ∧ mem ((c.tc : Thread nD τ).loc main_arg14) = m' ((c.tc : Thread nD τ).loc main_arg14)
      ∧ mem ((c.tc : Thread nD τ).loc main_arg15) = m' ((c.tc : Thread nD τ).loc main_arg15)
      ∧ mem ((c.tc : Thread nD τ).loc main_arg16) = m' ((c.tc : Thread nD τ).loc main_arg16)
      ∧ mem ((c.tc : Thread nD τ).loc main_arg17) = m' ((c.tc : Thread nD τ).loc main_arg17)

set_option maxHeartbeats 4000000 in
/-- What the reference's run leaves in its results and its arguments. -/
theorem reference_results (m' : (ℓ : Loc nD τ sig) → Buf (Elt Ideal) ℓ) (ρ' : Dev nD → PrngReg) :
    θ_run defs (onTc (τ := τ) (main (F := Ideal))) ⟨m', fun _ => 0, ρ'⟩ (fun r => ∀ c : Dev nD,
      r.2.mem ((c.tc : Thread nD τ).loc main_v148) = rDg (given m' c)
      ∧ r.2.mem ((c.tc : Thread nD τ).loc main_v133) = rDxo (given m' c)
      ∧ r.2.mem ((c.tc : Thread nD τ).loc main_v145) = rDwa (given m' c)
      ∧ r.2.mem ((c.tc : Thread nD τ).loc main_v140) = rDwb (given m' c)
      ∧ r.2.mem ((c.tc : Thread nD τ).loc main_v135) = rDwo (given m' c)
      ∧ r.2.mem ((c.tc : Thread nD τ).loc main_v117) = rDnow (given m' c)
      ∧ r.2.mem ((c.tc : Thread nD τ).loc main_v149) = rLoss (given m' c)
      ∧ Kept m' r.2.mem c) := by
  refine (θ_run defs _ _).mono (fun _ h c => ?_) (run (F := Ideal) m' ρ')
  obtain ⟨h0, h1, h2, h3, h4, h5, h6, hk⟩ := h c
  refine ⟨h0.trans (Read.val_main_v148_eq _), h1.trans (Read.val_main_v133_eq _),
    h2.trans (Read.val_main_v145_eq _), h3.trans (Read.val_main_v140_eq _),
    h4.trans (Read.val_main_v135_eq _), h5.trans (Read.val_main_v117_eq _),
    h6.trans (Read.val_main_v149_eq _), hk⟩

end Cert.ReferenceIdeal.Value

end
-- ==== Proof.TailValue.lean ====
/-
  The tail's outputs after the run are the reference's: the cotangents' tiles cover the rows of their arrays, and the last point
  writes the sums over tokens back.
-/
module

public import proofs.«01_k».proof.Proof.TailFrame
public import proofs.«01_k».proof.Proof.TailTotals
public import proofs.«01_k».proof.Proof.TailRefRun
public import Idealize.ShloMosaic.Lib.Pipeline.Value

@[expose] public section

set_option maxRecDepth 16384

noncomputable section

namespace Cert.KernelIdeal.Value

open Cert.KernelIdeal Cert.KernelIdeal.Gen Idealize.ShloMosaic.TcCoe Idealize.SL.Sem
open Idealize.ShloMosaic hiding ix2 ix3
open Idealize.ShloMosaic.ValueIdx
open Idealize.ShloMosaic.Pipeline (Dat)
open Cert.ReferenceIdeal.Value (Arrays rDg rDxo rDwa rDwb rDwo rDnow rLoss given reference_results)

variable (m : (ℓ : Loc nD τ sig) → Buf (Elt Ideal) ℓ)

/-- What point `t` writes back to output 25. -/
theorem flushed_dg (c : Dev nD) (t : Fin cfg0.N) :
    (dats m 0 c).flushed 25 t = ((cfg0.win 25).blk t).view.read (Elt Ideal) (rDg (arrays m c)) := by
  have e : (dats m 0 c).flushed 25 t = (cfg0.win 25).cut (grid0.coords t) (dgBlock (blk m c t)) := by
    show (cfg0.win 25).cut (grid0.coords t) ((dats m 0 c).after 25 t) = _
    rw [after0_25, dg_at]
  refine e.trans ?_
  funext (j : S256x2048.Idx)
  rw [View.read_apply]
  have hN : cfg0.N = 16 := N_0
  have ht := t.isLt
  have hi := index_rows t
  have h0 : (j 0).val < 256 := (j 0).isLt
  refine Eq.trans ?_ ((dg_rows m c t (j 0) ⟨t.val * 256 + (j 0).val, by omega⟩ rfl (j 1)).trans (congrArg (rDg (arrays m c)) ?_))
  · exact congrArg (dgBlock (blk m c t)) (pair j)
  · funext a; apply Fin.ext
    match a with
    | ⟨0, _⟩ => show t.val * 256 + (j 0).val = win0_25.index t 0 * 256 + 1 * (j 0).val; omega
    | ⟨1, _⟩ => show (j 1).val = win0_25.index t 1 * 2048 + 1 * (j 1).val; omega

/-- Output 25's array after the run. -/
theorem arr_dg (c : Dev nD) : (dats m 0 c).arrAt 25 cfg0.N = rDg (arrays m c) := by
  refine (dats m 0 c).arrAt_eq_of_cover 25 (rDg (arrays m c)) (fun t _ => flushed_dg m c t) fun (i : S4096x2048.Idx) => ?_
  have hN : cfg0.N = 16 := N_0
  have h0 : (i 0).val < 4096 := (i 0).isLt
  have h1 : (i 1).val < 2048 := (i 1).isLt
  let t : Fin cfg0.N := ⟨(i 0).val / 256, by omega⟩
  have ht : t.val = (i 0).val / 256 := rfl
  have hi := index_rows t
  refine ⟨t, flush0_25 _, ?_⟩
  show i ∈ ((View.whole main_v3_7).slice (win0_25.rect t)).set
  rw [View.set_slice_whole, Rect.mem_set_unit]
  intro a
  match a with
  | ⟨0, _⟩ => show win0_25.index t 0 * 256 ≤ (i 0).val ∧ (i 0).val < win0_25.index t 0 * 256 + 256; omega
  | ⟨1, _⟩ => show win0_25.index t 1 * 2048 ≤ (i 1).val ∧ (i 1).val < win0_25.index t 1 * 2048 + 2048; omega

/-- What point `t` writes back to output 26. -/
theorem flushed_dxo (c : Dev nD) (t : Fin cfg0.N) :
    (dats m 0 c).flushed 26 t = ((cfg0.win 26).blk t).view.read (Elt Ideal) (rDxo (arrays m c)) := by
  have e : (dats m 0 c).flushed 26 t = (cfg0.win 26).cut (grid0.coords t) (tDxo (blk m c t)) := by
    show (cfg0.win 26).cut (grid0.coords t) ((dats m 0 c).after 26 t) = _
    rw [after0_26, dxo_at]
  refine e.trans ?_
  funext (j : S256x1024.Idx)
  rw [View.read_apply]
  have hN : cfg0.N = 16 := N_0
  have ht := t.isLt
  have hi := index_rows t
  have h0 : (j 0).val < 256 := (j 0).isLt
  refine Eq.trans ?_ ((dxo_rows m c t (j 0) ⟨t.val * 256 + (j 0).val, by omega⟩ rfl (j 1)).trans (congrArg (rDxo (arrays m c)) ?_))
  · exact congrArg (tDxo (blk m c t)) (pair j)
  · funext a; apply Fin.ext
    match a with
    | ⟨0, _⟩ => show t.val * 256 + (j 0).val = win0_26.index t 0 * 256 + 1 * (j 0).val; omega
    | ⟨1, _⟩ => show (j 1).val = win0_26.index t 1 * 1024 + 1 * (j 1).val; omega

/-- Output 26's array after the run. -/
theorem arr_dxo (c : Dev nD) : (dats m 0 c).arrAt 26 cfg0.N = rDxo (arrays m c) := by
  refine (dats m 0 c).arrAt_eq_of_cover 26 (rDxo (arrays m c)) (fun t _ => flushed_dxo m c t) fun (i : S4096x1024.Idx) => ?_
  have hN : cfg0.N = 16 := N_0
  have h0 : (i 0).val < 4096 := (i 0).isLt
  have h1 : (i 1).val < 1024 := (i 1).isLt
  let t : Fin cfg0.N := ⟨(i 0).val / 256, by omega⟩
  have ht : t.val = (i 0).val / 256 := rfl
  have hi := index_rows t
  refine ⟨t, flush0_26 _, ?_⟩
  show i ∈ ((View.whole main_v3_8).slice (win0_26.rect t)).set
  rw [View.set_slice_whole, Rect.mem_set_unit]
  intro a
  match a with
  | ⟨0, _⟩ => show win0_26.index t 0 * 256 ≤ (i 0).val ∧ (i 0).val < win0_26.index t 0 * 256 + 256; omega
  | ⟨1, _⟩ => show win0_26.index t 1 * 1024 ≤ (i 1).val ∧ (i 1).val < win0_26.index t 1 * 1024 + 1024; omega

/-- The last point. -/
abbrev lastPt : Fin cfg0.N := ⟨15, by have hN : cfg0.N = 16 := N_0; omega⟩

/-- What the last point writes back to output 27. -/
theorem flushed_dwa (c : Dev nD) (t : Fin cfg0.N) (hf : (cfg0.win 27).flush t = true) :
    (dats m 0 c).flushed 27 t = ((cfg0.win 27).blk t).view.read (Elt Ideal) (rDwa (arrays m c)) := by
  have hN : cfg0.N = 16 := N_0
  have ht : t = lastPt := Fin.ext (by have := (flush0_27 t).mp hf; have := t.isLt; show t.val = 15; omega)
  subst ht
  have e : (dats m 0 c).flushed 27 lastPt =
      (cfg0.win 27).cut (grid0.coords lastPt) ((outsAt m c 15 lastPt.isLt).2.2.2.2.2.2.2.2.2.1) := by
    show (cfg0.win 27).cut (grid0.coords lastPt) ((dats m 0 c).after 27 lastPt) = _
    rw [after0_27]
  refine e.trans ?_
  funext (j : S512x1024.Idx)
  rw [View.read_apply]
  have hi := index_whole lastPt
  refine (dwa_last m c _ j).trans (congrArg (rDwa (arrays m c)) ?_)
  funext a; apply Fin.ext
  match a with
  | ⟨0, _⟩ => show (j 0).val = win0_27.index lastPt 0 * 512 + 1 * (j 0).val; omega
  | ⟨1, _⟩ => show (j 1).val = win0_27.index lastPt 1 * 1024 + 1 * (j 1).val; omega

/-- Output 27's array after the run. -/
theorem arr_dwa (c : Dev nD) : (dats m 0 c).arrAt 27 cfg0.N = rDwa (arrays m c) := by
  refine (dats m 0 c).arrAt_eq_of_cover 27 (rDwa (arrays m c)) (fun t hf => flushed_dwa m c t hf) fun (i : S512x1024.Idx) => ?_
  have hN : cfg0.N = 16 := N_0
  have h0 : (i 0).val < 512 := (i 0).isLt
  have h1 : (i 1).val < 1024 := (i 1).isLt
  let t : Fin cfg0.N := lastPt
  have hi := index_whole t
  refine ⟨t, (flush0_27 t).mpr rfl, ?_⟩
  show i ∈ ((View.whole main_v3_9).slice (win0_27.rect t)).set
  rw [View.set_slice_whole, Rect.mem_set_unit]
  intro a
  match a with
  | ⟨0, _⟩ => show win0_27.index t 0 * 512 ≤ (i 0).val ∧ (i 0).val < win0_27.index t 0 * 512 + 512; omega
  | ⟨1, _⟩ => show win0_27.index t 1 * 1024 ≤ (i 1).val ∧ (i 1).val < win0_27.index t 1 * 1024 + 1024; omega

/-- What the last point writes back to output 28. -/
theorem flushed_dwb (c : Dev nD) (t : Fin cfg0.N) (hf : (cfg0.win 28).flush t = true) :
    (dats m 0 c).flushed 28 t = ((cfg0.win 28).blk t).view.read (Elt Ideal) (rDwb (arrays m c)) := by
  have hN : cfg0.N = 16 := N_0
  have ht : t = lastPt := Fin.ext (by have := (flush0_28 t).mp hf; have := t.isLt; show t.val = 15; omega)
  subst ht
  have e : (dats m 0 c).flushed 28 lastPt =
      (cfg0.win 28).cut (grid0.coords lastPt) ((outsAt m c 15 lastPt.isLt).2.2.2.2.2.2.2.2.2.2.1) := by
    show (cfg0.win 28).cut (grid0.coords lastPt) ((dats m 0 c).after 28 lastPt) = _
    rw [after0_28]
  refine e.trans ?_
  funext (j : S512x1024.Idx)
  rw [View.read_apply]
  have hi := index_whole lastPt
  refine (dwb_last m c _ j).trans (congrArg (rDwb (arrays m c)) ?_)
  funext a; apply Fin.ext
  match a with
  | ⟨0, _⟩ => show (j 0).val = win0_28.index lastPt 0 * 512 + 1 * (j 0).val; omega
  | ⟨1, _⟩ => show (j 1).val = win0_28.index lastPt 1 * 1024 + 1 * (j 1).val; omega

/-- Output 28's array after the run. -/
theorem arr_dwb (c : Dev nD) : (dats m 0 c).arrAt 28 cfg0.N = rDwb (arrays m c) := by
  refine (dats m 0 c).arrAt_eq_of_cover 28 (rDwb (arrays m c)) (fun t hf => flushed_dwb m c t hf) fun (i : S512x1024.Idx) => ?_
  have hN : cfg0.N = 16 := N_0
  have h0 : (i 0).val < 512 := (i 0).isLt
  have h1 : (i 1).val < 1024 := (i 1).isLt
  let t : Fin cfg0.N := lastPt
  have hi := index_whole t
  refine ⟨t, (flush0_28 t).mpr rfl, ?_⟩
  show i ∈ ((View.whole main_v3_10).slice (win0_28.rect t)).set
  rw [View.set_slice_whole, Rect.mem_set_unit]
  intro a
  match a with
  | ⟨0, _⟩ => show win0_28.index t 0 * 512 ≤ (i 0).val ∧ (i 0).val < win0_28.index t 0 * 512 + 512; omega
  | ⟨1, _⟩ => show win0_28.index t 1 * 1024 ≤ (i 1).val ∧ (i 1).val < win0_28.index t 1 * 1024 + 1024; omega

/-- What the last point writes back to output 29. -/
theorem flushed_dwo (c : Dev nD) (t : Fin cfg0.N) (hf : (cfg0.win 29).flush t = true) :
    (dats m 0 c).flushed 29 t = ((cfg0.win 29).blk t).view.read (Elt Ideal) (rDwo (arrays m c)) := by
  have hN : cfg0.N = 16 := N_0
  have ht : t = lastPt := Fin.ext (by have := (flush0_29 t).mp hf; have := t.isLt; show t.val = 15; omega)
  subst ht
  have e : (dats m 0 c).flushed 29 lastPt =
      (cfg0.win 29).cut (grid0.coords lastPt) ((outsAt m c 15 lastPt.isLt).2.2.2.2.2.2.2.2.2.2.2.1) := by
    show (cfg0.win 29).cut (grid0.coords lastPt) ((dats m 0 c).after 29 lastPt) = _
    rw [after0_29]
  refine e.trans ?_
  funext (j : S1024x1024.Idx)
  rw [View.read_apply]
  have hi := index_whole lastPt
  refine (dwo_last m c _ j).trans (congrArg (rDwo (arrays m c)) ?_)
  funext a; apply Fin.ext
  match a with
  | ⟨0, _⟩ => show (j 0).val = win0_29.index lastPt 0 * 1024 + 1 * (j 0).val; omega
  | ⟨1, _⟩ => show (j 1).val = win0_29.index lastPt 1 * 1024 + 1 * (j 1).val; omega

/-- Output 29's array after the run. -/
theorem arr_dwo (c : Dev nD) : (dats m 0 c).arrAt 29 cfg0.N = rDwo (arrays m c) := by
  refine (dats m 0 c).arrAt_eq_of_cover 29 (rDwo (arrays m c)) (fun t hf => flushed_dwo m c t hf) fun (i : S1024x1024.Idx) => ?_
  have hN : cfg0.N = 16 := N_0
  have h0 : (i 0).val < 1024 := (i 0).isLt
  have h1 : (i 1).val < 1024 := (i 1).isLt
  let t : Fin cfg0.N := lastPt
  have hi := index_whole t
  refine ⟨t, (flush0_29 t).mpr rfl, ?_⟩
  show i ∈ ((View.whole main_v3_11).slice (win0_29.rect t)).set
  rw [View.set_slice_whole, Rect.mem_set_unit]
  intro a
  match a with
  | ⟨0, _⟩ => show win0_29.index t 0 * 1024 ≤ (i 0).val ∧ (i 0).val < win0_29.index t 0 * 1024 + 1024; omega
  | ⟨1, _⟩ => show win0_29.index t 1 * 1024 ≤ (i 1).val ∧ (i 1).val < win0_29.index t 1 * 1024 + 1024; omega

/-- What the last point writes back to output 30. -/
theorem flushed_dnow (c : Dev nD) (t : Fin cfg0.N) (hf : (cfg0.win 30).flush t = true) :
    (dats m 0 c).flushed 30 t = ((cfg0.win 30).blk t).view.read (Elt Ideal) (rDnow (arrays m c)) := by
  have hN : cfg0.N = 16 := N_0
  have ht : t = lastPt := Fin.ext (by have := (flush0_30 t).mp hf; have := t.isLt; show t.val = 15; omega)
  subst ht
  have e : (dats m 0 c).flushed 30 lastPt =
      (cfg0.win 30).cut (grid0.coords lastPt) ((outsAt m c 15 lastPt.isLt).2.2.2.2.2.2.2.2.2.2.2.2.1) := by
    show (cfg0.win 30).cut (grid0.coords lastPt) ((dats m 0 c).after 30 lastPt) = _
    rw [after0_30]
  refine e.trans ?_
  funext (j : S1x1024.Idx)
  rw [View.read_apply]
  have hi := index_whole lastPt
  refine (dnow_last m c _ j).trans (congrArg (rDnow (arrays m c)) ?_)
  funext a; apply Fin.ext
  match a with
  | ⟨0, _⟩ => show (j 0).val = win0_30.index lastPt 0 * 1 + 1 * (j 0).val; omega
  | ⟨1, _⟩ => show (j 1).val = win0_30.index lastPt 1 * 1024 + 1 * (j 1).val; omega

/-- Output 30's array after the run. -/
theorem arr_dnow (c : Dev nD) : (dats m 0 c).arrAt 30 cfg0.N = rDnow (arrays m c) := by
  refine (dats m 0 c).arrAt_eq_of_cover 30 (rDnow (arrays m c)) (fun t hf => flushed_dnow m c t hf) fun (i : S1x1024.Idx) => ?_
  have hN : cfg0.N = 16 := N_0
  have h0 : (i 0).val < 1 := (i 0).isLt
  have h1 : (i 1).val < 1024 := (i 1).isLt
  let t : Fin cfg0.N := lastPt
  have hi := index_whole t
  refine ⟨t, (flush0_30 t).mpr rfl, ?_⟩
  show i ∈ ((View.whole main_v3_12).slice (win0_30.rect t)).set
  rw [View.set_slice_whole, Rect.mem_set_unit]
  intro a
  match a with
  | ⟨0, _⟩ => show win0_30.index t 0 * 1 ≤ (i 0).val ∧ (i 0).val < win0_30.index t 0 * 1 + 1; omega
  | ⟨1, _⟩ => show win0_30.index t 1 * 1024 ≤ (i 1).val ∧ (i 1).val < win0_30.index t 1 * 1024 + 1024; omega

/-- What the last point writes back to output 31. -/
theorem flushed_loss (c : Dev nD) (t : Fin cfg0.N) (hf : (cfg0.win 31).flush t = true) :
    (dats m 0 c).flushed 31 t = ((cfg0.win 31).blk t).view.read (Elt Ideal) (rLoss (arrays m c)) := by
  have hN : cfg0.N = 16 := N_0
  have ht : t = lastPt := Fin.ext (by have := (flush0_31 t).mp hf; have := t.isLt; show t.val = 15; omega)
  subst ht
  have e : (dats m 0 c).flushed 31 lastPt =
      (cfg0.win 31).cut (grid0.coords lastPt) ((outsAt m c 15 lastPt.isLt).2.2.2.2.2.2.2.2.2.2.2.2.2.1) := by
    show (cfg0.win 31).cut (grid0.coords lastPt) ((dats m 0 c).after 31 lastPt) = _
    rw [after0_31]
  refine e.trans ?_
  funext (j : S8x128.Idx)
  rw [View.read_apply]
  have hi := index_whole lastPt
  refine (loss_last m c _ j).trans (congrArg (rLoss (arrays m c)) ?_)
  funext a; apply Fin.ext
  match a with
  | ⟨0, _⟩ => show (j 0).val = win0_31.index lastPt 0 * 8 + 1 * (j 0).val; omega
  | ⟨1, _⟩ => show (j 1).val = win0_31.index lastPt 1 * 128 + 1 * (j 1).val; omega

/-- Output 31's array after the run. -/
theorem arr_loss (c : Dev nD) : (dats m 0 c).arrAt 31 cfg0.N = rLoss (arrays m c) := by
  refine (dats m 0 c).arrAt_eq_of_cover 31 (rLoss (arrays m c)) (fun t hf => flushed_loss m c t hf) fun (i : S8x128.Idx) => ?_
  have hN : cfg0.N = 16 := N_0
  have h0 : (i 0).val < 8 := (i 0).isLt
  have h1 : (i 1).val < 128 := (i 1).isLt
  let t : Fin cfg0.N := lastPt
  have hi := index_whole t
  refine ⟨t, (flush0_31 t).mpr rfl, ?_⟩
  show i ∈ ((View.whole main_v3_13).slice (win0_31.rect t)).set
  rw [View.set_slice_whole, Rect.mem_set_unit]
  intro a
  match a with
  | ⟨0, _⟩ => show win0_31.index t 0 * 8 ≤ (i 0).val ∧ (i 0).val < win0_31.index t 0 * 8 + 8; omega
  | ⟨1, _⟩ => show win0_31.index t 1 * 128 ≤ (i 1).val ∧ (i 1).val < win0_31.index t 1 * 128 + 128; omega

/-- What the kernel's run leaves in its seven results. -/
theorem kernel_results (ρ : Dev nD → PrngReg) :
    θ_run defs (onTc (τ := τ) (main (F := Ideal))) ⟨m, fun _ => 0, ρ⟩ (fun r => ∀ c : Dev nD,
      r.2.mem ((c.tc : Thread nD τ).loc main_v3_7) = rDg (arrays m c)
      ∧ r.2.mem ((c.tc : Thread nD τ).loc main_v3_8) = rDxo (arrays m c)
      ∧ r.2.mem ((c.tc : Thread nD τ).loc main_v3_9) = rDwa (arrays m c)
      ∧ r.2.mem ((c.tc : Thread nD τ).loc main_v3_10) = rDwb (arrays m c)
      ∧ r.2.mem ((c.tc : Thread nD τ).loc main_v3_11) = rDwo (arrays m c)
      ∧ r.2.mem ((c.tc : Thread nD τ).loc main_v3_12) = rDnow (arrays m c)
      ∧ r.2.mem ((c.tc : Thread nD τ).loc main_v3_13) = rLoss (arrays m c)) :=
  (θ_run defs _ _).mono (fun r h c =>
    ⟨((h c).1 25).trans (arr_dg m c), ((h c).1 26).trans (arr_dxo m c), ((h c).1 27).trans (arr_dwa m c),
      ((h c).1 28).trans (arr_dwb m c), ((h c).1 29).trans (arr_dwo m c), ((h c).1 30).trans (arr_dnow m c),
      ((h c).1 31).trans (arr_loss m c)⟩) (run_main m ρ)

set_option maxHeartbeats 4000000 in
/-- The tail's seven results are the reference's. -/
theorem algebraic : Cert.algebraic_KernelIdeal_ReferenceIdeal := by
  intro m ρ m' ρ' _ hagree
  have same : ∀ c : Dev nD, given m' c = arrays m c := fun c => by
    obtain ⟨e0, e1, e2, e3, e4, e5, e6, e7, e8, e9, e10, e11, e12, e13, e14, e15, e16, e17⟩ := hagree c
    unfold given arrays
    rw [e0, e1, e2, e3, e4, e5, e6, e7, e8, e9, e10, e11, e12, e13, e14, e15, e16, e17]
  refine ⟨fun c => rDg (arrays m c), fun c => rDxo (arrays m c), fun c => rDwa (arrays m c), fun c => rDwb (arrays m c),
    fun c => rDwo (arrays m c), fun c => rDnow (arrays m c), fun c => rLoss (arrays m c), ?_, ?_⟩
  · refine (θ_run defs _ _).mono (fun r h c => ?_) (θ_run_and (kernel_results m ρ) (unchanged m ρ))
    obtain ⟨h0, h1, h2, h3, h4, h5, h6⟩ := h.1 c
    exact ⟨h0, h1, h2, h3, h4, h5, h6, h.2 c⟩
  · refine (θ_run Cert.ReferenceIdeal.defs _ _).mono (fun r h c => ?_) (reference_results m' ρ')
    obtain ⟨h0, h1, h2, h3, h4, h5, h6, hk⟩ := h c
    rw [same c] at h0 h1 h2 h3 h4 h5 h6
    exact ⟨h0, h1, h2, h3, h4, h5, h6, hk⟩

end Cert.KernelIdeal.Value

end
-- ==== Proof.DxHost.lean ====
/-
  The cotangent of the normalised rows as the reference computes it: one product over all 6280 columns of the input
  projection. Column by column it is the sum of six products, one for each of the projection's segments.
-/
module

public import proofs.«01_k».proof.Defs
public import proofs.«01_k».proof.Proof.Dots
public import proofs.«01_k».proof.Proof.Gen.Reference3Ideal.Read
public import Idealize.ShloMosaic.Lib.Tactic

@[expose] public section

noncomputable section

namespace Cert.Reference3Ideal.Value

open Cert.Reference3Ideal Cert.Reference3Ideal.Read Idealize.ShloMosaic
open Idealize.ShloMosaic.ValueIdx

/-- Column `o + k` of the projection. -/
abbrev col {n : ℕ} (o : ℕ) (h : o + n ≤ 6280) (k : Fin n) : Fin 6280 := ⟨o + k.val, by omega⟩

variable (w : S1024x6280.Idx → EReal) (d4 : S4096x1664.Idx → EReal) (d5 : S4096x512.Idx → EReal)
  (d6 : S4096x1536.Idx → EReal) (d7 : S4096x512.Idx → EReal) (d8 : S4096x128.Idx → EReal) (d9 : S4096x2048.Idx → EReal)

/-- A column of arrays laid side by side is the column of the array that holds it. -/
theorem piece {n : ℕ} (xs : List ((s : Shape) × (s.Idx → EReal))) (h : Shape.Concatenates (xs.map (·.1)) S4096x6280 1)
    (x : (⟨2, ![4096, n]⟩ : Shape).Idx → EReal) (k o : ℕ) (hk : k < xs.length) (hx : xs[k] = ⟨⟨2, ![4096, n]⟩, x⟩)
    (ho : (((xs.take k).map (·.1)).map fun s => if h : s.rank = S4096x6280.rank then s.size ((1 : Fin 2).cast h.symm) else 0).sum = o)
    (r : Fin 4096) (c : Fin n) (hc : o + n ≤ 6280) :
    concatenate S4096x6280 1 xs h (ix2 r (col o hc c)) = x (ix2 r c) := by
  refine concatenate_apply_piece 1 xs h _ k hk _ x hx rfl o ho (ix2 r c) (fun b hb => ?_) rfl
  match b with
  | ⟨0, _⟩ => rfl
  | ⟨1, _⟩ => exact absurd rfl hb

/-- Columns 0 to 1663 of the whole cotangent. -/
theorem cat0 (r : Fin 4096) (k : Fin 1664) :
    val_main_v1 (F := Ideal) d4 d5 d6 d7 d8 d9 (ix2 r (col 0 (by norm_num) k)) = d4 (ix2 r k) :=
  piece _ _ d4 0 0 (Nat.lt_of_sub_eq_succ rfl) rfl rfl r k _

/-- Columns 1664 to 2175. -/
theorem cat1 (r : Fin 4096) (k : Fin 512) :
    val_main_v1 (F := Ideal) d4 d5 d6 d7 d8 d9 (ix2 r (col 1664 (by norm_num) k)) = d5 (ix2 r k) :=
  piece _ _ d5 1 1664 (Nat.lt_of_sub_eq_succ rfl) rfl rfl r k _

/-- Columns 2176 to 3711. -/
theorem cat2 (r : Fin 4096) (k : Fin 1536) :
    val_main_v1 (F := Ideal) d4 d5 d6 d7 d8 d9 (ix2 r (col 2176 (by norm_num) k)) = d6 (ix2 r k) :=
  piece _ _ d6 2 2176 (Nat.lt_of_sub_eq_succ rfl) rfl rfl r k _

/-- Columns 3712 to 4223. -/
theorem cat3 (r : Fin 4096) (k : Fin 512) :
    val_main_v1 (F := Ideal) d4 d5 d6 d7 d8 d9 (ix2 r (col 3712 (by norm_num) k)) = d7 (ix2 r k) :=
  piece _ _ d7 3 3712 (Nat.lt_of_sub_eq_succ rfl) rfl rfl r k _

/-- Columns 4224 to 4231: the first eight lanes of the padded cotangent. -/
theorem cat4 (r : Fin 4096) (k : Fin 8) :
    val_main_v1 (F := Ideal) d4 d5 d6 d7 d8 d9 (ix2 r (col 4224 (by norm_num) k)) = d8 (ix2 r ⟨k.val, by omega⟩) := by
  refine (piece _ _ (val_main_v0 (F := Ideal) d8) 4 4224 (Nat.lt_of_sub_eq_succ rfl) rfl rfl r k _).trans ?_
  rw [val_main_v0_apply]
  congr 1
  funext a; match a with | ⟨0, _⟩ => rfl | ⟨1, _⟩ => rfl

/-- Columns 4232 to 6279. -/
theorem cat5 (r : Fin 4096) (k : Fin 2048) :
    val_main_v1 (F := Ideal) d4 d5 d6 d7 d8 d9 (ix2 r (col 4232 (by norm_num) k)) = d9 (ix2 r k) :=
  piece _ _ d9 5 4232 (Nat.lt_of_sub_eq_succ rfl) rfl rfl r k _

/-- One segment's product: row `r` of the segment's cotangent with the segment's columns of row `q` of the weights. -/
def seg {n : ℕ} (o : ℕ) (h : o + n ≤ 6280) (d : Fin n → EReal) (q : Fin 1024) : EReal :=
  ∑ k : Fin n, d k * w (ix2 q (col o h k))

/-- The product over all columns is the sum over the segments. -/
theorem dh_apply (r : Fin 4096) (q : Fin 1024) :
    val_main_v18 (F := Ideal) w d4 d5 d6 d7 d8 d9 (ix2 r q)
      = seg w 0 (by norm_num) (fun k : Fin 1664 => d4 (ix2 r k)) q
        + seg w 1664 (by norm_num) (fun k : Fin 512 => d5 (ix2 r k)) q
        + seg w 2176 (by norm_num) (fun k : Fin 1536 => d6 (ix2 r k)) q
        + seg w 3712 (by norm_num) (fun k : Fin 512 => d7 (ix2 r k)) q
        + seg w 4224 (by norm_num) (fun k : Fin 8 => d8 (ix2 r ⟨k.val, by omega⟩)) q
        + seg w 4232 (by norm_num) (fun k : Fin 2048 => d9 (ix2 r k)) q := by
  rw [val_main_v18_apply]
  have e : ∀ k : Fin 6280, val_main_v1 (F := Ideal) d4 d5 d6 d7 d8 d9 (lidx_main_v18 (ix2 r q) k) * w (ridx_main_v18 (ix2 r q) k)
      = val_main_v1 (F := Ideal) d4 d5 d6 d7 d8 d9 (ix2 r k) * w (ix2 q k) := fun k =>
    congrArg₂ (fun a b : EReal => a * b)
      (congrArg (val_main_v1 (F := Ideal) d4 d5 d6 d7 d8 d9) (by funext a; match a with | ⟨0, _⟩ => rfl | ⟨1, _⟩ => rfl))
      (congrArg w (by funext a; match a with | ⟨0, _⟩ => rfl | ⟨1, _⟩ => rfl))
  refine (Finset.sum_congr rfl fun k _ => e k).trans ?_
  rw [Dots.sum_split 4232 2048 rfl, Dots.sum_split 4224 8 rfl, Dots.sum_split 3712 512 rfl, Dots.sum_split 2176 1536 rfl,
    Dots.sum_split 1664 512 rfl]
  unfold seg
  refine congrArg₂ (· + ·) (congrArg₂ (· + ·) (congrArg₂ (· + ·) (congrArg₂ (· + ·) (congrArg₂ (· + ·)
    (Finset.sum_congr rfl fun k _ => ?_) (Finset.sum_congr rfl fun k _ => ?_)) (Finset.sum_congr rfl fun k _ => ?_))
    (Finset.sum_congr rfl fun k _ => ?_)) (Finset.sum_congr rfl fun k _ => ?_)) (Finset.sum_congr rfl fun k _ => ?_)
  · exact congrArg₂ (fun a b : EReal => a * b)
      ((congrArg (fun z : Fin 6280 => val_main_v1 (F := Ideal) d4 d5 d6 d7 d8 d9 (ix2 r z)) (Fin.ext (Nat.zero_add _).symm)).trans
        (cat0 d4 d5 d6 d7 d8 d9 r k))
      (congrArg (fun z : Fin 6280 => w (ix2 q z)) (Fin.ext (Nat.zero_add _).symm))
  · exact congrArg (fun a : EReal => a * _) (cat1 d4 d5 d6 d7 d8 d9 r k)
  · exact congrArg (fun a : EReal => a * _) (cat2 d4 d5 d6 d7 d8 d9 r k)
  · exact congrArg (fun a : EReal => a * _) (cat3 d4 d5 d6 d7 d8 d9 r k)
  · exact congrArg (fun a : EReal => a * _) (cat4 d4 d5 d6 d7 d8 d9 r k)
  · exact congrArg (fun a : EReal => a * _) (cat5 d4 d5 d6 d7 d8 d9 r k)

end Cert.Reference3Ideal.Value

end
-- ==== Proof.DxOuts.lean ====
/-
  What one point of the input gradient's kernel leaves in its two output blocks, as the named payloads of its input blocks:
  the block of `dx`, and the row to which it adds its part of the norm weight's gradient.
-/
module

public import proofs.«01_k».proof.Defs
public import proofs.«01_k».proof.Proof.Gen.Kernel3Ideal.Value
public import Idealize.ShloMosaic.Lib.Tactic

@[expose] public section

set_option maxRecDepth 16384

noncomputable section

namespace Cert.Kernel3Ideal.Value

open Cert.Kernel3Ideal Cert.Kernel3Ideal.Gen Idealize.ShloMosaic Idealize.ShloMosaic.TcCoe Idealize.SL.Sem

variable (m : (ℓ : Loc nD τ sig) → Buf (Elt Ideal) ℓ)

/-- The first five products of a point. -/
def part5 (c : Dev nD) (t : Fin cfg0.N) : FVec Ideal S256x1024 .f32 :=
  k0_pay2 (iblk m c 3 t) (iblk m c 9 t) (iblk m c 4 t) (iblk m c 10 t) (iblk m c 5 t) (iblk m c 11 t) (iblk m c 6 t)
    (iblk m c 12 t) (iblk m c 7 t) (iblk m c 13 t)

/-- The cotangent of a point's normalised rows: all six products. -/
def blockDh (c : Dev nD) (t : Fin cfg0.N) : FVec Ideal S256x1024 .f32 :=
  k0_pay3 (part5 m c t) (iblk m c 8 t) (iblk m c 14 t)

/-- A point's block of `dx`. -/
def blockDx (c : Dev nD) (t : Fin cfg0.N) : FVec Ideal S256x1024 .f32 :=
  k0_pay6 (part5 m c t) (iblk m c 8 t) (iblk m c 14 t) (iblk m c 0 t) (iblk m c 1 t) (iblk m c 2 t)

/-- The row of the norm weight's gradient after a point that finds `acc`. -/
def rowDg (c : Dev nD) (t : Fin cfg0.N) (acc : FVec Ideal S1x1024 .f32) : FVec Ideal S1x1024 .f32 :=
  k0_pay1 (blockDh m c t) (k0_pay5 (iblk m c 0 t)) (k0_pay8 acc)

theorem hz : (![0, 0] : Fin 2 → Nat) = fun _ => 0 := funext fun a => by fin_cases a <;> rfl

/-- Reading a whole block is reading the block. -/
theorem ld_whole2 {n k : ℕ} {e : EltTy} (inb : ∀ a, (![0, 0] : Fin 2 → ℕ) a + (![n, k] : Fin 2 → ℕ) a ≤ (⟨2, ![n, k]⟩ : Shape).size a)
    (X : (⟨2, ![n, k]⟩ : Shape).Idx → Elt Ideal e) : View.ld X (Rect.unit (s := ⟨2, ![n, k]⟩) ![0, 0] ![n, k] inb) = X :=
  View.ld_unit_zero (S := ⟨2, ![n, k]⟩) hz inb X

set_option maxHeartbeats 400000 in
/-- The first point. -/
theorem outs_A (c : Dev nD) (t : Fin cfg0.N) (h0 : t.val % 16 = 0) :
    outsAt0 m c t.val t.isLt = (blockDx m c t, rowDg m c t (k0_pay7 (F := Ideal))) := by
  rw [outsAt0_A m c t h0]
  refine Prod.ext ?_ ?_
  · dsimp only
    unfold out0_A_15
    rw [View.read_writes_eq_canon _ _ _ (fun y => cover0_A_15 (y := y) ..)]
    unfold kernelRun0_A
    dsimp only
    sl_unfold_words
    rw [View.canon_unit_zero hz]
    simp only [View.readAt_eq_ld, Memref.IsWhole.read_unread, ld_whole2]
    rfl
  · dsimp only
    unfold out0_A_16
    rw [View.read_writes_eq_canon _ _ _ (fun y => cover0_A_16 (y := y) ..)]
    unfold kernelRun0_A
    dsimp only
    sl_unfold_words
    rw [View.canon_cons_unit_zero (S := S1x1024) hz, View.readCov_unit_zero (S := S1x1024) _ hz]
    simp only [View.readAt_eq_ld, Memref.IsWhole.read_unread, ld_whole2]
    rfl

set_option maxHeartbeats 400000 in
/-- Every later point. -/
theorem outs_B (c : Dev nD) (t : Fin cfg0.N) (h0 : ¬t.val % 16 = 0) :
    outsAt0 m c t.val t.isLt = (blockDx m c t,
      rowDg m c t (outsAt0 m c (t.val - 1) (Nat.lt_of_le_of_lt (Nat.sub_le _ _) t.isLt)).2) := by
  rw [outsAt0_B m c t h0]
  refine Prod.ext ?_ ?_
  · dsimp only
    unfold out0_B_15
    rw [View.read_writes_eq_canon _ _ _ (fun y => cover0_B_15 (y := y) ..)]
    unfold kernelRun0_B
    dsimp only
    sl_unfold_words
    rw [View.canon_unit_zero hz]
    simp only [View.readAt_eq_ld, Memref.IsWhole.read_unread, ld_whole2]
    rfl
  · dsimp only
    unfold out0_B_16
    rw [View.read_writes_eq_canon _ _ _ (fun y => cover0_B_16 (y := y) ..)]
    unfold kernelRun0_B
    dsimp only
    sl_unfold_words
    rw [View.canon_unit_zero hz]
    simp only [View.readAt_eq_ld, Memref.IsWhole.read_unread, ld_whole2]
    rfl

end Cert.Kernel3Ideal.Value

end
-- ==== Proof.DxBlocks.lean ====
/-
  What the input gradient's kernel reads: each point's rows of the cotangents and of `x`, and the segments of the transposed
  weights; and the six products of a point, which together are the reference's one product.
-/
module

public import proofs.«01_k».proof.Proof.DxHost
public import proofs.«01_k».proof.Proof.DxOuts

@[expose] public section

set_option maxRecDepth 16384

noncomputable section

namespace Cert.Kernel3Ideal.Value

open Cert.Kernel3Ideal Cert.Kernel3Ideal.Gen Idealize.ShloMosaic Idealize.ShloMosaic.TcCoe Idealize.SL.Sem
open Idealize.ShloMosaic.ValueIdx
open Cert.Reference3Ideal.Value (col seg dh_apply)
open Cert.Reference3Ideal.Read (val_main_v18)

variable (m : (ℓ : Loc nD τ sig) → Buf (Elt Ideal) ℓ)

abbrev aX (c : Dev nD) : S4096x1024.Idx → EReal := m ((c : Thread nD τ).loc main_arg0)
abbrev aG (c : Dev nD) : S1x1024.Idx → EReal := m ((c : Thread nD τ).loc main_arg1)
abbrev aW (c : Dev nD) : S1024x6280.Idx → EReal := m ((c : Thread nD τ).loc main_arg2)
abbrev aO (c : Dev nD) : S4096x1024.Idx → EReal := m ((c : Thread nD τ).loc main_arg3)
abbrev a4 (c : Dev nD) : S4096x1664.Idx → EReal := m ((c : Thread nD τ).loc main_arg4)
abbrev a5 (c : Dev nD) : S4096x512.Idx → EReal := m ((c : Thread nD τ).loc main_arg5)
abbrev a6 (c : Dev nD) : S4096x1536.Idx → EReal := m ((c : Thread nD τ).loc main_arg6)
abbrev a7 (c : Dev nD) : S4096x512.Idx → EReal := m ((c : Thread nD τ).loc main_arg7)
abbrev a8 (c : Dev nD) : S4096x128.Idx → EReal := m ((c : Thread nD τ).loc main_arg8)
abbrev a9 (c : Dev nD) : S4096x2048.Idx → EReal := m ((c : Thread nD τ).loc main_arg9)

/-- The whole cotangent of the normalised rows. -/
abbrev rowsDh (c : Dev nD) : S4096x1024.Idx → EReal :=
  val_main_v18 (F := Ideal) (aW m c) (a4 m c) (a5 m c) (a6 m c) (a7 m c) (a8 m c) (a9 m c)

/-! ## The arrays as the region finds them -/

theorem entry_d4 (c : Dev nD) (i : S4096x1664.Idx) : V m c main_v0 i = a4 m c i := by
  refine congrFun (?_ : V m c main_v0 = _) i
  unfold_abbrev_sides
  after_results
  rfl

theorem entry_d5 (c : Dev nD) (i : S4096x512.Idx) : V m c main_v1 i = a5 m c i := by
  refine congrFun (?_ : V m c main_v1 = _) i
  unfold_abbrev_sides
  after_results
  rfl

theorem entry_d6 (c : Dev nD) (i : S4096x1536.Idx) : V m c main_v2 i = a6 m c i := by
  refine congrFun (?_ : V m c main_v2 = _) i
  unfold_abbrev_sides
  after_results
  rfl

theorem entry_d7 (c : Dev nD) (i : S4096x512.Idx) : V m c main_v3 i = a7 m c i := by
  refine congrFun (?_ : V m c main_v3 = _) i
  unfold_abbrev_sides
  after_results
  rfl

theorem entry_d8 (c : Dev nD) (i : S4096x128.Idx) : V m c main_v4 i = a8 m c i := by
  refine congrFun (?_ : V m c main_v4 = _) i
  unfold_abbrev_sides
  after_results
  rfl

theorem entry_d9 (c : Dev nD) (i : S4096x2048.Idx) : V m c main_v5 i = a9 m c i := by
  refine congrFun (?_ : V m c main_v5 = _) i
  unfold_abbrev_sides
  after_results
  rfl

/-- A transposed weight. -/
theorem wt_apply (w : S1024x6280.Idx → EReal) (j : S6280x1024.Idx) :
    transpose S6280x1024 [1, 0] w transposes_S1024x6280_S6280x1024_1_0 j = w (ix2 (j 1) (j 0)) :=
  congrArg w (by funext a; match a with | ⟨0, _⟩ => rfl | ⟨1, _⟩ => rfl)

/-- A row of a segment of the transposed weights. -/
theorem slice_apply {n : ℕ} (o : ℕ) (h : o + n ≤ 6280) (hs : S6280x1024.Slices ![o, 0] ⟨2, ![n, 1024]⟩) (w : S1024x6280.Idx → EReal)
    (k : Fin n) (q : Fin 1024) :
    extractStridedSlice ⟨2, ![n, 1024]⟩ ![o, 0] (transpose S6280x1024 [1, 0] w transposes_S1024x6280_S6280x1024_1_0) hs (ix2 k q)
      = w (ix2 q (col o h k)) := by
  refine (extractStridedSlice_apply _ _ hs (ix2 k q) (ix2 (col o h k) q) fun a => ?_).trans (wt_apply w _)
  match a with
  | ⟨0, _⟩ => rfl
  | ⟨1, _⟩ => exact (Nat.zero_add _).symm

theorem entry_w8 (c : Dev nD) (k : Fin 1664) (q : Fin 1024) :
    V m c main_v8 (ix2 k q) = aW m c (ix2 q (col 0 (by norm_num) k)) := by
  refine Eq.trans (congrFun (?_ : V m c main_v8 = _) _) (slice_apply 0 (by norm_num) slices_S6280x1024_S1664x1024_0_0 (aW m c) k q)
  unfold_abbrev_sides
  after_results
  rfl

theorem entry_w9 (c : Dev nD) (k : Fin 512) (q : Fin 1024) :
    V m c main_v9 (ix2 k q) = aW m c (ix2 q (col 1664 (by norm_num) k)) := by
  refine Eq.trans (congrFun (?_ : V m c main_v9 = _) _) (slice_apply 1664 (by norm_num) slices_S6280x1024_S512x1024_1664_0 (aW m c) k q)
  unfold_abbrev_sides
  after_results
  rfl

theorem entry_w10 (c : Dev nD) (k : Fin 1536) (q : Fin 1024) :
    V m c main_v10 (ix2 k q) = aW m c (ix2 q (col 2176 (by norm_num) k)) := by
  refine Eq.trans (congrFun (?_ : V m c main_v10 = _) _) (slice_apply 2176 (by norm_num) slices_S6280x1024_S1536x1024_2176_0 (aW m c) k q)
  unfold_abbrev_sides
  after_results
  rfl

theorem entry_w11 (c : Dev nD) (k : Fin 512) (q : Fin 1024) :
    V m c main_v11 (ix2 k q) = aW m c (ix2 q (col 3712 (by norm_num) k)) := by
  refine Eq.trans (congrFun (?_ : V m c main_v11 = _) _) (slice_apply 3712 (by norm_num) slices_S6280x1024_S512x1024_3712_0 (aW m c) k q)
  unfold_abbrev_sides
  after_results
  rfl

theorem entry_w12 (c : Dev nD) (k : Fin 2048) (q : Fin 1024) :
    V m c main_v12 (ix2 k q) = aW m c (ix2 q (col 4232 (by norm_num) k)) := by
  refine Eq.trans (congrFun (?_ : V m c main_v12 = _) _) (slice_apply 4232 (by norm_num) slices_S6280x1024_S2048x1024_4232_0 (aW m c) k q)
  unfold_abbrev_sides
  after_results
  rfl

/-- The padded segment: eight rows of the transposed weights, then rows of zeros. -/
def padded (w : S1024x6280.Idx → EReal) : S128x1024.Idx → EReal :=
  concatenate S128x1024 0 [⟨S8x1024, extractStridedSlice S8x1024 ![4224, 0] (transpose S6280x1024 [1, 0] w transposes_S1024x6280_S6280x1024_1_0)
    slices_S6280x1024_S8x1024_4224_0⟩, ⟨S120x1024, fun _ => Ideal.ofBits .bf16 0x0000#16⟩] concatenates_S8x1024_S120x1024_S128x1024_d0

theorem padded_low (w : S1024x6280.Idx → EReal) (k : Fin 8) (q : Fin 1024) :
    padded w (ix2 ⟨k.val, by omega⟩ q) = w (ix2 q (col 4224 (by norm_num) k)) := by
  unfold padded
  refine (concatenate_pair_apply_left (t := S128x1024) (s₁ := S8x1024) (s₂ := S120x1024) 0 _ _ _ (ix2 ⟨k.val, by omega⟩ q) rfl (ix2 k q) fun b => ?_).trans
    (slice_apply 4224 (by norm_num) slices_S6280x1024_S8x1024_4224_0 w k q)
  match b with
  | ⟨0, _⟩ => rfl
  | ⟨1, _⟩ => rfl

theorem padded_high (w : S1024x6280.Idx → EReal) (k : Fin 120) (q : Fin 1024) :
    padded w (ix2 ⟨8 + k.val, by omega⟩ q) = 0 := by
  unfold padded
  refine (concatenate_pair_apply_right (t := S128x1024) (s₁ := S8x1024) (s₂ := S120x1024) 0 _ _ _ (ix2 ⟨8 + k.val, by omega⟩ q) rfl rfl (ix2 k q) (fun b hb => ?_) ?_).trans ?_
  · match b with
    | ⟨0, _⟩ => exact absurd rfl hb
    | ⟨1, _⟩ => rfl
  · exact Nat.add_comm _ _
  · simp [Ideal.ofBits, Ideal.ieee]

theorem entry_w15 (c : Dev nD) (i : S128x1024.Idx) : V m c main_v15 i = padded (aW m c) i := by
  refine congrFun (?_ : V m c main_v15 = _) i
  unfold_abbrev_sides
  after_results
  rfl

/-! ## The blocks -/

/-- The row windows of point `t` start at row `256 t`. -/
theorem index_rows (t : Fin cfg0.N) :
    win0_0.index t 0 = t.val ∧ win0_0.index t 1 = 0 ∧ win0_2.index t 0 = t.val ∧ win0_2.index t 1 = 0
    ∧ win0_3.index t 0 = t.val ∧ win0_3.index t 1 = 0 ∧ win0_4.index t 0 = t.val ∧ win0_4.index t 1 = 0
    ∧ win0_5.index t 0 = t.val ∧ win0_5.index t 1 = 0 ∧ win0_6.index t 0 = t.val ∧ win0_6.index t 1 = 0
    ∧ win0_7.index t 0 = t.val ∧ win0_7.index t 1 = 0 ∧ win0_8.index t 0 = t.val ∧ win0_8.index t 1 = 0
    ∧ win0_15.index t 0 = t.val ∧ win0_15.index t 1 = 0 := by
  revert t; decide +kernel

/-- The other windows are their whole arrays. -/
theorem index_whole (t : Fin cfg0.N) :
    win0_1.index t 0 = 0 ∧ win0_1.index t 1 = 0 ∧ win0_9.index t 0 = 0 ∧ win0_9.index t 1 = 0
    ∧ win0_10.index t 0 = 0 ∧ win0_10.index t 1 = 0 ∧ win0_11.index t 0 = 0 ∧ win0_11.index t 1 = 0
    ∧ win0_12.index t 0 = 0 ∧ win0_12.index t 1 = 0 ∧ win0_13.index t 0 = 0 ∧ win0_13.index t 1 = 0
    ∧ win0_14.index t 0 = 0 ∧ win0_14.index t 1 = 0 ∧ win0_16.index t 0 = 0 ∧ win0_16.index t 1 = 0 := by
  revert t; decide +kernel

theorem entry_x (c : Dev nD) (i : S4096x1024.Idx) : V m c main_arg0 i = aX m c i := congrFun (V_main_arg0 m c) i
theorem entry_g (c : Dev nD) (i : S1x1024.Idx) : V m c main_arg1 i = aG m c i := congrFun (V_main_arg1 m c) i
theorem entry_o (c : Dev nD) (i : S4096x1024.Idx) : V m c main_arg3 i = aO m c i := congrFun (V_main_arg3 m c) i

theorem block0 (c : Dev nD) (t : Fin cfg0.N) (k : Fin 256) (q : Fin 1024) (r : Fin 4096) (hr : r.val = t.val * 256 + k.val) :
    iblk m c 0 t (ix2 k q) = aX m c (ix2 r q) := by
  refine Eq.trans ?_ (entry_x m c (ix2 r q))
  unfold iblk
  rw [View.read_apply]
  show V m c main_arg0 _ = V m c main_arg0 _
  congr 1
  have hi := index_rows t
  funext a; apply Fin.ext
  match a with
  | ⟨0, _⟩ => show win0_0.index t 0 * 256 + 1 * k.val = r.val; omega
  | ⟨1, _⟩ => show win0_0.index t 1 * 1024 + 1 * q.val = q.val; omega

theorem block2 (c : Dev nD) (t : Fin cfg0.N) (k : Fin 256) (q : Fin 1024) (r : Fin 4096) (hr : r.val = t.val * 256 + k.val) :
    iblk m c 2 t (ix2 k q) = aO m c (ix2 r q) := by
  refine Eq.trans ?_ (entry_o m c (ix2 r q))
  unfold iblk
  rw [View.read_apply]
  show V m c main_arg3 _ = V m c main_arg3 _
  congr 1
  have hi := index_rows t
  funext a; apply Fin.ext
  match a with
  | ⟨0, _⟩ => show win0_2.index t 0 * 256 + 1 * k.val = r.val; omega
  | ⟨1, _⟩ => show win0_2.index t 1 * 1024 + 1 * q.val = q.val; omega

theorem block3 (c : Dev nD) (t : Fin cfg0.N) (k : Fin 256) (q : Fin 1664) (r : Fin 4096) (hr : r.val = t.val * 256 + k.val) :
    iblk m c 3 t (ix2 k q) = a4 m c (ix2 r q) := by
  refine Eq.trans ?_ (entry_d4 m c (ix2 r q))
  unfold iblk
  rw [View.read_apply]
  show V m c main_v0 _ = V m c main_v0 _
  congr 1
  have hi := index_rows t
  funext a; apply Fin.ext
  match a with
  | ⟨0, _⟩ => show win0_3.index t 0 * 256 + 1 * k.val = r.val; omega
  | ⟨1, _⟩ => show win0_3.index t 1 * 1664 + 1 * q.val = q.val; omega

theorem block4 (c : Dev nD) (t : Fin cfg0.N) (k : Fin 256) (q : Fin 512) (r : Fin 4096) (hr : r.val = t.val * 256 + k.val) :
    iblk m c 4 t (ix2 k q) = a5 m c (ix2 r q) := by
  refine Eq.trans ?_ (entry_d5 m c (ix2 r q))
  unfold iblk
  rw [View.read_apply]
  show V m c main_v1 _ = V m c main_v1 _
  congr 1
  have hi := index_rows t
  funext a; apply Fin.ext
  match a with
  | ⟨0, _⟩ => show win0_4.index t 0 * 256 + 1 * k.val = r.val; omega
  | ⟨1, _⟩ => show win0_4.index t 1 * 512 + 1 * q.val = q.val; omega

theorem block5 (c : Dev nD) (t : Fin cfg0.N) (k : Fin 256) (q : Fin 1536) (r : Fin 4096) (hr : r.val = t.val * 256 + k.val) :
    iblk m c 5 t (ix2 k q) = a6 m c (ix2 r q) := by
  refine Eq.trans ?_ (entry_d6 m c (ix2 r q))
  unfold iblk
  rw [View.read_apply]
  show V m c main_v2 _ = V m c main_v2 _
  congr 1
  have hi := index_rows t
  funext a; apply Fin.ext
  match a with
  | ⟨0, _⟩ => show win0_5.index t 0 * 256 + 1 * k.val = r.val; omega
  | ⟨1, _⟩ => show win0_5.index t 1 * 1536 + 1 * q.val = q.val; omega

theorem block6 (c : Dev nD) (t : Fin cfg0.N) (k : Fin 256) (q : Fin 512) (r : Fin 4096) (hr : r.val = t.val * 256 + k.val) :
    iblk m c 6 t (ix2 k q) = a7 m c (ix2 r q) := by
  refine Eq.trans ?_ (entry_d7 m c (ix2 r q))
  unfold iblk
  rw [View.read_apply]
  show V m c main_v3 _ = V m c main_v3 _
  congr 1
  have hi := index_rows t
  funext a; apply Fin.ext
  match a with
  | ⟨0, _⟩ => show win0_6.index t 0 * 256 + 1 * k.val = r.val; omega
  | ⟨1, _⟩ => show win0_6.index t 1 * 512 + 1 * q.val = q.val; omega

theorem block7 (c : Dev nD) (t : Fin cfg0.N) (k : Fin 256) (q : Fin 128) (r : Fin 4096) (hr : r.val = t.val * 256 + k.val) :
    iblk m c 7 t (ix2 k q) = a8 m c (ix2 r q) := by
  refine Eq.trans ?_ (entry_d8 m c (ix2 r q))
  unfold iblk
  rw [View.read_apply]
  show V m c main_v4 _ = V m c main_v4 _
  congr 1
  have hi := index_rows t
  funext a; apply Fin.ext
  match a with
  | ⟨0, _⟩ => show win0_7.index t 0 * 256 + 1 * k.val = r.val; omega
  | ⟨1, _⟩ => show win0_7.index t 1 * 128 + 1 * q.val = q.val; omega

theorem block8 (c : Dev nD) (t : Fin cfg0.N) (k : Fin 256) (q : Fin 2048) (r : Fin 4096) (hr : r.val = t.val * 256 + k.val) :
    iblk m c 8 t (ix2 k q) = a9 m c (ix2 r q) := by
  refine Eq.trans ?_ (entry_d9 m c (ix2 r q))
  unfold iblk
  rw [View.read_apply]
  show V m c main_v5 _ = V m c main_v5 _
  congr 1
  have hi := index_rows t
  funext a; apply Fin.ext
  match a with
  | ⟨0, _⟩ => show win0_8.index t 0 * 256 + 1 * k.val = r.val; omega
  | ⟨1, _⟩ => show win0_8.index t 1 * 2048 + 1 * q.val = q.val; omega

theorem block1 (c : Dev nD) (t : Fin cfg0.N) (k : Fin 1) (q : Fin 1024) :
    iblk m c 1 t (ix2 k q) = aG m c (ix2 k q) := by
  refine Eq.trans ?_ (entry_g m c (ix2 k q))
  unfold iblk
  rw [View.read_apply]
  show V m c main_arg1 _ = V m c main_arg1 _
  congr 1
  have hi := index_whole t
  funext a; apply Fin.ext
  match a with
  | ⟨0, _⟩ => show win0_1.index t 0 * 1 + 1 * k.val = k.val; omega
  | ⟨1, _⟩ => show win0_1.index t 1 * 1024 + 1 * q.val = q.val; omega

theorem block9 (c : Dev nD) (t : Fin cfg0.N) (k : Fin 1664) (q : Fin 1024) :
    iblk m c 9 t (ix2 k q) = aW m c (ix2 q (col 0 (by norm_num) k)) := by
  refine Eq.trans ?_ (entry_w8 m c k q)
  unfold iblk
  rw [View.read_apply]
  show V m c main_v8 _ = V m c main_v8 _
  congr 1
  have hi := index_whole t
  funext a; apply Fin.ext
  match a with
  | ⟨0, _⟩ => show win0_9.index t 0 * 1664 + 1 * k.val = k.val; omega
  | ⟨1, _⟩ => show win0_9.index t 1 * 1024 + 1 * q.val = q.val; omega

theorem block10 (c : Dev nD) (t : Fin cfg0.N) (k : Fin 512) (q : Fin 1024) :
    iblk m c 10 t (ix2 k q) = aW m c (ix2 q (col 1664 (by norm_num) k)) := by
  refine Eq.trans ?_ (entry_w9 m c k q)
  unfold iblk
  rw [View.read_apply]
  show V m c main_v9 _ = V m c main_v9 _
  congr 1
  have hi := index_whole t
  funext a; apply Fin.ext
  match a with
  | ⟨0, _⟩ => show win0_10.index t 0 * 512 + 1 * k.val = k.val; omega
  | ⟨1, _⟩ => show win0_10.index t 1 * 1024 + 1 * q.val = q.val; omega

theorem block11 (c : Dev nD) (t : Fin cfg0.N) (k : Fin 1536) (q : Fin 1024) :
    iblk m c 11 t (ix2 k q) = aW m c (ix2 q (col 2176 (by norm_num) k)) := by
  refine Eq.trans ?_ (entry_w10 m c k q)
  unfold iblk
  rw [View.read_apply]
  show V m c main_v10 _ = V m c main_v10 _
  congr 1
  have hi := index_whole t
  funext a; apply Fin.ext
  match a with
  | ⟨0, _⟩ => show win0_11.index t 0 * 1536 + 1 * k.val = k.val; omega
  | ⟨1, _⟩ => show win0_11.index t 1 * 1024 + 1 * q.val = q.val; omega

theorem block12 (c : Dev nD) (t : Fin cfg0.N) (k : Fin 512) (q : Fin 1024) :
    iblk m c 12 t (ix2 k q) = aW m c (ix2 q (col 3712 (by norm_num) k)) := by
  refine Eq.trans ?_ (entry_w11 m c k q)
  unfold iblk
  rw [View.read_apply]
  show V m c main_v11 _ = V m c main_v11 _
  congr 1
  have hi := index_whole t
  funext a; apply Fin.ext
  match a with
  | ⟨0, _⟩ => show win0_12.index t 0 * 512 + 1 * k.val = k.val; omega
  | ⟨1, _⟩ => show win0_12.index t 1 * 1024 + 1 * q.val = q.val; omega

theorem block14 (c : Dev nD) (t : Fin cfg0.N) (k : Fin 2048) (q : Fin 1024) :
    iblk m c 14 t (ix2 k q) = aW m c (ix2 q (col 4232 (by norm_num) k)) := by
  refine Eq.trans ?_ (entry_w12 m c k q)
  unfold iblk
  rw [View.read_apply]
  show V m c main_v12 _ = V m c main_v12 _
  congr 1
  have hi := index_whole t
  funext a; apply Fin.ext
  match a with
  | ⟨0, _⟩ => show win0_14.index t 0 * 2048 + 1 * k.val = k.val; omega
  | ⟨1, _⟩ => show win0_14.index t 1 * 1024 + 1 * q.val = q.val; omega

theorem block13 (c : Dev nD) (t : Fin cfg0.N) (k : Fin 128) (q : Fin 1024) :
    iblk m c 13 t (ix2 k q) = padded (aW m c) (ix2 k q) := by
  refine Eq.trans ?_ (entry_w15 m c (ix2 k q))
  unfold iblk
  rw [View.read_apply]
  show V m c main_v15 _ = V m c main_v15 _
  congr 1
  have hi := index_whole t
  funext a; apply Fin.ext
  match a with
  | ⟨0, _⟩ => show win0_13.index t 0 * 128 + 1 * k.val = k.val; omega
  | ⟨1, _⟩ => show win0_13.index t 1 * 1024 + 1 * q.val = q.val; omega

/-! ## The products of a point -/

/-- The padded product is the product over the eight columns. -/
theorem padded_dot (d : Fin 128 → EReal) (w : S1024x6280.Idx → EReal) (q : Fin 1024) :
    ∑ k : Fin 128, d k * padded w (ix2 k q) = seg w 4224 (by norm_num) (fun k : Fin 8 => d ⟨k.val, by omega⟩) q := by
  rw [Dots.sum_split 8 120 rfl]
  have e : ∑ k : Fin 120, d ⟨8 + k.val, by omega⟩ * padded w (ix2 ⟨8 + k.val, by omega⟩ q) = 0 :=
    Finset.sum_eq_zero fun k _ => (congrArg (fun b : EReal => d _ * b) (padded_high w k q)).trans (mul_zero _)
  refine (congrArg (fun b : EReal => _ + b) e).trans ((add_zero _).trans (Finset.sum_congr rfl fun k _ => congrArg (fun b : EReal => _ * b) (padded_low w k q)))

/-- The first five products, at an index. -/
theorem pay2_apply (x1 : Vec Ideal S256x1664 .bf16) (y1 : Vec Ideal S1664x1024 .bf16) (x2 : Vec Ideal S256x512 .bf16)
    (y2 : Vec Ideal S512x1024 .bf16) (x3 : Vec Ideal S256x1536 .bf16) (y3 : Vec Ideal S1536x1024 .bf16)
    (x4 : Vec Ideal S256x512 .bf16) (y4 : Vec Ideal S512x1024 .bf16) (x5 : Vec Ideal S256x128 .bf16)
    (y5 : Vec Ideal S128x1024 .bf16) (j : S256x1024.Idx) :
    k0_pay2 x1 y1 x2 y2 x3 y3 x4 y4 x5 y5 j
      = ∑ k : Fin 1664, x1 (ix2 (j 0) k) * y1 (ix2 k (j 1)) + ∑ k : Fin 512, x2 (ix2 (j 0) k) * y2 (ix2 k (j 1))
        + ∑ k : Fin 1536, x3 (ix2 (j 0) k) * y3 (ix2 k (j 1)) + ∑ k : Fin 512, x4 (ix2 (j 0) k) * y4 (ix2 k (j 1))
        + ∑ k : Fin 128, x5 (ix2 (j 0) k) * y5 (ix2 k (j 1)) := by
  unfold k0_pay2
  simp only [shapeCast_self]
  refine congrArg₂ (fun a b : EReal => a + b) (congrArg₂ (fun a b : EReal => a + b) (congrArg₂ (fun a b : EReal => a + b) (congrArg₂ (fun a b : EReal => a + b) ?_
    (Dots.dot_nn _ rfl rfl rfl rfl rfl rfl none x2 y2 j)) (Dots.dot_nn _ rfl rfl rfl rfl rfl rfl none x3 y3 j))
    (Dots.dot_nn _ rfl rfl rfl rfl rfl rfl none x4 y4 j)) (Dots.dot_nn _ rfl rfl rfl rfl rfl rfl none x5 y5 j)
  exact (congrArg₂ (fun a b : EReal => a + b) Ideal.ofBits_zero_f32 (Dots.dot_nn _ rfl rfl rfl rfl rfl rfl none x1 y1 j)).trans (zero_add (M := EReal) _)

/-- The sixth product added. -/
theorem pay3_apply (p : FVec Ideal S256x1024 .f32) (x : Vec Ideal S256x2048 .bf16) (y : Vec Ideal S2048x1024 .bf16) (j : S256x1024.Idx) :
    k0_pay3 p x y j = p j + ∑ k : Fin 2048, x (ix2 (j 0) k) * y (ix2 k (j 1)) := by
  unfold k0_pay3
  simp only [shapeCast_self]
  exact congrArg (fun b : EReal => p j + b) (Dots.dot_nn _ rfl rfl rfl rfl rfl rfl none x y j)

/-- A point's six products are its rows of the whole cotangent. -/
theorem blockDh_apply (c : Dev nD) (t : Fin cfg0.N) (k : Fin 256) (q : Fin 1024) (r : Fin 4096) (hr : r.val = t.val * 256 + k.val) :
    blockDh m c t (ix2 k q) = rowsDh m c (ix2 r q) := by
  refine Eq.trans ?_ (dh_apply (aW m c) (a4 m c) (a5 m c) (a6 m c) (a7 m c) (a8 m c) (a9 m c) r q).symm
  unfold blockDh part5
  rw [pay3_apply, pay2_apply]
  unfold seg
  refine congrArg₂ (fun a b : EReal => a + b) (congrArg₂ (fun a b : EReal => a + b) (congrArg₂ (fun a b : EReal => a + b) (congrArg₂ (fun a b : EReal => a + b) (congrArg₂ (fun a b : EReal => a + b)
    ?_ ?_) ?_) ?_) ?_) ?_
  · exact Finset.sum_congr rfl fun j _ => congrArg₂ (fun a b : EReal => a * b) (block3 m c t k j r hr) (block9 m c t j q)
  · exact Finset.sum_congr rfl fun j _ => congrArg₂ (fun a b : EReal => a * b) (block4 m c t k j r hr) (block10 m c t j q)
  · exact Finset.sum_congr rfl fun j _ => congrArg₂ (fun a b : EReal => a * b) (block5 m c t k j r hr) (block11 m c t j q)
  · exact Finset.sum_congr rfl fun j _ => congrArg₂ (fun a b : EReal => a * b) (block6 m c t k j r hr) (block12 m c t j q)
  · exact (Finset.sum_congr rfl fun j _ => congrArg₂ (fun a b : EReal => a * b) (block7 m c t k j r hr) (block13 m c t j q)).trans
      (padded_dot (fun j => a8 m c (ix2 r j)) (aW m c) q)
  · exact Finset.sum_congr rfl fun j _ => congrArg₂ (fun a b : EReal => a * b) (block8 m c t k j r hr) (block14 m c t j q)

end Cert.Kernel3Ideal.Value

end
-- ==== Proof.DxPoint.lean ====
/-
  The input gradient's kernel at a row: its block of `dx` is the reference's rows, through the derivative of the root mean
  square norm, and its row of the norm weight's gradient gains the point's part of the reference's sum.
-/
module

public import proofs.«01_k».proof.Proof.DxBlocks
public import proofs.«01_k».proof.Proof.Lines
public import proofs.«01_k».proof.Proof.Rms

@[expose] public section

set_option maxRecDepth 16384

noncomputable section

namespace Cert.Kernel3Ideal.Value

open Cert.Kernel3Ideal Cert.Kernel3Ideal.Gen Idealize.ShloMosaic Idealize.ShloMosaic.TcCoe Idealize.SL.Sem
open Idealize.ShloMosaic.ValueIdx

/-- A row's mean square, with the small number added. -/
def meanSq {n : ℕ} (x : (⟨2, ![n, 1024]⟩ : Shape).Idx → EReal) (r : Fin n) : EReal :=
  Ideal.div (∑ q : Fin 1024, x (ix2 r q) * x (ix2 r q)) (Ideal.ofBits .f32 0x44800000#32) + Ideal.ofBits .f32 0x358637BD#32

theorem meanSq_pos {n : ℕ} (x : (⟨2, ![n, 1024]⟩ : Shape).Idx → EReal) (r : Fin n) : 0 < meanSq x r := by
  unfold meanSq
  rw [Rms.ofBits_1024]
  exact Rms.mean_sq_pos _ _ (by norm_num) Rms.eps_pos

theorem pay4_apply (x : Vec Ideal S256x1024 .f32) (j : S256x1.Idx) : k0_pay4 x j = Ideal.rsqrt (meanSq x (j 0)) := by
  unfold k0_pay4 meanSq
  exact congrArg (fun s : EReal => Ideal.rsqrt (Ideal.div s (Ideal.ofBits .f32 0x44800000#32) + Ideal.ofBits .f32 0x358637BD#32))
    (Lines.rowSum _ reduces_S256x1024_S256 _ _ shapeCasts_S256_S256x1 j)

theorem pay5_apply (x : Vec Ideal S256x1024 .f32) (j : S256x1024.Idx) :
    k0_pay5 x j = x j * Ideal.rsqrt (meanSq x (j 0)) := by
  unfold k0_pay5
  exact congrArg (fun s : EReal => x j * s) ((Lines.spreadCol _ broadcasts_S256x1_S256x1024 j).trans (pay4_apply x _))

theorem pay6_apply (p : FVec Ideal S256x1024 .f32) (y : Vec Ideal S256x2048 .bf16) (w : Vec Ideal S2048x1024 .bf16)
    (x : Vec Ideal S256x1024 .f32) (g : Vec Ideal S1x1024 .f32) (o : Vec Ideal S256x1024 .f32) (r : Fin 256) (q : Fin 1024) :
    k0_pay6 p y w x g o (ix2 r q)
      = o (ix2 r q) + Ideal.rsqrt (meanSq x r) * (k0_pay3 p y w (ix2 r q) * g (ix2 0 q)
          - x (ix2 r q) * Ideal.rsqrt (meanSq x r) * Ideal.div (∑ l : Fin 1024, k0_pay3 p y w (ix2 r l) * g (ix2 0 l)
              * (x (ix2 r l) * Ideal.rsqrt (meanSq x r))) (Ideal.ofBits .f32 0x44800000#32)) := by
  unfold k0_pay6
  have hu : ∀ l : Fin 1024, broadcastTo S256x1024 g broadcasts_S1x1024_S256x1024 (ix2 r l) = g (ix2 0 l) := fun l =>
    Lines.spreadRow g broadcasts_S1x1024_S256x1024 (ix2 r l)
  have hr : broadcastTo S256x1024 (k0_pay4 x) broadcasts_S256x1_S256x1024 (ix2 r q) = Ideal.rsqrt (meanSq x r) :=
    (Lines.spreadCol _ broadcasts_S256x1_S256x1024 (ix2 r q)).trans (pay4_apply x _)
  refine congrArg (fun s : EReal => o (ix2 r q) + s) (congrArg₂ (fun a b : EReal => a * b) hr ?_)
  refine congrArg₂ (fun a b : EReal => a - b) (congrArg (fun s : EReal => k0_pay3 p y w (ix2 r q) * s) (hu q)) ?_
  refine congrArg₂ (fun a b : EReal => a * b) (pay5_apply x _) ?_
  refine (Lines.spreadCol _ broadcasts_S256x1_S256x1024 (ix2 r q)).trans ?_
  refine congrArg (fun s : EReal => Ideal.div s (Ideal.ofBits .f32 0x44800000#32)) ?_
  refine (Lines.rowSum _ reduces_S256x1024_S256 _ _ shapeCasts_S256_S256x1 _).trans (Finset.sum_congr rfl fun l _ => ?_)
  exact congrArg₂ (fun a b : EReal => a * b) (congrArg (fun s : EReal => k0_pay3 p y w (ix2 r l) * s) (hu l)) (pay5_apply x _)

theorem pay1_apply (d x : FVec Ideal S256x1024 .f32) (acc : FVec Ideal S1x1024 .f32) (j : S1x1024.Idx) :
    k0_pay1 d x (k0_pay8 acc) j = acc j + ∑ r : Fin 256, d (ix2 r (j 1)) * x (ix2 r (j 1)) := by
  unfold k0_pay1 k0_pay8
  simp only [shapeCast_self]
  exact congrArg (fun s : EReal => acc j + s) (Lines.colSum _ reduces_S256x1024_S1024 _ _ shapeCasts_S1024_S1x1024 j)

variable (m : (ℓ : Loc nD τ sig) → Buf (Elt Ideal) ℓ)

/-- A point's rows have the mean squares of the whole array's rows. -/
theorem meanSq_block (c : Dev nD) (t : Fin cfg0.N) (k : Fin 256) (r : Fin 4096) (hr : r.val = t.val * 256 + k.val) :
    meanSq (iblk m c 0 t) k = meanSq (aX m c) r := by
  unfold meanSq
  refine congrArg (fun s : EReal => Ideal.div s _ + _) (Finset.sum_congr rfl fun q _ => ?_)
  exact congrArg₂ (fun a b : EReal => a * b) (block0 m c t k q r hr) (block0 m c t k q r hr)

/-- The reference's input gradient. -/
abbrev refDx (c : Dev nD) : S4096x1024.Idx → EReal :=
  Cert.Reference3Ideal.Read.val_main_v38 (F := Ideal) (aX m c) (aG m c) (aW m c) (aO m c) (a4 m c) (a5 m c) (a6 m c) (a7 m c)
    (a8 m c) (a9 m c)

/-- The reference's gradient of the norm weight. -/
abbrev refDg (c : Dev nD) : S1x1024.Idx → EReal :=
  Cert.Reference3Ideal.Read.val_main_v21 (F := Ideal) (aX m c) (aW m c) (a4 m c) (a5 m c) (a6 m c) (a7 m c) (a8 m c) (a9 m c)

open Cert.Reference3Ideal.Read in
/-- A column of the reference at its row. -/
theorem ref_rs (x : S4096x1024.Idx → EReal) (j : Cert.Reference3Ideal.S4096x1.Idx) :
    val_main_v8 (F := Ideal) x j = meanSq x (j 0) := by
  rw [val_main_v8_apply, val_main_v6_apply, val_main_v4_apply, val_main_v3_apply, val_main_v5_apply, val_main_v7_apply]
  refine congrArg (fun s : EReal => Ideal.div s (Ideal.ofBits .f32 0x44800000#32) + Ideal.ofBits .f32 0x358637BD#32) ?_
  refine (congrArg₂ (fun a b : EReal => a + b) Ideal.ofBits_zero_f32 (Finset.sum_congr rfl fun q _ => ?_)).trans (zero_add (M := EReal) _)
  rw [val_main_v2_apply]
  exact congrArg₂ (fun a b : EReal => a * b) (congrArg x (by funext a; match a with | ⟨0, _⟩ => rfl | ⟨1, _⟩ => rfl))
    (congrArg x (by funext a; match a with | ⟨0, _⟩ => rfl | ⟨1, _⟩ => rfl))

open Cert.Reference3Ideal.Read in
/-- The reference's input gradient at an index. -/
theorem refDx_apply (c : Dev nD) (r : Fin 4096) (q : Fin 1024) :
    refDx m c (ix2 r q)
      = rowsDh m c (ix2 r q) * aG m c (ix2 0 q) * Ideal.rsqrt (meanSq (aX m c) r)
        + aX m c (ix2 r q) * Ideal.div ((∑ k : Fin 1024, aX m c (ix2 r k) * (rowsDh m c (ix2 r k) * aG m c (ix2 0 k)))
            * (Ideal.ofBits .f32 0xBF000000#32 * Ideal.div (Ideal.rsqrt (meanSq (aX m c) r)) (meanSq (aX m c) r)))
            (Ideal.ofBits .f32 0x44800000#32)
        + Ideal.div ((∑ k : Fin 1024, aX m c (ix2 r k) * (rowsDh m c (ix2 r k) * aG m c (ix2 0 k)))
            * (Ideal.ofBits .f32 0xBF000000#32 * Ideal.div (Ideal.rsqrt (meanSq (aX m c) r)) (meanSq (aX m c) r)))
            (Ideal.ofBits .f32 0x44800000#32) * aX m c (ix2 r q)
        + aO m c (ix2 r q) := by
  have hv : val_main_v33 (F := Ideal) (aX m c) (aG m c) (aW m c) (a4 m c) (a5 m c) (a6 m c) (a7 m c) (a8 m c) (a9 m c) (ix2 r q)
      = Ideal.div ((∑ k : Fin 1024, aX m c (ix2 r k) * (rowsDh m c (ix2 r k) * aG m c (ix2 0 k)))
            * (Ideal.ofBits .f32 0xBF000000#32 * Ideal.div (Ideal.rsqrt (meanSq (aX m c) r)) (meanSq (aX m c) r)))
            (Ideal.ofBits .f32 0x44800000#32) := by
    rw [val_main_v33_apply, val_main_v32_apply]
    refine (congrArg₂ (fun a b : EReal => a + b) Ideal.ofBits_zero_f32 (Fin.sum_univ_one _)).trans ((zero_add (M := EReal) _).trans ?_)
    rw [val_main_v31_apply, val_main_v29_apply, val_main_v26_apply, val_main_v25_apply, val_main_v12_apply, val_main_v11_apply,
      val_main_v10_apply, val_main_v9_apply, ref_rs, val_main_v30_apply]
    refine congrArg (fun s : EReal => Ideal.div (s * (Ideal.ofBits .f32 0xBF000000#32
      * Ideal.div (Ideal.rsqrt (meanSq (aX m c) r)) (meanSq (aX m c) r))) (Ideal.ofBits .f32 0x44800000#32)) ?_
    refine (congrArg₂ (fun a b : EReal => a + b) Ideal.ofBits_zero_f32 (Finset.sum_congr rfl fun k _ => ?_)).trans (zero_add (M := EReal) _)
    rw [val_main_v24_apply, val_main_v23_apply, val_main_v22_apply]
    have e : idx_main_v25 (idx_main_v26 (idx_main_v32 (idx_main_v33 (ix2 r q)) 0)) k = ix2 r k := by
      funext a; apply Fin.ext
      match a with
      | ⟨0, _⟩ => simp [idx_main_v25, idx_main_v26, idx_main_v32, idx_main_v33]
      | ⟨1, _⟩ => rfl
    have e' : idx_main_v22 (ix2 r k) = ix2 0 k := by
      funext a; match a with | ⟨0, _⟩ => rfl | ⟨1, _⟩ => rfl
    rw [e, e']
    rfl
  have hs : val_main_v27 (F := Ideal) (aX m c) (ix2 r q) = Ideal.rsqrt (meanSq (aX m c) r) := by
    rw [val_main_v27_apply, val_main_v9_apply, ref_rs]
    rfl
  have e' : idx_main_v22 (ix2 r q) = ix2 0 q := by
    funext a; match a with | ⟨0, _⟩ => rfl | ⟨1, _⟩ => rfl
  unfold refDx
  rw [val_main_v38_apply, val_main_v37_apply, val_main_v35_apply, val_main_v36_apply, val_main_v34_apply, val_main_v28_apply,
    val_main_v23_apply, val_main_v22_apply, hv, hs, e']
  rfl

/-- A point's block of `dx` is its rows of the reference's. -/
theorem blockDx_apply (c : Dev nD) (t : Fin cfg0.N) (k : Fin 256) (q : Fin 1024) (r : Fin 4096) (hr : r.val = t.val * 256 + k.val) :
    blockDx m c t (ix2 k q) = refDx m c (ix2 r q) := by
  rw [refDx_apply]
  unfold blockDx
  refine (pay6_apply _ _ _ _ _ _ k q).trans ?_
  rw [meanSq_block m c t k r hr]
  have hd : ∀ l : Fin 1024, k0_pay3 (part5 m c t) (iblk m c 8 t) (iblk m c 14 t) (ix2 k l) = rowsDh m c (ix2 r l) :=
    fun l => blockDh_apply m c t k l r hr
  have hx : ∀ l : Fin 1024, iblk m c 0 t (ix2 k l) = aX m c (ix2 r l) := fun l => block0 m c t k l r hr
  have hg : ∀ l : Fin 1024, iblk m c 1 t (ix2 0 l) = aG m c (ix2 0 l) := fun l => block1 m c t 0 l
  refine (congrArg₂ (fun a b : EReal => a + b) (block2 m c t k q r hr)
    (congrArg (fun s : EReal => Ideal.rsqrt (meanSq (aX m c) r) * s) (congrArg₂ (fun a b : EReal => a - b)
      (congrArg₂ (fun a b : EReal => a * b) (hd q) (hg q))
      (congrArg₂ (fun a b : EReal => a * b) (congrArg (fun s : EReal => s * Ideal.rsqrt (meanSq (aX m c) r)) (hx q))
        (congrArg (fun s : EReal => Ideal.div s (Ideal.ofBits .f32 0x44800000#32)) (Finset.sum_congr rfl fun l _ =>
          congrArg₂ (fun a b : EReal => a * b) (congrArg₂ (fun a b : EReal => a * b) (hd l) (hg l))
            (congrArg (fun s : EReal => s * Ideal.rsqrt (meanSq (aX m c) r)) (hx l)))))))).trans ?_
  rw [Rms.ofBits_1024, Rms.ofBits_neg_half, add_comm]
  exact congrArg (fun s : EReal => s + aO m c (ix2 r q)) (Rms.back (fun l => aX m c (ix2 r l))
    (fun l => rowsDh m c (ix2 r l) * aG m c (ix2 0 l)) (meanSq_pos (aX m c) r) (by norm_num) q)

/-- One term of the norm weight's gradient. -/
abbrev termDg (c : Dev nD) (q : Fin 1024) (r : ℕ) : EReal :=
  if h : r < 4096 then rowsDh m c (ix2 ⟨r, h⟩ q) * (aX m c (ix2 ⟨r, h⟩ q) * Ideal.rsqrt (meanSq (aX m c) ⟨r, h⟩)) else 0

/-- What a point adds to the row of the norm weight's gradient. -/
theorem rowDg_apply (c : Dev nD) (t : Fin cfg0.N) (acc : FVec Ideal S1x1024 .f32) (j : S1x1024.Idx) :
    rowDg m c t acc j = acc j + ∑ k : Fin 256, termDg m c (j 1) (t.val * 256 + k.val) := by
  have hN : cfg0.N = 16 := N_0
  have ht := t.isLt
  unfold rowDg
  rw [pay1_apply]
  refine congrArg (fun s : EReal => acc j + s) (Finset.sum_congr rfl fun k _ => ?_)
  have hr : t.val * 256 + k.val < 4096 := by omega
  unfold termDg
  rw [dif_pos hr]
  refine congrArg₂ (fun a b : EReal => a * b) (blockDh_apply m c t k (j 1) ⟨_, hr⟩ rfl) ((pay5_apply _ _).trans ?_)
  exact congrArg₂ (fun a b : EReal => a * b) (block0 m c t k (j 1) ⟨_, hr⟩ rfl)
    (congrArg Ideal.rsqrt (meanSq_block m c t k ⟨_, hr⟩ rfl))

open Cert.Reference3Ideal.Read in
/-- The reference's gradient of the norm weight at an index. -/
theorem refDg_apply (c : Dev nD) (q : Fin 1024) : refDg m c (ix2 0 q) = ∑ r : Fin 4096, termDg m c q r.val := by
  unfold refDg
  rw [val_main_v21_apply, val_main_v20_apply]
  refine (congrArg₂ (fun a b : EReal => a + b) Ideal.ofBits_zero_f32 (Finset.sum_congr rfl fun r _ => ?_)).trans (zero_add (M := EReal) _)
  have e : idx_main_v20 (idx_main_v21 (ix2 0 q)) r = ix2 r q := by
    funext a; apply Fin.ext
    match a with
    | ⟨0, _⟩ => rfl
    | ⟨1, _⟩ => simp [idx_main_v20, idx_main_v21]
  rw [e, val_main_v19_apply, val_main_v14_apply, val_main_v13_apply, val_main_v9_apply, ref_rs]
  unfold termDg
  rw [dif_pos r.isLt]
  exact mul_comm (G := EReal) _ _

end Cert.Kernel3Ideal.Value

end
-- ==== Proof.Dx.lean ====
/-
  The input gradient's kernel and its reference: the rows of `dx` block by block, and the norm weight's gradient summed over
  the sixteen points.
-/
module

public import proofs.«01_k».proof.Proof.DxPoint

@[expose] public section

set_option maxRecDepth 16384

noncomputable section

namespace Cert.Kernel3Ideal.Value

open Cert.Kernel3Ideal Cert.Kernel3Ideal.Gen Idealize.ShloMosaic Idealize.ShloMosaic.TcCoe Idealize.SL.Sem
open Idealize.ShloMosaic.ValueIdx

variable (m : (ℓ : Loc nD τ sig) → Buf (Elt Ideal) ℓ)

/-- The block of `dx` after a point. -/
theorem outs_fst (c : Dev nD) (t : Fin cfg0.N) : (outsAt0 m c t.val t.isLt).1 = blockDx m c t := by
  by_cases h0 : t.val % 16 = 0
  · rw [outs_A m c t h0]
  · rw [outs_B m c t h0]

/-- The row of the norm weight's gradient after point `n`: the points up to it. -/
theorem outs_snd (c : Dev nD) (q : Fin 1024) : ∀ (n : ℕ) (h : n < cfg0.N), (outsAt0 m c n h).2 (ix2 0 q)
    = ∑ t : Fin (n + 1), ∑ k : Fin 256, termDg m c q (t.val * 256 + k.val)
  | 0, h => by
    have e := congrArg Prod.snd (outs_A m c ⟨0, h⟩ rfl)
    refine (congrFun e (ix2 0 q)).trans ((rowDg_apply m c ⟨0, h⟩ _ (ix2 0 q)).trans ?_)
    refine (congrArg (fun s : EReal => s + _) Ideal.ofBits_zero_f32).trans ((zero_add (M := EReal) _).trans ?_)
    exact (Fin.sum_univ_one (fun t : Fin 1 => ∑ k : Fin 256, termDg m c q (t.val * 256 + k.val))).symm
  | n + 1, h => by
    have hN : cfg0.N = 16 := N_0
    have e := congrArg Prod.snd (outs_B m c ⟨n + 1, h⟩ (by show ¬(n + 1) % 16 = 0; omega))
    refine (congrFun e (ix2 0 q)).trans ((rowDg_apply m c ⟨n + 1, h⟩ _ (ix2 0 q)).trans ?_)
    refine (congrArg (fun s : EReal => s + _) (outs_snd c q n (by omega))).trans ?_
    exact (Fin.sum_univ_castSucc (fun t : Fin (n + 2) => ∑ k : Fin 256, termDg m c q (t.val * 256 + k.val))).symm

/-- After the last point it is the reference's. -/
theorem outs_last (c : Dev nD) (h : 15 < cfg0.N) (j : S1x1024.Idx) : (outsAt0 m c 15 h).2 j = refDg m c j := by
  have h0 : (j 0).val < 1 := (j 0).isLt
  obtain ⟨q, rfl⟩ : ∃ q : Fin 1024, j = ix2 0 q := ⟨j 1, by
    funext a; apply Fin.ext
    match a with
    | ⟨0, _⟩ => show (j 0).val = 0; omega
    | ⟨1, _⟩ => rfl⟩
  exact (outs_snd m c q 15 h).trans ((Dots.sum_blocks 16 256 (termDg m c q)).trans (refDg_apply m c q).symm)

/-- What point `t` writes back of `dx`. -/
theorem flushed_dx (c : Dev nD) (t : Fin cfg0.N) :
    (dats m 0 c).flushed 15 t = ((cfg0.win 15).blk t).view.read (Elt Ideal) (refDx m c) := by
  rw [flushed15, outs_fst]
  funext (j : S256x1024.Idx)
  rw [View.read_apply]
  have hN : cfg0.N = 16 := N_0
  have ht := t.isLt
  have hi := index_rows t
  have h0 : (j 0).val < 256 := (j 0).isLt
  refine Eq.trans ?_ ((blockDx_apply m c t (j 0) (j 1) ⟨t.val * 256 + (j 0).val, by omega⟩ rfl).trans (congrArg (refDx m c) ?_))
  · exact congrArg (blockDx m c t) (by funext a; match a with | ⟨0, _⟩ => rfl | ⟨1, _⟩ => rfl)
  · funext a; apply Fin.ext
    match a with
    | ⟨0, _⟩ => show t.val * 256 + (j 0).val = win0_15.index t 0 * 256 + 1 * (j 0).val; omega
    | ⟨1, _⟩ => show (j 1).val = win0_15.index t 1 * 1024 + 1 * (j 1).val; omega

/-- What the last point writes back of the norm weight's gradient. -/
theorem flushed_dg (c : Dev nD) (t : Fin cfg0.N) (hf : (cfg0.win 16).flush t = true) :
    (dats m 0 c).flushed 16 t = ((cfg0.win 16).blk t).view.read (Elt Ideal) (refDg m c) := by
  have hN : cfg0.N = 16 := N_0
  have ht : t = ⟨15, by omega⟩ := Fin.ext (by have := (flush0_16 t).mp hf; have := t.isLt; show t.val = 15; omega)
  subst ht
  rw [flushed16]
  funext (j : S1x1024.Idx)
  rw [View.read_apply]
  have hi := index_whole ⟨15, by omega⟩
  refine (outs_last m c _ j).trans (congrArg (refDg m c) ?_)
  funext a; apply Fin.ext
  match a with
  | ⟨0, _⟩ => show (j 0).val = win0_16.index ⟨15, _⟩ 0 * 1 + 1 * (j 0).val; omega
  | ⟨1, _⟩ => show (j 1).val = win0_16.index ⟨15, _⟩ 1 * 1024 + 1 * (j 1).val; omega

/-- The array of `dx` after the run. -/
theorem arr_dx (c : Dev nD) : (dats m 0 c).arrAt 15 cfg0.N = refDx m c := by
  refine (dats m 0 c).arrAt_eq_of_cover 15 (refDx m c) (fun t _ => flushed_dx m c t) fun (i : S4096x1024.Idx) => ?_
  have hN : cfg0.N = 16 := N_0
  have h0 : (i 0).val < 4096 := (i 0).isLt
  have h1 : (i 1).val < 1024 := (i 1).isLt
  let t : Fin cfg0.N := ⟨(i 0).val / 256, by omega⟩
  have ht : t.val = (i 0).val / 256 := rfl
  have hi := index_rows t
  refine ⟨t, flush0_15 _, ?_⟩
  show i ∈ ((View.whole main_v16_0).slice (win0_15.rect t)).set
  rw [View.set_slice_whole, Rect.mem_set_unit]
  intro a
  match a with
  | ⟨0, _⟩ => show win0_15.index t 0 * 256 ≤ (i 0).val ∧ (i 0).val < win0_15.index t 0 * 256 + 256; omega
  | ⟨1, _⟩ => show win0_15.index t 1 * 1024 ≤ (i 1).val ∧ (i 1).val < win0_15.index t 1 * 1024 + 1024; omega

/-- The row of the norm weight's gradient after the run. -/
theorem arr_dg (c : Dev nD) : (dats m 0 c).arrAt 16 cfg0.N = refDg m c := by
  refine (dats m 0 c).arrAt_eq_of_cover 16 (refDg m c) (fun t hf => flushed_dg m c t hf) fun (i : S1x1024.Idx) => ?_
  have hN : cfg0.N = 16 := N_0
  have h0 : (i 0).val < 1 := (i 0).isLt
  have h1 : (i 1).val < 1024 := (i 1).isLt
  let t : Fin cfg0.N := ⟨15, by omega⟩
  have hi := index_whole t
  refine ⟨t, (flush0_16 t).mpr rfl, ?_⟩
  show i ∈ ((View.whole main_v16_1).slice (win0_16.rect t)).set
  rw [View.set_slice_whole, Rect.mem_set_unit]
  intro a
  match a with
  | ⟨0, _⟩ => show win0_16.index t 0 * 1 ≤ (i 0).val ∧ (i 0).val < win0_16.index t 0 * 1 + 1; omega
  | ⟨1, _⟩ => show win0_16.index t 1 * 1024 ≤ (i 1).val ∧ (i 1).val < win0_16.index t 1 * 1024 + 1024; omega

/-- The kernel's two gradients are the reference's. -/
theorem algebraic : Cert.algebraic_Kernel3Ideal_Reference3Ideal := by
  intro m ρ m' ρ' _ hagree
  refine ⟨fun c => refDx m c, fun c => refDg m c, (θ_run defs _ _).mono
    (fun _ h c => ⟨(h c).1.trans (arr_dx m c), (h c).2.1.trans (arr_dg m c), (h c).2.2⟩) (run_blocks (F := Ideal) m ρ), ?_⟩
  refine (θ_run Cert.Reference3Ideal.defs _ _).mono (fun _ h c => ⟨(h c).1.trans ?_, (h c).2.1.trans ?_, (h c).2.2⟩)
    (Cert.Reference3Ideal.Value.run (F := Ideal) m' ρ')
  · obtain ⟨e0, e1, e2, e3, e4, e5, e6, e7, e8, e9⟩ := hagree c
    rw [Cert.Reference3Ideal.Read.val_main_v38_eq, e0, e1, e2, e3, e4, e5, e6, e7, e8, e9]
  · obtain ⟨e0, e1, e2, e3, e4, e5, e6, e7, e8, e9⟩ := hagree c
    rw [e0, e2, e4, e5, e6, e7, e8, e9]
    exact Cert.Reference3Ideal.Read.val_main_v21_eq _ _ _ _ _ _ _ _

end Cert.Kernel3Ideal.Value

end
-- ==== Proof.Dw4.lean ====
/-
  The gradient of the gates' projection weights, `dw = dpᵀ h`: four points of 1024 tokens each add their product to the
  block that holds the result. What the run leaves is the one product over all 4096 tokens.
-/
module

public import proofs.«01_k».proof.Defs
public import proofs.«01_k».proof.Proof.Dots
public import proofs.«01_k».proof.Proof.Gen.Kernel4Ideal.Value
public import proofs.«01_k».proof.Proof.Gen.Reference4Ideal.Read
public import Idealize.ShloMosaic.Lib.Tactic

@[expose] public section

noncomputable section

namespace Cert.Kernel4Ideal.Value

open Cert.Kernel4Ideal Cert.Kernel4Ideal.Gen Idealize.ShloMosaic Idealize.ShloMosaic.TcCoe Idealize.SL.Sem
open Idealize.ShloMosaic.ValueIdx
open Cert.Reference4Ideal.Read (val_main_v12)

variable (m : (ℓ : Loc nD τ sig) → Buf (Elt Ideal) ℓ)

/-- The normalised rows, as the reference computes them. -/
abbrev rowsH (c : Dev nD) : S4096x1024.Idx → EReal :=
  val_main_v12 (F := Ideal) (m ((c : Thread nD τ).loc main_arg0)) (m ((c : Thread nD τ).loc main_arg1))

/-- The cotangent. -/
abbrev rowsD (c : Dev nD) : S4096x2048.Idx → EReal := m ((c : Thread nD τ).loc main_arg2)

/-- What a point adds to the block: the product of its rows of the cotangent with its rows of `h`. -/
theorem pay_apply (acc : Vec Ideal S2048x1024 .f32) (d : Vec Ideal S1024x2048 .bf16) (h : Vec Ideal S1024x1024 .bf16)
    (j : S2048x1024.Idx) :
    k0_pay2 acc d h j = acc j + ∑ k : Fin 1024, d (ix2 k (j 0)) * h (ix2 k (j 1)) := by
  unfold k0_pay2
  simp only [shapeCast_self]
  exact congrArg (acc j + ·) (Dots.dot_tn _ rfl rfl rfl rfl rfl rfl none d h j)

/-- The normalised rows as the region finds them. -/
theorem entry_h (c : Dev nD) (i : S4096x1024.Idx) : V m c main_v12 i = rowsH m c i := by
  refine congrFun (?_ : V m c main_v12 = _) i
  unfold_abbrev_sides
  after_results
  rfl

/-- The cotangent as the region finds it. -/
theorem entry_d (c : Dev nD) (i : S4096x2048.Idx) : V m c main_v13 i = rowsD m c i := by
  refine congrFun (?_ : V m c main_v13 = _) i
  unfold_abbrev_sides
  after_results
  rfl

/-- Point `t`'s rows of `h`. -/
theorem block_h (c : Dev nD) (t : Fin cfg0.N) (k : Fin 1024) (q : Fin 1024) (r : Fin 4096) (hr : r.val = t.val * 1024 + k.val) :
    iblk m c 0 t (ix2 k q) = rowsH m c (ix2 r q) := by
  have hi : win0_0.index t (0 : Fin 2) = t.val ∧ win0_0.index t (1 : Fin 2) = 0 := by
    rcases fin_N0 t with rfl | rfl | rfl | rfl <;> decide
  refine Eq.trans ?_ (entry_h m c (ix2 r q))
  unfold iblk
  rw [View.read_apply]
  show V m c main_v12 _ = _
  congr 1
  funext a; apply Fin.ext
  match a with
  | ⟨0, _⟩ => show win0_0.index t 0 * 1024 + 1 * k.val = r.val; rw [hi.1, hr]; omega
  | ⟨1, _⟩ => show win0_0.index t 1 * 1024 + 1 * q.val = q.val; rw [hi.2]; omega

/-- Point `t`'s rows of the cotangent. -/
theorem block_d (c : Dev nD) (t : Fin cfg0.N) (k : Fin 1024) (q : Fin 2048) (r : Fin 4096) (hr : r.val = t.val * 1024 + k.val) :
    iblk m c 1 t (ix2 k q) = rowsD m c (ix2 r q) := by
  have hi : win0_1.index t (0 : Fin 2) = t.val ∧ win0_1.index t (1 : Fin 2) = 0 := by
    rcases fin_N0 t with rfl | rfl | rfl | rfl <;> decide
  refine Eq.trans ?_ (entry_d m c (ix2 r q))
  unfold iblk
  rw [View.read_apply]
  show V m c main_v13 _ = _
  congr 1
  funext a; apply Fin.ext
  match a with
  | ⟨0, _⟩ => show win0_1.index t 0 * 1024 + 1 * k.val = r.val; rw [hi.1, hr]; omega
  | ⟨1, _⟩ => show win0_1.index t 1 * 2048 + 1 * q.val = q.val; rw [hi.2]; omega

/-- The array after the run is the product over all the tokens. -/
theorem result_apply (c : Dev nD) (i : S2048x1024.Idx) : (G2 m c : S2048x1024.Idx → EReal) i
    = ∑ r : Fin 4096, rowsD m c (ix2 r (i 0)) * rowsH m c (ix2 r (i 1)) := by
  have h0 : (i 0).val < 2048 := (i 0).isLt
  have h1 : (i 1).val < 1024 := (i 1).isLt
  have hN : cfg0.N = 4 := N_0
  have hr : run2Of i = 0 := by
    show 1 * ((i 0).val / 2048 - 0) + 1 * ((i 1).val / 1024 - 0) = 0
    omega
  have hl : loc2Of i = i := by
    funext a; apply Fin.ext
    match a with
    | ⟨0, _⟩ => exact Nat.mod_eq_of_lt h0
    | ⟨1, _⟩ => exact Nat.mod_eq_of_lt h1
  have e : ∀ (b : ℕ) (h : b + 3 < cfg0.N), b = 0 → Pipeline.accAt (reset2 m c) (step2 m c) b 3 h
      = step2 m c 3 (by omega) (step2 m c 2 (by omega) (step2 m c 1 (by omega) (reset2 m c 0 (by omega)))) := by
    intro b h hb; subst hb; rfl
  unfold G2
  rw [dif_pos (by rw [hr]; omega), hl, e _ _ (by rw [hr])]
  unfold step2 reset2
  simp only [pay_apply]
  rw [show k0_pay1 (F := Ideal) i = 0 from Ideal.ofBits_zero_f32, zero_add]
  rw [Dots.sum_quarters (B := 1024) rfl]
  have e (t : Fin cfg0.N) (k : Fin 1024) (r : Fin 4096) (hr : r.val = t.val * 1024 + k.val) :=
    congrArg₂ (fun x y : EReal => x * y) (block_d m c t k (i 0) r hr) (block_h m c t k (i 1) r hr)
  exact congrArg₂ (fun x y : EReal => x + y) (congrArg₂ (fun x y : EReal => x + y) (congrArg₂ (fun x y : EReal => x + y)
    (Finset.sum_congr rfl fun k _ => e _ k _ (by simp)) (Finset.sum_congr rfl fun k _ => e _ k _ (by simp)))
    (Finset.sum_congr rfl fun k _ => e _ k _ (by simp))) (Finset.sum_congr rfl fun k _ => e _ k _ (by simp))

/-- The kernel's gradient is the reference's. -/
theorem algebraic : Cert.algebraic_Kernel4Ideal_Reference4Ideal := by
  intro m ρ m' ρ' _ hagree
  refine ⟨fun c => G2 m c, run (F := Ideal) m ρ, ?_⟩
  refine (θ_run Cert.Reference4Ideal.defs _ _).mono (fun _ h c => ⟨(h c).1.trans ?_, (h c).2⟩)
    (Cert.Reference4Ideal.Value.run (F := Ideal) m' ρ')
  rw [(hagree c).1, (hagree c).2.1, (hagree c).2.2, Cert.Reference4Ideal.Read.val_main_v16_eq]
  funext i
  refine Eq.trans ?_ (result_apply m c i).symm
  rw [Cert.Reference4Ideal.Read.val_main_v16_apply, Cert.Reference4Ideal.Read.val_main_v15_apply,
    Cert.Reference4Ideal.Read.val_main_v14_apply]
  refine Finset.sum_congr rfl fun k _ => congrArg₂ (· * ·) (congrArg (rowsD m c) ?_) (congrArg (rowsH m c) ?_)
  · funext a; match a with | ⟨0, _⟩ => rfl | ⟨1, _⟩ => rfl
  · funext a; match a with | ⟨0, _⟩ => rfl | ⟨1, _⟩ => rfl

end Cert.Kernel4Ideal.Value

end
-- ==== Proof.Dw5.lean ====
/-
  The gradient of the RWKV branch's projection weights, `dw = dpᵀ h`: four points of 1024 tokens each add their product to the
  block that holds the result. What the run leaves is the one product over all 4096 tokens.
-/
module

public import proofs.«01_k».proof.Defs
public import proofs.«01_k».proof.Proof.Dots
public import proofs.«01_k».proof.Proof.Gen.Kernel5Ideal.Value
public import proofs.«01_k».proof.Proof.Gen.Reference5Ideal.Read
public import Idealize.ShloMosaic.Lib.Tactic

@[expose] public section

noncomputable section

namespace Cert.Kernel5Ideal.Value

open Cert.Kernel5Ideal Cert.Kernel5Ideal.Gen Idealize.ShloMosaic Idealize.ShloMosaic.TcCoe Idealize.SL.Sem
open Idealize.ShloMosaic.ValueIdx
open Cert.Reference5Ideal.Read (val_main_v12)

variable (m : (ℓ : Loc nD τ sig) → Buf (Elt Ideal) ℓ)

/-- The normalised rows, as the reference computes them. -/
abbrev rowsH (c : Dev nD) : S4096x1024.Idx → EReal :=
  val_main_v12 (F := Ideal) (m ((c : Thread nD τ).loc main_arg0)) (m ((c : Thread nD τ).loc main_arg1))

/-- The cotangent. -/
abbrev rowsD (c : Dev nD) : S4096x1664.Idx → EReal := m ((c : Thread nD τ).loc main_arg2)

/-- What a point adds to the block: the product of its rows of the cotangent with its rows of `h`. -/
theorem pay_apply (acc : Vec Ideal S1664x1024 .f32) (d : Vec Ideal S1024x1664 .bf16) (h : Vec Ideal S1024x1024 .bf16)
    (j : S1664x1024.Idx) :
    k0_pay2 acc d h j = acc j + ∑ k : Fin 1024, d (ix2 k (j 0)) * h (ix2 k (j 1)) := by
  unfold k0_pay2
  simp only [shapeCast_self]
  exact congrArg (acc j + ·) (Dots.dot_tn _ rfl rfl rfl rfl rfl rfl none d h j)

/-- The normalised rows as the region finds them. -/
theorem entry_h (c : Dev nD) (i : S4096x1024.Idx) : V m c main_v12 i = rowsH m c i := by
  refine congrFun (?_ : V m c main_v12 = _) i
  unfold_abbrev_sides
  after_results
  rfl

/-- The cotangent as the region finds it. -/
theorem entry_d (c : Dev nD) (i : S4096x1664.Idx) : V m c main_v13 i = rowsD m c i := by
  refine congrFun (?_ : V m c main_v13 = _) i
  unfold_abbrev_sides
  after_results
  rfl

/-- Point `t`'s rows of `h`. -/
theorem block_h (c : Dev nD) (t : Fin cfg0.N) (k : Fin 1024) (q : Fin 1024) (r : Fin 4096) (hr : r.val = t.val * 1024 + k.val) :
    iblk m c 0 t (ix2 k q) = rowsH m c (ix2 r q) := by
  have hi : win0_0.index t (0 : Fin 2) = t.val ∧ win0_0.index t (1 : Fin 2) = 0 := by
    rcases fin_N0 t with rfl | rfl | rfl | rfl <;> decide
  refine Eq.trans ?_ (entry_h m c (ix2 r q))
  unfold iblk
  rw [View.read_apply]
  show V m c main_v12 _ = _
  congr 1
  funext a; apply Fin.ext
  match a with
  | ⟨0, _⟩ => show win0_0.index t 0 * 1024 + 1 * k.val = r.val; rw [hi.1, hr]; omega
  | ⟨1, _⟩ => show win0_0.index t 1 * 1024 + 1 * q.val = q.val; rw [hi.2]; omega

/-- Point `t`'s rows of the cotangent. -/
theorem block_d (c : Dev nD) (t : Fin cfg0.N) (k : Fin 1024) (q : Fin 1664) (r : Fin 4096) (hr : r.val = t.val * 1024 + k.val) :
    iblk m c 1 t (ix2 k q) = rowsD m c (ix2 r q) := by
  have hi : win0_1.index t (0 : Fin 2) = t.val ∧ win0_1.index t (1 : Fin 2) = 0 := by
    rcases fin_N0 t with rfl | rfl | rfl | rfl <;> decide
  refine Eq.trans ?_ (entry_d m c (ix2 r q))
  unfold iblk
  rw [View.read_apply]
  show V m c main_v13 _ = _
  congr 1
  funext a; apply Fin.ext
  match a with
  | ⟨0, _⟩ => show win0_1.index t 0 * 1024 + 1 * k.val = r.val; rw [hi.1, hr]; omega
  | ⟨1, _⟩ => show win0_1.index t 1 * 1664 + 1 * q.val = q.val; rw [hi.2]; omega

/-- The array after the run is the product over all the tokens. -/
theorem result_apply (c : Dev nD) (i : S1664x1024.Idx) : (G2 m c : S1664x1024.Idx → EReal) i
    = ∑ r : Fin 4096, rowsD m c (ix2 r (i 0)) * rowsH m c (ix2 r (i 1)) := by
  have h0 : (i 0).val < 1664 := (i 0).isLt
  have h1 : (i 1).val < 1024 := (i 1).isLt
  have hN : cfg0.N = 4 := N_0
  have hr : run2Of i = 0 := by
    show 1 * ((i 0).val / 1664 - 0) + 1 * ((i 1).val / 1024 - 0) = 0
    omega
  have hl : loc2Of i = i := by
    funext a; apply Fin.ext
    match a with
    | ⟨0, _⟩ => exact Nat.mod_eq_of_lt h0
    | ⟨1, _⟩ => exact Nat.mod_eq_of_lt h1
  have e : ∀ (b : ℕ) (h : b + 3 < cfg0.N), b = 0 → Pipeline.accAt (reset2 m c) (step2 m c) b 3 h
      = step2 m c 3 (by omega) (step2 m c 2 (by omega) (step2 m c 1 (by omega) (reset2 m c 0 (by omega)))) := by
    intro b h hb; subst hb; rfl
  unfold G2
  rw [dif_pos (by rw [hr]; omega), hl, e _ _ (by rw [hr])]
  unfold step2 reset2
  simp only [pay_apply]
  rw [show k0_pay1 (F := Ideal) i = 0 from Ideal.ofBits_zero_f32, zero_add]
  rw [Dots.sum_quarters (B := 1024) rfl]
  have e (t : Fin cfg0.N) (k : Fin 1024) (r : Fin 4096) (hr : r.val = t.val * 1024 + k.val) :=
    congrArg₂ (fun x y : EReal => x * y) (block_d m c t k (i 0) r hr) (block_h m c t k (i 1) r hr)
  exact congrArg₂ (fun x y : EReal => x + y) (congrArg₂ (fun x y : EReal => x + y) (congrArg₂ (fun x y : EReal => x + y)
    (Finset.sum_congr rfl fun k _ => e _ k _ (by simp)) (Finset.sum_congr rfl fun k _ => e _ k _ (by simp)))
    (Finset.sum_congr rfl fun k _ => e _ k _ (by simp))) (Finset.sum_congr rfl fun k _ => e _ k _ (by simp))

/-- The kernel's gradient is the reference's. -/
theorem algebraic : Cert.algebraic_Kernel5Ideal_Reference5Ideal := by
  intro m ρ m' ρ' _ hagree
  refine ⟨fun c => G2 m c, run (F := Ideal) m ρ, ?_⟩
  refine (θ_run Cert.Reference5Ideal.defs _ _).mono (fun _ h c => ⟨(h c).1.trans ?_, (h c).2⟩)
    (Cert.Reference5Ideal.Value.run (F := Ideal) m' ρ')
  rw [(hagree c).1, (hagree c).2.1, (hagree c).2.2, Cert.Reference5Ideal.Read.val_main_v16_eq]
  funext i
  refine Eq.trans ?_ (result_apply m c i).symm
  rw [Cert.Reference5Ideal.Read.val_main_v16_apply, Cert.Reference5Ideal.Read.val_main_v15_apply,
    Cert.Reference5Ideal.Read.val_main_v14_apply]
  refine Finset.sum_congr rfl fun k _ => congrArg₂ (· * ·) (congrArg (rowsD m c) ?_) (congrArg (rowsH m c) ?_)
  · funext a; match a with | ⟨0, _⟩ => rfl | ⟨1, _⟩ => rfl
  · funext a; match a with | ⟨0, _⟩ => rfl | ⟨1, _⟩ => rfl

end Cert.Kernel5Ideal.Value

end
-- ==== Proof.Dw6.lean ====
/-
  The gradient of the query, key and value projection weights, `dw = dpᵀ h`: four points of 1024 tokens each add their product to the
  block that holds the result. What the run leaves is the one product over all 4096 tokens.
-/
module

public import proofs.«01_k».proof.Defs
public import proofs.«01_k».proof.Proof.Dots
public import proofs.«01_k».proof.Proof.Gen.Kernel6Ideal.Value
public import proofs.«01_k».proof.Proof.Gen.Reference6Ideal.Read
public import Idealize.ShloMosaic.Lib.Tactic

@[expose] public section

noncomputable section

namespace Cert.Kernel6Ideal.Value

open Cert.Kernel6Ideal Cert.Kernel6Ideal.Gen Idealize.ShloMosaic Idealize.ShloMosaic.TcCoe Idealize.SL.Sem
open Idealize.ShloMosaic.ValueIdx
open Cert.Reference6Ideal.Read (val_main_v12)

variable (m : (ℓ : Loc nD τ sig) → Buf (Elt Ideal) ℓ)

/-- The normalised rows, as the reference computes them. -/
abbrev rowsH (c : Dev nD) : S4096x1024.Idx → EReal :=
  val_main_v12 (F := Ideal) (m ((c : Thread nD τ).loc main_arg0)) (m ((c : Thread nD τ).loc main_arg1))

/-- The cotangent. -/
abbrev rowsD (c : Dev nD) : S4096x1536.Idx → EReal := m ((c : Thread nD τ).loc main_arg2)

/-- What a point adds to the block: the product of its rows of the cotangent with its rows of `h`. -/
theorem pay_apply (acc : Vec Ideal S1536x1024 .f32) (d : Vec Ideal S1024x1536 .bf16) (h : Vec Ideal S1024x1024 .bf16)
    (j : S1536x1024.Idx) :
    k0_pay2 acc d h j = acc j + ∑ k : Fin 1024, d (ix2 k (j 0)) * h (ix2 k (j 1)) := by
  unfold k0_pay2
  simp only [shapeCast_self]
  exact congrArg (acc j + ·) (Dots.dot_tn _ rfl rfl rfl rfl rfl rfl none d h j)

/-- The normalised rows as the region finds them. -/
theorem entry_h (c : Dev nD) (i : S4096x1024.Idx) : V m c main_v12 i = rowsH m c i := by
  refine congrFun (?_ : V m c main_v12 = _) i
  unfold_abbrev_sides
  after_results
  rfl

/-- The cotangent as the region finds it. -/
theorem entry_d (c : Dev nD) (i : S4096x1536.Idx) : V m c main_v13 i = rowsD m c i := by
  refine congrFun (?_ : V m c main_v13 = _) i
  unfold_abbrev_sides
  after_results
  rfl

/-- Point `t`'s rows of `h`. -/
theorem block_h (c : Dev nD) (t : Fin cfg0.N) (k : Fin 1024) (q : Fin 1024) (r : Fin 4096) (hr : r.val = t.val * 1024 + k.val) :
    iblk m c 0 t (ix2 k q) = rowsH m c (ix2 r q) := by
  have hi : win0_0.index t (0 : Fin 2) = t.val ∧ win0_0.index t (1 : Fin 2) = 0 := by
    rcases fin_N0 t with rfl | rfl | rfl | rfl <;> decide
  refine Eq.trans ?_ (entry_h m c (ix2 r q))
  unfold iblk
  rw [View.read_apply]
  show V m c main_v12 _ = _
  congr 1
  funext a; apply Fin.ext
  match a with
  | ⟨0, _⟩ => show win0_0.index t 0 * 1024 + 1 * k.val = r.val; rw [hi.1, hr]; omega
  | ⟨1, _⟩ => show win0_0.index t 1 * 1024 + 1 * q.val = q.val; rw [hi.2]; omega

/-- Point `t`'s rows of the cotangent. -/
theorem block_d (c : Dev nD) (t : Fin cfg0.N) (k : Fin 1024) (q : Fin 1536) (r : Fin 4096) (hr : r.val = t.val * 1024 + k.val) :
    iblk m c 1 t (ix2 k q) = rowsD m c (ix2 r q) := by
  have hi : win0_1.index t (0 : Fin 2) = t.val ∧ win0_1.index t (1 : Fin 2) = 0 := by
    rcases fin_N0 t with rfl | rfl | rfl | rfl <;> decide
  refine Eq.trans ?_ (entry_d m c (ix2 r q))
  unfold iblk
  rw [View.read_apply]
  show V m c main_v13 _ = _
  congr 1
  funext a; apply Fin.ext
  match a with
  | ⟨0, _⟩ => show win0_1.index t 0 * 1024 + 1 * k.val = r.val; rw [hi.1, hr]; omega
  | ⟨1, _⟩ => show win0_1.index t 1 * 1536 + 1 * q.val = q.val; rw [hi.2]; omega

/-- The array after the run is the product over all the tokens. -/
theorem result_apply (c : Dev nD) (i : S1536x1024.Idx) : (G2 m c : S1536x1024.Idx → EReal) i
    = ∑ r : Fin 4096, rowsD m c (ix2 r (i 0)) * rowsH m c (ix2 r (i 1)) := by
  have h0 : (i 0).val < 1536 := (i 0).isLt
  have h1 : (i 1).val < 1024 := (i 1).isLt
  have hN : cfg0.N = 4 := N_0
  have hr : run2Of i = 0 := by
    show 1 * ((i 0).val / 1536 - 0) + 1 * ((i 1).val / 1024 - 0) = 0
    omega
  have hl : loc2Of i = i := by
    funext a; apply Fin.ext
    match a with
    | ⟨0, _⟩ => exact Nat.mod_eq_of_lt h0
    | ⟨1, _⟩ => exact Nat.mod_eq_of_lt h1
  have e : ∀ (b : ℕ) (h : b + 3 < cfg0.N), b = 0 → Pipeline.accAt (reset2 m c) (step2 m c) b 3 h
      = step2 m c 3 (by omega) (step2 m c 2 (by omega) (step2 m c 1 (by omega) (reset2 m c 0 (by omega)))) := by
    intro b h hb; subst hb; rfl
  unfold G2
  rw [dif_pos (by rw [hr]; omega), hl, e _ _ (by rw [hr])]
  unfold step2 reset2
  simp only [pay_apply]
  rw [show k0_pay1 (F := Ideal) i = 0 from Ideal.ofBits_zero_f32, zero_add]
  rw [Dots.sum_quarters (B := 1024) rfl]
  have e (t : Fin cfg0.N) (k : Fin 1024) (r : Fin 4096) (hr : r.val = t.val * 1024 + k.val) :=
    congrArg₂ (fun x y : EReal => x * y) (block_d m c t k (i 0) r hr) (block_h m c t k (i 1) r hr)
  exact congrArg₂ (fun x y : EReal => x + y) (congrArg₂ (fun x y : EReal => x + y) (congrArg₂ (fun x y : EReal => x + y)
    (Finset.sum_congr rfl fun k _ => e _ k _ (by simp)) (Finset.sum_congr rfl fun k _ => e _ k _ (by simp)))
    (Finset.sum_congr rfl fun k _ => e _ k _ (by simp))) (Finset.sum_congr rfl fun k _ => e _ k _ (by simp))

/-- The kernel's gradient is the reference's. -/
theorem algebraic : Cert.algebraic_Kernel6Ideal_Reference6Ideal := by
  intro m ρ m' ρ' _ hagree
  refine ⟨fun c => G2 m c, run (F := Ideal) m ρ, ?_⟩
  refine (θ_run Cert.Reference6Ideal.defs _ _).mono (fun _ h c => ⟨(h c).1.trans ?_, (h c).2⟩)
    (Cert.Reference6Ideal.Value.run (F := Ideal) m' ρ')
  rw [(hagree c).1, (hagree c).2.1, (hagree c).2.2, Cert.Reference6Ideal.Read.val_main_v16_eq]
  funext i
  refine Eq.trans ?_ (result_apply m c i).symm
  rw [Cert.Reference6Ideal.Read.val_main_v16_apply, Cert.Reference6Ideal.Read.val_main_v15_apply,
    Cert.Reference6Ideal.Read.val_main_v14_apply]
  refine Finset.sum_congr rfl fun k _ => congrArg₂ (· * ·) (congrArg (rowsD m c) ?_) (congrArg (rowsH m c) ?_)
  · funext a; match a with | ⟨0, _⟩ => rfl | ⟨1, _⟩ => rfl
  · funext a; match a with | ⟨0, _⟩ => rfl | ⟨1, _⟩ => rfl

end Cert.Kernel6Ideal.Value

end
-- ==== Proof.Dw7.lean ====
/-
  The gradient of the output gates' projection weights (either branch's), `dw = dpᵀ h`: four points of 1024 tokens each add their product to the
  block that holds the result. What the run leaves is the one product over all 4096 tokens.
-/
module

public import proofs.«01_k».proof.Defs
public import proofs.«01_k».proof.Proof.Dots
public import proofs.«01_k».proof.Proof.Gen.Kernel7Ideal.Value
public import proofs.«01_k».proof.Proof.Gen.Reference7Ideal.Read
public import Idealize.ShloMosaic.Lib.Tactic

@[expose] public section

noncomputable section

namespace Cert.Kernel7Ideal.Value

open Cert.Kernel7Ideal Cert.Kernel7Ideal.Gen Idealize.ShloMosaic Idealize.ShloMosaic.TcCoe Idealize.SL.Sem
open Idealize.ShloMosaic.ValueIdx
open Cert.Reference7Ideal.Read (val_main_v12)

variable (m : (ℓ : Loc nD τ sig) → Buf (Elt Ideal) ℓ)

/-- The normalised rows, as the reference computes them. -/
abbrev rowsH (c : Dev nD) : S4096x1024.Idx → EReal :=
  val_main_v12 (F := Ideal) (m ((c : Thread nD τ).loc main_arg0)) (m ((c : Thread nD τ).loc main_arg1))

/-- The cotangent. -/
abbrev rowsD (c : Dev nD) : S4096x512.Idx → EReal := m ((c : Thread nD τ).loc main_arg2)

/-- What a point adds to the block: the product of its rows of the cotangent with its rows of `h`. -/
theorem pay_apply (acc : Vec Ideal S512x1024 .f32) (d : Vec Ideal S1024x512 .bf16) (h : Vec Ideal S1024x1024 .bf16)
    (j : S512x1024.Idx) :
    k0_pay2 acc d h j = acc j + ∑ k : Fin 1024, d (ix2 k (j 0)) * h (ix2 k (j 1)) := by
  unfold k0_pay2
  simp only [shapeCast_self]
  exact congrArg (acc j + ·) (Dots.dot_tn _ rfl rfl rfl rfl rfl rfl none d h j)

/-- The normalised rows as the region finds them. -/
theorem entry_h (c : Dev nD) (i : S4096x1024.Idx) : V m c main_v12 i = rowsH m c i := by
  refine congrFun (?_ : V m c main_v12 = _) i
  unfold_abbrev_sides
  after_results
  rfl

/-- The cotangent as the region finds it. -/
theorem entry_d (c : Dev nD) (i : S4096x512.Idx) : V m c main_v13 i = rowsD m c i := by
  refine congrFun (?_ : V m c main_v13 = _) i
  unfold_abbrev_sides
  after_results
  rfl

/-- Point `t`'s rows of `h`. -/
theorem block_h (c : Dev nD) (t : Fin cfg0.N) (k : Fin 1024) (q : Fin 1024) (r : Fin 4096) (hr : r.val = t.val * 1024 + k.val) :
    iblk m c 0 t (ix2 k q) = rowsH m c (ix2 r q) := by
  have hi : win0_0.index t (0 : Fin 2) = t.val ∧ win0_0.index t (1 : Fin 2) = 0 := by
    rcases fin_N0 t with rfl | rfl | rfl | rfl <;> decide
  refine Eq.trans ?_ (entry_h m c (ix2 r q))
  unfold iblk
  rw [View.read_apply]
  show V m c main_v12 _ = _
  congr 1
  funext a; apply Fin.ext
  match a with
  | ⟨0, _⟩ => show win0_0.index t 0 * 1024 + 1 * k.val = r.val; rw [hi.1, hr]; omega
  | ⟨1, _⟩ => show win0_0.index t 1 * 1024 + 1 * q.val = q.val; rw [hi.2]; omega

/-- Point `t`'s rows of the cotangent. -/
theorem block_d (c : Dev nD) (t : Fin cfg0.N) (k : Fin 1024) (q : Fin 512) (r : Fin 4096) (hr : r.val = t.val * 1024 + k.val) :
    iblk m c 1 t (ix2 k q) = rowsD m c (ix2 r q) := by
  have hi : win0_1.index t (0 : Fin 2) = t.val ∧ win0_1.index t (1 : Fin 2) = 0 := by
    rcases fin_N0 t with rfl | rfl | rfl | rfl <;> decide
  refine Eq.trans ?_ (entry_d m c (ix2 r q))
  unfold iblk
  rw [View.read_apply]
  show V m c main_v13 _ = _
  congr 1
  funext a; apply Fin.ext
  match a with
  | ⟨0, _⟩ => show win0_1.index t 0 * 1024 + 1 * k.val = r.val; rw [hi.1, hr]; omega
  | ⟨1, _⟩ => show win0_1.index t 1 * 512 + 1 * q.val = q.val; rw [hi.2]; omega

/-- The array after the run is the product over all the tokens. -/
theorem result_apply (c : Dev nD) (i : S512x1024.Idx) : (G2 m c : S512x1024.Idx → EReal) i
    = ∑ r : Fin 4096, rowsD m c (ix2 r (i 0)) * rowsH m c (ix2 r (i 1)) := by
  have h0 : (i 0).val < 512 := (i 0).isLt
  have h1 : (i 1).val < 1024 := (i 1).isLt
  have hN : cfg0.N = 4 := N_0
  have hr : run2Of i = 0 := by
    show 1 * ((i 0).val / 512 - 0) + 1 * ((i 1).val / 1024 - 0) = 0
    omega
  have hl : loc2Of i = i := by
    funext a; apply Fin.ext
    match a with
    | ⟨0, _⟩ => exact Nat.mod_eq_of_lt h0
    | ⟨1, _⟩ => exact Nat.mod_eq_of_lt h1
  have e : ∀ (b : ℕ) (h : b + 3 < cfg0.N), b = 0 → Pipeline.accAt (reset2 m c) (step2 m c) b 3 h
      = step2 m c 3 (by omega) (step2 m c 2 (by omega) (step2 m c 1 (by omega) (reset2 m c 0 (by omega)))) := by
    intro b h hb; subst hb; rfl
  unfold G2
  rw [dif_pos (by rw [hr]; omega), hl, e _ _ (by rw [hr])]
  unfold step2 reset2
  simp only [pay_apply]
  rw [show k0_pay1 (F := Ideal) i = 0 from Ideal.ofBits_zero_f32, zero_add]
  rw [Dots.sum_quarters (B := 1024) rfl]
  have e (t : Fin cfg0.N) (k : Fin 1024) (r : Fin 4096) (hr : r.val = t.val * 1024 + k.val) :=
    congrArg₂ (fun x y : EReal => x * y) (block_d m c t k (i 0) r hr) (block_h m c t k (i 1) r hr)
  exact congrArg₂ (fun x y : EReal => x + y) (congrArg₂ (fun x y : EReal => x + y) (congrArg₂ (fun x y : EReal => x + y)
    (Finset.sum_congr rfl fun k _ => e _ k _ (by simp)) (Finset.sum_congr rfl fun k _ => e _ k _ (by simp)))
    (Finset.sum_congr rfl fun k _ => e _ k _ (by simp))) (Finset.sum_congr rfl fun k _ => e _ k _ (by simp))

/-- The kernel's gradient is the reference's. -/
theorem algebraic : Cert.algebraic_Kernel7Ideal_Reference7Ideal := by
  intro m ρ m' ρ' _ hagree
  refine ⟨fun c => G2 m c, run (F := Ideal) m ρ, ?_⟩
  refine (θ_run Cert.Reference7Ideal.defs _ _).mono (fun _ h c => ⟨(h c).1.trans ?_, (h c).2⟩)
    (Cert.Reference7Ideal.Value.run (F := Ideal) m' ρ')
  rw [(hagree c).1, (hagree c).2.1, (hagree c).2.2, Cert.Reference7Ideal.Read.val_main_v16_eq]
  funext i
  refine Eq.trans ?_ (result_apply m c i).symm
  rw [Cert.Reference7Ideal.Read.val_main_v16_apply, Cert.Reference7Ideal.Read.val_main_v15_apply,
    Cert.Reference7Ideal.Read.val_main_v14_apply]
  refine Finset.sum_congr rfl fun k _ => congrArg₂ (· * ·) (congrArg (rowsD m c) ?_) (congrArg (rowsH m c) ?_)
  · funext a; match a with | ⟨0, _⟩ => rfl | ⟨1, _⟩ => rfl
  · funext a; match a with | ⟨0, _⟩ => rfl | ⟨1, _⟩ => rfl

end Cert.Kernel7Ideal.Value

end
-- ==== Proof.Dw8.lean ====
/-
  The gradient of the decay and step-size projection weights, in a block of 128 columns of which eight are used,
      `dw = dpᵀ h`: four points of 1024 tokens each add their product to the
  block that holds the result. What the run leaves is the one product over all 4096 tokens.
-/
module

public import proofs.«01_k».proof.Defs
public import proofs.«01_k».proof.Proof.Dots
public import proofs.«01_k».proof.Proof.Gen.Kernel8Ideal.Value
public import proofs.«01_k».proof.Proof.Gen.Reference8Ideal.Read
public import Idealize.ShloMosaic.Lib.Tactic

@[expose] public section

noncomputable section

namespace Cert.Kernel8Ideal.Value

open Cert.Kernel8Ideal Cert.Kernel8Ideal.Gen Idealize.ShloMosaic Idealize.ShloMosaic.TcCoe Idealize.SL.Sem
open Idealize.ShloMosaic.ValueIdx
open Cert.Reference8Ideal.Read (val_main_v12)

variable (m : (ℓ : Loc nD τ sig) → Buf (Elt Ideal) ℓ)

/-- The normalised rows, as the reference computes them. -/
abbrev rowsH (c : Dev nD) : S4096x1024.Idx → EReal :=
  val_main_v12 (F := Ideal) (m ((c : Thread nD τ).loc main_arg0)) (m ((c : Thread nD τ).loc main_arg1))

/-- The cotangent. -/
abbrev rowsD (c : Dev nD) : S4096x128.Idx → EReal := m ((c : Thread nD τ).loc main_arg2)

/-- What a point adds to the block: the product of its rows of the cotangent with its rows of `h`. -/
theorem pay_apply (acc : Vec Ideal S128x1024 .f32) (d : Vec Ideal S1024x128 .bf16) (h : Vec Ideal S1024x1024 .bf16)
    (j : S128x1024.Idx) :
    k0_pay2 acc d h j = acc j + ∑ k : Fin 1024, d (ix2 k (j 0)) * h (ix2 k (j 1)) := by
  unfold k0_pay2
  simp only [shapeCast_self]
  exact congrArg (acc j + ·) (Dots.dot_tn _ rfl rfl rfl rfl rfl rfl none d h j)

/-- The normalised rows as the region finds them. -/
theorem entry_h (c : Dev nD) (i : S4096x1024.Idx) : V m c main_v12 i = rowsH m c i := by
  refine congrFun (?_ : V m c main_v12 = _) i
  unfold_abbrev_sides
  after_results
  rfl

/-- The cotangent as the region finds it. -/
theorem entry_d (c : Dev nD) (i : S4096x128.Idx) : V m c main_v13 i = rowsD m c i := by
  refine congrFun (?_ : V m c main_v13 = _) i
  unfold_abbrev_sides
  after_results
  rfl

/-- Point `t`'s rows of `h`. -/
theorem block_h (c : Dev nD) (t : Fin cfg0.N) (k : Fin 1024) (q : Fin 1024) (r : Fin 4096) (hr : r.val = t.val * 1024 + k.val) :
    iblk m c 0 t (ix2 k q) = rowsH m c (ix2 r q) := by
  have hi : win0_0.index t (0 : Fin 2) = t.val ∧ win0_0.index t (1 : Fin 2) = 0 := by
    rcases fin_N0 t with rfl | rfl | rfl | rfl <;> decide
  refine Eq.trans ?_ (entry_h m c (ix2 r q))
  unfold iblk
  rw [View.read_apply]
  show V m c main_v12 _ = _
  congr 1
  funext a; apply Fin.ext
  match a with
  | ⟨0, _⟩ => show win0_0.index t 0 * 1024 + 1 * k.val = r.val; rw [hi.1, hr]; omega
  | ⟨1, _⟩ => show win0_0.index t 1 * 1024 + 1 * q.val = q.val; rw [hi.2]; omega

/-- Point `t`'s rows of the cotangent. -/
theorem block_d (c : Dev nD) (t : Fin cfg0.N) (k : Fin 1024) (q : Fin 128) (r : Fin 4096) (hr : r.val = t.val * 1024 + k.val) :
    iblk m c 1 t (ix2 k q) = rowsD m c (ix2 r q) := by
  have hi : win0_1.index t (0 : Fin 2) = t.val ∧ win0_1.index t (1 : Fin 2) = 0 := by
    rcases fin_N0 t with rfl | rfl | rfl | rfl <;> decide
  refine Eq.trans ?_ (entry_d m c (ix2 r q))
  unfold iblk
  rw [View.read_apply]
  show V m c main_v13 _ = _
  congr 1
  funext a; apply Fin.ext
  match a with
  | ⟨0, _⟩ => show win0_1.index t 0 * 1024 + 1 * k.val = r.val; rw [hi.1, hr]; omega
  | ⟨1, _⟩ => show win0_1.index t 1 * 128 + 1 * q.val = q.val; rw [hi.2]; omega

/-- The array after the run is the product over all the tokens. -/
theorem result_apply (c : Dev nD) (i : S128x1024.Idx) : (G2 m c : S128x1024.Idx → EReal) i
    = ∑ r : Fin 4096, rowsD m c (ix2 r (i 0)) * rowsH m c (ix2 r (i 1)) := by
  have h0 : (i 0).val < 128 := (i 0).isLt
  have h1 : (i 1).val < 1024 := (i 1).isLt
  have hN : cfg0.N = 4 := N_0
  have hr : run2Of i = 0 := by
    show 1 * ((i 0).val / 128 - 0) + 1 * ((i 1).val / 1024 - 0) = 0
    omega
  have hl : loc2Of i = i := by
    funext a; apply Fin.ext
    match a with
    | ⟨0, _⟩ => exact Nat.mod_eq_of_lt h0
    | ⟨1, _⟩ => exact Nat.mod_eq_of_lt h1
  have e : ∀ (b : ℕ) (h : b + 3 < cfg0.N), b = 0 → Pipeline.accAt (reset2 m c) (step2 m c) b 3 h
      = step2 m c 3 (by omega) (step2 m c 2 (by omega) (step2 m c 1 (by omega) (reset2 m c 0 (by omega)))) := by
    intro b h hb; subst hb; rfl
  unfold G2
  rw [dif_pos (by rw [hr]; omega), hl, e _ _ (by rw [hr])]
  unfold step2 reset2
  simp only [pay_apply]
  rw [show k0_pay1 (F := Ideal) i = 0 from Ideal.ofBits_zero_f32, zero_add]
  rw [Dots.sum_quarters (B := 1024) rfl]
  have e (t : Fin cfg0.N) (k : Fin 1024) (r : Fin 4096) (hr : r.val = t.val * 1024 + k.val) :=
    congrArg₂ (fun x y : EReal => x * y) (block_d m c t k (i 0) r hr) (block_h m c t k (i 1) r hr)
  exact congrArg₂ (fun x y : EReal => x + y) (congrArg₂ (fun x y : EReal => x + y) (congrArg₂ (fun x y : EReal => x + y)
    (Finset.sum_congr rfl fun k _ => e _ k _ (by simp)) (Finset.sum_congr rfl fun k _ => e _ k _ (by simp)))
    (Finset.sum_congr rfl fun k _ => e _ k _ (by simp))) (Finset.sum_congr rfl fun k _ => e _ k _ (by simp))

/-- The kernel's gradient is the reference's. -/
theorem algebraic : Cert.algebraic_Kernel8Ideal_Reference8Ideal := by
  intro m ρ m' ρ' _ hagree
  refine ⟨fun c => G2 m c, run (F := Ideal) m ρ, ?_⟩
  refine (θ_run Cert.Reference8Ideal.defs _ _).mono (fun _ h c => ⟨(h c).1.trans ?_, (h c).2⟩)
    (Cert.Reference8Ideal.Value.run (F := Ideal) m' ρ')
  rw [(hagree c).1, (hagree c).2.1, (hagree c).2.2, Cert.Reference8Ideal.Read.val_main_v16_eq]
  funext i
  refine Eq.trans ?_ (result_apply m c i).symm
  rw [Cert.Reference8Ideal.Read.val_main_v16_apply, Cert.Reference8Ideal.Read.val_main_v15_apply,
    Cert.Reference8Ideal.Read.val_main_v14_apply]
  refine Finset.sum_congr rfl fun k _ => congrArg₂ (· * ·) (congrArg (rowsD m c) ?_) (congrArg (rowsH m c) ?_)
  · funext a; match a with | ⟨0, _⟩ => rfl | ⟨1, _⟩ => rfl
  · funext a; match a with | ⟨0, _⟩ => rfl | ⟨1, _⟩ => rfl

end Cert.Kernel8Ideal.Value

end
-- ==== Proof.Proj9.lean ====
/-
  The forward projection of the gates: each of four points multiplies its 1024 rows of `h` with the transposed weights, and writes its own block of the
  result. Block by block this is the product of the normalised rows with the weights.
-/
module

public import proofs.«01_k».proof.Defs
public import proofs.«01_k».proof.Proof.Dots
public import proofs.«01_k».proof.Proof.Gen.Kernel9Ideal.Value
public import proofs.«01_k».proof.Proof.Gen.Reference9Ideal.Read
public import Idealize.ShloMosaic.Lib.Tactic

@[expose] public section

noncomputable section

namespace Cert.Kernel9Ideal.Value

open Cert.Kernel9Ideal Cert.Kernel9Ideal.Gen Idealize.ShloMosaic Idealize.ShloMosaic.TcCoe Idealize.SL.Sem
open Idealize.ShloMosaic.ValueIdx
open Cert.Reference9Ideal.Read (val_main_v11)

variable (m : (ℓ : Loc nD τ sig) → Buf (Elt Ideal) ℓ)

/-- The normalised rows, as the reference computes them. -/
abbrev rowsH (c : Dev nD) : S4096x1024.Idx → EReal :=
  val_main_v11 (F := Ideal) (m ((c : Thread nD τ).loc main_arg0)) (m ((c : Thread nD τ).loc main_arg1))

/-- The weights. -/
abbrev wts (c : Dev nD) : S1024x2048.Idx → EReal := m ((c : Thread nD τ).loc main_arg2)

/-- The product of the normalised rows with the weights. -/
def proj (c : Dev nD) (i : S4096x2048.Idx) : EReal := ∑ k : Fin 1024, rowsH m c (ix2 (i 0) k) * wts m c (ix2 k (i 1))

/-- A point's product. -/
theorem pay_apply (h : Vec Ideal S1024x1024 .bf16) (w : Vec Ideal S2048x1024 .bf16) (j : S1024x2048.Idx) :
    k0_pay1 h w j = ∑ k : Fin 1024, h (ix2 (j 0) k) * w (ix2 (j 1) k) := by
  unfold k0_pay1
  simp only [shapeCast_self]
  exact Dots.dot_nt _ rfl rfl rfl rfl rfl rfl none h w j

/-- The normalised rows as the region finds them. -/
theorem entry_h (c : Dev nD) (i : S4096x1024.Idx) : V m c main_v12 i = rowsH m c i := by
  refine congrFun (?_ : V m c main_v12 = _) i
  unfold_abbrev_sides
  after_results
  rfl

/-- The transposed weights as the region finds them. -/
theorem entry_w (c : Dev nD) (p : Fin 2048) (q : Fin 1024) : V m c main_v14 (ix2 p q) = wts m c (ix2 q p) := by
  have e : (V m c main_v14 : S2048x1024.Idx → EReal) = transpose S2048x1024 [1, 0] (wts m c) transposes_S1024x2048_S2048x1024_1_0 := by
    unfold_abbrev_sides
    after_results
    rfl
  refine (congrFun e _).trans ?_
  exact congrArg (wts m c) (by funext a; match a with | ⟨0, _⟩ => rfl | ⟨1, _⟩ => rfl)

/-- Point `t`'s rows of `h`. -/
theorem block_h (c : Dev nD) (t : Fin cfg0.N) (k : Fin 1024) (q : Fin 1024) (r : Fin 4096) (hr : r.val = t.val * 1024 + k.val) :
    iblk m c 0 t (ix2 k q) = rowsH m c (ix2 r q) := by
  have hi : win0_0.index t (0 : Fin 2) = t.val ∧ win0_0.index t (1 : Fin 2) = 0 := by
    rcases fin_N0 t with rfl | rfl | rfl | rfl <;> decide
  refine Eq.trans ?_ (entry_h m c (ix2 r q))
  unfold iblk
  rw [View.read_apply]
  show V m c main_v12 _ = _
  congr 1
  funext a; apply Fin.ext
  match a with
  | ⟨0, _⟩ => show win0_0.index t 0 * 1024 + 1 * k.val = r.val; rw [hi.1, hr]; omega
  | ⟨1, _⟩ => show win0_0.index t 1 * 1024 + 1 * q.val = q.val; rw [hi.2]; omega

/-- Every point reads all of the weights. -/
theorem block_w (c : Dev nD) (t : Fin cfg0.N) (p : Fin 2048) (q : Fin 1024) : iblk m c 1 t (ix2 p q) = wts m c (ix2 q p) := by
  have hi : win0_1.index t (0 : Fin 2) = 0 ∧ win0_1.index t (1 : Fin 2) = 0 := by
    rcases fin_N0 t with rfl | rfl | rfl | rfl <;> decide
  refine Eq.trans ?_ (entry_w m c p q)
  unfold iblk
  rw [View.read_apply]
  show V m c main_v14 _ = _
  congr 1
  funext a; apply Fin.ext
  match a with
  | ⟨0, _⟩ => show win0_1.index t 0 * 2048 + 1 * p.val = p.val; rw [hi.1]; omega
  | ⟨1, _⟩ => show win0_1.index t 1 * 1024 + 1 * q.val = q.val; rw [hi.2]; omega

/-- Where point `t`'s block of the result lies. -/
theorem index_out (t : Fin cfg0.N) : win0_2.index t (0 : Fin 2) = t.val ∧ win0_2.index t (1 : Fin 2) = 0 := by
  rcases fin_N0 t with rfl | rfl | rfl | rfl <;> decide

/-- Point `t`'s product is its block of the whole one. -/
theorem point_eq (c : Dev nD) (t : Fin cfg0.N) (j : S1024x2048.Idx) (i : S4096x2048.Idx)
    (h0 : (i 0).val = t.val * 1024 + (j 0).val) (h1 : i 1 = j 1) :
    k0_pay1 (F := Ideal) (iblk m c 0 t) (iblk m c 1 t) j = proj m c i := by
  refine (pay_apply _ _ j).trans (Finset.sum_congr rfl fun k _ => ?_)
  rw [h1]
  exact congrArg₂ (fun a b : EReal => a * b) (block_h m c t (j 0) k (i 0) h0) (block_w m c t (j 1) k)

/-- What point `t` writes back is its block of the product. -/
theorem flushed_eq (c : Dev nD) (t : Fin cfg0.N) :
    (dats m 0 c).flushed 2 t = ((cfg0.win 2).blk t).view.read (Elt Ideal) (proj m c) := by
  have hz : (![0, 0] : Fin 2 → Nat) = fun _ => 0 := funext fun a => by fin_cases a <;> rfl
  rw [flushed2]
  funext j
  rw [View.read_apply]
  refine Eq.trans (?_ : _ = k0_pay1 (iblk m c 0 t) (iblk m c 1 t) j) ?_
  · unfold out0_2
    sl_unfold_words
    rw [View.canon_unit_zero hz]
    simp only [View.ld_unit_zero (S := S1024x1024) hz, View.ld_unit_zero (S := S2048x1024) hz]
  · have hi := index_out t
    refine point_eq m c t j _ ?_ (Fin.ext ?_)
    · show win0_2.index t 0 * 1024 + 1 * (j 0).val = t.val * 1024 + (j 0).val; rw [hi.1]; omega
    · show win0_2.index t 1 * 2048 + 1 * (j 1).val = (j 1).val; rw [hi.2]; omega

/-- The array after the run. -/
theorem arr_eq (c : Dev nD) : (dats m 0 c).arrAt 2 cfg0.N = proj m c := by
  refine (dats m 0 c).arrAt_eq_of_cover 2 (proj m c) (fun t _ => flushed_eq m c t) fun (i : S4096x2048.Idx) => ?_
  have hN : cfg0.N = 4 := N_0
  have h0 : (i 0).val < 4096 := (i 0).isLt
  have h1 : (i 1).val < 2048 := (i 1).isLt
  let t : Fin cfg0.N := ⟨(i 0).val / 1024, by omega⟩
  have ht : t.val = (i 0).val / 1024 := rfl
  have hi := index_out t
  refine ⟨t, flush0_2 _, ?_⟩
  show i ∈ ((View.whole main_v15).slice (win0_2.rect t)).set
  rw [View.set_slice_whole, Rect.mem_set_unit]
  intro a
  match a with
  | ⟨0, _⟩ =>
    show win0_2.index t 0 * 1024 ≤ (i 0).val ∧ (i 0).val < win0_2.index t 0 * 1024 + 1024
    rw [hi.1]; omega
  | ⟨1, _⟩ =>
    show win0_2.index t 1 * 2048 ≤ (i 1).val ∧ (i 1).val < win0_2.index t 1 * 2048 + 2048
    rw [hi.2]; omega

/-- The kernel's projection is the reference's. -/
theorem algebraic : Cert.algebraic_Kernel9Ideal_Reference9Ideal := by
  intro m ρ m' ρ' _ hagree
  refine ⟨fun c => proj m c, (θ_run defs _ _).mono (fun _ h c => ⟨(h c).1.trans (arr_eq m c), (h c).2⟩)
    (run_blocks (F := Ideal) m ρ), ?_⟩
  refine (θ_run Cert.Reference9Ideal.defs _ _).mono (fun _ h c => ⟨(h c).1.trans ?_, (h c).2⟩)
    (Cert.Reference9Ideal.Value.run (F := Ideal) m' ρ')
  rw [(hagree c).1, (hagree c).2.1, (hagree c).2.2, Cert.Reference9Ideal.Read.val_main_v12_eq]
  funext i
  rw [Cert.Reference9Ideal.Read.val_main_v12_apply]
  refine Finset.sum_congr rfl fun k _ => congrArg₂ (· * ·) (congrArg (rowsH m c) ?_) (congrArg (wts m c) ?_)
  · funext a; match a with | ⟨0, _⟩ => rfl | ⟨1, _⟩ => rfl
  · funext a; match a with | ⟨0, _⟩ => rfl | ⟨1, _⟩ => rfl

end Cert.Kernel9Ideal.Value

end
-- ==== Proof.Proj10.lean ====
/-
  The forward projection of one branch's gate inputs: each of four points multiplies its 1024 rows of `h` with the transposed weights, and writes its own block of the
  result. Block by block this is the product of the normalised rows with the weights.
-/
module

public import proofs.«01_k».proof.Defs
public import proofs.«01_k».proof.Proof.Dots
public import proofs.«01_k».proof.Proof.Gen.Kernel10Ideal.Value
public import proofs.«01_k».proof.Proof.Gen.Reference10Ideal.Read
public import Idealize.ShloMosaic.Lib.Tactic

@[expose] public section

noncomputable section

namespace Cert.Kernel10Ideal.Value

open Cert.Kernel10Ideal Cert.Kernel10Ideal.Gen Idealize.ShloMosaic Idealize.ShloMosaic.TcCoe Idealize.SL.Sem
open Idealize.ShloMosaic.ValueIdx
open Cert.Reference10Ideal.Read (val_main_v11)

variable (m : (ℓ : Loc nD τ sig) → Buf (Elt Ideal) ℓ)

/-- The normalised rows, as the reference computes them. -/
abbrev rowsH (c : Dev nD) : S4096x1024.Idx → EReal :=
  val_main_v11 (F := Ideal) (m ((c : Thread nD τ).loc main_arg0)) (m ((c : Thread nD τ).loc main_arg1))

/-- The weights. -/
abbrev wts (c : Dev nD) : S1024x512.Idx → EReal := m ((c : Thread nD τ).loc main_arg2)

/-- The product of the normalised rows with the weights. -/
def proj (c : Dev nD) (i : S4096x512.Idx) : EReal := ∑ k : Fin 1024, rowsH m c (ix2 (i 0) k) * wts m c (ix2 k (i 1))

/-- A point's product. -/
theorem pay_apply (h : Vec Ideal S1024x1024 .bf16) (w : Vec Ideal S512x1024 .bf16) (j : S1024x512.Idx) :
    k0_pay1 h w j = ∑ k : Fin 1024, h (ix2 (j 0) k) * w (ix2 (j 1) k) := by
  unfold k0_pay1
  simp only [shapeCast_self]
  exact Dots.dot_nt _ rfl rfl rfl rfl rfl rfl none h w j

/-- The normalised rows as the region finds them. -/
theorem entry_h (c : Dev nD) (i : S4096x1024.Idx) : V m c main_v12 i = rowsH m c i := by
  refine congrFun (?_ : V m c main_v12 = _) i
  unfold_abbrev_sides
  after_results
  rfl

/-- The transposed weights as the region finds them. -/
theorem entry_w (c : Dev nD) (p : Fin 512) (q : Fin 1024) : V m c main_v14 (ix2 p q) = wts m c (ix2 q p) := by
  have e : (V m c main_v14 : S512x1024.Idx → EReal) = transpose S512x1024 [1, 0] (wts m c) transposes_S1024x512_S512x1024_1_0 := by
    unfold_abbrev_sides
    after_results
    rfl
  refine (congrFun e _).trans ?_
  exact congrArg (wts m c) (by funext a; match a with | ⟨0, _⟩ => rfl | ⟨1, _⟩ => rfl)

/-- Point `t`'s rows of `h`. -/
theorem block_h (c : Dev nD) (t : Fin cfg0.N) (k : Fin 1024) (q : Fin 1024) (r : Fin 4096) (hr : r.val = t.val * 1024 + k.val) :
    iblk m c 0 t (ix2 k q) = rowsH m c (ix2 r q) := by
  have hi : win0_0.index t (0 : Fin 2) = t.val ∧ win0_0.index t (1 : Fin 2) = 0 := by
    rcases fin_N0 t with rfl | rfl | rfl | rfl <;> decide
  refine Eq.trans ?_ (entry_h m c (ix2 r q))
  unfold iblk
  rw [View.read_apply]
  show V m c main_v12 _ = _
  congr 1
  funext a; apply Fin.ext
  match a with
  | ⟨0, _⟩ => show win0_0.index t 0 * 1024 + 1 * k.val = r.val; rw [hi.1, hr]; omega
  | ⟨1, _⟩ => show win0_0.index t 1 * 1024 + 1 * q.val = q.val; rw [hi.2]; omega

/-- Every point reads all of the weights. -/
theorem block_w (c : Dev nD) (t : Fin cfg0.N) (p : Fin 512) (q : Fin 1024) : iblk m c 1 t (ix2 p q) = wts m c (ix2 q p) := by
  have hi : win0_1.index t (0 : Fin 2) = 0 ∧ win0_1.index t (1 : Fin 2) = 0 := by
    rcases fin_N0 t with rfl | rfl | rfl | rfl <;> decide
  refine Eq.trans ?_ (entry_w m c p q)
  unfold iblk
  rw [View.read_apply]
  show V m c main_v14 _ = _
  congr 1
  funext a; apply Fin.ext
  match a with
  | ⟨0, _⟩ => show win0_1.index t 0 * 512 + 1 * p.val = p.val; rw [hi.1]; omega
  | ⟨1, _⟩ => show win0_1.index t 1 * 1024 + 1 * q.val = q.val; rw [hi.2]; omega

/-- Where point `t`'s block of the result lies. -/
theorem index_out (t : Fin cfg0.N) : win0_2.index t (0 : Fin 2) = t.val ∧ win0_2.index t (1 : Fin 2) = 0 := by
  rcases fin_N0 t with rfl | rfl | rfl | rfl <;> decide

/-- Point `t`'s product is its block of the whole one. -/
theorem point_eq (c : Dev nD) (t : Fin cfg0.N) (j : S1024x512.Idx) (i : S4096x512.Idx)
    (h0 : (i 0).val = t.val * 1024 + (j 0).val) (h1 : i 1 = j 1) :
    k0_pay1 (F := Ideal) (iblk m c 0 t) (iblk m c 1 t) j = proj m c i := by
  refine (pay_apply _ _ j).trans (Finset.sum_congr rfl fun k _ => ?_)
  rw [h1]
  exact congrArg₂ (fun a b : EReal => a * b) (block_h m c t (j 0) k (i 0) h0) (block_w m c t (j 1) k)

/-- What point `t` writes back is its block of the product. -/
theorem flushed_eq (c : Dev nD) (t : Fin cfg0.N) :
    (dats m 0 c).flushed 2 t = ((cfg0.win 2).blk t).view.read (Elt Ideal) (proj m c) := by
  have hz : (![0, 0] : Fin 2 → Nat) = fun _ => 0 := funext fun a => by fin_cases a <;> rfl
  rw [flushed2]
  funext j
  rw [View.read_apply]
  refine Eq.trans (?_ : _ = k0_pay1 (iblk m c 0 t) (iblk m c 1 t) j) ?_
  · unfold out0_2
    sl_unfold_words
    rw [View.canon_unit_zero hz]
    simp only [View.ld_unit_zero (S := S1024x1024) hz, View.ld_unit_zero (S := S512x1024) hz]
  · have hi := index_out t
    refine point_eq m c t j _ ?_ (Fin.ext ?_)
    · show win0_2.index t 0 * 1024 + 1 * (j 0).val = t.val * 1024 + (j 0).val; rw [hi.1]; omega
    · show win0_2.index t 1 * 512 + 1 * (j 1).val = (j 1).val; rw [hi.2]; omega

/-- The array after the run. -/
theorem arr_eq (c : Dev nD) : (dats m 0 c).arrAt 2 cfg0.N = proj m c := by
  refine (dats m 0 c).arrAt_eq_of_cover 2 (proj m c) (fun t _ => flushed_eq m c t) fun (i : S4096x512.Idx) => ?_
  have hN : cfg0.N = 4 := N_0
  have h0 : (i 0).val < 4096 := (i 0).isLt
  have h1 : (i 1).val < 512 := (i 1).isLt
  let t : Fin cfg0.N := ⟨(i 0).val / 1024, by omega⟩
  have ht : t.val = (i 0).val / 1024 := rfl
  have hi := index_out t
  refine ⟨t, flush0_2 _, ?_⟩
  show i ∈ ((View.whole main_v15).slice (win0_2.rect t)).set
  rw [View.set_slice_whole, Rect.mem_set_unit]
  intro a
  match a with
  | ⟨0, _⟩ =>
    show win0_2.index t 0 * 1024 ≤ (i 0).val ∧ (i 0).val < win0_2.index t 0 * 1024 + 1024
    rw [hi.1]; omega
  | ⟨1, _⟩ =>
    show win0_2.index t 1 * 512 ≤ (i 1).val ∧ (i 1).val < win0_2.index t 1 * 512 + 512
    rw [hi.2]; omega

/-- The kernel's projection is the reference's. -/
theorem algebraic : Cert.algebraic_Kernel10Ideal_Reference10Ideal := by
  intro m ρ m' ρ' _ hagree
  refine ⟨fun c => proj m c, (θ_run defs _ _).mono (fun _ h c => ⟨(h c).1.trans (arr_eq m c), (h c).2⟩)
    (run_blocks (F := Ideal) m ρ), ?_⟩
  refine (θ_run Cert.Reference10Ideal.defs _ _).mono (fun _ h c => ⟨(h c).1.trans ?_, (h c).2⟩)
    (Cert.Reference10Ideal.Value.run (F := Ideal) m' ρ')
  rw [(hagree c).1, (hagree c).2.1, (hagree c).2.2, Cert.Reference10Ideal.Read.val_main_v12_eq]
  funext i
  rw [Cert.Reference10Ideal.Read.val_main_v12_apply]
  refine Finset.sum_congr rfl fun k _ => congrArg₂ (· * ·) (congrArg (rowsH m c) ?_) (congrArg (wts m c) ?_)
  · funext a; match a with | ⟨0, _⟩ => rfl | ⟨1, _⟩ => rfl
  · funext a; match a with | ⟨0, _⟩ => rfl | ⟨1, _⟩ => rfl

end Cert.Kernel10Ideal.Value

end
-- ==== Proof.Adam.lean ====
/-
  One AdamW step over the extended reals, element by element: the gradient's parts are summed, both moments move towards
  the gradient and its square, and the update divides the corrected first moment by the root of the corrected second one.
  A kernel multiplies by the reciprocals of the two corrections where its reference divides by them; `delta_eq` joins the
  two. `parts4` and `parts8` read a sum of the slabs of a three-axis array, which is how a kernel adds the parts. The
  statements leave the sizes open, so that each optimiser program uses the same ones.
-/
module

public import Idealize.ShloMosaic.Lib.ValueIdx
public import Idealize.ShloMosaic.Lib.Pipeline.Value
public import Idealize.ShloMosaic.Lib.Pipeline.ValueKit.Tiles
public import Idealize.ShloMosaic.PureOps.Ideal.Laws

@[expose] public section

noncomputable section

namespace Cert.Adam

open Idealize.ShloMosaic Idealize.ShloMosaic.ValueIdx

/-! ## The step of one element -/

/-- The first moment after the step, `0.9 m + 0.1 g`. -/
def newM (g m : EReal) : EReal := Ideal.ofBits .f32 0x3F666666#32 * m + Ideal.ofBits .f32 0x3DCCCCCD#32 * g

/-- The second moment after the step, `0.999 v + 0.001 g²`. -/
def newV (g v : EReal) : EReal := Ideal.ofBits .f32 0x3F7FBE77#32 * v + Ideal.ofBits .f32 0x3A83126F#32 * (g * g)

/-- The update from the corrected moments `a` and `b` and the weight. -/
def update (a b w : EReal) : EReal :=
  Ideal.ofBits .f32 0xBA83126F#32
    * (Ideal.div a (Ideal.sqrt b + Ideal.ofBits .f32 0x322BCC77#32) + Ideal.ofBits .f32 0x3C23D70A#32 * w)

/-- The weight's change: the update from the moments over their corrections. -/
def delta (g w m v : EReal) : EReal :=
  update (Ideal.div (newM g m) (Ideal.ofBits .f32 0x3F26BD02#32)) (Ideal.div (newV g v) (Ideal.ofBits .f32 0x3C231ACC#32)) w

/-- The first correction, `1 - 0.9¹⁰` as a single-precision number. -/
theorem correction1 : Ideal.ofBits .f32 0x3F26BD02#32 = ((5463681 / 8388608 : ℝ) : EReal) := by
  simp [Ideal.ofBits, Ideal.ieee, -EReal.coe_mul]; norm_num

/-- The second correction, `1 - 0.999¹⁰` as a single-precision number. -/
theorem correction2 : Ideal.ofBits .f32 0x3C231ACC#32 = ((2672307 / 268435456 : ℝ) : EReal) := by
  simp [Ideal.ofBits, Ideal.ieee, -EReal.coe_mul]; norm_num

/-- The change may as well be computed with the reciprocals of the corrections. -/
theorem delta_eq (g w m v a b : EReal) (ha : a = (((5463681 / 8388608)⁻¹ : ℝ) : EReal))
    (hb : b = (((2672307 / 268435456)⁻¹ : ℝ) : EReal)) :
    update (newM g m * a) (newV g v * b) w = delta g w m v := by
  unfold delta
  rw [correction1, correction2, Ideal.div_coe (by norm_num), Ideal.div_coe (by norm_num), one_div, one_div, ha, hb]

/-! ## The sum of the parts -/

variable {P A B : Nat}

/-- The slab of a three-axis array that a load reads. -/
abbrev piece {e : EltTy} (x : Vec Ideal ⟨3, ![P, A, B]⟩ e) (off : Fin 3 → Nat)
    (inb : ∀ a, off a + (⟨3, ![1, A, B]⟩ : Shape).size a ≤ (⟨3, ![P, A, B]⟩ : Shape).size a)
    (h : (⟨3, ![1, A, B]⟩ : Shape).ShapeCasts ⟨2, ![A, B]⟩) : Vec Ideal ⟨2, ![A, B]⟩ e :=
  shapeCast (s := ⟨3, ![1, A, B]⟩) ⟨2, ![A, B]⟩
    (View.ld x (Rect.unit (s := ⟨3, ![P, A, B]⟩) off (⟨3, ![1, A, B]⟩ : Shape).size inb)) h

/-- A slab of a three-axis array, loaded and stripped of its first axis. -/
theorem slab {e : EltTy} (x : Vec Ideal ⟨3, ![P, A, B]⟩ e) (k : Fin P) (off : Fin 3 → Nat) (hoff : off = ![k.val, 0, 0])
    (inb : ∀ a, off a + (⟨3, ![1, A, B]⟩ : Shape).size a ≤ (⟨3, ![P, A, B]⟩ : Shape).size a)
    (h : (⟨3, ![1, A, B]⟩ : Shape).ShapeCasts ⟨2, ![A, B]⟩) (j : (⟨2, ![A, B]⟩ : Shape).Idx) :
    piece x off inb h j
      = x (ix3 k (j 0) (j 1)) := by
  subst hoff
  refine (shapeCast_apply _ h j (ix3 0 (j 0) (j 1)) ?_).trans ?_
  · rw [Shape.rowMajor_val_three, Shape.rowMajor_val_two]
    show ((0 : Nat) * A + (j 0).val) * B + (j 1).val = (j 0).val * B + (j 1).val
    rw [Nat.zero_mul, Nat.zero_add]
  · refine View.ld_unit_apply_of x _ _ _ _ _ fun a => ?_
    match a with
    | ⟨0, _⟩ => rfl
    | ⟨1, _⟩ => exact (Nat.zero_add _).symm
    | ⟨2, _⟩ => exact (Nat.zero_add _).symm

/-- Four parts, added in turn after their change of format. -/
theorem parts4 (x : Vec Ideal ⟨3, ![4, A, B]⟩ .bf16) (i0 i1 i2 i3) (h : (⟨3, ![1, A, B]⟩ : Shape).ShapeCasts ⟨2, ![A, B]⟩)
    (hb : FTy.bf16.bits < FTy.f32.bits) (j : (⟨2, ![A, B]⟩ : Shape).Idx) :
    (addf (F := Ideal) (s := ⟨2, ![A, B]⟩) (φ := .f32)
      (addf (addf (extf .f32 (piece x ![0, 0, 0] i0 h) hb) (extf .f32 (piece x ![1, 0, 0] i1 h) hb))
        (extf .f32 (piece x ![2, 0, 0] i2 h) hb)) (extf .f32 (piece x ![3, 0, 0] i3 h) hb) j : EReal)
      = ∑ k : Fin 4, (x (ix3 k (j 0) (j 1)) : EReal) := by
  rw [Fin.sum_univ_four]
  refine congrArg₂ (fun a b : EReal => a + b) (congrArg₂ (fun a b : EReal => a + b)
    (congrArg₂ (fun a b : EReal => a + b) ?_ ?_) ?_) ?_
  all_goals exact slab x _ _ (by rfl) _ h j

/-- Eight parts, added in turn. -/
theorem parts8 (x : Vec Ideal ⟨3, ![8, A, B]⟩ .f32) (i0 i1 i2 i3 i4 i5 i6 i7)
    (h : (⟨3, ![1, A, B]⟩ : Shape).ShapeCasts ⟨2, ![A, B]⟩) (j : (⟨2, ![A, B]⟩ : Shape).Idx) :
    (addf (F := Ideal) (s := ⟨2, ![A, B]⟩) (φ := .f32) (addf (addf (addf (addf (addf (addf (piece x ![0, 0, 0] i0 h)
        (piece x ![1, 0, 0] i1 h)) (piece x ![2, 0, 0] i2 h)) (piece x ![3, 0, 0] i3 h)) (piece x ![4, 0, 0] i4 h))
        (piece x ![5, 0, 0] i5 h)) (piece x ![6, 0, 0] i6 h)) (piece x ![7, 0, 0] i7 h) j : EReal)
      = ∑ k : Fin 8, (x (ix3 k (j 0) (j 1)) : EReal) := by
  rw [Fin.sum_univ_eight]
  refine congrArg₂ (fun a b : EReal => a + b) (congrArg₂ (fun a b : EReal => a + b) (congrArg₂ (fun a b : EReal => a + b)
    (congrArg₂ (fun a b : EReal => a + b) (congrArg₂ (fun a b : EReal => a + b) (congrArg₂ (fun a b : EReal => a + b)
    (congrArg₂ (fun a b : EReal => a + b) ?_ ?_) ?_) ?_) ?_) ?_) ?_) ?_
  all_goals exact slab x _ _ (by rfl) _ h j

end Cert.Adam

end
-- ==== Proof.Adam11.lean ====
/-
  The optimiser step of the input projection's weights. Each point has a block of columns; the step is taken element by
  element, so that a block of the result is the step of the blocks.
-/
module

public import proofs.«01_k».proof.Defs
public import proofs.«01_k».proof.Proof.Adam
public import proofs.«01_k».proof.Proof.Gen.Kernel11Ideal.Value
public import proofs.«01_k».proof.Proof.Gen.Reference11Ideal.Read

@[expose] public section

noncomputable section

namespace Cert.Kernel11Ideal.Value

open Cert.Kernel11Ideal Cert.Kernel11Ideal.Gen Idealize.ShloMosaic Idealize.ShloMosaic.TcCoe Idealize.SL.Sem
open Idealize.ShloMosaic.ValueIdx
open Cert.Reference11Ideal.Read

/-! ## A point's blocks -/

section Point

variable (x0 : Vec Ideal S4x785x256 .bf16) (x1 x2 x3 : Vec Ideal S785x256 .f32) (j : S785x256.Idx)

theorem offsets : (![0, 0] : Fin 2 → Nat) = fun _ => 0 := funext fun a => by fin_cases a <;> rfl

/-- The whole of a block, loaded. -/
theorem load (x : Vec Ideal S785x256 .f32) : View.ld x r0_4 = x := View.ld_unit_zero (S := S785x256) offsets _ x

/-- The gradient is the sum of the parts. -/
theorem out4_apply : out0_4 x0 x1 x2 x3 j = ∑ k : Fin 4, x0 (ix3 k (j 0) (j 1)) := by
  unfold out0_4
  rw [View.canon_unit_zero offsets]
  exact Adam.parts4 x0 _ _ _ _ _ _ j

/-- The weight's change. -/
theorem out5_apply : out0_5 x0 x1 x2 x3 j = Adam.delta (∑ k : Fin 4, x0 (ix3 k (j 0) (j 1))) (x1 j) (x2 j) (x3 j) := by
  unfold out0_5 k0_pay6
  rw [View.canon_unit_zero offsets, load, load, load, ← Adam.parts4 x0 _ _ _ _ shapeCasts_S1x785x256_S785x256 bitsLt_bf16_f32 j]
  exact Adam.delta_eq _ _ _ _ _ _ (IdealRules.named_const.ideal_named_scalar _ _ _ _ rfl)
    (IdealRules.named_const.ideal_named_scalar _ _ _ _ rfl)

/-- The first moment. -/
theorem out6_apply : out0_6 x0 x1 x2 x3 j = Adam.newM (∑ k : Fin 4, x0 (ix3 k (j 0) (j 1))) (x2 j) := by
  unfold out0_6
  rw [View.canon_unit_zero offsets, load]
  exact congrArg (fun g : EReal => Adam.newM g (x2 j)) (Adam.parts4 x0 _ _ _ _ _ _ j)

/-- The second moment. -/
theorem out7_apply : out0_7 x0 x1 x2 x3 j = Adam.newV (∑ k : Fin 4, x0 (ix3 k (j 0) (j 1))) (x3 j) := by
  unfold out0_7 k0_pay6
  rw [View.canon_unit_zero offsets, load]
  exact congrArg (fun g : EReal => Adam.newV g (x3 j)) (Adam.parts4 x0 _ _ _ _ _ _ j)

end Point

/-! ## The arrays -/

variable (m : (ℓ : Loc nD τ sig) → Buf (Elt Ideal) ℓ)

/-- The index of the array that point `t` holds at index `j` of its block. -/
def at_ (t : Fin cfg0.N) (j : S785x256.Idx) : S785x1024.Idx :=
  ix2 (j 0) ⟨t.val * 256 + (j 1).val, by
    have h : t.val < 4 := N_0 ▸ t.isLt
    have : (j 1).val < 256 := (j 1).isLt
    omega⟩

/-- Every index of the array is some point's. -/
theorem exists_at (i : S785x1024.Idx) : ∃ (t : Fin cfg0.N) (j : S785x256.Idx), at_ t j = i := by
  have h1 : (i 1).val < 1024 := (i 1).isLt
  refine ⟨⟨(i 1).val / 256, by rw [show cfg0.N = 4 from N_0]; omega⟩, ix2 (i 0) ⟨(i 1).val % 256, by omega⟩, ?_⟩
  funext a; apply Fin.ext
  match a with
  | ⟨0, _⟩ => rfl
  | ⟨1, _⟩ => show (i 1).val / 256 * 256 + (i 1).val % 256 = (i 1).val; omega

/-- Where a result's block lies. -/
theorem emb4 (t : Fin cfg0.N) (j : S785x256.Idx) : ((cfg0.win 4).blk t).view.emb j = at_ t j := by
  have hi : win0_4.index t (0 : Fin 2) = 0 ∧ win0_4.index t (1 : Fin 2) = t.val := by
    rcases fin_N0 t with rfl | rfl | rfl | rfl <;> decide
  funext a; apply Fin.ext
  match a with
  | ⟨0, _⟩ => show win0_4.index t 0 * 785 + 1 * (j 0).val = (j 0).val; rw [hi.1]; omega
  | ⟨1, _⟩ => show win0_4.index t 1 * 256 + 1 * (j 1).val = t.val * 256 + (j 1).val; rw [hi.2]; omega

/-- The parts at a point. -/
abbrev parts (c : Dev nD) (t : Fin cfg0.N) : Vec Ideal S4x785x256 .bf16 := iblk m c 0 t

/-- The parts at a point are those of the array. -/
theorem block0 (c : Dev nD) (t : Fin cfg0.N) (j : S785x256.Idx) (k : Fin 4) :
    parts m c t (ix3 k (j 0) (j 1)) = m ((c : Thread nD τ).loc main_arg0) (ix3 k (at_ t j 0) (at_ t j 1)) := by
  have hi : win0_0.index t (0 : Fin 3) = 0 ∧ win0_0.index t (1 : Fin 3) = 0 ∧ win0_0.index t (2 : Fin 3) = t.val := by
    rcases fin_N0 t with rfl | rfl | rfl | rfl <;> decide
  show V m c main_arg0 (((cfg0.win 0).blk t).view.emb (ix3 k (j 0) (j 1))) = _
  rw [V_main_arg0]
  congr 1
  funext a; apply Fin.ext
  match a with
  | ⟨0, _⟩ => show win0_0.index t 0 * 4 + 1 * k.val = k.val; rw [hi.1]; omega
  | ⟨1, _⟩ => show win0_0.index t 1 * 785 + 1 * (j 0).val = (j 0).val; rw [hi.2.1]; omega
  | ⟨2, _⟩ => show win0_0.index t 2 * 256 + 1 * (j 1).val = t.val * 256 + (j 1).val; rw [hi.2.2]; omega

/-- The weights at a point. -/
theorem block1 (c : Dev nD) (t : Fin cfg0.N) (j : S785x256.Idx) :
    iblk m c 1 t j = m ((c : Thread nD τ).loc main_arg1) (at_ t j) :=
  (congrArg (V m c main_arg1) (emb4 t j)).trans (congrFun (V_main_arg1 m c) _)

/-- The first moment at a point. -/
theorem block2 (c : Dev nD) (t : Fin cfg0.N) (j : S785x256.Idx) :
    iblk m c 2 t j = m ((c : Thread nD τ).loc main_arg2) (at_ t j) :=
  (congrArg (V m c main_arg2) (emb4 t j)).trans (congrFun (V_main_arg2 m c) _)

/-- The second moment at a point. -/
theorem block3 (c : Dev nD) (t : Fin cfg0.N) (j : S785x256.Idx) :
    iblk m c 3 t j = m ((c : Thread nD τ).loc main_arg3) (at_ t j) :=
  (congrArg (V m c main_arg3) (emb4 t j)).trans (congrFun (V_main_arg3 m c) _)

/-- The reference's gradient, read in a point's block. -/
theorem sum_apply (c : Dev nD) (t : Fin cfg0.N) (j : S785x256.Idx) :
    ∑ k : Fin 4, parts m c t (ix3 k (j 0) (j 1))
      = val_main_v1 (F := Ideal) (m ((c : Thread nD τ).loc main_arg0)) (at_ t j) := by
  rw [val_main_v1_apply]
  refine Eq.symm ((congrArg (fun z : EReal => z + _) Ideal.ofBits_zero_f32).trans ((zero_add (M := EReal) _).trans ?_))
  refine Finset.sum_congr rfl fun k _ => Eq.trans (congrArg (m ((c : Thread nD τ).loc main_arg0)) ?_) (block0 m c t j k).symm
  funext a; match a with | ⟨0, _⟩ => rfl | ⟨1, _⟩ => rfl | ⟨2, _⟩ => rfl

/-- The gradient. -/
theorem final4 (c : Dev nD) :
    (dats m 0 c).arrAt 4 cfg0.N = val_main_v1 (F := Ideal) (m ((c : Thread nD τ).loc main_arg0)) := by
  refine (dats m 0 c).arrAt_eq_of_cover 4 _ (fun t _ => funext fun j => ?_) fun i => ?_
  · rw [flushed4]
    refine Eq.trans ?_ (congrArg (val_main_v1 (F := Ideal) (m ((c : Thread nD τ).loc main_arg0))) (emb4 t j).symm)
    exact (out4_apply _ _ _ _ j).trans (sum_apply m c t j)
  · obtain ⟨t, j, rfl⟩ := exists_at i
    exact ⟨t, flush0_4 t, emb4 t j ▸ ((cfg0.win 4).blk t).view.emb_mem_set j⟩

/-- The weight's change. -/
theorem final5 (c : Dev nD) :
    (dats m 0 c).arrAt 5 cfg0.N = val_main_v25 (F := Ideal) (m ((c : Thread nD τ).loc main_arg0))
      (m ((c : Thread nD τ).loc main_arg1)) (m ((c : Thread nD τ).loc main_arg2)) (m ((c : Thread nD τ).loc main_arg3)) := by
  refine (dats m 0 c).arrAt_eq_of_cover 5 _ (fun t _ => funext fun j => ?_) fun i => ?_
  · rw [flushed5]
    refine Eq.trans ?_ (congrArg (val_main_v25 (F := Ideal) (m ((c : Thread nD τ).loc main_arg0))
      (m ((c : Thread nD τ).loc main_arg1)) (m ((c : Thread nD τ).loc main_arg2)) (m ((c : Thread nD τ).loc main_arg3))) (emb4 t j).symm)
    refine (out5_apply _ _ _ _ j).trans ?_
    rw [sum_apply, block1, block2, block3]
    rfl
  · obtain ⟨t, j, rfl⟩ := exists_at i
    exact ⟨t, flush0_5 t, emb4 t j ▸ ((cfg0.win 5).blk t).view.emb_mem_set j⟩

/-- The first moment. -/
theorem final6 (c : Dev nD) :
    (dats m 0 c).arrAt 6 cfg0.N = val_main_v6 (F := Ideal) (m ((c : Thread nD τ).loc main_arg0))
      (m ((c : Thread nD τ).loc main_arg2)) := by
  refine (dats m 0 c).arrAt_eq_of_cover 6 _ (fun t _ => funext fun j => ?_) fun i => ?_
  · rw [flushed6]
    refine Eq.trans ?_ (congrArg (val_main_v6 (F := Ideal) (m ((c : Thread nD τ).loc main_arg0))
      (m ((c : Thread nD τ).loc main_arg2))) (emb4 t j).symm)
    refine (out6_apply _ _ _ _ j).trans ?_
    rw [sum_apply, block2]
    rfl
  · obtain ⟨t, j, rfl⟩ := exists_at i
    exact ⟨t, flush0_6 t, emb4 t j ▸ ((cfg0.win 6).blk t).view.emb_mem_set j⟩

/-- The second moment. -/
theorem final7 (c : Dev nD) :
    (dats m 0 c).arrAt 7 cfg0.N = val_main_v12 (F := Ideal) (m ((c : Thread nD τ).loc main_arg0))
      (m ((c : Thread nD τ).loc main_arg3)) := by
  refine (dats m 0 c).arrAt_eq_of_cover 7 _ (fun t _ => funext fun j => ?_) fun i => ?_
  · rw [flushed7]
    refine Eq.trans ?_ (congrArg (val_main_v12 (F := Ideal) (m ((c : Thread nD τ).loc main_arg0))
      (m ((c : Thread nD τ).loc main_arg3))) (emb4 t j).symm)
    refine (out7_apply _ _ _ _ j).trans ?_
    rw [sum_apply, block3]
    rfl
  · obtain ⟨t, j, rfl⟩ := exists_at i
    exact ⟨t, flush0_7 t, emb4 t j ▸ ((cfg0.win 7).blk t).view.emb_mem_set j⟩

/-- The kernel's four results are the reference's. -/
theorem algebraic : Cert.algebraic_Kernel11Ideal_Reference11Ideal := by
  intro m ρ m' ρ' _ hagree
  refine ⟨_, _, _, _, run_blocks (F := Ideal) m ρ, ?_⟩
  refine (θ_run Cert.Reference11Ideal.defs _ _).mono (fun _ h c => ⟨(h c).1.trans ?_, (h c).2.1.trans ?_,
    (h c).2.2.1.trans ?_, (h c).2.2.2.1.trans ?_, (h c).2.2.2.2⟩) (Cert.Reference11Ideal.Value.run (F := Ideal) m' ρ')
  · rw [(hagree c).1]
    exact (final4 m c).symm
  · rw [(hagree c).1, (hagree c).2.1, (hagree c).2.2.1, (hagree c).2.2.2]
    exact (final5 m c).symm
  · rw [(hagree c).1, (hagree c).2.2.1]
    exact (final6 m c).symm
  · rw [(hagree c).1, (hagree c).2.2.2]
    exact (final7 m c).symm

end Cert.Kernel11Ideal.Value

end
-- ==== Proof.Adam12.lean ====
/-
  The optimiser step of the recurrence's small square weights: one point holds the whole of every array.
-/
module

public import proofs.«01_k».proof.Defs
public import proofs.«01_k».proof.Proof.Adam
public import proofs.«01_k».proof.Proof.Gen.Kernel12Ideal.Value
public import proofs.«01_k».proof.Proof.Gen.Reference12Ideal.Read

@[expose] public section

noncomputable section

namespace Cert.Kernel12Ideal.Value

open Cert.Kernel12Ideal Cert.Kernel12Ideal.Gen Idealize.ShloMosaic Idealize.ShloMosaic.TcCoe Idealize.SL.Sem
open Idealize.ShloMosaic.ValueIdx
open Cert.Reference12Ideal.Read

variable (a0 : Vec Ideal S4x64x64 .bf16) (a1 a2 a3 : Vec Ideal S64x64 .f32) (j : S64x64.Idx)

/-- The reference's gradient is the sum of the parts. -/
theorem sum_apply : val_main_v1 (F := Ideal) a0 j = ∑ k : Fin 4, a0 (ix3 k (j 0) (j 1)) := by
  rw [val_main_v1_apply]
  refine (congrArg (fun z : EReal => z + _) Ideal.ofBits_zero_f32).trans ((zero_add (M := EReal) _).trans ?_)
  refine Finset.sum_congr rfl fun k _ => congrArg (a0 : _ → EReal) ?_
  funext a; match a with | ⟨0, _⟩ => rfl | ⟨1, _⟩ => rfl | ⟨2, _⟩ => rfl

/-- The gradient is the reference's. -/
theorem grad_apply : G4 (F := Ideal) a0 a1 a2 a3 j = val_main_v1 (F := Ideal) a0 j :=
  (Adam.parts4 a0 _ _ _ _ _ _ j).trans (sum_apply a0 j).symm

/-- The first moment is the reference's. -/
theorem m_apply : G6 (F := Ideal) a0 a1 a2 a3 j = val_main_v6 (F := Ideal) a0 a2 j :=
  congrArg (fun g : EReal => Adam.newM g (a2 j)) (grad_apply a0 a1 a2 a3 j)

/-- The second moment is the reference's. -/
theorem v_apply : G7 (F := Ideal) a0 a1 a2 a3 j = val_main_v12 (F := Ideal) a0 a3 j :=
  congrArg₂ (fun g v : EReal => Adam.newV g v) (grad_apply a0 a1 a2 a3 j)
    (congrFun (View.ld_unit_zero (S := S64x64) hz3 _ a3) j)

/-- The weight's change is the reference's. -/
theorem delta_apply : G5 (F := Ideal) a0 a1 a2 a3 j = val_main_v25 (F := Ideal) a0 a1 a2 a3 j :=
  (Adam.delta_eq _ (a1 j) (a2 j) (View.ld a3 r0_4 j) _ _ (IdealRules.named_const.ideal_named_scalar _ _ _ _ rfl)
      (IdealRules.named_const.ideal_named_scalar _ _ _ _ rfl)).trans
    (congrArg₂ (fun g v : EReal => Adam.delta g (a1 j) (a2 j) v) (grad_apply a0 a1 a2 a3 j)
      (congrFun (View.ld_unit_zero (S := S64x64) hz3 _ a3) j))

/-- The kernel's four results are the reference's. -/
theorem algebraic : Cert.algebraic_Kernel12Ideal_Reference12Ideal := by
  intro m ρ m' ρ' _ hagree
  refine ⟨_, _, _, _, run (F := Ideal) m ρ, ?_⟩
  refine (θ_run Cert.Reference12Ideal.defs _ _).mono (fun _ h c => ⟨(h c).1.trans ?_, (h c).2.1.trans ?_,
    (h c).2.2.1.trans ?_, (h c).2.2.2.1.trans ?_, (h c).2.2.2.2⟩) (Cert.Reference12Ideal.Value.run (F := Ideal) m' ρ')
  · rw [(hagree c).1]
    exact (funext (grad_apply _ _ _ _)).symm
  · rw [(hagree c).1, (hagree c).2.1, (hagree c).2.2.1, (hagree c).2.2.2]
    exact (funext (delta_apply _ _ _ _)).symm
  · rw [(hagree c).1, (hagree c).2.2.1]
    exact (funext (m_apply _ _ _ _)).symm
  · rw [(hagree c).1, (hagree c).2.2.2]
    exact (funext (v_apply _ _ _ _)).symm

end Cert.Kernel12Ideal.Value

end
-- ==== Proof.Adam13.lean ====
/-
  The optimiser step of the convolution's weights: one point holds the whole of every array.
-/
module

public import proofs.«01_k».proof.Defs
public import proofs.«01_k».proof.Proof.Adam
public import proofs.«01_k».proof.Proof.Gen.Kernel13Ideal.Value
public import proofs.«01_k».proof.Proof.Gen.Reference13Ideal.Read

@[expose] public section

noncomputable section

namespace Cert.Kernel13Ideal.Value

open Cert.Kernel13Ideal Cert.Kernel13Ideal.Gen Idealize.ShloMosaic Idealize.ShloMosaic.TcCoe Idealize.SL.Sem
open Idealize.ShloMosaic.ValueIdx
open Cert.Reference13Ideal.Read

variable (a0 : Vec Ideal S4x4x192 .bf16) (a1 a2 a3 : Vec Ideal S4x192 .f32) (j : S4x192.Idx)

/-- The reference's gradient is the sum of the parts. -/
theorem sum_apply : val_main_v1 (F := Ideal) a0 j = ∑ k : Fin 4, a0 (ix3 k (j 0) (j 1)) := by
  rw [val_main_v1_apply]
  refine (congrArg (fun z : EReal => z + _) Ideal.ofBits_zero_f32).trans ((zero_add (M := EReal) _).trans ?_)
  refine Finset.sum_congr rfl fun k _ => congrArg (a0 : _ → EReal) ?_
  funext a; match a with | ⟨0, _⟩ => rfl | ⟨1, _⟩ => rfl | ⟨2, _⟩ => rfl

/-- The gradient is the reference's. -/
theorem grad_apply : G4 (F := Ideal) a0 a1 a2 a3 j = val_main_v1 (F := Ideal) a0 j :=
  (Adam.parts4 a0 _ _ _ _ _ _ j).trans (sum_apply a0 j).symm

/-- The first moment is the reference's. -/
theorem m_apply : G6 (F := Ideal) a0 a1 a2 a3 j = val_main_v6 (F := Ideal) a0 a2 j :=
  congrArg (fun g : EReal => Adam.newM g (a2 j)) (grad_apply a0 a1 a2 a3 j)

/-- The second moment is the reference's. -/
theorem v_apply : G7 (F := Ideal) a0 a1 a2 a3 j = val_main_v12 (F := Ideal) a0 a3 j :=
  congrArg₂ (fun g v : EReal => Adam.newV g v) (grad_apply a0 a1 a2 a3 j)
    (congrFun (View.ld_unit_zero (S := S4x192) hz3 _ a3) j)

/-- The weight's change is the reference's. -/
theorem delta_apply : G5 (F := Ideal) a0 a1 a2 a3 j = val_main_v25 (F := Ideal) a0 a1 a2 a3 j :=
  (Adam.delta_eq _ (a1 j) (a2 j) (View.ld a3 r0_4 j) _ _ (IdealRules.named_const.ideal_named_scalar _ _ _ _ rfl)
      (IdealRules.named_const.ideal_named_scalar _ _ _ _ rfl)).trans
    (congrArg₂ (fun g v : EReal => Adam.delta g (a1 j) (a2 j) v) (grad_apply a0 a1 a2 a3 j)
      (congrFun (View.ld_unit_zero (S := S4x192) hz3 _ a3) j))

/-- The kernel's four results are the reference's. -/
theorem algebraic : Cert.algebraic_Kernel13Ideal_Reference13Ideal := by
  intro m ρ m' ρ' _ hagree
  refine ⟨_, _, _, _, run (F := Ideal) m ρ, ?_⟩
  refine (θ_run Cert.Reference13Ideal.defs _ _).mono (fun _ h c => ⟨(h c).1.trans ?_, (h c).2.1.trans ?_,
    (h c).2.2.1.trans ?_, (h c).2.2.2.1.trans ?_, (h c).2.2.2.2⟩) (Cert.Reference13Ideal.Value.run (F := Ideal) m' ρ')
  · rw [(hagree c).1]
    exact (funext (grad_apply _ _ _ _)).symm
  · rw [(hagree c).1, (hagree c).2.1, (hagree c).2.2.1, (hagree c).2.2.2]
    exact (funext (delta_apply _ _ _ _)).symm
  · rw [(hagree c).1, (hagree c).2.2.1]
    exact (funext (m_apply _ _ _ _)).symm
  · rw [(hagree c).1, (hagree c).2.2.2]
    exact (funext (v_apply _ _ _ _)).symm

end Cert.Kernel13Ideal.Value

end
-- ==== Proof.Adam14.lean ====
/-
  The optimiser step of a branch's output weights. Each point has a block of rows; the step is taken element by element,
  so that a block of the result is the step of the blocks.
-/
module

public import proofs.«01_k».proof.Defs
public import proofs.«01_k».proof.Proof.Adam
public import proofs.«01_k».proof.Proof.Gen.Kernel14Ideal.Value
public import proofs.«01_k».proof.Proof.Gen.Reference14Ideal.Read

@[expose] public section

noncomputable section

namespace Cert.Kernel14Ideal.Value

open Cert.Kernel14Ideal Cert.Kernel14Ideal.Gen Idealize.ShloMosaic Idealize.ShloMosaic.TcCoe Idealize.SL.Sem
open Idealize.ShloMosaic.ValueIdx
open Cert.Reference14Ideal.Read

/-! ## A point's blocks -/

section Point

variable (x0 : Vec Ideal S8x256x128 .f32) (x1 x2 x3 : Vec Ideal S256x128 .f32) (j : S256x128.Idx)

theorem offsets : (![0, 0] : Fin 2 → Nat) = fun _ => 0 := funext fun a => by fin_cases a <;> rfl

/-- The whole of a block, loaded. -/
theorem load (x : Vec Ideal S256x128 .f32) : View.ld x r0_8 = x := View.ld_unit_zero (S := S256x128) offsets _ x

/-- The gradient is the sum of the parts. -/
theorem out4_apply : out0_4 x0 x1 x2 x3 j = ∑ k : Fin 8, x0 (ix3 k (j 0) (j 1)) := by
  unfold out0_4
  rw [View.canon_unit_zero offsets]
  exact Adam.parts8 x0 _ _ _ _ _ _ _ _ _ j

/-- The weight's change. -/
theorem out5_apply : out0_5 x0 x1 x2 x3 j = Adam.delta (∑ k : Fin 8, x0 (ix3 k (j 0) (j 1))) (x1 j) (x2 j) (x3 j) := by
  unfold out0_5 k0_pay5
  rw [View.canon_unit_zero offsets, load, load, load, ← Adam.parts8 x0 _ _ _ _ _ _ _ _ shapeCasts_S1x256x128_S256x128 j]
  exact Adam.delta_eq _ _ _ _ _ _ (IdealRules.named_const.ideal_named_scalar _ _ _ _ rfl)
    (IdealRules.named_const.ideal_named_scalar _ _ _ _ rfl)

/-- The first moment. -/
theorem out6_apply : out0_6 x0 x1 x2 x3 j = Adam.newM (∑ k : Fin 8, x0 (ix3 k (j 0) (j 1))) (x2 j) := by
  unfold out0_6
  rw [View.canon_unit_zero offsets, load]
  exact congrArg (fun g : EReal => Adam.newM g (x2 j)) (Adam.parts8 x0 _ _ _ _ _ _ _ _ _ j)

/-- The second moment. -/
theorem out7_apply : out0_7 x0 x1 x2 x3 j = Adam.newV (∑ k : Fin 8, x0 (ix3 k (j 0) (j 1))) (x3 j) := by
  unfold out0_7 k0_pay5
  rw [View.canon_unit_zero offsets, load]
  exact congrArg (fun g : EReal => Adam.newV g (x3 j)) (Adam.parts8 x0 _ _ _ _ _ _ _ _ _ j)

end Point

/-! ## The arrays -/

variable (m : (ℓ : Loc nD τ sig) → Buf (Elt Ideal) ℓ)

/-- The index of the array that point `t` holds at index `j` of its block. -/
def at_ (t : Fin cfg0.N) (j : S256x128.Idx) : S512x128.Idx :=
  ix2 ⟨t.val * 256 + (j 0).val, by
    have h : t.val < 2 := N_0 ▸ t.isLt
    have : (j 0).val < 256 := (j 0).isLt
    omega⟩ (j 1)

/-- Every index of the array is some point's. -/
theorem exists_at (i : S512x128.Idx) : ∃ (t : Fin cfg0.N) (j : S256x128.Idx), at_ t j = i := by
  have h0 : (i 0).val < 512 := (i 0).isLt
  refine ⟨⟨(i 0).val / 256, by rw [show cfg0.N = 2 from N_0]; omega⟩, ix2 ⟨(i 0).val % 256, by omega⟩ (i 1), ?_⟩
  funext a; apply Fin.ext
  match a with
  | ⟨0, _⟩ => show (i 0).val / 256 * 256 + (i 0).val % 256 = (i 0).val; omega
  | ⟨1, _⟩ => rfl

/-- Where a result's block lies. -/
theorem emb4 (t : Fin cfg0.N) (j : S256x128.Idx) : ((cfg0.win 4).blk t).view.emb j = at_ t j := by
  have hi : win0_4.index t (0 : Fin 2) = t.val ∧ win0_4.index t (1 : Fin 2) = 0 := by
    rcases fin_N0 t with rfl | rfl <;> decide
  funext a; apply Fin.ext
  match a with
  | ⟨0, _⟩ => show win0_4.index t 0 * 256 + 1 * (j 0).val = t.val * 256 + (j 0).val; rw [hi.1]; omega
  | ⟨1, _⟩ => show win0_4.index t 1 * 128 + 1 * (j 1).val = (j 1).val; rw [hi.2]; omega

/-- The parts at a point. -/
abbrev parts (c : Dev nD) (t : Fin cfg0.N) : Vec Ideal S8x256x128 .f32 := iblk m c 0 t

/-- The parts at a point are those of the array. -/
theorem block0 (c : Dev nD) (t : Fin cfg0.N) (j : S256x128.Idx) (k : Fin 8) :
    parts m c t (ix3 k (j 0) (j 1)) = m ((c : Thread nD τ).loc main_arg0) (ix3 k (at_ t j 0) (at_ t j 1)) := by
  have hi : win0_0.index t (0 : Fin 3) = 0 ∧ win0_0.index t (1 : Fin 3) = t.val ∧ win0_0.index t (2 : Fin 3) = 0 := by
    rcases fin_N0 t with rfl | rfl <;> decide
  show V m c main_arg0 (((cfg0.win 0).blk t).view.emb (ix3 k (j 0) (j 1))) = _
  rw [V_main_arg0]
  congr 1
  funext a; apply Fin.ext
  match a with
  | ⟨0, _⟩ => show win0_0.index t 0 * 8 + 1 * k.val = k.val; rw [hi.1]; omega
  | ⟨1, _⟩ => show win0_0.index t 1 * 256 + 1 * (j 0).val = t.val * 256 + (j 0).val; rw [hi.2.1]; omega
  | ⟨2, _⟩ => show win0_0.index t 2 * 128 + 1 * (j 1).val = (j 1).val; rw [hi.2.2]; omega

/-- The weights at a point. -/
theorem block1 (c : Dev nD) (t : Fin cfg0.N) (j : S256x128.Idx) :
    iblk m c 1 t j = m ((c : Thread nD τ).loc main_arg1) (at_ t j) :=
  (congrArg (V m c main_arg1) (emb4 t j)).trans (congrFun (V_main_arg1 m c) _)

/-- The first moment at a point. -/
theorem block2 (c : Dev nD) (t : Fin cfg0.N) (j : S256x128.Idx) :
    iblk m c 2 t j = m ((c : Thread nD τ).loc main_arg2) (at_ t j) :=
  (congrArg (V m c main_arg2) (emb4 t j)).trans (congrFun (V_main_arg2 m c) _)

/-- The second moment at a point. -/
theorem block3 (c : Dev nD) (t : Fin cfg0.N) (j : S256x128.Idx) :
    iblk m c 3 t j = m ((c : Thread nD τ).loc main_arg3) (at_ t j) :=
  (congrArg (V m c main_arg3) (emb4 t j)).trans (congrFun (V_main_arg3 m c) _)

/-- The reference's gradient, read in a point's block. -/
theorem sum_apply (c : Dev nD) (t : Fin cfg0.N) (j : S256x128.Idx) :
    ∑ k : Fin 8, parts m c t (ix3 k (j 0) (j 1))
      = val_main_v0 (F := Ideal) (m ((c : Thread nD τ).loc main_arg0)) (at_ t j) := by
  rw [val_main_v0_apply]
  refine Eq.symm ((congrArg (fun z : EReal => z + _) Ideal.ofBits_zero_f32).trans ((zero_add (M := EReal) _).trans ?_))
  refine Finset.sum_congr rfl fun k _ => Eq.trans (congrArg (m ((c : Thread nD τ).loc main_arg0)) ?_) (block0 m c t j k).symm
  funext a; match a with | ⟨0, _⟩ => rfl | ⟨1, _⟩ => rfl | ⟨2, _⟩ => rfl

/-- The gradient. -/
theorem final4 (c : Dev nD) :
    (dats m 0 c).arrAt 4 cfg0.N = val_main_v0 (F := Ideal) (m ((c : Thread nD τ).loc main_arg0)) := by
  refine (dats m 0 c).arrAt_eq_of_cover 4 _ (fun t _ => funext fun j => ?_) fun i => ?_
  · rw [flushed4]
    refine Eq.trans ?_ (congrArg (val_main_v0 (F := Ideal) (m ((c : Thread nD τ).loc main_arg0))) (emb4 t j).symm)
    exact (out4_apply _ _ _ _ j).trans (sum_apply m c t j)
  · obtain ⟨t, j, rfl⟩ := exists_at i
    exact ⟨t, flush0_4 t, emb4 t j ▸ ((cfg0.win 4).blk t).view.emb_mem_set j⟩

/-- The weight's change. -/
theorem final5 (c : Dev nD) :
    (dats m 0 c).arrAt 5 cfg0.N = val_main_v24 (F := Ideal) (m ((c : Thread nD τ).loc main_arg0))
      (m ((c : Thread nD τ).loc main_arg1)) (m ((c : Thread nD τ).loc main_arg2)) (m ((c : Thread nD τ).loc main_arg3)) := by
  refine (dats m 0 c).arrAt_eq_of_cover 5 _ (fun t _ => funext fun j => ?_) fun i => ?_
  · rw [flushed5]
    refine Eq.trans ?_ (congrArg (val_main_v24 (F := Ideal) (m ((c : Thread nD τ).loc main_arg0))
      (m ((c : Thread nD τ).loc main_arg1)) (m ((c : Thread nD τ).loc main_arg2)) (m ((c : Thread nD τ).loc main_arg3))) (emb4 t j).symm)
    refine (out5_apply _ _ _ _ j).trans ?_
    rw [sum_apply, block1, block2, block3]
    rfl
  · obtain ⟨t, j, rfl⟩ := exists_at i
    exact ⟨t, flush0_5 t, emb4 t j ▸ ((cfg0.win 5).blk t).view.emb_mem_set j⟩

/-- The first moment. -/
theorem final6 (c : Dev nD) :
    (dats m 0 c).arrAt 6 cfg0.N = val_main_v5 (F := Ideal) (m ((c : Thread nD τ).loc main_arg0))
      (m ((c : Thread nD τ).loc main_arg2)) := by
  refine (dats m 0 c).arrAt_eq_of_cover 6 _ (fun t _ => funext fun j => ?_) fun i => ?_
  · rw [flushed6]
    refine Eq.trans ?_ (congrArg (val_main_v5 (F := Ideal) (m ((c : Thread nD τ).loc main_arg0))
      (m ((c : Thread nD τ).loc main_arg2))) (emb4 t j).symm)
    refine (out6_apply _ _ _ _ j).trans ?_
    rw [sum_apply, block2]
    rfl
  · obtain ⟨t, j, rfl⟩ := exists_at i
    exact ⟨t, flush0_6 t, emb4 t j ▸ ((cfg0.win 6).blk t).view.emb_mem_set j⟩

/-- The second moment. -/
theorem final7 (c : Dev nD) :
    (dats m 0 c).arrAt 7 cfg0.N = val_main_v11 (F := Ideal) (m ((c : Thread nD τ).loc main_arg0))
      (m ((c : Thread nD τ).loc main_arg3)) := by
  refine (dats m 0 c).arrAt_eq_of_cover 7 _ (fun t _ => funext fun j => ?_) fun i => ?_
  · rw [flushed7]
    refine Eq.trans ?_ (congrArg (val_main_v11 (F := Ideal) (m ((c : Thread nD τ).loc main_arg0))
      (m ((c : Thread nD τ).loc main_arg3))) (emb4 t j).symm)
    refine (out7_apply _ _ _ _ j).trans ?_
    rw [sum_apply, block3]
    rfl
  · obtain ⟨t, j, rfl⟩ := exists_at i
    exact ⟨t, flush0_7 t, emb4 t j ▸ ((cfg0.win 7).blk t).view.emb_mem_set j⟩

/-- The kernel's four results are the reference's. -/
theorem algebraic : Cert.algebraic_Kernel14Ideal_Reference14Ideal := by
  intro m ρ m' ρ' _ hagree
  refine ⟨_, _, _, _, run_blocks (F := Ideal) m ρ, ?_⟩
  refine (θ_run Cert.Reference14Ideal.defs _ _).mono (fun _ h c => ⟨(h c).1.trans ?_, (h c).2.1.trans ?_,
    (h c).2.2.1.trans ?_, (h c).2.2.2.1.trans ?_, (h c).2.2.2.2⟩) (Cert.Reference14Ideal.Value.run (F := Ideal) m' ρ')
  · rw [(hagree c).1]
    exact (final4 m c).symm
  · rw [(hagree c).1, (hagree c).2.1, (hagree c).2.2.1, (hagree c).2.2.2]
    exact (final5 m c).symm
  · rw [(hagree c).1, (hagree c).2.2.1]
    exact (final6 m c).symm
  · rw [(hagree c).1, (hagree c).2.2.2]
    exact (final7 m c).symm

end Cert.Kernel14Ideal.Value

end
-- ==== Proof.Adam15.lean ====
/-
  The optimiser step of the output projection's weights: one point holds the whole of every array.
-/
module

public import proofs.«01_k».proof.Defs
public import proofs.«01_k».proof.Proof.Adam
public import proofs.«01_k».proof.Proof.Gen.Kernel15Ideal.Value
public import proofs.«01_k».proof.Proof.Gen.Reference15Ideal.Read

@[expose] public section

noncomputable section

namespace Cert.Kernel15Ideal.Value

open Cert.Kernel15Ideal Cert.Kernel15Ideal.Gen Idealize.ShloMosaic Idealize.ShloMosaic.TcCoe Idealize.SL.Sem
open Idealize.ShloMosaic.ValueIdx
open Cert.Reference15Ideal.Read

variable (a0 : Vec Ideal S8x128x1024 .f32) (a1 a2 a3 : Vec Ideal S128x1024 .f32) (j : S128x1024.Idx)

/-- The reference's gradient is the sum of the parts. -/
theorem sum_apply : val_main_v0 (F := Ideal) a0 j = ∑ k : Fin 8, a0 (ix3 k (j 0) (j 1)) := by
  rw [val_main_v0_apply]
  refine (congrArg (fun z : EReal => z + _) Ideal.ofBits_zero_f32).trans ((zero_add (M := EReal) _).trans ?_)
  refine Finset.sum_congr rfl fun k _ => congrArg (a0 : _ → EReal) ?_
  funext a; match a with | ⟨0, _⟩ => rfl | ⟨1, _⟩ => rfl | ⟨2, _⟩ => rfl

/-- The gradient is the reference's. -/
theorem grad_apply : G4 (F := Ideal) a0 a1 a2 a3 j = val_main_v0 (F := Ideal) a0 j :=
  (Adam.parts8 a0 _ _ _ _ _ _ _ _ _ j).trans (sum_apply a0 j).symm

/-- The first moment is the reference's. -/
theorem m_apply : G6 (F := Ideal) a0 a1 a2 a3 j = val_main_v5 (F := Ideal) a0 a2 j :=
  congrArg (fun g : EReal => Adam.newM g (a2 j)) (grad_apply a0 a1 a2 a3 j)

/-- The second moment is the reference's. -/
theorem v_apply : G7 (F := Ideal) a0 a1 a2 a3 j = val_main_v11 (F := Ideal) a0 a3 j :=
  congrArg (fun g : EReal => Adam.newV g (a3 j)) (grad_apply a0 a1 a2 a3 j)

/-- The weight's change is the reference's. -/
theorem delta_apply : G5 (F := Ideal) a0 a1 a2 a3 j = val_main_v24 (F := Ideal) a0 a1 a2 a3 j :=
  (Adam.delta_eq _ (a1 j) (a2 j) (a3 j) _ _ (IdealRules.named_const.ideal_named_scalar _ _ _ _ rfl)
      (IdealRules.named_const.ideal_named_scalar _ _ _ _ rfl)).trans
    (congrArg (fun g : EReal => Adam.delta g (a1 j) (a2 j) (a3 j)) (grad_apply a0 a1 a2 a3 j))

/-- The kernel's four results are the reference's. -/
theorem algebraic : Cert.algebraic_Kernel15Ideal_Reference15Ideal := by
  intro m ρ m' ρ' _ hagree
  refine ⟨_, _, _, _, run (F := Ideal) m ρ, ?_⟩
  refine (θ_run Cert.Reference15Ideal.defs _ _).mono (fun _ h c => ⟨(h c).1.trans ?_, (h c).2.1.trans ?_,
    (h c).2.2.1.trans ?_, (h c).2.2.2.1.trans ?_, (h c).2.2.2.2⟩) (Cert.Reference15Ideal.Value.run (F := Ideal) m' ρ')
  · rw [(hagree c).1]
    exact (funext (grad_apply _ _ _ _)).symm
  · rw [(hagree c).1, (hagree c).2.1, (hagree c).2.2.1, (hagree c).2.2.2]
    exact (funext (delta_apply _ _ _ _)).symm
  · rw [(hagree c).1, (hagree c).2.2.1]
    exact (funext (m_apply _ _ _ _)).symm
  · rw [(hagree c).1, (hagree c).2.2.2]
    exact (funext (v_apply _ _ _ _)).symm

end Cert.Kernel15Ideal.Value

end
-- ==== Proof.Norm16.lean ====
/-
  The normalisation of the input rows: each of four points scales its 1024 rows by the reciprocal root of their mean square and
  by the weights, and writes its own block. Row by row this is the reference's normalisation.
-/
module

public import proofs.«01_k».proof.Defs
public import proofs.«01_k».proof.Proof.Lines
public import proofs.«01_k».proof.Proof.Gen.Kernel16Ideal.Value
public import proofs.«01_k».proof.Proof.Gen.Reference16Ideal.Read
public import Idealize.ShloMosaic.Lib.Tactic

@[expose] public section

noncomputable section

namespace Cert.Kernel16Ideal.Value

open Cert.Kernel16Ideal Cert.Kernel16Ideal.Gen Idealize.ShloMosaic Idealize.ShloMosaic.TcCoe Idealize.SL.Sem
open Idealize.ShloMosaic.ValueIdx
open Cert.Reference16Ideal.Read

/-- An element of a normalised row, from the row, the weights and the column. -/
def normed (x : Fin 1024 → EReal) (g : Fin 1024 → EReal) (q : Fin 1024) : EReal :=
  x q * Ideal.rsqrt (Ideal.div (∑ l : Fin 1024, x l * x l) (Ideal.ofBits .f32 0x44800000#32) + Ideal.ofBits .f32 0x358637BD#32) * g q

/-- What a point computes from its rows. -/
theorem pay_apply (x : Vec Ideal S1024x1024 .f32) (g : Vec Ideal S1x1024 .f32) (j : S1024x1024.Idx) :
    k0_pay1 x g j = normed (fun l => x (ix2 (j 0) l)) (fun l => g (ix2 0 l)) (j 1) := by
  unfold k0_pay1 normed
  refine congrArg₂ (fun a b : EReal => a * b) (congrArg₂ (fun a b : EReal => a * b) (congrArg (x : _ → EReal) ?_) ?_)
    (Lines.spreadRow g broadcasts_S1x1024_S1024x1024 j)
  · funext a; match a with | ⟨0, _⟩ => rfl | ⟨1, _⟩ => rfl
  · refine (Lines.spreadCol _ broadcasts_S1024x1_S1024x1024 j).trans ?_
    exact congrArg (fun s : EReal => Ideal.rsqrt (Ideal.div s (Ideal.ofBits .f32 0x44800000#32) + Ideal.ofBits .f32 0x358637BD#32))
      (Lines.rowSum _ reduces_S1024x1024_S1024 _ _ shapeCasts_S1024_S1024x1 _)

/-- What the reference computes. -/
theorem ref_apply (x : Vec Ideal S4096x1024 .f32) (g : Vec Ideal S1x1024 .f32) (i : S4096x1024.Idx) :
    val_main_v12 (F := Ideal) x g i = normed (fun l => x (ix2 (i 0) l)) (fun l => g (ix2 0 l)) (i 1) := by
  rw [val_main_v12_apply, val_main_v11_apply, val_main_v9_apply, val_main_v10_apply, val_main_v8_apply, val_main_v7_apply,
    val_main_v6_apply, val_main_v4_apply, val_main_v2_apply, val_main_v1_apply]
  refine congrArg₂ (fun a b : EReal => a * b) (congrArg₂ (fun a b : EReal => a * b) (congrArg (x : _ → EReal) ?_) ?_)
    (congrArg (g : _ → EReal) ?_)
  · funext a; match a with | ⟨0, _⟩ => rfl | ⟨1, _⟩ => rfl
  · refine congrArg (fun s : EReal => Ideal.rsqrt (Ideal.div s (Ideal.ofBits .f32 0x44800000#32) + Ideal.ofBits .f32 0x358637BD#32)) ?_
    refine (congrArg (fun z : EReal => z + _) Ideal.ofBits_zero_f32).trans ((zero_add (M := EReal) _).trans ?_)
    refine Finset.sum_congr rfl fun l _ => congrArg (fun s : EReal => s * s) (congrArg (x : _ → EReal) ?_)
    funext a; match a with | ⟨0, _⟩ => rfl | ⟨1, _⟩ => rfl
  · funext a; match a with | ⟨0, _⟩ => rfl | ⟨1, _⟩ => rfl

variable (m : (ℓ : Loc nD τ sig) → Buf (Elt Ideal) ℓ)

/-- The input rows. -/
abbrev aX (c : Dev nD) : S4096x1024.Idx → EReal := m ((c : Thread nD τ).loc main_arg0)

/-- The weights. -/
abbrev aG (c : Dev nD) : S1x1024.Idx → EReal := m ((c : Thread nD τ).loc main_arg1)

/-- The normalised rows. -/
def rowsN (c : Dev nD) (i : S4096x1024.Idx) : EReal :=
  normed (fun l => aX m c (ix2 (i 0) l)) (fun l => aG m c (ix2 0 l)) (i 1)

/-- Point `t`'s rows. -/
theorem block_x (c : Dev nD) (t : Fin cfg0.N) (k : Fin 1024) (q : Fin 1024) (r : Fin 4096) (hr : r.val = t.val * 1024 + k.val) :
    iblk m c 0 t (ix2 k q) = aX m c (ix2 r q) := by
  have hi : win0_0.index t (0 : Fin 2) = t.val ∧ win0_0.index t (1 : Fin 2) = 0 := by
    rcases fin_N0 t with rfl | rfl | rfl | rfl <;> decide
  unfold iblk
  rw [View.read_apply]
  show aX m c _ = _
  congr 1
  funext a; apply Fin.ext
  match a with
  | ⟨0, _⟩ => show win0_0.index t 0 * 1024 + 1 * k.val = r.val; rw [hi.1, hr]; omega
  | ⟨1, _⟩ => show win0_0.index t 1 * 1024 + 1 * q.val = q.val; rw [hi.2]; omega

/-- Every point reads all of the weights. -/
theorem block_g (c : Dev nD) (t : Fin cfg0.N) (q : Fin 1024) : iblk m c 1 t (ix2 0 q) = aG m c (ix2 0 q) := by
  have hi : win0_1.index t (0 : Fin 2) = 0 ∧ win0_1.index t (1 : Fin 2) = 0 := by
    rcases fin_N0 t with rfl | rfl | rfl | rfl <;> decide
  unfold iblk
  rw [View.read_apply]
  show aG m c _ = _
  congr 1
  funext a; apply Fin.ext
  match a with
  | ⟨0, _⟩ => show win0_1.index t 0 * 1 + 1 * 0 = 0; rw [hi.1]
  | ⟨1, _⟩ => show win0_1.index t 1 * 1024 + 1 * q.val = q.val; rw [hi.2]; omega

/-- Where point `t`'s block of the result lies. -/
theorem index_out (t : Fin cfg0.N) : win0_2.index t (0 : Fin 2) = t.val ∧ win0_2.index t (1 : Fin 2) = 0 := by
  rcases fin_N0 t with rfl | rfl | rfl | rfl <;> decide

/-- A point's rows are its rows of the whole. -/
theorem point_eq (c : Dev nD) (t : Fin cfg0.N) (j : S1024x1024.Idx) (i : S4096x1024.Idx)
    (h0 : (i 0).val = t.val * 1024 + (j 0).val) (h1 : i 1 = j 1) :
    k0_pay1 (F := Ideal) (iblk m c 0 t) (iblk m c 1 t) j = rowsN m c i := by
  refine (pay_apply _ _ j).trans ?_
  unfold rowsN
  rw [h1, show (fun l => iblk m c 0 t (ix2 (j 0) l)) = fun l => aX m c (ix2 (i 0) l) from funext fun l => block_x m c t (j 0) l (i 0) h0,
    show (fun l => iblk m c 1 t (ix2 0 l)) = fun l => aG m c (ix2 0 l) from funext fun l => block_g m c t l]

/-- What point `t` writes back is its block of the normalised rows. -/
theorem flushed_eq (c : Dev nD) (t : Fin cfg0.N) :
    (dats m 0 c).flushed 2 t = ((cfg0.win 2).blk t).view.read (Elt Ideal) (rowsN m c) := by
  have hz : (![0, 0] : Fin 2 → Nat) = fun _ => 0 := funext fun a => by fin_cases a <;> rfl
  rw [flushed2]
  funext j
  rw [View.read_apply]
  refine Eq.trans (?_ : _ = k0_pay1 (iblk m c 0 t) (iblk m c 1 t) j) ?_
  · unfold out0_2
    sl_unfold_words
    rw [View.canon_unit_zero hz]
    simp only [View.ld_unit_zero (S := S1024x1024) hz, View.ld_unit_zero (S := S1x1024) hz]
  · have hi := index_out t
    refine point_eq m c t j _ ?_ (Fin.ext ?_)
    · show win0_2.index t 0 * 1024 + 1 * (j 0).val = t.val * 1024 + (j 0).val; rw [hi.1]; omega
    · show win0_2.index t 1 * 1024 + 1 * (j 1).val = (j 1).val; rw [hi.2]; omega

/-- The array after the run. -/
theorem arr_eq (c : Dev nD) : (dats m 0 c).arrAt 2 cfg0.N = rowsN m c := by
  refine (dats m 0 c).arrAt_eq_of_cover 2 (rowsN m c) (fun t _ => flushed_eq m c t) fun (i : S4096x1024.Idx) => ?_
  have hN : cfg0.N = 4 := N_0
  have h0 : (i 0).val < 4096 := (i 0).isLt
  have h1 : (i 1).val < 1024 := (i 1).isLt
  let t : Fin cfg0.N := ⟨(i 0).val / 1024, by omega⟩
  have ht : t.val = (i 0).val / 1024 := rfl
  have hi := index_out t
  refine ⟨t, flush0_2 _, ?_⟩
  show i ∈ ((View.whole main_v0).slice (win0_2.rect t)).set
  rw [View.set_slice_whole, Rect.mem_set_unit]
  intro a
  match a with
  | ⟨0, _⟩ =>
    show win0_2.index t 0 * 1024 ≤ (i 0).val ∧ (i 0).val < win0_2.index t 0 * 1024 + 1024
    rw [hi.1]; omega
  | ⟨1, _⟩ =>
    show win0_2.index t 1 * 1024 ≤ (i 1).val ∧ (i 1).val < win0_2.index t 1 * 1024 + 1024
    rw [hi.2]; omega

/-- The kernel's normalised rows are the reference's. -/
theorem algebraic : Cert.algebraic_Kernel16Ideal_Reference16Ideal := by
  intro m ρ m' ρ' _ hagree
  refine ⟨fun c => rowsN m c, (θ_run defs _ _).mono (fun _ h c => ⟨(h c).1.trans (arr_eq m c), (h c).2⟩)
    (run_blocks (F := Ideal) m ρ), ?_⟩
  refine (θ_run Cert.Reference16Ideal.defs _ _).mono (fun _ h c => ⟨(h c).1.trans ?_, (h c).2⟩)
    (Cert.Reference16Ideal.Value.run (F := Ideal) m' ρ')
  rw [(hagree c).1, (hagree c).2, val_main_v12_eq]
  exact funext (ref_apply _ _)

end Cert.Kernel16Ideal.Value

end
-- ==== Proof.lean ====
/-
  The certificate: for each of the calls proved, the quiet run of the kernel at both instances and of its reference, and the
  equality of their results over the extended reals.
-/
module

public import proofs.«01_k».proof.Proof.TailValue
public import proofs.«01_k».proof.Proof.Dx
public import proofs.«01_k».proof.Proof.Dw4
public import proofs.«01_k».proof.Proof.Dw5
public import proofs.«01_k».proof.Proof.Dw6
public import proofs.«01_k».proof.Proof.Dw7
public import proofs.«01_k».proof.Proof.Dw8
public import proofs.«01_k».proof.Proof.Proj9
public import proofs.«01_k».proof.Proof.Proj10
public import proofs.«01_k».proof.Proof.Adam11
public import proofs.«01_k».proof.Proof.Adam12
public import proofs.«01_k».proof.Proof.Adam13
public import proofs.«01_k».proof.Proof.Adam14
public import proofs.«01_k».proof.Proof.Adam15
public import proofs.«01_k».proof.Proof.Norm16
public import proofs.«01_k».proof.Proof.Gen.ReferenceIdeal.Read
public import proofs.«01_k».proof.Proof.Gen.Kernel3Ideal.Value
public import proofs.«01_k».proof.Proof.Gen.Reference3Ideal.Read
public import proofs.«01_k».proof.Proof.Gen.Kernel4Ideal.Value
public import proofs.«01_k».proof.Proof.Gen.Reference4Ideal.Read
public import proofs.«01_k».proof.Proof.Gen.Kernel5Ideal.Value
public import proofs.«01_k».proof.Proof.Gen.Reference5Ideal.Read
public import proofs.«01_k».proof.Proof.Gen.Kernel6Ideal.Value
public import proofs.«01_k».proof.Proof.Gen.Reference6Ideal.Read
public import proofs.«01_k».proof.Proof.Gen.Kernel7Ideal.Value
public import proofs.«01_k».proof.Proof.Gen.Reference7Ideal.Read
public import proofs.«01_k».proof.Proof.Gen.Kernel8Ideal.Value
public import proofs.«01_k».proof.Proof.Gen.Reference8Ideal.Read
public import proofs.«01_k».proof.Proof.Gen.Kernel9Ideal.Value
public import proofs.«01_k».proof.Proof.Gen.Reference9Ideal.Read
public import proofs.«01_k».proof.Proof.Gen.Kernel10Ideal.Value
public import proofs.«01_k».proof.Proof.Gen.Reference10Ideal.Read
public import proofs.«01_k».proof.Proof.Gen.Kernel11Ideal.Value
public import proofs.«01_k».proof.Proof.Gen.Reference11Ideal.Read
public import proofs.«01_k».proof.Proof.Gen.Kernel12Ideal.Value
public import proofs.«01_k».proof.Proof.Gen.Reference12Ideal.Read
public import proofs.«01_k».proof.Proof.Gen.Kernel13Ideal.Value
public import proofs.«01_k».proof.Proof.Gen.Reference13Ideal.Read
public import proofs.«01_k».proof.Proof.Gen.Kernel14Ideal.Value
public import proofs.«01_k».proof.Proof.Gen.Reference14Ideal.Read
public import proofs.«01_k».proof.Proof.Gen.Kernel15Ideal.Value
public import proofs.«01_k».proof.Proof.Gen.Reference15Ideal.Read
public import proofs.«01_k».proof.Proof.Gen.Kernel16Ideal.Value
public import proofs.«01_k».proof.Proof.Gen.Reference16Ideal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.KernelIdeal.Gen.frame_bits,
    Cert.KernelIdeal.Gen.frame_ideal,
    fun m ρ _ => (θ_run Cert.ReferenceIdeal.defs _ _).mono
      (fun r h => ⟨fun c => (h c).2.2.2.2.2.2.2, sem_eq_zero_of_no_sems (by decide) r.2⟩) (Cert.ReferenceIdeal.Value.run m ρ),
    fun m ρ _ => Cert.Kernel3.Gen.frame m ρ,
    fun m ρ _ => Cert.Kernel3Ideal.Gen.frame m ρ,
    fun m ρ _ => (θ_run Cert.Reference3Ideal.defs _ _).mono
      (fun r h => ⟨fun c => (h c).2.2, sem_eq_zero_of_no_sems (by decide) r.2⟩) (Cert.Reference3Ideal.Value.run m ρ),
    fun m ρ _ => Cert.Kernel4.Gen.frame m ρ,
    fun m ρ _ => Cert.Kernel4Ideal.Gen.frame m ρ,
    fun m ρ _ => (θ_run Cert.Reference4Ideal.defs _ _).mono
      (fun r h => ⟨fun c => (h c).2, sem_eq_zero_of_no_sems (by decide) r.2⟩) (Cert.Reference4Ideal.Value.run m ρ),
    fun m ρ _ => Cert.Kernel5.Gen.frame m ρ,
    fun m ρ _ => Cert.Kernel5Ideal.Gen.frame m ρ,
    fun m ρ _ => (θ_run Cert.Reference5Ideal.defs _ _).mono
      (fun r h => ⟨fun c => (h c).2, sem_eq_zero_of_no_sems (by decide) r.2⟩) (Cert.Reference5Ideal.Value.run m ρ),
    fun m ρ _ => Cert.Kernel6.Gen.frame m ρ,
    fun m ρ _ => Cert.Kernel6Ideal.Gen.frame m ρ,
    fun m ρ _ => (θ_run Cert.Reference6Ideal.defs _ _).mono
      (fun r h => ⟨fun c => (h c).2, sem_eq_zero_of_no_sems (by decide) r.2⟩) (Cert.Reference6Ideal.Value.run m ρ),
    fun m ρ _ => Cert.Kernel7.Gen.frame m ρ,
    fun m ρ _ => Cert.Kernel7Ideal.Gen.frame m ρ,
    fun m ρ _ => (θ_run Cert.Reference7Ideal.defs _ _).mono
      (fun r h => ⟨fun c => (h c).2, sem_eq_zero_of_no_sems (by decide) r.2⟩) (Cert.Reference7Ideal.Value.run m ρ),
    fun m ρ _ => Cert.Kernel8.Gen.frame m ρ,
    fun m ρ _ => Cert.Kernel8Ideal.Gen.frame m ρ,
    fun m ρ _ => (θ_run Cert.Reference8Ideal.defs _ _).mono
      (fun r h => ⟨fun c => (h c).2, sem_eq_zero_of_no_sems (by decide) r.2⟩) (Cert.Reference8Ideal.Value.run m ρ),
    fun m ρ _ => Cert.Kernel9.Gen.frame m ρ,
    fun m ρ _ => Cert.Kernel9Ideal.Gen.frame m ρ,
    fun m ρ _ => (θ_run Cert.Reference9Ideal.defs _ _).mono
      (fun r h => ⟨fun c => (h c).2, sem_eq_zero_of_no_sems (by decide) r.2⟩) (Cert.Reference9Ideal.Value.run m ρ),
    fun m ρ _ => Cert.Kernel10.Gen.frame m ρ,
    fun m ρ _ => Cert.Kernel10Ideal.Gen.frame m ρ,
    fun m ρ _ => (θ_run Cert.Reference10Ideal.defs _ _).mono
      (fun r h => ⟨fun c => (h c).2, sem_eq_zero_of_no_sems (by decide) r.2⟩) (Cert.Reference10Ideal.Value.run m ρ),
    fun m ρ _ => Cert.Kernel11.Gen.frame m ρ,
    fun m ρ _ => Cert.Kernel11Ideal.Gen.frame m ρ,
    fun m ρ _ => (θ_run Cert.Reference11Ideal.defs _ _).mono
      (fun r h => ⟨fun c => (h c).2.2.2.2, sem_eq_zero_of_no_sems (by decide) r.2⟩) (Cert.Reference11Ideal.Value.run m ρ),
    fun m ρ _ => Cert.Kernel12.Gen.frame m ρ,
    fun m ρ _ => Cert.Kernel12Ideal.Gen.frame m ρ,
    fun m ρ _ => (θ_run Cert.Reference12Ideal.defs _ _).mono
      (fun r h => ⟨fun c => (h c).2.2.2.2, sem_eq_zero_of_no_sems (by decide) r.2⟩) (Cert.Reference12Ideal.Value.run m ρ),
    fun m ρ _ => Cert.Kernel13.Gen.frame m ρ,
    fun m ρ _ => Cert.Kernel13Ideal.Gen.frame m ρ,
    fun m ρ _ => (θ_run Cert.Reference13Ideal.defs _ _).mono
      (fun r h => ⟨fun c => (h c).2.2.2.2, sem_eq_zero_of_no_sems (by decide) r.2⟩) (Cert.Reference13Ideal.Value.run m ρ),
    fun m ρ _ => Cert.Kernel14.Gen.frame m ρ,
    fun m ρ _ => Cert.Kernel14Ideal.Gen.frame m ρ,
    fun m ρ _ => (θ_run Cert.Reference14Ideal.defs _ _).mono
      (fun r h => ⟨fun c => (h c).2.2.2.2, sem_eq_zero_of_no_sems (by decide) r.2⟩) (Cert.Reference14Ideal.Value.run m ρ),
    fun m ρ _ => Cert.Kernel15.Gen.frame m ρ,
    fun m ρ _ => Cert.Kernel15Ideal.Gen.frame m ρ,
    fun m ρ _ => (θ_run Cert.Reference15Ideal.defs _ _).mono
      (fun r h => ⟨fun c => (h c).2.2.2.2, sem_eq_zero_of_no_sems (by decide) r.2⟩) (Cert.Reference15Ideal.Value.run m ρ),
    fun m ρ _ => Cert.Kernel16.Gen.frame m ρ,
    fun m ρ _ => Cert.Kernel16Ideal.Gen.frame m ρ,
    fun m ρ _ => (θ_run Cert.Reference16Ideal.defs _ _).mono
      (fun r h => ⟨fun c => (h c).2, sem_eq_zero_of_no_sems (by decide) r.2⟩) (Cert.Reference16Ideal.Value.run m ρ),
    trivial, Cert.KernelIdeal.Value.algebraic,
    trivial, Cert.Kernel3Ideal.Value.algebraic,
    trivial, Cert.Kernel4Ideal.Value.algebraic,
    trivial, Cert.Kernel5Ideal.Value.algebraic,
    trivial, Cert.Kernel6Ideal.Value.algebraic,
    trivial, Cert.Kernel7Ideal.Value.algebraic,
    trivial, Cert.Kernel8Ideal.Value.algebraic,
    trivial, Cert.Kernel9Ideal.Value.algebraic,
    trivial, Cert.Kernel10Ideal.Value.algebraic,
    ⟨IdealRules.named_const.statement _ _ _ _ _ rfl, IdealRules.named_const.statement _ _ _ _ _ rfl⟩, Cert.Kernel11Ideal.Value.algebraic,
    ⟨IdealRules.named_const.statement _ _ _ _ _ rfl, IdealRules.named_const.statement _ _ _ _ _ rfl⟩, Cert.Kernel12Ideal.Value.algebraic,
    ⟨IdealRules.named_const.statement _ _ _ _ _ rfl, IdealRules.named_const.statement _ _ _ _ _ rfl⟩, Cert.Kernel13Ideal.Value.algebraic,
    ⟨IdealRules.named_const.statement _ _ _ _ _ rfl, IdealRules.named_const.statement _ _ _ _ _ rfl⟩, Cert.Kernel14Ideal.Value.algebraic,
    ⟨IdealRules.named_const.statement _ _ _ _ _ rfl, IdealRules.named_const.statement _ _ _ _ _ rfl⟩, Cert.Kernel15Ideal.Value.algebraic,
    trivial, Cert.Kernel16Ideal.Value.algebraic⟩

end Cert.Proof

end
